-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Mixing (m : (ℓ : Loc Cert.Mixing.nD Cert.Mixing.τ Cert.Mixing.sig) → Buf (Elt Bits) ℓ) : Prop :=
  True

def Pre_MixingIdeal (m : (ℓ : Loc Cert.MixingIdeal.nD Cert.MixingIdeal.τ Cert.MixingIdeal.sig) → Buf (Elt Ideal) ℓ) : Prop :=
  True

def Pre_MixingReferenceIdeal (m : (ℓ : Loc Cert.MixingReferenceIdeal.nD Cert.MixingReferenceIdeal.τ Cert.MixingReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Counting (m : (ℓ : Loc Cert.Counting.nD Cert.Counting.τ Cert.Counting.sig) → Buf (Elt Bits) ℓ) : Prop :=
  True

def Pre_CountingIdeal (m : (ℓ : Loc Cert.CountingIdeal.nD Cert.CountingIdeal.τ Cert.CountingIdeal.sig) → Buf (Elt Ideal) ℓ) : Prop :=
  True

def Pre_CountingReferenceIdeal (m : (ℓ : Loc Cert.CountingReferenceIdeal.nD Cert.CountingReferenceIdeal.τ Cert.CountingReferenceIdeal.sig) → Buf (Elt Ideal) ℓ) : Prop :=
  True

def Pre_Combining [hPre_slots : Cert.Pre_slots.Facts] (m : (ℓ : Loc Cert.Combining.nD Cert.Combining.τ Cert.Combining.sig) → Buf (Elt Bits) ℓ) : Prop :=
  ∀ c : Dev Cert.Combining.nD,
    (Cert.Pre_slots.fn (F := Bits) (m ((c.tc : Thread Cert.Combining.nD Cert.Combining.τ).loc Cert.Combining.main_arg0)) (m ((c.tc : Thread Cert.Combining.nD Cert.Combining.τ).loc Cert.Combining.main_arg1)) (m ((c.tc : Thread Cert.Combining.nD Cert.Combining.τ).loc Cert.Combining.main_arg2)) (m ((c.tc : Thread Cert.Combining.nD Cert.Combining.τ).loc Cert.Combining.main_arg3)) (m ((c.tc : Thread Cert.Combining.nD Cert.Combining.τ).loc Cert.Combining.main_arg4)) (m ((c.tc : Thread Cert.Combining.nD Cert.Combining.τ).loc Cert.Combining.main_arg5)) (m ((c.tc : Thread Cert.Combining.nD Cert.Combining.τ).loc Cert.Combining.main_arg6))) = (fun _ => 1#1)

def Pre_CombiningIdeal [hPre_slots : Cert.Pre_slots.Facts] (m : (ℓ : Loc Cert.CombiningIdeal.nD Cert.CombiningIdeal.τ Cert.CombiningIdeal.sig) → Buf (Elt Ideal) ℓ) : Prop :=
  ∀ c : Dev Cert.CombiningIdeal.nD,
    (Cert.Pre_slots.fn (F := Ideal) (m ((c.tc : Thread Cert.CombiningIdeal.nD Cert.CombiningIdeal.τ).loc Cert.CombiningIdeal.main_arg0)) (m ((c.tc : Thread Cert.CombiningIdeal.nD Cert.CombiningIdeal.τ).loc Cert.CombiningIdeal.main_arg1)) (m ((c.tc : Thread Cert.CombiningIdeal.nD Cert.CombiningIdeal.τ).loc Cert.CombiningIdeal.main_arg2)) (m ((c.tc : Thread Cert.CombiningIdeal.nD Cert.CombiningIdeal.τ).loc Cert.CombiningIdeal.main_arg3)) (m ((c.tc : Thread Cert.CombiningIdeal.nD Cert.CombiningIdeal.τ).loc Cert.CombiningIdeal.main_arg4)) (m ((c.tc : Thread Cert.CombiningIdeal.nD Cert.CombiningIdeal.τ).loc Cert.CombiningIdeal.main_arg5)) (m ((c.tc : Thread Cert.CombiningIdeal.nD Cert.CombiningIdeal.τ).loc Cert.CombiningIdeal.main_arg6))) = (fun _ => 1#1)

def Pre_CombiningReferenceIdeal (m : (ℓ : Loc Cert.CombiningReferenceIdeal.nD Cert.CombiningReferenceIdeal.τ Cert.CombiningReferenceIdeal.sig) → Buf (Elt Ideal) ℓ) : Prop :=
  True

def Pre_CombiningReferenceIdeal_slots [hPre_slots : Cert.Pre_slots.Facts] (m : (ℓ : Loc Cert.CombiningReferenceIdeal.nD Cert.CombiningReferenceIdeal.τ Cert.CombiningReferenceIdeal.sig) → Buf (Elt Ideal) ℓ) : Prop :=
  ∀ c : Dev Cert.CombiningReferenceIdeal.nD,
    (Cert.Pre_slots.fn (F := Ideal) (m ((c.tc : Thread Cert.CombiningReferenceIdeal.nD Cert.CombiningReferenceIdeal.τ).loc Cert.CombiningReferenceIdeal.main_arg0)) (m ((c.tc : Thread Cert.CombiningReferenceIdeal.nD Cert.CombiningReferenceIdeal.τ).loc Cert.CombiningReferenceIdeal.main_arg1)) (m ((c.tc : Thread Cert.CombiningReferenceIdeal.nD Cert.CombiningReferenceIdeal.τ).loc Cert.CombiningReferenceIdeal.main_arg2)) (m ((c.tc : Thread Cert.CombiningReferenceIdeal.nD Cert.CombiningReferenceIdeal.τ).loc Cert.CombiningReferenceIdeal.main_arg3)) (m ((c.tc : Thread Cert.CombiningReferenceIdeal.nD Cert.CombiningReferenceIdeal.τ).loc Cert.CombiningReferenceIdeal.main_arg4)) (m ((c.tc : Thread Cert.CombiningReferenceIdeal.nD Cert.CombiningReferenceIdeal.τ).loc Cert.CombiningReferenceIdeal.main_arg5)) (m ((c.tc : Thread Cert.CombiningReferenceIdeal.nD Cert.CombiningReferenceIdeal.τ).loc Cert.CombiningReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def quiescent_Mixing [hMixing : Cert.Mixing.Facts] : Prop :=
  ∀ (m : (ℓ : Loc Cert.Mixing.nD Cert.Mixing.τ Cert.Mixing.sig) → Buf (Elt Bits) ℓ) (g : Dev Cert.Mixing.nD → PrngReg), Pre_Mixing m →
    θ_run (Cert.Mixing.defs (F := Bits)) (onTc (τ := Cert.Mixing.τ) (Cert.Mixing.main (F := Bits))) ⟨m, fun _ => 0, g⟩ (fun r => (∀ c : Dev Cert.Mixing.nD,
      r.2.mem ((c.tc : Thread Cert.Mixing.nD Cert.Mixing.τ).loc Cert.Mixing.main_arg0) = m ((c.tc : Thread Cert.Mixing.nD Cert.Mixing.τ).loc Cert.Mixing.main_arg0)
      ∧ r.2.mem ((c.tc : Thread Cert.Mixing.nD Cert.Mixing.τ).loc Cert.Mixing.main_arg1) = m ((c.tc : Thread Cert.Mixing.nD Cert.Mixing.τ).loc Cert.Mixing.main_arg1)
      ∧ r.2.mem ((c.tc : Thread Cert.Mixing.nD Cert.Mixing.τ).loc Cert.Mixing.main_arg2) = m ((c.tc : Thread Cert.Mixing.nD Cert.Mixing.τ).loc Cert.Mixing.main_arg2)
      ∧ r.2.mem ((c.tc : Thread Cert.Mixing.nD Cert.Mixing.τ).loc Cert.Mixing.main_arg3) = m ((c.tc : Thread Cert.Mixing.nD Cert.Mixing.τ).loc Cert.Mixing.main_arg3)
      ∧ r.2.mem ((c.tc : Thread Cert.Mixing.nD Cert.Mixing.τ).loc Cert.Mixing.main_arg4) = m ((c.tc : Thread Cert.Mixing.nD Cert.Mixing.τ).loc Cert.Mixing.main_arg4)
      ∧ r.2.mem ((c.tc : Thread Cert.Mixing.nD Cert.Mixing.τ).loc Cert.Mixing.main_arg5) = m ((c.tc : Thread Cert.Mixing.nD Cert.Mixing.τ).loc Cert.Mixing.main_arg5)
      ∧ r.2.mem ((c.tc : Thread Cert.Mixing.nD Cert.Mixing.τ).loc Cert.Mixing.main_arg6) = m ((c.tc : Thread Cert.Mixing.nD Cert.Mixing.τ).loc Cert.Mixing.main_arg6)
      ∧ r.2.mem ((c.tc : Thread Cert.Mixing.nD Cert.Mixing.τ).loc Cert.Mixing.main_arg7) = m ((c.tc : Thread Cert.Mixing.nD Cert.Mixing.τ).loc Cert.Mixing.main_arg7)
      ∧ r.2.mem ((c.tc : Thread Cert.Mixing.nD Cert.Mixing.τ).loc Cert.Mixing.main_arg8) = m ((c.tc : Thread Cert.Mixing.nD Cert.Mixing.τ).loc Cert.Mixing.main_arg8)
      ∧ r.2.mem ((c.tc : Thread Cert.Mixing.nD Cert.Mixing.τ).loc Cert.Mixing.main_arg9) = m ((c.tc : Thread Cert.Mixing.nD Cert.Mixing.τ).loc Cert.Mixing.main_arg9)
      ∧ r.2.mem ((c.tc : Thread Cert.Mixing.nD Cert.Mixing.τ).loc Cert.Mixing.main_arg10) = m ((c.tc : Thread Cert.Mixing.nD Cert.Mixing.τ).loc Cert.Mixing.main_arg10)
      ∧ r.2.mem ((c.tc : Thread Cert.Mixing.nD Cert.Mixing.τ).loc Cert.Mixing.main_arg11) = m ((c.tc : Thread Cert.Mixing.nD Cert.Mixing.τ).loc Cert.Mixing.main_arg11)
      ∧ r.2.mem ((c.tc : Thread Cert.Mixing.nD Cert.Mixing.τ).loc Cert.Mixing.main_arg12) = m ((c.tc : Thread Cert.Mixing.nD Cert.Mixing.τ).loc Cert.Mixing.main_arg12)
      ∧ r.2.mem ((c.tc : Thread Cert.Mixing.nD Cert.Mixing.τ).loc Cert.Mixing.main_arg13) = m ((c.tc : Thread Cert.Mixing.nD Cert.Mixing.τ).loc Cert.Mixing.main_arg13)
      ∧ r.2.mem ((c.tc : Thread Cert.Mixing.nD Cert.Mixing.τ).loc Cert.Mixing.main_arg14) = m ((c.tc : Thread Cert.Mixing.nD Cert.Mixing.τ).loc Cert.Mixing.main_arg14)
      ∧ r.2.mem ((c.tc : Thread Cert.Mixing.nD Cert.Mixing.τ).loc Cert.Mixing.main_arg15) = m ((c.tc : Thread Cert.Mixing.nD Cert.Mixing.τ).loc Cert.Mixing.main_arg15))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
      ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
      ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
      ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12)
      ∧ r.2.mem ((c.tc : Thread Cert.MixingIdeal.nD Cert.MixingIdeal.τ).loc Cert.MixingIdeal.main_arg13) = m ((c.tc : Thread Cert.MixingIdeal.nD Cert.MixingIdeal.τ).loc Cert.MixingIdeal.main_arg13)
      ∧ r.2.mem ((c.tc : Thread Cert.MixingIdeal.nD Cert.MixingIdeal.τ).loc Cert.MixingIdeal.main_arg14) = m ((c.tc : Thread Cert.MixingIdeal.nD Cert.MixingIdeal.τ).loc Cert.MixingIdeal.main_arg14)
      ∧ r.2.mem ((c.tc : Thread Cert.MixingIdeal.nD Cert.MixingIdeal.τ).loc Cert.MixingIdeal.main_arg15) = m ((c.tc : Thread Cert.MixingIdeal.nD Cert.MixingIdeal.τ).loc Cert.MixingIdeal.main_arg15))
      ∧ r.2.sem = fun _ => 0)

def quiescent_MixingReferenceIdeal [hMixingReferenceIdeal : Cert.MixingReferenceIdeal.Facts] : Prop :=
  ∀ (m : (ℓ : Loc Cert.MixingReferenceIdeal.nD Cert.MixingReferenceIdeal.τ Cert.MixingReferenceIdeal.sig) → Buf (Elt Ideal) ℓ) (g : Dev Cert.MixingReferenceIdeal.nD → PrngReg), Pre_MixingReferenceIdeal m →
    θ_run (Cert.MixingReferenceIdeal.defs (F := Ideal)) (onTc (τ := Cert.MixingReferenceIdeal.τ) (Cert.MixingReferenceIdeal.main (F := Ideal))) ⟨m, fun _ => 0, g⟩ (fun r => (∀ c : Dev Cert.MixingReferenceIdeal.nD,
      r.2.mem ((c.tc : Thread Cert.MixingReferenceIdeal.nD Cert.MixingReferenceIdeal.τ).loc Cert.MixingReferenceIdeal.main_arg0) = m ((c.tc : Thread Cert.MixingReferenceIdeal.nD Cert.MixingReferenceIdeal.τ).loc Cert.MixingReferenceIdeal.main_arg0)
      ∧ r.2.mem ((c.tc : Thread Cert.MixingReferenceIdeal.nD Cert.MixingReferenceIdeal.τ).loc Cert.MixingReferenceIdeal.main_arg1) = m ((c.tc : Thread Cert.MixingReferenceIdeal.nD Cert.MixingReferenceIdeal.τ).loc Cert.MixingReferenceIdeal.main_arg1)
      ∧ r.2.mem ((c.tc : Thread Cert.MixingReferenceIdeal.nD Cert.MixingReferenceIdeal.τ).loc Cert.MixingReferenceIdeal.main_arg2) = m ((c.tc : Thread Cert.MixingReferenceIdeal.nD Cert.MixingReferenceIdeal.τ).loc Cert.MixingReferenceIdeal.main_arg2)
      ∧ r.2.mem ((c.tc : Thread Cert.MixingReferenceIdeal.nD Cert.MixingReferenceIdeal.τ).loc Cert.MixingReferenceIdeal.main_arg3) = m ((c.tc : Thread Cert.MixingReferenceIdeal.nD Cert.MixingReferenceIdeal.τ).loc Cert.MixingReferenceIdeal.main_arg3)
      ∧ r.2.mem ((c.tc : Thread Cert.MixingReferenceIdeal.nD Cert.MixingReferenceIdeal.τ).loc Cert.MixingReferenceIdeal.main_arg4) = m ((c.tc : Thread Cert.MixingReferenceIdeal.nD Cert.MixingReferenceIdeal.τ).loc Cert.MixingReferenceIdeal.main_arg4)
      ∧ r.2.mem ((c.tc : Thread Cert.MixingReferenceIdeal.nD Cert.MixingReferenceIdeal.τ).loc Cert.MixingReferenceIdeal.main_arg5) = m ((c.tc : Thread Cert.MixingReferenceIdeal.nD Cert.MixingReferenceIdeal.τ).loc Cert.MixingReferenceIdeal.main_arg5)
      ∧ r.2.mem ((c.tc : Thread Cert.MixingReferenceIdeal.nD Cert.MixingReferenceIdeal.τ).loc Cert.MixingReferenceIdeal.main_arg6) = m ((c.tc : Thread Cert.MixingReferenceIdeal.nD Cert.MixingReferenceIdeal.τ).loc Cert.MixingReferenceIdeal.main_arg6)
      ∧ r.2.mem ((c.tc : Thread Cert.MixingReferenceIdeal.nD Cert.MixingReferenceIdeal.τ).loc Cert.MixingReferenceIdeal.main_arg7) = m ((c.tc : Thread Cert.MixingReferenceIdeal.nD Cert.MixingReferenceIdeal.τ).loc Cert.MixingReferenceIdeal.main_arg7)
      ∧ r.2.mem ((c.tc : Thread Cert.MixingReferenceIdeal.nD Cert.MixingReferenceIdeal.τ).loc Cert.MixingReferenceIdeal.main_arg8) = m ((c.tc : Thread Cert.MixingReferenceIdeal.nD Cert.MixingReferenceIdeal.τ).loc Cert.MixingReferenceIdeal.main_arg8)
      ∧ r.2.mem ((c.tc : Thread Cert.MixingReferenceIdeal.nD Cert.MixingReferenceIdeal.τ).loc Cert.MixingReferenceIdeal.main_arg9) = m ((c.tc : Thread Cert.MixingReferenceIdeal.nD Cert.MixingReferenceIdeal.τ).loc Cert.MixingReferenceIdeal.main_arg9)
      ∧ r.2.mem ((c.tc : Thread Cert.MixingReferenceIdeal.nD Cert.MixingReferenceIdeal.τ).loc Cert.MixingReferenceIdeal.main_arg10) = m ((c.tc : Thread Cert.MixingReferenceIdeal.nD Cert.MixingReferenceIdeal.τ).loc Cert.MixingReferenceIdeal.main_arg10)
      ∧ r.2.mem ((c.tc : Thread Cert.MixingReferenceIdeal.nD Cert.MixingReferenceIdeal.τ).loc Cert.MixingReferenceIdeal.main_arg11) = m ((c.tc : Thread Cert.MixingReferenceIdeal.nD Cert.MixingReferenceIdeal.τ).loc Cert.MixingReferenceIdeal.main_arg11)
      ∧ r.2.mem ((c.tc : Thread Cert.MixingReferenceIdeal.nD Cert.MixingReferenceIdeal.τ).loc Cert.MixingReferenceIdeal.main_arg12) = m ((c.tc : Thread Cert.MixingReferenceIdeal.nD Cert.MixingReferenceIdeal.τ).loc Cert.MixingReferenceIdeal.main_arg12)
      ∧ r.2.mem ((c.tc : Thread Cert.MixingReferenceIdeal.nD Cert.MixingReferenceIdeal.τ).loc Cert.MixingReferenceIdeal.main_arg13) = m ((c.tc : Thread Cert.MixingReferenceIdeal.nD Cert.MixingReferenceIdeal.τ).loc Cert.MixingReferenceIdeal.main_arg13)
      ∧ r.2.mem ((c.tc : Thread Cert.MixingReferenceIdeal.nD Cert.MixingReferenceIdeal.τ).loc Cert.MixingReferenceIdeal.main_arg14) = m ((c.tc : Thread Cert.MixingReferenceIdeal.nD Cert.MixingReferenceIdeal.τ).loc Cert.MixingReferenceIdeal.main_arg14)
      ∧ r.2.mem ((c.tc : Thread Cert.MixingReferenceIdeal.nD Cert.MixingReferenceIdeal.τ).loc Cert.MixingReferenceIdeal.main_arg15) = m ((c.tc : Thread Cert.MixingReferenceIdeal.nD Cert.MixingReferenceIdeal.τ).loc Cert.MixingReferenceIdeal.main_arg15))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_Counting [hCounting : Cert.Counting.Facts] : Prop :=
  ∀ (m : (ℓ : Loc Cert.Counting.nD Cert.Counting.τ Cert.Counting.sig) → Buf (Elt Bits) ℓ) (g : Dev Cert.Counting.nD → PrngReg), Pre_Counting m →
    θ_run (Cert.Counting.defs (F := Bits)) (onTc (τ := Cert.Counting.τ) (Cert.Counting.main (F := Bits))) ⟨m, fun _ => 0, g⟩ (fun r => (∀ c : Dev Cert.Counting.nD,
      r.2.mem ((c.tc : Thread Cert.Counting.nD Cert.Counting.τ).loc Cert.Counting.main_arg0) = m ((c.tc : Thread Cert.Counting.nD Cert.Counting.τ).loc Cert.Counting.main_arg0))
      ∧ r.2.sem = fun _ => 0)

def quiescent_CountingIdeal [hCountingIdeal : Cert.CountingIdeal.Facts] : Prop :=
  ∀ (m : (ℓ : Loc Cert.CountingIdeal.nD Cert.CountingIdeal.τ Cert.CountingIdeal.sig) → Buf (Elt Ideal) ℓ) (g : Dev Cert.CountingIdeal.nD → PrngReg), Pre_CountingIdeal m →
    θ_run (Cert.CountingIdeal.defs (F := Ideal)) (onTc (τ := Cert.CountingIdeal.τ) (Cert.CountingIdeal.main (F := Ideal))) ⟨m, fun _ => 0, g⟩ (fun r => (∀ c : Dev Cert.CountingIdeal.nD,
      r.2.mem ((c.tc : Thread Cert.CountingIdeal.nD Cert.CountingIdeal.τ).loc Cert.CountingIdeal.main_arg0) = m ((c.tc : Thread Cert.CountingIdeal.nD Cert.CountingIdeal.τ).loc Cert.CountingIdeal.main_arg0))
      ∧ r.2.sem = fun _ => 0)

def quiescent_CountingReferenceIdeal [hCountingReferenceIdeal : Cert.CountingReferenceIdeal.Facts] : Prop :=
  ∀ (m : (ℓ : Loc Cert.CountingReferenceIdeal.nD Cert.CountingReferenceIdeal.τ Cert.CountingReferenceIdeal.sig) → Buf (Elt Ideal) ℓ) (g : Dev Cert.CountingReferenceIdeal.nD → PrngReg), Pre_CountingReferenceIdeal m →
    θ_run (Cert.CountingReferenceIdeal.defs (F := Ideal)) (onTc (τ := Cert.CountingReferenceIdeal.τ) (Cert.CountingReferenceIdeal.main (F := Ideal))) ⟨m, fun _ => 0, g⟩ (fun r => (∀ c : Dev Cert.CountingReferenceIdeal.nD,
      r.2.mem ((c.tc : Thread Cert.CountingReferenceIdeal.nD Cert.CountingReferenceIdeal.τ).loc Cert.CountingReferenceIdeal.main_arg0) = m ((c.tc : Thread Cert.CountingReferenceIdeal.nD Cert.CountingReferenceIdeal.τ).loc Cert.CountingReferenceIdeal.main_arg0))
      ∧ r.2.sem = fun _ => 0)

def quiescent_Combining [hCombining : Cert.Combining.Facts] [hPre_slots : Cert.Pre_slots.Facts] : Prop :=
  ∀ (m : (ℓ : Loc Cert.Combining.nD Cert.Combining.τ Cert.Combining.sig) → Buf (Elt Bits) ℓ) (g : Dev Cert.Combining.nD → PrngReg), Pre_Combining m →
    θ_run (Cert.Combining.defs (F := Bits)) (onTc (τ := Cert.Combining.τ) (Cert.Combining.main (F := Bits))) ⟨m, fun _ => 0, g⟩ (fun r => (∀ c : Dev Cert.Combining.nD,
      r.2.mem ((c.tc : Thread Cert.Combining.nD Cert.Combining.τ).loc Cert.Combining.main_arg0) = m ((c.tc : Thread Cert.Combining.nD Cert.Combining.τ).loc Cert.Combining.main_arg0)
      ∧ r.2.mem ((c.tc : Thread Cert.Combining.nD Cert.Combining.τ).loc Cert.Combining.main_arg1) = m ((c.tc : Thread Cert.Combining.nD Cert.Combining.τ).loc Cert.Combining.main_arg1)
      ∧ r.2.mem ((c.tc : Thread Cert.Combining.nD Cert.Combining.τ).loc Cert.Combining.main_arg2) = m ((c.tc : Thread Cert.Combining.nD Cert.Combining.τ).loc Cert.Combining.main_arg2)
      ∧ r.2.mem ((c.tc : Thread Cert.Combining.nD Cert.Combining.τ).loc Cert.Combining.main_arg3) = m ((c.tc : Thread Cert.Combining.nD Cert.Combining.τ).loc Cert.Combining.main_arg3)
      ∧ r.2.mem ((c.tc : Thread Cert.Combining.nD Cert.Combining.τ).loc Cert.Combining.main_arg4) = m ((c.tc : Thread Cert.Combining.nD Cert.Combining.τ).loc Cert.Combining.main_arg4)
      ∧ r.2.mem ((c.tc : Thread Cert.Combining.nD Cert.Combining.τ).loc Cert.Combining.main_arg5) = m ((c.tc : Thread Cert.Combining.nD Cert.Combining.τ).loc Cert.Combining.main_arg5)
      ∧ r.2.mem ((c.tc : Thread Cert.Combining.nD Cert.Combining.τ).loc Cert.Combining.main_arg6) = m ((c.tc : Thread Cert.Combining.nD Cert.Combining.τ).loc Cert.Combining.main_arg6))
      ∧ r.2.sem = fun _ => 0)

def quiescent_CombiningIdeal [hCombiningIdeal : Cert.CombiningIdeal.Facts] [hPre_slots : Cert.Pre_slots.Facts] : Prop :=
  ∀ (m : (ℓ : Loc Cert.CombiningIdeal.nD Cert.CombiningIdeal.τ Cert.CombiningIdeal.sig) → Buf (Elt Ideal) ℓ) (g : Dev Cert.CombiningIdeal.nD → PrngReg), Pre_CombiningIdeal m →
    θ_run (Cert.CombiningIdeal.defs (F := Ideal)) (onTc (τ := Cert.CombiningIdeal.τ) (Cert.CombiningIdeal.main (F := Ideal))) ⟨m, fun _ => 0, g⟩ (fun r => (∀ c : Dev Cert.CombiningIdeal.nD,
      r.2.mem ((c.tc : Thread Cert.CombiningIdeal.nD Cert.CombiningIdeal.τ).loc Cert.CombiningIdeal.main_arg0) = m ((c.tc : Thread Cert.CombiningIdeal.nD Cert.CombiningIdeal.τ).loc Cert.CombiningIdeal.main_arg0)
      ∧ r.2.mem ((c.tc : Thread Cert.CombiningIdeal.nD Cert.CombiningIdeal.τ).loc Cert.CombiningIdeal.main_arg1) = m ((c.tc : Thread Cert.CombiningIdeal.nD Cert.CombiningIdeal.τ).loc Cert.CombiningIdeal.main_arg1)
      ∧ r.2.mem ((c.tc : Thread Cert.CombiningIdeal.nD Cert.CombiningIdeal.τ).loc Cert.CombiningIdeal.main_arg2) = m ((c.tc : Thread Cert.CombiningIdeal.nD Cert.CombiningIdeal.τ).loc Cert.CombiningIdeal.main_arg2)
      ∧ r.2.mem ((c.tc : Thread Cert.CombiningIdeal.nD Cert.CombiningIdeal.τ).loc Cert.CombiningIdeal.main_arg3) = m ((c.tc : Thread Cert.CombiningIdeal.nD Cert.CombiningIdeal.τ).loc Cert.CombiningIdeal.main_arg3)
      ∧ r.2.mem ((c.tc : Thread Cert.CombiningIdeal.nD Cert.CombiningIdeal.τ).loc Cert.CombiningIdeal.main_arg4) = m ((c.tc : Thread Cert.CombiningIdeal.nD Cert.CombiningIdeal.τ).loc Cert.CombiningIdeal.main_arg4)
      ∧ r.2.mem ((c.tc : Thread Cert.CombiningIdeal.nD Cert.CombiningIdeal.τ).loc Cert.CombiningIdeal.main_arg5) = m ((c.tc : Thread Cert.CombiningIdeal.nD Cert.CombiningIdeal.τ).loc Cert.CombiningIdeal.main_arg5)
      ∧ r.2.mem ((c.tc : Thread Cert.CombiningIdeal.nD Cert.CombiningIdeal.τ).loc Cert.CombiningIdeal.main_arg6) = m ((c.tc : Thread Cert.CombiningIdeal.nD Cert.CombiningIdeal.τ).loc Cert.CombiningIdeal.main_arg6))
      ∧ r.2.sem = fun _ => 0)

def quiescent_CombiningReferenceIdeal [hCombiningReferenceIdeal : Cert.CombiningReferenceIdeal.Facts] : Prop :=
  ∀ (m : (ℓ : Loc Cert.CombiningReferenceIdeal.nD Cert.CombiningReferenceIdeal.τ Cert.CombiningReferenceIdeal.sig) → Buf (Elt Ideal) ℓ) (g : Dev Cert.CombiningReferenceIdeal.nD → PrngReg), Pre_CombiningReferenceIdeal m →
    θ_run (Cert.CombiningReferenceIdeal.defs (F := Ideal)) (onTc (τ := Cert.CombiningReferenceIdeal.τ) (Cert.CombiningReferenceIdeal.main (F := Ideal))) ⟨m, fun _ => 0, g⟩ (fun r => (∀ c : Dev Cert.CombiningReferenceIdeal.nD,
      r.2.mem ((c.tc : Thread Cert.CombiningReferenceIdeal.nD Cert.CombiningReferenceIdeal.τ).loc Cert.CombiningReferenceIdeal.main_arg0) = m ((c.tc : Thread Cert.CombiningReferenceIdeal.nD Cert.CombiningReferenceIdeal.τ).loc Cert.CombiningReferenceIdeal.main_arg0)
      ∧ r.2.mem ((c.tc : Thread Cert.CombiningReferenceIdeal.nD Cert.CombiningReferenceIdeal.τ).loc Cert.CombiningReferenceIdeal.main_arg1) = m ((c.tc : Thread Cert.CombiningReferenceIdeal.nD Cert.CombiningReferenceIdeal.τ).loc Cert.CombiningReferenceIdeal.main_arg1)
      ∧ r.2.mem ((c.tc : Thread Cert.CombiningReferenceIdeal.nD Cert.CombiningReferenceIdeal.τ).loc Cert.CombiningReferenceIdeal.main_arg2) = m ((c.tc : Thread Cert.CombiningReferenceIdeal.nD Cert.CombiningReferenceIdeal.τ).loc Cert.CombiningReferenceIdeal.main_arg2)
      ∧ r.2.mem ((c.tc : Thread Cert.CombiningReferenceIdeal.nD Cert.CombiningReferenceIdeal.τ).loc Cert.CombiningReferenceIdeal.main_arg3) = m ((c.tc : Thread Cert.CombiningReferenceIdeal.nD Cert.CombiningReferenceIdeal.τ).loc Cert.CombiningReferenceIdeal.main_arg3)
      ∧ r.2.mem ((c.tc : Thread Cert.CombiningReferenceIdeal.nD Cert.CombiningReferenceIdeal.τ).loc Cert.CombiningReferenceIdeal.main_arg4) = m ((c.tc : Thread Cert.CombiningReferenceIdeal.nD Cert.CombiningReferenceIdeal.τ).loc Cert.CombiningReferenceIdeal.main_arg4)
      ∧ r.2.mem ((c.tc : Thread Cert.CombiningReferenceIdeal.nD Cert.CombiningReferenceIdeal.τ).loc Cert.CombiningReferenceIdeal.main_arg5) = m ((c.tc : Thread Cert.CombiningReferenceIdeal.nD Cert.CombiningReferenceIdeal.τ).loc Cert.CombiningReferenceIdeal.main_arg5)
      ∧ r.2.mem ((c.tc : Thread Cert.CombiningReferenceIdeal.nD Cert.CombiningReferenceIdeal.τ).loc Cert.CombiningReferenceIdeal.main_arg6) = m ((c.tc : Thread Cert.CombiningReferenceIdeal.nD Cert.CombiningReferenceIdeal.τ).loc Cert.CombiningReferenceIdeal.main_arg6))
      ∧ r.2.sem = fun _ => 0)

def quiescent_CombiningReferenceIdeal_pre_slots [hCombiningReferenceIdeal : Cert.CombiningReferenceIdeal.Facts] [hPre_slots : Cert.Pre_slots.Facts] : Prop :=
  ∀ (m : (ℓ : Loc Cert.CombiningReferenceIdeal.nD Cert.CombiningReferenceIdeal.τ Cert.CombiningReferenceIdeal.sig) → Buf (Elt Ideal) ℓ) (g : Dev Cert.CombiningReferenceIdeal.nD → PrngReg), Pre_CombiningReferenceIdeal_slots m →
    θ_run (Cert.CombiningReferenceIdeal.defs (F := Ideal)) (onTc (τ := Cert.CombiningReferenceIdeal.τ) (Cert.CombiningReferenceIdeal.main (F := Ideal))) ⟨m, fun _ => 0, g⟩ (fun r => (∀ c : Dev Cert.CombiningReferenceIdeal.nD,
      r.2.mem ((c.tc : Thread Cert.CombiningReferenceIdeal.nD Cert.CombiningReferenceIdeal.τ).loc Cert.CombiningReferenceIdeal.main_arg0) = m ((c.tc : Thread Cert.CombiningReferenceIdeal.nD Cert.CombiningReferenceIdeal.τ).loc Cert.CombiningReferenceIdeal.main_arg0)
      ∧ r.2.mem ((c.tc : Thread Cert.CombiningReferenceIdeal.nD Cert.CombiningReferenceIdeal.τ).loc Cert.CombiningReferenceIdeal.main_arg1) = m ((c.tc : Thread Cert.CombiningReferenceIdeal.nD Cert.CombiningReferenceIdeal.τ).loc Cert.CombiningReferenceIdeal.main_arg1)
      ∧ r.2.mem ((c.tc : Thread Cert.CombiningReferenceIdeal.nD Cert.CombiningReferenceIdeal.τ).loc Cert.CombiningReferenceIdeal.main_arg2) = m ((c.tc : Thread Cert.CombiningReferenceIdeal.nD Cert.CombiningReferenceIdeal.τ).loc Cert.CombiningReferenceIdeal.main_arg2)
      ∧ r.2.mem ((c.tc : Thread Cert.CombiningReferenceIdeal.nD Cert.CombiningReferenceIdeal.τ).loc Cert.CombiningReferenceIdeal.main_arg3) = m ((c.tc : Thread Cert.CombiningReferenceIdeal.nD Cert.CombiningReferenceIdeal.τ).loc Cert.CombiningReferenceIdeal.main_arg3)
      ∧ r.2.mem ((c.tc : Thread Cert.CombiningReferenceIdeal.nD Cert.CombiningReferenceIdeal.τ).loc Cert.CombiningReferenceIdeal.main_arg4) = m ((c.tc : Thread Cert.CombiningReferenceIdeal.nD Cert.CombiningReferenceIdeal.τ).loc Cert.CombiningReferenceIdeal.main_arg4)
      ∧ r.2.mem ((c.tc : Thread Cert.CombiningReferenceIdeal.nD Cert.CombiningReferenceIdeal.τ).loc Cert.CombiningReferenceIdeal.main_arg5) = m ((c.tc : Thread Cert.CombiningReferenceIdeal.nD Cert.CombiningReferenceIdeal.τ).loc Cert.CombiningReferenceIdeal.main_arg5)
      ∧ r.2.mem ((c.tc : Thread Cert.CombiningReferenceIdeal.nD Cert.CombiningReferenceIdeal.τ).loc Cert.CombiningReferenceIdeal.main_arg6) = m ((c.tc : Thread Cert.CombiningReferenceIdeal.nD Cert.CombiningReferenceIdeal.τ).loc Cert.CombiningReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v65_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v17) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v1_0)) (v1 : (c : Dev Cert.ProjectionIdeal.nD) → Buf (Elt Ideal) ((c.tc : Thread Cert.ProjectionIdeal.nD Cert.ProjectionIdeal.τ).loc Cert.ProjectionIdeal.main_v1_1)) (v2 : (c : Dev Cert.ProjectionIdeal.nD) → Buf (Elt Ideal) ((c.tc : Thread Cert.ProjectionIdeal.nD Cert.ProjectionIdeal.τ).loc Cert.ProjectionIdeal.main_v1_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v1_0) = v0 c
          ∧ r.2.mem ((c.tc : Thread Cert.ProjectionIdeal.nD Cert.ProjectionIdeal.τ).loc Cert.ProjectionIdeal.main_v1_1) = v1 c
          ∧ r.2.mem ((c.tc : Thread Cert.ProjectionIdeal.nD Cert.ProjectionIdeal.τ).loc Cert.ProjectionIdeal.main_v1_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v7) = v0 c
          ∧ r.2.mem ((c.tc : Thread Cert.ProjectionReferenceIdeal.nD Cert.ProjectionReferenceIdeal.τ).loc Cert.ProjectionReferenceIdeal.main_v8) = v1 c
          ∧ r.2.mem ((c.tc : Thread Cert.ProjectionReferenceIdeal.nD Cert.ProjectionReferenceIdeal.τ).loc Cert.ProjectionReferenceIdeal.main_v9) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def preserves_Mixing_MixingIdeal : Prop :=
  True

def algebraic_MixingIdeal_MixingReferenceIdeal [hMixingIdeal : Cert.MixingIdeal.Facts] [hMixingReferenceIdeal : Cert.MixingReferenceIdeal.Facts] : Prop :=
  ∀ (m : (ℓ : Loc Cert.MixingIdeal.nD Cert.MixingIdeal.τ Cert.MixingIdeal.sig) → Buf (Elt Ideal) ℓ) (g : Dev Cert.MixingIdeal.nD → PrngReg)
    (m' : (ℓ : Loc Cert.MixingReferenceIdeal.nD Cert.MixingReferenceIdeal.τ Cert.MixingReferenceIdeal.sig) → Buf (Elt Ideal) ℓ) (g' : Dev Cert.MixingReferenceIdeal.nD → PrngReg), Pre_MixingIdeal m →
    (∀ c : Dev Cert.MixingIdeal.nD,
      m' ((c.tc : Thread Cert.MixingReferenceIdeal.nD Cert.MixingReferenceIdeal.τ).loc Cert.MixingReferenceIdeal.main_arg0) = m ((c.tc : Thread Cert.MixingIdeal.nD Cert.MixingIdeal.τ).loc Cert.MixingIdeal.main_arg0)
      ∧ m' ((c.tc : Thread Cert.MixingReferenceIdeal.nD Cert.MixingReferenceIdeal.τ).loc Cert.MixingReferenceIdeal.main_arg1) = m ((c.tc : Thread Cert.MixingIdeal.nD Cert.MixingIdeal.τ).loc Cert.MixingIdeal.main_arg1)
      ∧ m' ((c.tc : Thread Cert.MixingReferenceIdeal.nD Cert.MixingReferenceIdeal.τ).loc Cert.MixingReferenceIdeal.main_arg2) = m ((c.tc : Thread Cert.MixingIdeal.nD Cert.MixingIdeal.τ).loc Cert.MixingIdeal.main_arg2)
      ∧ m' ((c.tc : Thread Cert.MixingReferenceIdeal.nD Cert.MixingReferenceIdeal.τ).loc Cert.MixingReferenceIdeal.main_arg3) = m ((c.tc : Thread Cert.MixingIdeal.nD Cert.MixingIdeal.τ).loc Cert.MixingIdeal.main_arg3)
      ∧ m' ((c.tc : Thread Cert.MixingReferenceIdeal.nD Cert.MixingReferenceIdeal.τ).loc Cert.MixingReferenceIdeal.main_arg4) = m ((c.tc : Thread Cert.MixingIdeal.nD Cert.MixingIdeal.τ).loc Cert.MixingIdeal.main_arg4)
      ∧ m' ((c.tc : Thread Cert.MixingReferenceIdeal.nD Cert.MixingReferenceIdeal.τ).loc Cert.MixingReferenceIdeal.main_arg5) = m ((c.tc : Thread Cert.MixingIdeal.nD Cert.MixingIdeal.τ).loc Cert.MixingIdeal.main_arg5)
      ∧ m' ((c.tc : Thread Cert.MixingReferenceIdeal.nD Cert.MixingReferenceIdeal.τ).loc Cert.MixingReferenceIdeal.main_arg6) = m ((c.tc : Thread Cert.MixingIdeal.nD Cert.MixingIdeal.τ).loc Cert.MixingIdeal.main_arg6)
      ∧ m' ((c.tc : Thread Cert.MixingReferenceIdeal.nD Cert.MixingReferenceIdeal.τ).loc Cert.MixingReferenceIdeal.main_arg7) = m ((c.tc : Thread Cert.MixingIdeal.nD Cert.MixingIdeal.τ).loc Cert.MixingIdeal.main_arg7)
      ∧ m' ((c.tc : Thread Cert.MixingReferenceIdeal.nD Cert.MixingReferenceIdeal.τ).loc Cert.MixingReferenceIdeal.main_arg8) = m ((c.tc : Thread Cert.MixingIdeal.nD Cert.MixingIdeal.τ).loc Cert.MixingIdeal.main_arg8)
      ∧ m' ((c.tc : Thread Cert.MixingReferenceIdeal.nD Cert.MixingReferenceIdeal.τ).loc Cert.MixingReferenceIdeal.main_arg9) = m ((c.tc : Thread Cert.MixingIdeal.nD Cert.MixingIdeal.τ).loc Cert.MixingIdeal.main_arg9)
      ∧ m' ((c.tc : Thread Cert.MixingReferenceIdeal.nD Cert.MixingReferenceIdeal.τ).loc Cert.MixingReferenceIdeal.main_arg10) = m ((c.tc : Thread Cert.MixingIdeal.nD Cert.MixingIdeal.τ).loc Cert.MixingIdeal.main_arg10)
      ∧ m' ((c.tc : Thread Cert.MixingReferenceIdeal.nD Cert.MixingReferenceIdeal.τ).loc Cert.MixingReferenceIdeal.main_arg11) = m ((c.tc : Thread Cert.MixingIdeal.nD Cert.MixingIdeal.τ).loc Cert.MixingIdeal.main_arg11)
      ∧ m' ((c.tc : Thread Cert.MixingReferenceIdeal.nD Cert.MixingReferenceIdeal.τ).loc Cert.MixingReferenceIdeal.main_arg12) = m ((c.tc : Thread Cert.MixingIdeal.nD Cert.MixingIdeal.τ).loc Cert.MixingIdeal.main_arg12)
      ∧ m' ((c.tc : Thread Cert.MixingReferenceIdeal.nD Cert.MixingReferenceIdeal.τ).loc Cert.MixingReferenceIdeal.main_arg13) = m ((c.tc : Thread Cert.MixingIdeal.nD Cert.MixingIdeal.τ).loc Cert.MixingIdeal.main_arg13)
      ∧ m' ((c.tc : Thread Cert.MixingReferenceIdeal.nD Cert.MixingReferenceIdeal.τ).loc Cert.MixingReferenceIdeal.main_arg14) = m ((c.tc : Thread Cert.MixingIdeal.nD Cert.MixingIdeal.τ).loc Cert.MixingIdeal.main_arg14)
      ∧ m' ((c.tc : Thread Cert.MixingReferenceIdeal.nD Cert.MixingReferenceIdeal.τ).loc Cert.MixingReferenceIdeal.main_arg15) = m ((c.tc : Thread Cert.MixingIdeal.nD Cert.MixingIdeal.τ).loc Cert.MixingIdeal.main_arg15)) →
    ∃ (v0 : (c : Dev Cert.MixingIdeal.nD) → Buf (Elt Ideal) ((c.tc : Thread Cert.MixingIdeal.nD Cert.MixingIdeal.τ).loc Cert.MixingIdeal.main_v20_0)) (v1 : (c : Dev Cert.MixingIdeal.nD) → Buf (Elt Ideal) ((c.tc : Thread Cert.MixingIdeal.nD Cert.MixingIdeal.τ).loc Cert.MixingIdeal.main_v20_1)),
      θ_run (Cert.MixingIdeal.defs (F := Ideal)) (onTc (τ := Cert.MixingIdeal.τ) (Cert.MixingIdeal.main (F := Ideal))) ⟨m, fun _ => 0, g⟩ (fun r => ∀ c : Dev Cert.MixingIdeal.nD,
          r.2.mem ((c.tc : Thread Cert.MixingIdeal.nD Cert.MixingIdeal.τ).loc Cert.MixingIdeal.main_v20_0) = v0 c
          ∧ r.2.mem ((c.tc : Thread Cert.MixingIdeal.nD Cert.MixingIdeal.τ).loc Cert.MixingIdeal.main_v20_1) = v1 c
          ∧ r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
          ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
          ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
          ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
          ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
          ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
          ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
          ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
          ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
          ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
          ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
          ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
          ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12)
          ∧ r.2.mem ((c.tc : Thread Cert.MixingIdeal.nD Cert.MixingIdeal.τ).loc Cert.MixingIdeal.main_arg13) = m ((c.tc : Thread Cert.MixingIdeal.nD Cert.MixingIdeal.τ).loc Cert.MixingIdeal.main_arg13)
          ∧ r.2.mem ((c.tc : Thread Cert.MixingIdeal.nD Cert.MixingIdeal.τ).loc Cert.MixingIdeal.main_arg14) = m ((c.tc : Thread Cert.MixingIdeal.nD Cert.MixingIdeal.τ).loc Cert.MixingIdeal.main_arg14)
          ∧ r.2.mem ((c.tc : Thread Cert.MixingIdeal.nD Cert.MixingIdeal.τ).loc Cert.MixingIdeal.main_arg15) = m ((c.tc : Thread Cert.MixingIdeal.nD Cert.MixingIdeal.τ).loc Cert.MixingIdeal.main_arg15))
      ∧ θ_run (Cert.MixingReferenceIdeal.defs (F := Ideal)) (onTc (τ := Cert.MixingReferenceIdeal.τ) (Cert.MixingReferenceIdeal.main (F := Ideal))) ⟨m', fun _ => 0, g'⟩ (fun r => ∀ c : Dev Cert.MixingReferenceIdeal.nD,
          r.2.mem ((c.tc : Thread Cert.MixingReferenceIdeal.nD Cert.MixingReferenceIdeal.τ).loc Cert.MixingReferenceIdeal.main_v53) = v0 c
          ∧ r.2.mem ((c.tc : Thread Cert.MixingReferenceIdeal.nD Cert.MixingReferenceIdeal.τ).loc Cert.MixingReferenceIdeal.main_v59) = v1 c
          ∧ r.2.mem ((c.tc : Thread Cert.MixingReferenceIdeal.nD Cert.MixingReferenceIdeal.τ).loc Cert.MixingReferenceIdeal.main_arg0) = m' ((c.tc : Thread Cert.MixingReferenceIdeal.nD Cert.MixingReferenceIdeal.τ).loc Cert.MixingReferenceIdeal.main_arg0)
          ∧ r.2.mem ((c.tc : Thread Cert.MixingReferenceIdeal.nD Cert.MixingReferenceIdeal.τ).loc Cert.MixingReferenceIdeal.main_arg1) = m' ((c.tc : Thread Cert.MixingReferenceIdeal.nD Cert.MixingReferenceIdeal.τ).loc Cert.MixingReferenceIdeal.main_arg1)
          ∧ r.2.mem ((c.tc : Thread Cert.MixingReferenceIdeal.nD Cert.MixingReferenceIdeal.τ).loc Cert.MixingReferenceIdeal.main_arg2) = m' ((c.tc : Thread Cert.MixingReferenceIdeal.nD Cert.MixingReferenceIdeal.τ).loc Cert.MixingReferenceIdeal.main_arg2)
          ∧ r.2.mem ((c.tc : Thread Cert.MixingReferenceIdeal.nD Cert.MixingReferenceIdeal.τ).loc Cert.MixingReferenceIdeal.main_arg3) = m' ((c.tc : Thread Cert.MixingReferenceIdeal.nD Cert.MixingReferenceIdeal.τ).loc Cert.MixingReferenceIdeal.main_arg3)
          ∧ r.2.mem ((c.tc : Thread Cert.MixingReferenceIdeal.nD Cert.MixingReferenceIdeal.τ).loc Cert.MixingReferenceIdeal.main_arg4) = m' ((c.tc : Thread Cert.MixingReferenceIdeal.nD Cert.MixingReferenceIdeal.τ).loc Cert.MixingReferenceIdeal.main_arg4)
          ∧ r.2.mem ((c.tc : Thread Cert.MixingReferenceIdeal.nD Cert.MixingReferenceIdeal.τ).loc Cert.MixingReferenceIdeal.main_arg5) = m' ((c.tc : Thread Cert.MixingReferenceIdeal.nD Cert.MixingReferenceIdeal.τ).loc Cert.MixingReferenceIdeal.main_arg5)
          ∧ r.2.mem ((c.tc : Thread Cert.MixingReferenceIdeal.nD Cert.MixingReferenceIdeal.τ).loc Cert.MixingReferenceIdeal.main_arg6) = m' ((c.tc : Thread Cert.MixingReferenceIdeal.nD Cert.MixingReferenceIdeal.τ).loc Cert.MixingReferenceIdeal.main_arg6)
          ∧ r.2.mem ((c.tc : Thread Cert.MixingReferenceIdeal.nD Cert.MixingReferenceIdeal.τ).loc Cert.MixingReferenceIdeal.main_arg7) = m' ((c.tc : Thread Cert.MixingReferenceIdeal.nD Cert.MixingReferenceIdeal.τ).loc Cert.MixingReferenceIdeal.main_arg7)
          ∧ r.2.mem ((c.tc : Thread Cert.MixingReferenceIdeal.nD Cert.MixingReferenceIdeal.τ).loc Cert.MixingReferenceIdeal.main_arg8) = m' ((c.tc : Thread Cert.MixingReferenceIdeal.nD Cert.MixingReferenceIdeal.τ).loc Cert.MixingReferenceIdeal.main_arg8)
          ∧ r.2.mem ((c.tc : Thread Cert.MixingReferenceIdeal.nD Cert.MixingReferenceIdeal.τ).loc Cert.MixingReferenceIdeal.main_arg9) = m' ((c.tc : Thread Cert.MixingReferenceIdeal.nD Cert.MixingReferenceIdeal.τ).loc Cert.MixingReferenceIdeal.main_arg9)
          ∧ r.2.mem ((c.tc : Thread Cert.MixingReferenceIdeal.nD Cert.MixingReferenceIdeal.τ).loc Cert.MixingReferenceIdeal.main_arg10) = m' ((c.tc : Thread Cert.MixingReferenceIdeal.nD Cert.MixingReferenceIdeal.τ).loc Cert.MixingReferenceIdeal.main_arg10)
          ∧ r.2.mem ((c.tc : Thread Cert.MixingReferenceIdeal.nD Cert.MixingReferenceIdeal.τ).loc Cert.MixingReferenceIdeal.main_arg11) = m' ((c.tc : Thread Cert.MixingReferenceIdeal.nD Cert.MixingReferenceIdeal.τ).loc Cert.MixingReferenceIdeal.main_arg11)
          ∧ r.2.mem ((c.tc : Thread Cert.MixingReferenceIdeal.nD Cert.MixingReferenceIdeal.τ).loc Cert.MixingReferenceIdeal.main_arg12) = m' ((c.tc : Thread Cert.MixingReferenceIdeal.nD Cert.MixingReferenceIdeal.τ).loc Cert.MixingReferenceIdeal.main_arg12)
          ∧ r.2.mem ((c.tc : Thread Cert.MixingReferenceIdeal.nD Cert.MixingReferenceIdeal.τ).loc Cert.MixingReferenceIdeal.main_arg13) = m' ((c.tc : Thread Cert.MixingReferenceIdeal.nD Cert.MixingReferenceIdeal.τ).loc Cert.MixingReferenceIdeal.main_arg13)
          ∧ r.2.mem ((c.tc : Thread Cert.MixingReferenceIdeal.nD Cert.MixingReferenceIdeal.τ).loc Cert.MixingReferenceIdeal.main_arg14) = m' ((c.tc : Thread Cert.MixingReferenceIdeal.nD Cert.MixingReferenceIdeal.τ).loc Cert.MixingReferenceIdeal.main_arg14)
          ∧ r.2.mem ((c.tc : Thread Cert.MixingReferenceIdeal.nD Cert.MixingReferenceIdeal.τ).loc Cert.MixingReferenceIdeal.main_arg15) = m' ((c.tc : Thread Cert.MixingReferenceIdeal.nD Cert.MixingReferenceIdeal.τ).loc Cert.MixingReferenceIdeal.main_arg15))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v2)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v2) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v40) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def preserves_Counting_CountingIdeal : Prop :=
  True

def algebraic_CountingIdeal_CountingReferenceIdeal [hCountingIdeal : Cert.CountingIdeal.Facts] [hCountingReferenceIdeal : Cert.CountingReferenceIdeal.Facts] : Prop :=
  ∀ (m : (ℓ : Loc Cert.CountingIdeal.nD Cert.CountingIdeal.τ Cert.CountingIdeal.sig) → Buf (Elt Ideal) ℓ) (g : Dev Cert.CountingIdeal.nD → PrngReg)
    (m' : (ℓ : Loc Cert.CountingReferenceIdeal.nD Cert.CountingReferenceIdeal.τ Cert.CountingReferenceIdeal.sig) → Buf (Elt Ideal) ℓ) (g' : Dev Cert.CountingReferenceIdeal.nD → PrngReg), Pre_CountingIdeal m →
    (∀ c : Dev Cert.CountingIdeal.nD,
      m' ((c.tc : Thread Cert.CountingReferenceIdeal.nD Cert.CountingReferenceIdeal.τ).loc Cert.CountingReferenceIdeal.main_arg0) = m ((c.tc : Thread Cert.CountingIdeal.nD Cert.CountingIdeal.τ).loc Cert.CountingIdeal.main_arg0)) →
    ∃ (v0 : (c : Dev Cert.CountingIdeal.nD) → Buf (Elt Ideal) ((c.tc : Thread Cert.CountingIdeal.nD Cert.CountingIdeal.τ).loc Cert.CountingIdeal.main_v0)),
      θ_run (Cert.CountingIdeal.defs (F := Ideal)) (onTc (τ := Cert.CountingIdeal.τ) (Cert.CountingIdeal.main (F := Ideal))) ⟨m, fun _ => 0, g⟩ (fun r => ∀ c : Dev Cert.CountingIdeal.nD,
          r.2.mem ((c.tc : Thread Cert.CountingIdeal.nD Cert.CountingIdeal.τ).loc Cert.CountingIdeal.main_v0) = v0 c
          ∧ r.2.mem ((c.tc : Thread Cert.CountingIdeal.nD Cert.CountingIdeal.τ).loc Cert.CountingIdeal.main_arg0) = m ((c.tc : Thread Cert.CountingIdeal.nD Cert.CountingIdeal.τ).loc Cert.CountingIdeal.main_arg0))
      ∧ θ_run (Cert.CountingReferenceIdeal.defs (F := Ideal)) (onTc (τ := Cert.CountingReferenceIdeal.τ) (Cert.CountingReferenceIdeal.main (F := Ideal))) ⟨m', fun _ => 0, g'⟩ (fun r => ∀ c : Dev Cert.CountingReferenceIdeal.nD,
          r.2.mem ((c.tc : Thread Cert.CountingReferenceIdeal.nD Cert.CountingReferenceIdeal.τ).loc Cert.CountingReferenceIdeal.main_v10) = v0 c
          ∧ r.2.mem ((c.tc : Thread Cert.CountingReferenceIdeal.nD Cert.CountingReferenceIdeal.τ).loc Cert.CountingReferenceIdeal.main_arg0) = m' ((c.tc : Thread Cert.CountingReferenceIdeal.nD Cert.CountingReferenceIdeal.τ).loc Cert.CountingReferenceIdeal.main_arg0))

def preserves_Combining_CombiningIdeal : Prop :=
  True

def algebraic_CombiningIdeal_CombiningReferenceIdeal [hCombiningIdeal : Cert.CombiningIdeal.Facts] [hCombiningReferenceIdeal : Cert.CombiningReferenceIdeal.Facts] [hPre_slots : Cert.Pre_slots.Facts] : Prop :=
  ∀ (m : (ℓ : Loc Cert.CombiningIdeal.nD Cert.CombiningIdeal.τ Cert.CombiningIdeal.sig) → Buf (Elt Ideal) ℓ) (g : Dev Cert.CombiningIdeal.nD → PrngReg)
    (m' : (ℓ : Loc Cert.CombiningReferenceIdeal.nD Cert.CombiningReferenceIdeal.τ Cert.CombiningReferenceIdeal.sig) → Buf (Elt Ideal) ℓ) (g' : Dev Cert.CombiningReferenceIdeal.nD → PrngReg), Pre_CombiningIdeal m →
    (∀ c : Dev Cert.CombiningIdeal.nD,
      m' ((c.tc : Thread Cert.CombiningReferenceIdeal.nD Cert.CombiningReferenceIdeal.τ).loc Cert.CombiningReferenceIdeal.main_arg0) = m ((c.tc : Thread Cert.CombiningIdeal.nD Cert.CombiningIdeal.τ).loc Cert.CombiningIdeal.main_arg0)
      ∧ m' ((c.tc : Thread Cert.CombiningReferenceIdeal.nD Cert.CombiningReferenceIdeal.τ).loc Cert.CombiningReferenceIdeal.main_arg1) = m ((c.tc : Thread Cert.CombiningIdeal.nD Cert.CombiningIdeal.τ).loc Cert.CombiningIdeal.main_arg1)
      ∧ m' ((c.tc : Thread Cert.CombiningReferenceIdeal.nD Cert.CombiningReferenceIdeal.τ).loc Cert.CombiningReferenceIdeal.main_arg2) = m ((c.tc : Thread Cert.CombiningIdeal.nD Cert.CombiningIdeal.τ).loc Cert.CombiningIdeal.main_arg2)
      ∧ m' ((c.tc : Thread Cert.CombiningReferenceIdeal.nD Cert.CombiningReferenceIdeal.τ).loc Cert.CombiningReferenceIdeal.main_arg3) = m ((c.tc : Thread Cert.CombiningIdeal.nD Cert.CombiningIdeal.τ).loc Cert.CombiningIdeal.main_arg3)
      ∧ m' ((c.tc : Thread Cert.CombiningReferenceIdeal.nD Cert.CombiningReferenceIdeal.τ).loc Cert.CombiningReferenceIdeal.main_arg4) = m ((c.tc : Thread Cert.CombiningIdeal.nD Cert.CombiningIdeal.τ).loc Cert.CombiningIdeal.main_arg4)
      ∧ m' ((c.tc : Thread Cert.CombiningReferenceIdeal.nD Cert.CombiningReferenceIdeal.τ).loc Cert.CombiningReferenceIdeal.main_arg5) = m ((c.tc : Thread Cert.CombiningIdeal.nD Cert.CombiningIdeal.τ).loc Cert.CombiningIdeal.main_arg5)
      ∧ m' ((c.tc : Thread Cert.CombiningReferenceIdeal.nD Cert.CombiningReferenceIdeal.τ).loc Cert.CombiningReferenceIdeal.main_arg6) = m ((c.tc : Thread Cert.CombiningIdeal.nD Cert.CombiningIdeal.τ).loc Cert.CombiningIdeal.main_arg6)) →
    ∃ (v0 : (c : Dev Cert.CombiningIdeal.nD) → Buf (Elt Ideal) ((c.tc : Thread Cert.CombiningIdeal.nD Cert.CombiningIdeal.τ).loc Cert.CombiningIdeal.main_v2)),
      θ_run (Cert.CombiningIdeal.defs (F := Ideal)) (onTc (τ := Cert.CombiningIdeal.τ) (Cert.CombiningIdeal.main (F := Ideal))) ⟨m, fun _ => 0, g⟩ (fun r => ∀ c : Dev Cert.CombiningIdeal.nD,
          r.2.mem ((c.tc : Thread Cert.CombiningIdeal.nD Cert.CombiningIdeal.τ).loc Cert.CombiningIdeal.main_v2) = v0 c
          ∧ r.2.mem ((c.tc : Thread Cert.CombiningIdeal.nD Cert.CombiningIdeal.τ).loc Cert.CombiningIdeal.main_arg0) = m ((c.tc : Thread Cert.CombiningIdeal.nD Cert.CombiningIdeal.τ).loc Cert.CombiningIdeal.main_arg0)
          ∧ r.2.mem ((c.tc : Thread Cert.CombiningIdeal.nD Cert.CombiningIdeal.τ).loc Cert.CombiningIdeal.main_arg1) = m ((c.tc : Thread Cert.CombiningIdeal.nD Cert.CombiningIdeal.τ).loc Cert.CombiningIdeal.main_arg1)
          ∧ r.2.mem ((c.tc : Thread Cert.CombiningIdeal.nD Cert.CombiningIdeal.τ).loc Cert.CombiningIdeal.main_arg2) = m ((c.tc : Thread Cert.CombiningIdeal.nD Cert.CombiningIdeal.τ).loc Cert.CombiningIdeal.main_arg2)
          ∧ r.2.mem ((c.tc : Thread Cert.CombiningIdeal.nD Cert.CombiningIdeal.τ).loc Cert.CombiningIdeal.main_arg3) = m ((c.tc : Thread Cert.CombiningIdeal.nD Cert.CombiningIdeal.τ).loc Cert.CombiningIdeal.main_arg3)
          ∧ r.2.mem ((c.tc : Thread Cert.CombiningIdeal.nD Cert.CombiningIdeal.τ).loc Cert.CombiningIdeal.main_arg4) = m ((c.tc : Thread Cert.CombiningIdeal.nD Cert.CombiningIdeal.τ).loc Cert.CombiningIdeal.main_arg4)
          ∧ r.2.mem ((c.tc : Thread Cert.CombiningIdeal.nD Cert.CombiningIdeal.τ).loc Cert.CombiningIdeal.main_arg5) = m ((c.tc : Thread Cert.CombiningIdeal.nD Cert.CombiningIdeal.τ).loc Cert.CombiningIdeal.main_arg5)
          ∧ r.2.mem ((c.tc : Thread Cert.CombiningIdeal.nD Cert.CombiningIdeal.τ).loc Cert.CombiningIdeal.main_arg6) = m ((c.tc : Thread Cert.CombiningIdeal.nD Cert.CombiningIdeal.τ).loc Cert.CombiningIdeal.main_arg6))
      ∧ θ_run (Cert.CombiningReferenceIdeal.defs (F := Ideal)) (onTc (τ := Cert.CombiningReferenceIdeal.τ) (Cert.CombiningReferenceIdeal.main (F := Ideal))) ⟨m', fun _ => 0, g'⟩ (fun r => ∀ c : Dev Cert.CombiningReferenceIdeal.nD,
          r.2.mem ((c.tc : Thread Cert.CombiningReferenceIdeal.nD Cert.CombiningReferenceIdeal.τ).loc Cert.CombiningReferenceIdeal.main_v44) = v0 c
          ∧ r.2.mem ((c.tc : Thread Cert.CombiningReferenceIdeal.nD Cert.CombiningReferenceIdeal.τ).loc Cert.CombiningReferenceIdeal.main_arg0) = m' ((c.tc : Thread Cert.CombiningReferenceIdeal.nD Cert.CombiningReferenceIdeal.τ).loc Cert.CombiningReferenceIdeal.main_arg0)
          ∧ r.2.mem ((c.tc : Thread Cert.CombiningReferenceIdeal.nD Cert.CombiningReferenceIdeal.τ).loc Cert.CombiningReferenceIdeal.main_arg1) = m' ((c.tc : Thread Cert.CombiningReferenceIdeal.nD Cert.CombiningReferenceIdeal.τ).loc Cert.CombiningReferenceIdeal.main_arg1)
          ∧ r.2.mem ((c.tc : Thread Cert.CombiningReferenceIdeal.nD Cert.CombiningReferenceIdeal.τ).loc Cert.CombiningReferenceIdeal.main_arg2) = m' ((c.tc : Thread Cert.CombiningReferenceIdeal.nD Cert.CombiningReferenceIdeal.τ).loc Cert.CombiningReferenceIdeal.main_arg2)
          ∧ r.2.mem ((c.tc : Thread Cert.CombiningReferenceIdeal.nD Cert.CombiningReferenceIdeal.τ).loc Cert.CombiningReferenceIdeal.main_arg3) = m' ((c.tc : Thread Cert.CombiningReferenceIdeal.nD Cert.CombiningReferenceIdeal.τ).loc Cert.CombiningReferenceIdeal.main_arg3)
          ∧ r.2.mem ((c.tc : Thread Cert.CombiningReferenceIdeal.nD Cert.CombiningReferenceIdeal.τ).loc Cert.CombiningReferenceIdeal.main_arg4) = m' ((c.tc : Thread Cert.CombiningReferenceIdeal.nD Cert.CombiningReferenceIdeal.τ).loc Cert.CombiningReferenceIdeal.main_arg4)
          ∧ r.2.mem ((c.tc : Thread Cert.CombiningReferenceIdeal.nD Cert.CombiningReferenceIdeal.τ).loc Cert.CombiningReferenceIdeal.main_arg5) = m' ((c.tc : Thread Cert.CombiningReferenceIdeal.nD Cert.CombiningReferenceIdeal.τ).loc Cert.CombiningReferenceIdeal.main_arg5)
          ∧ r.2.mem ((c.tc : Thread Cert.CombiningReferenceIdeal.nD Cert.CombiningReferenceIdeal.τ).loc Cert.CombiningReferenceIdeal.main_arg6) = m' ((c.tc : Thread Cert.CombiningReferenceIdeal.nD Cert.CombiningReferenceIdeal.τ).loc Cert.CombiningReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hMixing : Cert.Mixing.Facts) (hMixingIdeal : Cert.MixingIdeal.Facts) (hMixingReferenceIdeal : Cert.MixingReferenceIdeal.Facts) (hModulation : Cert.Modulation.Facts) (hModulationIdeal : Cert.ModulationIdeal.Facts) (hModulationReferenceIdeal : Cert.ModulationReferenceIdeal.Facts) (hCounting : Cert.Counting.Facts) (hCountingIdeal : Cert.CountingIdeal.Facts) (hCountingReferenceIdeal : Cert.CountingReferenceIdeal.Facts) (hCombining : Cert.Combining.Facts) (hCombiningIdeal : Cert.CombiningIdeal.Facts) (hCombiningReferenceIdeal : Cert.CombiningReferenceIdeal.Facts) (hPre_routed : Cert.Pre_routed.Facts) (hPre_slots : Cert.Pre_slots.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Mixing (hMixing := hMixing)
    ∧ quiescent_MixingIdeal (hMixingIdeal := hMixingIdeal)
    ∧ quiescent_MixingReferenceIdeal (hMixingReferenceIdeal := hMixingReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Counting (hCounting := hCounting)
    ∧ quiescent_CountingIdeal (hCountingIdeal := hCountingIdeal)
    ∧ quiescent_CountingReferenceIdeal (hCountingReferenceIdeal := hCountingReferenceIdeal)
    ∧ quiescent_Combining (hCombining := hCombining) (hPre_slots := hPre_slots)
    ∧ quiescent_CombiningIdeal (hCombiningIdeal := hCombiningIdeal) (hPre_slots := hPre_slots)
    ∧ quiescent_CombiningReferenceIdeal (hCombiningReferenceIdeal := hCombiningReferenceIdeal)
    ∧ quiescent_CombiningReferenceIdeal_pre_slots (hCombiningReferenceIdeal := hCombiningReferenceIdeal) (hPre_slots := hPre_slots)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_Projection_ProjectionIdeal
    ∧ algebraic_ProjectionIdeal_ProjectionReferenceIdeal (hProjectionIdeal := hProjectionIdeal) (hProjectionReferenceIdeal := hProjectionReferenceIdeal)
    ∧ preserves_Mixing_MixingIdeal
    ∧ algebraic_MixingIdeal_MixingReferenceIdeal (hMixingIdeal := hMixingIdeal) (hMixingReferenceIdeal := hMixingReferenceIdeal)
    ∧ preserves_Modulation_ModulationIdeal
    ∧ algebraic_ModulationIdeal_ModulationReferenceIdeal (hModulationIdeal := hModulationIdeal) (hModulationReferenceIdeal := hModulationReferenceIdeal)
    ∧ preserves_Counting_CountingIdeal
    ∧ algebraic_CountingIdeal_CountingReferenceIdeal (hCountingIdeal := hCountingIdeal) (hCountingReferenceIdeal := hCountingReferenceIdeal)
    ∧ preserves_Combining_CombiningIdeal
    ∧ algebraic_CombiningIdeal_CombiningReferenceIdeal (hCombiningIdeal := hCombiningIdeal) (hCombiningReferenceIdeal := hCombiningReferenceIdeal) (hPre_slots := hPre_slots)
-- ==== Pre_routed.lean ====
abbrev S82432x1024 : Shape := ⟨2, ![82432, 1024]⟩
abbrev S161 : Shape := ⟨1, ![161]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S161 : S_.BroadcastsInDim S161 (![] : Fin 0 → Fin S161.rank)
  reducesTo_S161_S_d0 : S161.ReducesTo [0] S_
  h_S_ : 0 < S_.numel
  shapeCasts_S1_S_ : S1.ShapeCasts S_

variable [Facts]

def fn {F : FTy → Type} [FloatOps F] (main_arg0 : FVec F S82432x1024 .f32) (main_arg1 : IVec S161 32) (main_arg2 : IVec S1 32) (main_arg3 : FVec F S2x32x1024x2048 .f32) (main_arg4 : FVec F S2x32x2048 .f32) (main_arg5 : FVec F S2x32x1024x1024 .f32) (main_arg6 : FVec F S2x32x1024 .f32) : IVec S_ 1 :=
  let main_c : IVec S_ 32 := constantI S_ 32 0#32
  let main_v0 : IVec S161 32 := broadcastInDim S161 ![] bcast_S_S161 main_c
  let main_v1 : IVec S161 1 := cmpi .sge main_arg1 main_v0
  let main_c_0 : IVec S_ 1 := constantI S_ 1 1#1
  let main_v2 : IVec S_ 1 := (fun x v => Host.reduce IntOp.andi x v reducesTo_S161_S_d0 h_S_) main_v1 main_c_0
  let main_c_1 : IVec S_ 32 := constantI S_ 32 32#32
  let main_v3 : IVec S161 32 := broadcastInDim S161 ![] bcast_S_S161 main_c_1
  let main_v4 : IVec S161 1 := cmpi .slt main_arg1 main_v3
  let main_c_2 : IVec S_ 1 := constantI S_ 1 1#1
  let main_v5 : IVec S_ 1 := (fun x v => Host.reduce IntOp.andi x v reducesTo_S161_S_d0 h_S_) main_v4 main_c_2
  let main_v6 : IVec S_ 1 := andi main_v2 main_v5
  let main_v7 : IVec S_ 32 := shapeCast S_ main_arg2 shapeCasts_S1_S_
  let main_c_3 : IVec S_ 32 := constantI S_ 32 1#32
  let main_v8 : IVec S_ 1 := cmpi .sge main_v7 main_c_3
  let main_v9 : IVec S_ 1 := andi main_v6 main_v8
  main_v9
-- ==== Pre_slots.lean ====
abbrev S66048 : Shape := ⟨1, ![66048]⟩
abbrev S82432x1024 : Shape := ⟨2, ![82432, 1024]⟩
abbrev S8x2048x1024 : Shape := ⟨3, ![8, 2048, 1024]⟩
abbrev S8x2048x128 : Shape := ⟨3, ![8, 2048, 128]⟩
abbrev S8x1x1024 : Shape := ⟨3, ![8, 1, 1024]⟩
abbrev S1024 : Shape := ⟨1, ![1024]⟩
abbrev S_ : Shape := ⟨0, ![]⟩

class Facts : Prop where
  bcast_S_S66048 : S_.BroadcastsInDim S66048 (![] : Fin 0 → Fin S66048.rank)
  reducesTo_S66048_S_d0 : S66048.ReducesTo [0] S_
  h_S_ : 0 < S_.numel

variable [Facts]

def fn {F : FTy → Type} [FloatOps F] (main_arg0 : IVec S66048 32) (main_arg1 : FVec F S82432x1024 .f32) (main_arg2 : FVec F S8x2048x1024 .f32) (main_arg3 : FVec F S8x2048x128 .f32) (main_arg4 : FVec F S8x1x1024 .f32) (main_arg5 : FVec F S1024 .f32) (main_arg6 : FVec F S1024 .f32) : IVec S_ 1 :=
  let main_c : IVec S_ 32 := constantI S_ 32 0#32
  let main_v0 : IVec S66048 32 := broadcastInDim S66048 ![] bcast_S_S66048 main_c
  let main_v1 : IVec S66048 1 := cmpi .sge main_arg0 main_v0
  let main_c_0 : IVec S_ 1 := constantI S_ 1 1#1
  let main_v2 : IVec S_ 1 := (fun x v => Host.reduce IntOp.andi x v reducesTo_S66048_S_d0 h_S_) main_v1 main_c_0
  let main_c_1 : IVec S_ 32 := constantI S_ 32 82432#32
  let main_v3 : IVec S66048 32 := broadcastInDim S66048 ![] bcast_S_S66048 main_c_1
  let main_v4 : IVec S66048 1 := cmpi .slt main_arg0 main_v3
  let main_c_2 : IVec S_ 1 := constantI S_ 1 1#1
  let main_v5 : IVec S_ 1 := (fun x v => Host.reduce IntOp.andi x v reducesTo_S66048_S_d0 h_S_) main_v4 main_c_2
  let main_v6 : IVec S_ 1 := andi main_v2 main_v5
  main_v6
-- ==== Kernel.lean ====
abbrev S8x2048x2048 : Shape := ⟨3, ![8, 2048, 2048]⟩
abbrev S8x4x128x128 : Shape := ⟨4, ![8, 4, 128, 128]⟩
abbrev S2x512 : Shape := ⟨2, ![2, 512]⟩
abbrev S128 : Shape := ⟨1, ![128]⟩
abbrev S_ : Shape := ⟨0, ![]⟩
abbrev S512 : Shape := ⟨1, ![512]⟩
abbrev S1x512 : Shape := ⟨2, ![1, 512]⟩
abbrev S1x8x4x128x128 : Shape := ⟨5, ![1, 8, 4, 128, 128]⟩
abbrev S1x128 : Shape := ⟨2, ![1, 128]⟩
abbrev S8x2048x512 : Shape := ⟨3, ![8, 2048, 512]⟩
abbrev S1x256x2048 : Shape := ⟨3, ![1, 256, 2048]⟩
abbrev S1x1x4x128x128 : Shape := ⟨5, ![1, 1, 4, 128, 128]⟩
abbrev S1x256x512 : Shape := ⟨3, ![1, 256, 512]⟩
abbrev S1x4x128x128 : Shape := ⟨4, ![1, 4, 128, 128]⟩
abbrev S4x128x128 : Shape := ⟨3, ![4, 128, 128]⟩
abbrev S1x1x1x128x128 : Shape := ⟨5, ![1, 1, 1, 128, 128]⟩
abbrev S128x128 : Shape := ⟨2, ![128, 128]⟩
abbrev S1x128x128 : Shape := ⟨3, ![1, 128, 128]⟩
abbrev S16x512 : Shape := ⟨2, ![16, 512]⟩
abbrev S16x1 : Shape := ⟨2, ![16, 1]⟩
abbrev S1x16x2048 : Shape := ⟨3, ![1, 16, 2048]⟩
abbrev S16x2048 : Shape := ⟨2, ![16, 2048]⟩
abbrev S16x128 : Shape := ⟨2, ![16, 128]⟩
abbrev S8x128 : Shape := ⟨2, ![8, 128]⟩
abbrev S8 : Shape := ⟨1, ![8]⟩
abbrev S8x1 : Shape := ⟨2, ![8, 1]⟩
abbrev S16 : Shape := ⟨1, ![16]⟩
abbrev S1x16x128 : Shape := ⟨3, ![1, 16, 128]⟩
abbrev S1x1x128x128 : Shape := ⟨4, ![1, 1, 128, 128]⟩

abbrev nBuf : Space → Nat
  | .hbm => 33
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x4x128x128, .f32⟩
  | .hbm, ⟨2, _⟩ => ⟨S2x512, .f32⟩
  | .hbm, ⟨3, _⟩ => ⟨S128, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S2x512, .f32⟩
  | .hbm, ⟨25, _⟩ => ⟨S2x512, .f32⟩
  | .hbm, ⟨26, _⟩ => ⟨S1x8x4x128x128, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1x128, .f32⟩
  | .hbm, ⟨31, _⟩ => ⟨S8x2048x512, .f32⟩
  | .hbm, ⟨32, _⟩ => ⟨S8x4x128x128, .f32⟩
  | .local _ .vmem, ⟨0, _⟩ => ⟨S1x256x2048, .f32⟩
  | .local _ .vmem, ⟨1, _⟩ => ⟨S1x256x2048, .f32⟩
  | .local _ .vmem, ⟨2, _⟩ => ⟨S1x1x4x128x128, .f32⟩
  | .local _ .vmem, ⟨3, _⟩ => ⟨S1x1x4x128x128, .f32⟩
  | .local _ .vmem, ⟨4, _⟩ => ⟨S1x512, .f32⟩
  | .local _ .vmem, ⟨5, _⟩ => ⟨S1x128, .f32⟩
  | .local _ .vmem, ⟨6, _⟩ => ⟨S1x256x512, .f32⟩
  | .local _ .vmem, ⟨7, _⟩ => ⟨S1x256x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_4 : BitVec 32 := 0#32
  let c16_i32 : BitVec 32 := 16#32
  let v9 : BitVec 32 := Scalar.addi c0_i32_4 c16_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c16_i32_7 : BitVec 32 := 16#32
  let v13 : BitVec 32 := Scalar.muli arg9 c16_i32_7
  v13
def k0_off1 (k0_t1 : Fin k0_t1_loop.trips) : Fin 3 → Nat :=
  let c0_8 : Index := 0#32
  let c0_i32_4 : BitVec 32 := 0#32
  let c1_i32 : BitVec 32 := 1#32
  let arg9 : BitVec 32 := Scf.iv c0_i32_4 c1_i32 k0_t1
  let c16_i32_7 : BitVec 32 := 16#32
  let v13 : BitVec 32 := Scalar.muli arg9 c16_i32_7
  let v14 : BitVec 32 := v13
  let v15 : Index := Scalar.indexCast v14
  let c0_9 : Index := 0#32
  ![0, v15.toNat, 0]
def k0_off2 (k0_t1 : Fin k0_t1_loop.trips) : Fin 3 → Nat :=
  let c0_94 : Index := 0#32
  let c0_i32_4 : BitVec 32 := 0#32
  let c1_i32 : BitVec 32 := 1#32
  let arg9 : BitVec 32 := Scf.iv c0_i32_4 c1_i32 k0_t1
  let c16_i32_7 : BitVec 32 := 16#32
  let v13 : BitVec 32 := Scalar.muli arg9 c16_i32_7
  let v14 : BitVec 32 := v13
  let v582 : Index := Scalar.indexCast v14
  let c0_95 : Index := 0#32
  ![0, v582.toNat, 0]
def k0_off3 (k0_t1 : Fin k0_t1_loop.trips) : Fin 3 → Nat :=
  let c0_178 : Index := 0#32
  let c0_i32_4 : BitVec 32 := 0#32
  let c1_i32 : BitVec 32 := 1#32
  let arg9 : BitVec 32 := Scf.iv c0_i32_4 c1_i32 k0_t1
  let c16_i32_7 : BitVec 32 := 16#32
  let v13 : BitVec 32 := Scalar.muli arg9 c16_i32_7
  let v14 : BitVec 32 := v13
  let v1107 : Index := Scalar.indexCast v14
  let c128 : Index := 128#32
  ![0, v1107.toNat, 128]
def k0_off4 (k0_t1 : Fin k0_t1_loop.trips) : Fin 3 → Nat :=
  let c0_261 : Index := 0#32
  let c0_i32_4 : BitVec 32 := 0#32
  let c1_i32 : BitVec 32 := 1#32
  let arg9 : BitVec 32 := Scf.iv c0_i32_4 c1_i32 k0_t1
  let c16_i32_7 : BitVec 32 := 16#32
  let v13 : BitVec 32 := Scalar.muli arg9 c16_i32_7
  let v14 : BitVec 32 := v13
  let v1632 : Index := Scalar.indexCast v14
  let c256 : Index := 256#32
  ![0, v1632.toNat, 256]
def k0_off5 (k0_t1 : Fin k0_t1_loop.trips) : Fin 3 → Nat :=
  let c0_344 : Index := 0#32
  let c0_i32_4 : BitVec 32 := 0#32
  let c1_i32 : BitVec 32 := 1#32
  let arg9 : BitVec 32 := Scf.iv c0_i32_4 c1_i32 k0_t1
  let c16_i32_7 : BitVec 32 := 16#32
  let v13 : BitVec 32 := Scalar.muli arg9 c16_i32_7
  let v14 : BitVec 32 := v13
  let v2157 : Index := Scalar.indexCast v14
  let c384 : Index := 384#32
  ![0, v2157.toNat, 384]
def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x2048x2048 : Shape := ⟨3, ![8, 2048, 2048]⟩
abbrev S8x4x128x128 : Shape := ⟨4, ![8, 4, 128, 128]⟩
abbrev S2x512 : Shape := ⟨2, ![2, 512]⟩
abbrev S128 : Shape := ⟨1, ![128]⟩
abbrev S_ : Shape := ⟨0, ![]⟩
abbrev S512 : Shape := ⟨1, ![512]⟩
abbrev S1x512 : Shape := ⟨2, ![1, 512]⟩
abbrev S8x2048x512 : Shape := ⟨3, ![8, 2048, 512]⟩
abbrev S8x2048x4x128 : Shape := ⟨4, ![8, 2048, 4, 128]⟩
abbrev S4x128 : Shape := ⟨2, ![4, 128]⟩
abbrev S1x1x4x128 : Shape := ⟨4, ![1, 1, 4, 128]⟩
abbrev S16x16 : Shape := ⟨2, ![16, 16]⟩
abbrev S1x16x16x1x1 : Shape := ⟨5, ![1, 16, 16, 1, 1]⟩
abbrev S8x128x16x4x128 : Shape := ⟨5, ![8, 128, 16, 4, 128]⟩
abbrev S128x8x16x4x128 : Shape := ⟨5, ![128, 8, 16, 4, 128]⟩
abbrev S1x8x16x4x128 : Shape := ⟨5, ![1, 8, 16, 4, 128]⟩
abbrev S8x16x4x128 : Shape := ⟨4, ![8, 16, 4, 128]⟩
abbrev S8x4x128x16 : Shape := ⟨4, ![8, 4, 128, 16]⟩
abbrev S8x16x1x4x128 : Shape := ⟨5, ![8, 16, 1, 4, 128]⟩
abbrev S8x1x16x4x128 : Shape := ⟨5, ![8, 1, 16, 4, 128]⟩
abbrev S8x16x16x4x128 : Shape := ⟨5, ![8, 16, 16, 4, 128]⟩
abbrev S8x16x16x4 : Shape := ⟨4, ![8, 16, 16, 4]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 205
  | .vmem => 0
  | .smem => 0
  | _ => 0

abbrev hbmTy0_0 (i : Nat) : BufTy := match i % 128 with
  | 0 => ⟨S8x2048x2048, .f32⟩
  | 1 => ⟨S8x4x128x128, .f32⟩
  | 2 => ⟨S2x512, .f32⟩
  | 3 => ⟨S128, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S1x512, .f32⟩
  | 24 => ⟨S2x512, .f32⟩
  | 25 => ⟨S2x512, .f32⟩
  | 26 => ⟨S1x512, .f32⟩
  | 27 => ⟨S512, .f32⟩
  | 28 => ⟨S8x2048x512, .f32⟩
  | 29 => ⟨S8x2048x512, .f32⟩
  | 30 => ⟨S8x2048x512, .f32⟩
  | 31 => ⟨S8x2048x4x128, .f32⟩
  | 32 => ⟨S8x2048x4x128, .f32⟩
  | 33 => ⟨S8x2048x4x128, .f32⟩
  | 34 => ⟨S4x128, .f32⟩
  | 35 => ⟨S_, .f32⟩
  | 36 => ⟨S4x128, .f32⟩
  | 37 => ⟨S4x128, .f32⟩
  | 38 => ⟨S8x2048x4x128, .f32⟩
  | 39 => ⟨S8x2048x4x128, .f32⟩
  | 40 => ⟨S_, .f32⟩
  | 41 => ⟨S8x2048x4x128, .f32⟩
  | 42 => ⟨S8x2048x4x128, .f32⟩
  | 43 => ⟨S_, .f32⟩
  | 44 => ⟨S8x2048x4x128, .f32⟩
  | 45 => ⟨S8x2048x4x128, .f32⟩
  | 46 => ⟨S1x1x4x128, .f32⟩
  | 47 => ⟨S8x2048x4x128, .f32⟩
  | 48 => ⟨S8x2048x4x128, .f32⟩
  | 49 => ⟨S1x1x4x128, .f32⟩
  | 50 => ⟨S8x2048x4x128, .f32⟩
  | 51 => ⟨S8x2048x4x128, .f32⟩
  | 52 => ⟨S8x2048x4x128, .f32⟩
  | 53 => ⟨S_, .f32⟩
  | 54 => ⟨S4x128, .f32⟩
  | 55 => ⟨S4x128, .f32⟩
  | 56 => ⟨S8x2048x4x128, .f32⟩
  | 57 => ⟨S8x2048x4x128, .f32⟩
  | 58 => ⟨S8x2048x4x128, .f32⟩
  | 59 => ⟨S_, .f32⟩
  | 60 => ⟨S8x2048x4x128, .f32⟩
  | 61 => ⟨S8x2048x4x128, .f32⟩
  | 62 => ⟨S_, .f32⟩
  | 63 => ⟨S8x2048x4x128, .f32⟩
  | 64 => ⟨S8x2048x4x128, .f32⟩
  | 65 => ⟨S1x1x4x128, .f32⟩
  | 66 => ⟨S8x2048x4x128, .f32⟩
  | 67 => ⟨S8x2048x4x128, .f32⟩
  | 68 => ⟨S_, .i1⟩
  | 69 => ⟨S16x16, .i1⟩
  | 70 => ⟨S16x16, .i32⟩
  | 71 => ⟨S_, .i32⟩
  | 72 => ⟨S16x16, .i32⟩
  | 73 => ⟨S16x16, .i32⟩
  | 74 => ⟨S16x16, .i32⟩
  | 75 => ⟨S16x16, .i1⟩
  | 76 => ⟨S_, .i1⟩
  | 77 => ⟨S16x16, .i1⟩
  | 78 => ⟨S16x16, .i1⟩
  | 79 => ⟨S1x16x16x1x1, .i1⟩
  | 80 => ⟨S8x128x16x4x128, .f32⟩
  | 81 => ⟨S128x8x16x4x128, .f32⟩
  | 82 => ⟨S8x128x16x4x128, .f32⟩
  | 83 => ⟨S128x8x16x4x128, .f32⟩
  | 84 => ⟨S8x128x16x4x128, .f32⟩
  | 85 => ⟨S128x8x16x4x128, .f32⟩
  | 86 => ⟨S8x128x16x4x128, .f32⟩
  | 87 => ⟨S128x8x16x4x128, .f32⟩
  | 88 => ⟨S_, .f32⟩
  | 89 => ⟨S128x8x16x4x128, .f32⟩
  | 90 => ⟨S_, .i32⟩
  | 91 => ⟨S128x8x16x4x128, .f32⟩
  | 92 => ⟨S128x8x16x4x128, .f32⟩
  | 93 => ⟨S128x8x16x4x128, .f32⟩
  | 94 => ⟨S128x8x16x4x128, .f32⟩
  | 95 => ⟨S1x16x16x1x1, .i1⟩
  | 96 => ⟨S_, .i32⟩
  | 97 => ⟨S8x4x128x128, .f32⟩
  | 98 => ⟨S128x8x16x4x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x8x16x4x128, .f32⟩
  | 106 => ⟨S8x16x4x128, .f32⟩
  | 107 => ⟨S_, .i32⟩
  | 108 => ⟨S_, .i32⟩
  | 109 => ⟨S_, .i32⟩
  | 110 => ⟨S_, .i32⟩
  | 111 => ⟨S1x8x16x4x128, .f32⟩
  | 112 => ⟨S8x16x4x128, .f32⟩
  | 113 => ⟨S_, .i32⟩
  | 114 => ⟨S_, .i32⟩
  | 115 => ⟨S_, .i32⟩
  | 116 => ⟨S_, .i32⟩
  | 117 => ⟨S1x8x16x4x128, .f32⟩
  | 118 => ⟨S8x16x4x128, .f32⟩
  | 119 => ⟨S_, .i32⟩
  | 120 => ⟨S_, .i32⟩
  | 121 => ⟨S_, .i32⟩
  | 122 => ⟨S_, .i32⟩
  | 123 => ⟨S1x8x16x4x128, .f32⟩
  | 124 => ⟨S8x16x4x128, .f32⟩
  | 125 => ⟨S_, .f32⟩
  | 126 => ⟨S_, .f32⟩
  | 127 => ⟨S8x16x4x128, .f32⟩
  | _ => ⟨S8x2048x2048, .f32⟩

abbrev hbmTy0_1 (i : Nat) : BufTy := match i % 128 with
  | 0 => ⟨S8x16x4x128, .f32⟩
  | 1 => ⟨S8x16x4x128, .f32⟩
  | 2 => ⟨S8x4x128x16, .f32⟩
  | 3 => ⟨S8x16x4x128, .f32⟩
  | 4 => ⟨S8x16x1x4x128, .f32⟩
  | 5 => ⟨S8x1x16x4x128, .f32⟩
  | 6 => ⟨S8x16x16x4x128, .f32⟩
  | 7 => ⟨S8x16x16x4x128, .f32⟩
  | 8 => ⟨S8x16x16x4x128, .f32⟩
  | 9 => ⟨S_, .f32⟩
  | 10 => ⟨S_, .f32⟩
  | 11 => ⟨S8x16x16x4x128, .i1⟩
  | 12 => ⟨S8x16x16x4x128, .f32⟩
  | 13 => ⟨S8x16x16x4x128, .f32⟩
  | 14 => ⟨S8x16x16x4x128, .f32⟩
  | 15 => ⟨S8x16x1x4x128, .f32⟩
  | 16 => ⟨S8x1x16x4x128, .f32⟩
  | 17 => ⟨S8x16x16x4x128, .f32⟩
  | 18 => ⟨S8x16x16x4x128, .f32⟩
  | 19 => ⟨S8x16x16x4x128, .f32⟩
  | 20 => ⟨S8x16x16x4x128, .f32⟩
  | 21 => ⟨S_, .f32⟩
  | 22 => ⟨S8x16x16x4, .f32⟩
  | 23 => ⟨S8x4x128x16, .f32⟩
  | 24 => ⟨S8x16x4x128, .f32⟩
  | 25 => ⟨S8x1x4x128, .f32⟩
  | 26 => ⟨S8x4x128, .f32⟩
  | 27 => ⟨S8x1x4x128, .f32⟩
  | 28 => ⟨S8x16x4x128, .f32⟩
  | 29 => ⟨S8x16x4x128, .f32⟩
  | 30 => ⟨S8x16x4x128, .f32⟩
  | 31 => ⟨S8x16x4x128, .f32⟩
  | 32 => ⟨S8x4x128, .f32⟩
  | 33 => ⟨S8x4x128x1, .f32⟩
  | 34 => ⟨S8x4x128x128, .f32⟩
  | 35 => ⟨S8x4x128x128, .f32⟩
  | 36 => ⟨S8x4x128x128, .f32⟩
  | 37 => ⟨S8x4x128x128, .f32⟩
  | 38 => ⟨S8x16x4x128, .f32⟩
  | 39 => ⟨S1x8x16x4x128, .f32⟩
  | 40 => ⟨S_, .i32⟩
  | 41 => ⟨S_, .i32⟩
  | 42 => ⟨S_, .i32⟩
  | 43 => ⟨S_, .i32⟩
  | 44 => ⟨S128x8x16x4x128, .f32⟩
  | 45 => ⟨S_, .i32⟩
  | 46 => ⟨S_, .i32⟩
  | 47 => ⟨S8x128x16x4x128, .f32⟩
  | 48 => ⟨S8x2048x4x128, .f32⟩
  | 49 => ⟨S8x2048x4x128, .f32⟩
  | 50 => ⟨S_, .f32⟩
  | 51 => ⟨S8x2048x4, .f32⟩
  | 52 => ⟨S8x2048x4x1, .f32⟩
  | 53 => ⟨S_, .f32⟩
  | 54 => ⟨S8x2048x4x1, .f32⟩
  | 55 => ⟨S8x2048x4x1, .f32⟩
  | 56 => ⟨S_, .f32⟩
  | 57 => ⟨S8x2048x4x1, .f32⟩
  | 58 => ⟨S8x2048x4x1, .f32⟩
  | 59 => ⟨S8x2048x4x1, .f32⟩
  | 60 => ⟨S8x2048x4x128, .f32⟩
  | 61 => ⟨S8x2048x4x128, .f32⟩
  | 62 => ⟨S1x1x1x128, .f32⟩
  | 63 => ⟨S8x2048x4x128, .f32⟩
  | 64 => ⟨S8x2048x4x128, .f32⟩
  | 65 => ⟨S8x2048x512, .f32⟩
  | 66 => ⟨S8x2048x512, .f32⟩
  | 67 => ⟨S8x2048x512, .f32⟩
  | 68 => ⟨S8x2048x512, .f32⟩
  | 69 => ⟨S_, .f32⟩
  | 70 => ⟨S8x2048x512, .f32⟩
  | 71 => ⟨S8x2048x512, .f32⟩
  | 72 => ⟨S_, .f32⟩
  | 73 => ⟨S8x2048x512, .f32⟩
  | 74 => ⟨S8x2048x512, .f32⟩
  | 75 => ⟨S8x2048x512, .f32⟩
  | 76 => ⟨S8x2048x512, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_v53 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_0 : Ref sig .tc := ⟨.hbm, 76, rfl⟩
abbrev main_call1_v5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_c_9 : Ref sig .tc := ⟨.hbm, 90, rfl⟩
abbrev main_v65_0 : Ref sig .tc := ⟨.hbm, 91, rfl⟩
abbrev main_v65_1 : Ref sig .tc := ⟨.hbm, 92, rfl⟩
abbrev main_v65_2 : Ref sig .tc := ⟨.hbm, 93, rfl⟩
abbrev main_v65_3 : Ref sig .tc := ⟨.hbm, 94, rfl⟩
abbrev main_v65_4 : Ref sig .tc := ⟨.hbm, 95, rfl⟩
abbrev main_v65_5 : Ref sig .tc := ⟨.hbm, 96, rfl⟩
abbrev main_v65_6 : Ref sig .tc := ⟨.hbm, 97, rfl⟩
abbrev main_v65_7 : Ref sig .tc := ⟨.hbm, 98, rfl⟩
abbrev main_while0c_c_20 : Ref sig .tc := ⟨.hbm, 99, rfl⟩
abbrev main_while0c_v85 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_c_1 : Ref sig .tc := ⟨.hbm, 103, rfl⟩
abbrev main_while0b_call2_c_2 : Ref sig .tc := ⟨.hbm, 104, rfl⟩
abbrev main_while0b_call2_v0 : Ref sig .tc := ⟨.hbm, 105, rfl⟩
abbrev main_while0b_v85 : Ref sig .tc := ⟨.hbm, 106, rfl⟩
abbrev main_while0b_call3_c : Ref sig .tc := ⟨.hbm, 107, rfl⟩
abbrev main_while0b_call3_c_0 : Ref sig .tc := ⟨.hbm, 108, rfl⟩
abbrev main_while0b_call3_c_1 : Ref sig .tc := ⟨.hbm, 109, rfl⟩
abbrev main_while0b_call3_c_2 : Ref sig .tc := ⟨.hbm, 110, rfl⟩
abbrev main_while0b_call3_v0 : Ref sig .tc := ⟨.hbm, 111, rfl⟩
abbrev main_while0b_v86 : Ref sig .tc := ⟨.hbm, 112, rfl⟩
abbrev main_while0b_call4_c : Ref sig .tc := ⟨.hbm, 113, rfl⟩
abbrev main_while0b_call4_c_0 : Ref sig .tc := ⟨.hbm, 114, rfl⟩
abbrev main_while0b_call4_c_1 : Ref sig .tc := ⟨.hbm, 115, rfl⟩
abbrev main_while0b_call4_c_2 : Ref sig .tc := ⟨.hbm, 116, rfl⟩
abbrev main_while0b_call4_v0 : Ref sig .tc := ⟨.hbm, 117, rfl⟩
abbrev main_while0b_v87 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_c_2 : Ref sig .tc := ⟨.hbm, 122, rfl⟩
abbrev main_while0b_call5_v0 : Ref sig .tc := ⟨.hbm, 123, rfl⟩
abbrev main_while0b_v88 : Ref sig .tc := ⟨.hbm, 124, rfl⟩
abbrev main_while0b_call6_call0_cst : Ref sig .tc := ⟨.hbm, 125, rfl⟩
abbrev main_while0b_call6_call0_v0 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_cst_20 : Ref sig .tc := ⟨.hbm, 137, rfl⟩
abbrev main_while0b_call7_v0 : Ref sig .tc := ⟨.hbm, 138, rfl⟩
abbrev main_while0b_call7_v1 : Ref sig .tc := ⟨.hbm, 139, rfl⟩
abbrev main_while0b_call7_v2 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_cst_21 : Ref sig .tc := ⟨.hbm, 149, rfl⟩
abbrev main_while0b_v107 : Ref sig .tc := ⟨.hbm, 150, rfl⟩
abbrev main_while0b_v108 : Ref sig .tc := ⟨.hbm, 151, rfl⟩
abbrev main_while0b_v109 : Ref sig .tc := ⟨.hbm, 152, rfl⟩
abbrev main_while0b_v110 : Ref sig .tc := ⟨.hbm, 153, rfl⟩
abbrev main_while0b_v111 : Ref sig .tc := ⟨.hbm, 154, rfl⟩
abbrev main_while0b_v112 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_v119 : Ref sig .tc := ⟨.hbm, 162, rfl⟩
abbrev main_while0b_v120 : Ref sig .tc := ⟨.hbm, 163, rfl⟩
abbrev main_while0b_v121 : Ref sig .tc := ⟨.hbm, 164, rfl⟩
abbrev main_while0b_v122 : Ref sig .tc := ⟨.hbm, 165, rfl⟩
abbrev main_while0b_v123 : Ref sig .tc := ⟨.hbm, 166, rfl⟩
abbrev main_while0b_call8_v0 : Ref sig .tc := ⟨.hbm, 167, rfl⟩
abbrev main_while0b_call8_c : Ref sig .tc := ⟨.hbm, 168, rfl⟩
abbrev main_while0b_call8_c_0 : Ref sig .tc := ⟨.hbm, 169, rfl⟩
abbrev main_while0b_call8_c_1 : Ref sig .tc := ⟨.hbm, 170, rfl⟩
abbrev main_while0b_call8_c_2 : Ref sig .tc := ⟨.hbm, 171, rfl⟩
abbrev main_while0b_v124 : Ref sig .tc := ⟨.hbm, 172, rfl⟩
abbrev main_while0b_c_22 : Ref sig .tc := ⟨.hbm, 173, rfl⟩
abbrev main_while0b_v125 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_cst_10 : Ref sig .tc := ⟨.hbm, 178, rfl⟩
abbrev main_v69 : Ref sig .tc := ⟨.hbm, 179, rfl⟩
abbrev main_v70 : Ref sig .tc := ⟨.hbm, 180, rfl⟩
abbrev main_cst_11 : Ref sig .tc := ⟨.hbm, 181, rfl⟩
abbrev main_v71 : Ref sig .tc := ⟨.hbm, 182, rfl⟩
abbrev main_v72 : Ref sig .tc := ⟨.hbm, 183, rfl⟩
abbrev main_cst_12 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_call9_v0 : Ref sig .tc := ⟨.hbm, 195, rfl⟩
abbrev main_call9_v1 : Ref sig .tc := ⟨.hbm, 196, rfl⟩
abbrev main_call9_cst : Ref sig .tc := ⟨.hbm, 197, rfl⟩
abbrev main_call9_v2 : Ref sig .tc := ⟨.hbm, 198, rfl⟩
abbrev main_call9_v3 : Ref sig .tc := ⟨.hbm, 199, rfl⟩
abbrev main_call9_cst_0 : Ref sig .tc := ⟨.hbm, 200, rfl⟩
abbrev main_call9_v4 : Ref sig .tc := ⟨.hbm, 201, rfl⟩
abbrev main_call9_v5 : Ref sig .tc := ⟨.hbm, 202, rfl⟩
abbrev main_v83 : Ref sig .tc := ⟨.hbm, 203, rfl⟩
abbrev main_v84 : Ref sig .tc := ⟨.hbm, 204, rfl⟩

abbrev nD : Nat := 1
abbrev τ : Topo := Topo.v7x

variable {F : FTy → Type} [FloatOps F]

abbrev main_while0_count : Scf.Loop 32 := ⟨0#32, 128#32, 1#32⟩
-- ==== Experts.lean ====
abbrev S82432x1024 : Shape := ⟨2, ![82432, 1024]⟩
abbrev S161 : Shape := ⟨1, ![161]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x1x2048 : Shape := ⟨4, ![2, 32, 1, 2048]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S82432x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S2x32x1x2048, .f32⟩
  | .hbm, ⟨6, _⟩ => ⟨S2x32x1x1024, .f32⟩
  | .hbm, ⟨7, _⟩ => ⟨S82432x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S161, .i32⟩
  | .local _ .smem, ⟨1, _⟩ => ⟨S1, .i32⟩
  | _, _ => ⟨S82432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![161], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32 : BitVec 32 := 0#32
  let v4 : BitVec 32 := Scalar.maxsi v3 c0_i32
  let v5 : Index := Scalar.indexCast v4
  ![v5.toNat]
def k0_cond2 (i : grid0.Coords) (v0 : BitVec 32) : BitVec 1 :=
  let arg0 : BitVec 32 := BitVec.ofNat 32 (i 0).val
  let v14 : BitVec 1 := Scalar.cmpi .slt arg0 v0
  let v15 : BitVec 32 := Scalar.extui v14
  let c0_i32_2 : BitVec 32 := 0#32
  let v16 : BitVec 1 := Scalar.cmpi .ne v15 c0_i32_2
  v16

def k0_cond3 (i : grid0.Coords) (v0 : BitVec 32) : BitVec 1 :=
  let arg0 : BitVec 32 := BitVec.ofNat 32 (i 0).val
  let v17 : BitVec 1 := Scalar.cmpi .sge arg0 v0
  let v18 : BitVec 32 := Scalar.extui v17
  let c0_i32_3 : BitVec 32 := 0#32
  let v19 : BitVec 1 := Scalar.cmpi .ne v18 c0_i32_3
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S82432x1024 : Shape := ⟨2, ![82432, 1024]⟩
abbrev S161 : Shape := ⟨1, ![161]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S161x512x1024 : Shape := ⟨3, ![161, 512, 1024]⟩
abbrev S_ : Shape := ⟨0, ![]⟩
abbrev S1x512x1024 : Shape := ⟨3, ![1, 512, 1024]⟩
abbrev S512x1024 : Shape := ⟨2, ![512, 1024]⟩
abbrev S1x1024x2048 : Shape := ⟨3, ![1, 1024, 2048]⟩
abbrev S1024x2048 : Shape := ⟨2, ![1024, 2048]⟩
abbrev S512x2048 : Shape := ⟨2, ![512, 2048]⟩
abbrev S1x2048 : Shape := ⟨2, ![1, 2048]⟩
abbrev S2048 : Shape := ⟨1, ![2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S161x1x1 : Shape := ⟨3, ![161, 1, 1]⟩

abbrev nBuf : Space → Nat
  | .hbm => 165
  | .vmem => 0
  | .smem => 0
  | _ => 0

abbrev hbmTy0_0 (i : Nat) : BufTy := match i % 128 with
  | 0 => ⟨S82432x1024, .f32⟩
  | 1 => ⟨S161, .i32⟩
  | 2 => ⟨S1, .i32⟩
  | 3 => ⟨S2x32x1024x2048, .f32⟩
  | 4 => ⟨S2x32x2048, .f32⟩
  | 5 => ⟨S2x32x1024x1024, .f32⟩
  | 6 => ⟨S2x32x1024, .f32⟩
  | 7 => ⟨S1x32x1024x2048, .f32⟩
  | 8 => ⟨S32x1024x2048, .f32⟩
  | 9 => ⟨S1x32x2048, .f32⟩
  | 10 => ⟨S32x2048, .f32⟩
  | 11 => ⟨S1x32x1024x1024, .f32⟩
  | 12 => ⟨S32x1024x1024, .f32⟩
  | 13 => ⟨S1x32x1024, .f32⟩
  | 14 => ⟨S32x1024, .f32⟩
  | 15 => ⟨S161x512x1024, .f32⟩
  | 16 => ⟨S_, .f32⟩
  | 17 => ⟨S161x512x1024, .f32⟩
  | 18 => ⟨S_, .i32⟩
  | 19 => ⟨S161x512x1024, .f32⟩
  | 20 => ⟨S161, .i32⟩
  | 21 => ⟨S32x1024x2048, .f32⟩
  | 22 => ⟨S32x2048, .f32⟩
  | 23 => ⟨S32x1024x1024, .f32⟩
  | 24 => ⟨S32x1024, .f32⟩
  | 25 => ⟨S_, .i32⟩
  | 26 => ⟨S161x512x1024, .f32⟩
  | 27 => ⟨S_, .i32⟩
  | 28 => ⟨S_, .i1⟩
  | 29 => ⟨S_, .i32⟩
  | 30 => ⟨S_, .i32⟩
  | 31 => ⟨S1x512x1024, .f32⟩
  | 32 => ⟨S512x1024, .f32⟩
  | 33 => ⟨S1, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S1x1024x2048, .f32⟩
  | 57 => ⟨S1024x2048, .f32⟩
  | 58 => ⟨S512x2048, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x2048, .f32⟩
  | 73 => ⟨S2048, .f32⟩
  | 74 => ⟨S1x2048, .f32⟩
  | 75 => ⟨S512x2048, .f32⟩
  | 76 => ⟨S512x2048, .f32⟩
  | 77 => ⟨S512x1024, .f32⟩
  | 78 => ⟨S512x1024, .f32⟩
  | 79 => ⟨S_, .f32⟩
  | 80 => ⟨S512x1024, .f32⟩
  | 81 => ⟨S512x1024, .f32⟩
  | 82 => ⟨S_, .f32⟩
  | 83 => ⟨S_, .f32⟩
  | 84 => ⟨S_, .f32⟩
  | 85 => ⟨S512x1024, .f32⟩
  | 86 => ⟨S512x1024, .f32⟩
  | 87 => ⟨S_, .f32⟩
  | 88 => ⟨S512x1024, .f32⟩
  | 89 => ⟨S512x1024, .f32⟩
  | 90 => ⟨S_, .f32⟩
  | 91 => ⟨S512x1024, .f32⟩
  | 92 => ⟨S512x1024, .f32⟩
  | 93 => ⟨S512x1024, .f32⟩
  | 94 => ⟨S512x1024, .f32⟩
  | 95 => ⟨S_, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S512x1024, .f32⟩
  | 102 => ⟨S_, .f32⟩
  | 103 => ⟨S512x1024, .f32⟩
  | 104 => ⟨S512x1024, .f32⟩
  | 105 => ⟨S512x1024, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x1024x1024, .f32⟩
  | _ => ⟨S82432x1024, .f32⟩

abbrev hbmTy0_1 (i : Nat) : BufTy := match i % 128 with
  | 0 => ⟨S1024x1024, .f32⟩
  | 1 => ⟨S512x1024, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x1024, .f32⟩
  | 16 => ⟨S1024, .f32⟩
  | 17 => ⟨S1x1024, .f32⟩
  | 18 => ⟨S512x1024, .f32⟩
  | 19 => ⟨S512x1024, .f32⟩
  | 20 => ⟨S1x512x1024, .f32⟩
  | 21 => ⟨S_, .i32⟩
  | 22 => ⟨S_, .i32⟩
  | 23 => ⟨S161x512x1024, .f32⟩
  | 24 => ⟨S_, .i32⟩
  | 25 => ⟨S_, .i32⟩
  | 26 => ⟨S161, .i32⟩
  | 27 => ⟨S161x1x1, .i32⟩
  | 28 => ⟨S_, .i32⟩
  | 29 => ⟨S161x1x1, .i32⟩
  | 30 => ⟨S161x1x1, .i1⟩
  | 31 => ⟨S_, .f32⟩
  | 32 => ⟨S_, .f32⟩
  | 33 => ⟨S161x512x1024, .i1⟩
  | 34 => ⟨S161x512x1024, .f32⟩
  | 35 => ⟨S161x512x1024, .f32⟩
  | 36 => ⟨S82432x1024, .f32⟩
  | _ => ⟨S82432x1024, .f32⟩

abbrev hbmTy (i : Nat) : BufTy := match i / 128 with
  | 0 => hbmTy0_0 i
  | 1 => hbmTy0_1 i
  | _ => ⟨S82432x1024, .f32⟩

abbrev bufTy : (tb : Table) → Fin (tcTables nBuf tb) → BufTy
  | .hbm, ⟨i, _⟩ => hbmTy i
  | _, _ => ⟨S82432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_v10_7 : Ref sig .tc := ⟨.hbm, 26, rfl⟩
abbrev main_while0c_c_8 : Ref sig .tc := ⟨.hbm, 27, rfl⟩
abbrev main_while0c_v18 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v18 : Ref sig .tc := ⟨.hbm, 32, rfl⟩
abbrev main_while0b_call1_v0 : Ref sig .tc := ⟨.hbm, 33, rfl⟩
abbrev main_while0b_v19 : Ref sig .tc := ⟨.hbm, 34, rfl⟩
abbrev main_while0b_c_8 : Ref sig .tc := ⟨.hbm, 35, rfl⟩
abbrev main_while0b_v20 : Ref sig .tc := ⟨.hbm, 36, rfl⟩
abbrev main_while0b_c_9 : Ref sig .tc := ⟨.hbm, 37, rfl⟩
abbrev main_while0b_v21 : Ref sig .tc := ⟨.hbm, 38, rfl⟩
abbrev main_while0b_v22 : Ref sig .tc := ⟨.hbm, 39, rfl⟩
abbrev main_while0b_c_10 : Ref sig .tc := ⟨.hbm, 40, rfl⟩
abbrev main_while0b_c_11 : Ref sig .tc := ⟨.hbm, 41, rfl⟩
abbrev main_while0b_v23 : Ref sig .tc := ⟨.hbm, 42, rfl⟩
abbrev main_while0b_c_12 : Ref sig .tc := ⟨.hbm, 43, rfl⟩
abbrev main_while0b_c_13 : Ref sig .tc := ⟨.hbm, 44, rfl⟩
abbrev main_while0b_v24 : Ref sig .tc := ⟨.hbm, 45, rfl⟩
abbrev main_while0b_c_14 : Ref sig .tc := ⟨.hbm, 46, rfl⟩
abbrev main_while0b_v25 : Ref sig .tc := ⟨.hbm, 47, rfl⟩
abbrev main_while0b_c_15 : Ref sig .tc := ⟨.hbm, 48, rfl⟩
abbrev main_while0b_c_16 : Ref sig .tc := ⟨.hbm, 49, rfl⟩
abbrev main_while0b_v26 : Ref sig .tc := ⟨.hbm, 50, rfl⟩
abbrev main_while0b_c_17 : Ref sig .tc := ⟨.hbm, 51, rfl⟩
abbrev main_while0b_c_18 : Ref sig .tc := ⟨.hbm, 52, rfl⟩
abbrev main_while0b_v27 : Ref sig .tc := ⟨.hbm, 53, rfl⟩
abbrev main_while0b_c_19 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_c_20 : Ref sig .tc := ⟨.hbm, 59, rfl⟩
abbrev main_while0b_v32 : Ref sig .tc := ⟨.hbm, 60, rfl⟩
abbrev main_while0b_c_21 : Ref sig .tc := ⟨.hbm, 61, rfl⟩
abbrev main_while0b_v33 : Ref sig .tc := ⟨.hbm, 62, rfl⟩
abbrev main_while0b_v34 : Ref sig .tc := ⟨.hbm, 63, rfl⟩
abbrev main_while0b_c_22 : Ref sig .tc := ⟨.hbm, 64, rfl⟩
abbrev main_while0b_c_23 : Ref sig .tc := ⟨.hbm, 65, rfl⟩
abbrev main_while0b_v35 : Ref sig .tc := ⟨.hbm, 66, rfl⟩
abbrev main_while0b_c_24 : Ref sig .tc := ⟨.hbm, 67, rfl⟩
abbrev main_while0b_c_25 : Ref sig .tc := ⟨.hbm, 68, rfl⟩
abbrev main_while0b_v36 : Ref sig .tc := ⟨.hbm, 69, rfl⟩
abbrev main_while0b_c_26 : Ref sig .tc := ⟨.hbm, 70, rfl⟩
abbrev main_while0b_v37 : Ref sig .tc := ⟨.hbm, 71, rfl⟩
abbrev main_while0b_v38 : Ref sig .tc := ⟨.hbm, 72, rfl⟩
abbrev main_while0b_v39 : Ref sig .tc := ⟨.hbm, 73, rfl⟩
abbrev main_while0b_v40 : Ref sig .tc := ⟨.hbm, 74, rfl⟩
abbrev main_while0b_v41 : Ref sig .tc := ⟨.hbm, 75, rfl⟩
abbrev main_while0b_v42 : Ref sig .tc := ⟨.hbm, 76, rfl⟩
abbrev main_while0b_v43 : Ref sig .tc := ⟨.hbm, 77, rfl⟩
abbrev main_while0b_v44 : Ref sig .tc := ⟨.hbm, 78, rfl⟩
abbrev main_while0b_cst_27 : Ref sig .tc := ⟨.hbm, 79, rfl⟩
abbrev main_while0b_v45 : Ref sig .tc := ⟨.hbm, 80, rfl⟩
abbrev main_while0b_v46 : Ref sig .tc := ⟨.hbm, 81, rfl⟩
abbrev main_while0b_cst_28 : Ref sig .tc := ⟨.hbm, 82, rfl⟩
abbrev main_while0b_cst_29 : Ref sig .tc := ⟨.hbm, 83, rfl⟩
abbrev main_while0b_call2_v0 : Ref sig .tc := ⟨.hbm, 84, rfl⟩
abbrev main_while0b_call2_v1 : Ref sig .tc := ⟨.hbm, 85, rfl⟩
abbrev main_while0b_call2_v2 : Ref sig .tc := ⟨.hbm, 86, rfl⟩
abbrev main_while0b_call2_v3 : Ref sig .tc := ⟨.hbm, 87, rfl⟩
abbrev main_while0b_call2_v4 : Ref sig .tc := ⟨.hbm, 88, rfl⟩
abbrev main_while0b_v47 : Ref sig .tc := ⟨.hbm, 89, rfl⟩
abbrev main_while0b_cst_30 : Ref sig .tc := ⟨.hbm, 90, rfl⟩
abbrev main_while0b_v48 : Ref sig .tc := ⟨.hbm, 91, rfl⟩
abbrev main_while0b_v49 : Ref sig .tc := ⟨.hbm, 92, rfl⟩
abbrev main_while0b_v50 : Ref sig .tc := ⟨.hbm, 93, rfl⟩
abbrev main_while0b_v51 : Ref sig .tc := ⟨.hbm, 94, rfl⟩
abbrev main_while0b_cst_31 : Ref sig .tc := ⟨.hbm, 95, rfl⟩
abbrev main_while0b_v52 : Ref sig .tc := ⟨.hbm, 96, rfl⟩
abbrev main_while0b_v53 : Ref sig .tc := ⟨.hbm, 97, rfl⟩
abbrev main_while0b_cst_32 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_cst_33 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_c_34 : Ref sig .tc := ⟨.hbm, 106, rfl⟩
abbrev main_while0b_v60 : Ref sig .tc := ⟨.hbm, 107, rfl⟩
abbrev main_while0b_c_35 : Ref sig .tc := ⟨.hbm, 108, rfl⟩
abbrev main_while0b_v61 : Ref sig .tc := ⟨.hbm, 109, rfl⟩
abbrev main_while0b_v62 : Ref sig .tc := ⟨.hbm, 110, rfl⟩
abbrev main_while0b_c_36 : Ref sig .tc := ⟨.hbm, 111, rfl⟩
abbrev main_while0b_c_37 : Ref sig .tc := ⟨.hbm, 112, rfl⟩
abbrev main_while0b_v63 : Ref sig .tc := ⟨.hbm, 113, rfl⟩
abbrev main_while0b_c_38 : Ref sig .tc := ⟨.hbm, 114, rfl⟩
abbrev main_while0b_c_39 : Ref sig .tc := ⟨.hbm, 115, rfl⟩
abbrev main_while0b_v64 : Ref sig .tc := ⟨.hbm, 116, rfl⟩
abbrev main_while0b_c_40 : Ref sig .tc := ⟨.hbm, 117, rfl⟩
abbrev main_while0b_v65 : Ref sig .tc := ⟨.hbm, 118, rfl⟩
abbrev main_while0b_c_41 : Ref sig .tc := ⟨.hbm, 119, rfl⟩
abbrev main_while0b_c_42 : Ref sig .tc := ⟨.hbm, 120, rfl⟩
abbrev main_while0b_v66 : Ref sig .tc := ⟨.hbm, 121, rfl⟩
abbrev main_while0b_c_43 : Ref sig .tc := ⟨.hbm, 122, rfl⟩
abbrev main_while0b_c_44 : Ref sig .tc := ⟨.hbm, 123, rfl⟩
abbrev main_while0b_v67 : Ref sig .tc := ⟨.hbm, 124, rfl⟩
abbrev main_while0b_c_45 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_c_46 : Ref sig .tc := ⟨.hbm, 130, rfl⟩
abbrev main_while0b_v72 : Ref sig .tc := ⟨.hbm, 131, rfl⟩
abbrev main_while0b_c_47 : Ref sig .tc := ⟨.hbm, 132, rfl⟩
abbrev main_while0b_v73 : Ref sig .tc := ⟨.hbm, 133, rfl⟩
abbrev main_while0b_v74 : Ref sig .tc := ⟨.hbm, 134, rfl⟩
abbrev main_while0b_c_48 : Ref sig .tc := ⟨.hbm, 135, rfl⟩
abbrev main_while0b_c_49 : Ref sig .tc := ⟨.hbm, 136, rfl⟩
abbrev main_while0b_v75 : Ref sig .tc := ⟨.hbm, 137, rfl⟩
abbrev main_while0b_c_50 : Ref sig .tc := ⟨.hbm, 138, rfl⟩
abbrev main_while0b_c_51 : Ref sig .tc := ⟨.hbm, 139, rfl⟩
abbrev main_while0b_v76 : Ref sig .tc := ⟨.hbm, 140, rfl⟩
abbrev main_while0b_c_52 : Ref sig .tc := ⟨.hbm, 141, rfl⟩
abbrev main_while0b_v77 : Ref sig .tc := ⟨.hbm, 142, rfl⟩
abbrev main_while0b_v78 : Ref sig .tc := ⟨.hbm, 143, rfl⟩
abbrev main_while0b_v79 : Ref sig .tc := ⟨.hbm, 144, rfl⟩
abbrev main_while0b_v80 : Ref sig .tc := ⟨.hbm, 145, rfl⟩
abbrev main_while0b_v81 : Ref sig .tc := ⟨.hbm, 146, rfl⟩
abbrev main_while0b_v82 : Ref sig .tc := ⟨.hbm, 147, rfl⟩
abbrev main_while0b_call3_v0 : Ref sig .tc := ⟨.hbm, 148, rfl⟩
abbrev main_while0b_call3_c : Ref sig .tc := ⟨.hbm, 149, rfl⟩
abbrev main_while0b_call3_c_0 : Ref sig .tc := ⟨.hbm, 150, rfl⟩
abbrev main_while0b_v83 : Ref sig .tc := ⟨.hbm, 151, rfl⟩
abbrev main_while0b_c_53 : Ref sig .tc := ⟨.hbm, 152, rfl⟩
abbrev main_while0b_v84 : Ref sig .tc := ⟨.hbm, 153, rfl⟩
abbrev main_v11 : Ref sig .tc := ⟨.hbm, 154, rfl⟩
abbrev main_v12 : Ref sig .tc := ⟨.hbm, 155, rfl⟩
abbrev main_v13 : Ref sig .tc := ⟨.hbm, 156, rfl⟩
abbrev main_v14 : Ref sig .tc := ⟨.hbm, 157, rfl⟩
abbrev main_v15 : Ref sig .tc := ⟨.hbm, 158, rfl⟩
abbrev main_cst_0 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_v16 : Ref sig .tc := ⟨.hbm, 163, rfl⟩
abbrev main_v17 : Ref sig .tc := ⟨.hbm, 164, rfl⟩

abbrev nD : Nat := 1
abbrev τ : Topo := Topo.v7x

variable {F : FTy → Type} [FloatOps F]

abbrev main_while0_count : Scf.Loop 32 := ⟨0#32, 161#32, 1#32⟩
-- ==== Projection.lean ====
abbrev S8x2048x1024 : Shape := ⟨3, ![8, 2048, 1024]⟩
abbrev S8x1x1024 : Shape := ⟨3, ![8, 1, 1024]⟩
abbrev S1024x4608 : Shape := ⟨2, ![1024, 4608]⟩
abbrev S8x2048x512 : Shape := ⟨3, ![8, 2048, 512]⟩
abbrev S8x2048x2048 : Shape := ⟨3, ![8, 2048, 2048]⟩
abbrev S1x256x1024 : Shape := ⟨3, ![1, 256, 1024]⟩
abbrev S1x1x1024 : Shape := ⟨3, ![1, 1, 1024]⟩
abbrev S1x256x512 : Shape := ⟨3, ![1, 256, 512]⟩
abbrev S1x256x2048 : Shape := ⟨3, ![1, 256, 2048]⟩
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S1024x2048 : Shape := ⟨2, ![1024, 2048]⟩
abbrev S256x2048 : Shape := ⟨2, ![256, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x4608, .f32⟩
  | .hbm, ⟨4, _⟩ => ⟨S1024x4608, .bf16⟩
  | .hbm, ⟨5, _⟩ => ⟨S8x2048x512, .f32⟩
  | .hbm, ⟨6, _⟩ => ⟨S8x2048x2048, .f32⟩
  | .hbm, ⟨7, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4608, .bf16⟩
  | .local _ .vmem, ⟨7, _⟩ => ⟨S1x256x512, .f32⟩
  | .local _ .vmem, ⟨8, _⟩ => ⟨S1x256x512, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjectionReferenceIdeal.lean ====
abbrev S8x2048x1024 : Shape := ⟨3, ![8, 2048, 1024]⟩
abbrev S8x1x1024 : Shape := ⟨3, ![8, 1, 1024]⟩
abbrev S1024x4608 : Shape := ⟨2, ![1024, 4608]⟩
abbrev S_ : Shape := ⟨0, ![]⟩
abbrev S8x2048x4608 : Shape := ⟨3, ![8, 2048, 4608]⟩
abbrev S8x2048x512 : Shape := ⟨3, ![8, 2048, 512]⟩
abbrev S8x2048x2048 : Shape := ⟨3, ![8, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x4608, .f32⟩
  | .hbm, ⟨4, _⟩ => ⟨S_, .f32⟩
  | .hbm, ⟨5, _⟩ => ⟨S8x1x1024, .f32⟩
  | .hbm, ⟨6, _⟩ => ⟨S8x1x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x4608, .f32⟩
  | .hbm, ⟨12, _⟩ => ⟨S8x2048x512, .f32⟩
  | .hbm, ⟨13, _⟩ => ⟨S8x2048x2048, .f32⟩
  | .hbm, ⟨14, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Mixing.lean ====
abbrev S8x2048x512 : Shape := ⟨3, ![8, 2048, 512]⟩
abbrev S8x2048x2048 : Shape := ⟨3, ![8, 2048, 2048]⟩
abbrev S8x2048x1024 : Shape := ⟨3, ![8, 2048, 1024]⟩
abbrev S8x1x1024 : Shape := ⟨3, ![8, 1, 1024]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x512 : Shape := ⟨2, ![1, 512]⟩
abbrev S1x1024 : Shape := ⟨2, ![1, 1024]⟩
abbrev S1024x256 : Shape := ⟨2, ![1024, 256]⟩
abbrev S8x2048x128 : Shape := ⟨3, ![8, 2048, 128]⟩
abbrev S1x256x512 : Shape := ⟨3, ![1, 256, 512]⟩
abbrev S1x256x2048 : Shape := ⟨3, ![1, 256, 2048]⟩
abbrev S1x256x1024 : Shape := ⟨3, ![1, 256, 1024]⟩
abbrev S1x1x1024 : Shape := ⟨3, ![1, 1, 1024]⟩
abbrev S1x256x128 : Shape := ⟨3, ![1, 256, 128]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 45
  | .vmem => 31
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .hbm, ⟨3, _⟩ => ⟨S8x2048x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S512x512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x32, .f32⟩
  | .hbm, ⟨15, _⟩ => ⟨S32, .f32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S512x512, .bf16⟩
  | .hbm, ⟨34, _⟩ => ⟨S1x512, .f32⟩
  | .hbm, ⟨35, _⟩ => ⟨S512x1024, .bf16⟩
  | .hbm, ⟨36, _⟩ => ⟨S512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S1024x256, .bf16⟩
  | .hbm, ⟨41, _⟩ => ⟨S8x2048x1024, .f32⟩
  | .hbm, ⟨42, _⟩ => ⟨S8x2048x1024, .f32⟩
  | .hbm, ⟨43, _⟩ => ⟨S8x2048x128, .i32⟩
  | .hbm, ⟨44, _⟩ => ⟨S8x2048x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x2048, .f32⟩
  | .local _ .vmem, ⟨5, _⟩ => ⟨S1x256x2048, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x512, .bf16⟩
  | .local _ .vmem, ⟨15, _⟩ => ⟨S1x512, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1024x256, .bf16⟩
  | .local _ .vmem, ⟨22, _⟩ => ⟨S1x128, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x128, .i32⟩
  | .local _ .vmem, ⟨28, _⟩ => ⟨S1x256x128, .i32⟩
  | .local _ .vmem, ⟨29, _⟩ => ⟨S1x256x128, .f32⟩
  | .local _ .vmem, ⟨30, _⟩ => ⟨S1x256x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev main_v20_2 : Ref sig .tc := ⟨.hbm, 43, rfl⟩
abbrev main_v20_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixingReferenceIdeal.lean ====
abbrev S8x2048x512 : Shape := ⟨3, ![8, 2048, 512]⟩
abbrev S8x2048x2048 : Shape := ⟨3, ![8, 2048, 2048]⟩
abbrev S8x2048x1024 : Shape := ⟨3, ![8, 2048, 1024]⟩
abbrev S8x1x1024 : Shape := ⟨3, ![8, 1, 1024]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1x512 : Shape := ⟨3, ![1, 1, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .hbm, ⟨3, _⟩ => ⟨S8x2048x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S512x512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x32, .f32⟩
  | .hbm, ⟨15, _⟩ => ⟨S32, .f32⟩
  | .hbm, ⟨16, _⟩ => ⟨S8x2048x512, .f32⟩
  | .hbm, ⟨17, _⟩ => ⟨S1x1x512, .f32⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S_, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x1x1024, .f32⟩
  | .hbm, ⟨82, _⟩ => ⟨S8x1x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Modulation.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x136x6144 : Shape := ⟨3, ![2, 136, 6144]⟩
abbrev S1x1024x1536 : Shape := ⟨3, ![1, 1024, 1536]⟩
abbrev S1x1x1536 : Shape := ⟨3, ![1, 1, 1536]⟩
abbrev S1x136x1536 : Shape := ⟨3, ![1, 136, 1536]⟩
abbrev S1024x1536 : Shape := ⟨2, ![1024, 1536]⟩
abbrev S136x1536 : Shape := ⟨2, ![136, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x136x6144, .f32⟩
  | .local _ .vmem, ⟨0, _⟩ => ⟨S136x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x136x1536, .f32⟩
  | .local _ .vmem, ⟨6, _⟩ => ⟨S1x136x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S128x6144 : Shape := ⟨2, ![128, 6144]⟩
abbrev S136x6144 : Shape := ⟨2, ![136, 6144]⟩
abbrev S1x136x6144 : Shape := ⟨3, ![1, 136, 6144]⟩
abbrev S2x136x6144 : Shape := ⟨3, ![2, 136, 6144]⟩

abbrev nBuf : Space → Nat
  | .hbm => 77
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x6144, .f32⟩
  | .hbm, ⟨14, _⟩ => ⟨S1024x6144, .f32⟩
  | .hbm, ⟨15, _⟩ => ⟨S8x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S1x1024x6144, .f32⟩
  | .hbm, ⟨31, _⟩ => ⟨S1024x6144, .f32⟩
  | .hbm, ⟨32, _⟩ => ⟨S128x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S128x6144, .f32⟩
  | .hbm, ⟨37, _⟩ => ⟨S128x6144, .f32⟩
  | .hbm, ⟨38, _⟩ => ⟨S136x6144, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S1x1024x6144, .f32⟩
  | .hbm, ⟨49, _⟩ => ⟨S1024x6144, .f32⟩
  | .hbm, ⟨50, _⟩ => ⟨S8x6144, .f32⟩
  | .hbm, ⟨51, _⟩ => ⟨S1x6144, .f32⟩
  | .hbm, ⟨52, _⟩ => ⟨S6144, .f32⟩
  | .hbm, ⟨53, _⟩ => ⟨S1x6144, .f32⟩
  | .hbm, ⟨54, _⟩ => ⟨S8x6144, .f32⟩
  | .hbm, ⟨55, _⟩ => ⟨S8x6144, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S1x1024x6144, .f32⟩
  | .hbm, ⟨66, _⟩ => ⟨S1024x6144, .f32⟩
  | .hbm, ⟨67, _⟩ => ⟨S128x6144, .f32⟩
  | .hbm, ⟨68, _⟩ => ⟨S1x6144, .f32⟩
  | .hbm, ⟨69, _⟩ => ⟨S6144, .f32⟩
  | .hbm, ⟨70, _⟩ => ⟨S1x6144, .f32⟩
  | .hbm, ⟨71, _⟩ => ⟨S128x6144, .f32⟩
  | .hbm, ⟨72, _⟩ => ⟨S128x6144, .f32⟩
  | .hbm, ⟨73, _⟩ => ⟨S136x6144, .f32⟩
  | .hbm, ⟨74, _⟩ => ⟨S1x136x6144, .f32⟩
  | .hbm, ⟨75, _⟩ => ⟨S1x136x6144, .f32⟩
  | .hbm, ⟨76, _⟩ => ⟨S2x136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Counting.lean ====
abbrev S16512x128 : Shape := ⟨2, ![16512, 128]⟩
abbrev S1x128 : Shape := ⟨2, ![1, 128]⟩
abbrev S384x128 : Shape := ⟨2, ![384, 128]⟩
abbrev S384x1 : Shape := ⟨2, ![384, 1]⟩
abbrev S128 : Shape := ⟨1, ![128]⟩

abbrev nBuf : Space → Nat
  | .hbm => 2
  | .vmem => 3
  | .smem => 0
  | _ => 0

abbrev bufTy : (tb : Table) → Fin (tcTables nBuf tb) → BufTy
  | .hbm, ⟨0, _⟩ => ⟨S16512x128, .i32⟩
  | .hbm, ⟨1, _⟩ => ⟨S1x128, .f32⟩
  | .local _ .vmem, ⟨0, _⟩ => ⟨S384x128, .i32⟩
  | .local _ .vmem, ⟨1, _⟩ => ⟨S384x128, .i32⟩
  | .local _ .vmem, ⟨2, _⟩ => ⟨S1x128, .f32⟩
  | _, _ => ⟨S16512x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== CountingReferenceIdeal.lean ====
abbrev S16512x128 : Shape := ⟨2, ![16512, 128]⟩
abbrev S16512x4 : Shape := ⟨2, ![16512, 4]⟩
abbrev S66048 : Shape := ⟨1, ![66048]⟩
abbrev S66048x1 : Shape := ⟨2, ![66048, 1]⟩
abbrev S128 : Shape := ⟨1, ![128]⟩
abbrev S1x128 : Shape := ⟨2, ![1, 128]⟩
abbrev S66048x128 : Shape := ⟨2, ![66048, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16512x128, .i32⟩
  | .hbm, ⟨1, _⟩ => ⟨S16512x4, .i32⟩
  | .hbm, ⟨2, _⟩ => ⟨S66048, .i32⟩
  | .hbm, ⟨3, _⟩ => ⟨S66048x1, .i32⟩
  | .hbm, ⟨4, _⟩ => ⟨S128, .i32⟩
  | .hbm, ⟨5, _⟩ => ⟨S1x128, .i32⟩
  | .hbm, ⟨6, _⟩ => ⟨S66048x128, .i32⟩
  | .hbm, ⟨7, _⟩ => ⟨S66048x128, .i32⟩
  | .hbm, ⟨8, _⟩ => ⟨S66048x128, .i1⟩
  | .hbm, ⟨9, _⟩ => ⟨S66048x128, .f32⟩
  | .hbm, ⟨10, _⟩ => ⟨S_, .f32⟩
  | .hbm, ⟨11, _⟩ => ⟨S128, .f32⟩
  | .hbm, ⟨12, _⟩ => ⟨S1x128, .f32⟩
  | _, _ => ⟨S16512x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Combining.lean ====
abbrev S66048 : Shape := ⟨1, ![66048]⟩
abbrev S82432x1024 : Shape := ⟨2, ![82432, 1024]⟩
abbrev S8x2048x1024 : Shape := ⟨3, ![8, 2048, 1024]⟩
abbrev S8x2048x128 : Shape := ⟨3, ![8, 2048, 128]⟩
abbrev S8x1x1024 : Shape := ⟨3, ![8, 1, 1024]⟩
abbrev S1024 : Shape := ⟨1, ![1024]⟩
abbrev S1x1024 : Shape := ⟨2, ![1, 1024]⟩
abbrev S1x256x1024 : Shape := ⟨3, ![1, 256, 1024]⟩
abbrev S1x256x128 : Shape := ⟨3, ![1, 256, 128]⟩
abbrev S1x1x1024 : Shape := ⟨3, ![1, 1, 1024]⟩
abbrev S4x256x1024 : Shape := ⟨3, ![4, 256, 1024]⟩
abbrev S_ : Shape := ⟨0, ![]⟩
abbrev S1 : Shape := ⟨1, ![1]⟩
abbrev S256x128 : Shape := ⟨2, ![256, 128]⟩
abbrev S256x1 : Shape := ⟨2, ![256, 1]⟩
abbrev S256x1024 : Shape := ⟨2, ![256, 1024]⟩
abbrev S256 : Shape := ⟨1, ![256]⟩

abbrev nBuf : Space → Nat
  | .hbm => 9
  | .vmem => 11
  | .smem => 1
  | _ => 0

abbrev bufTy : (tb : Table) → Fin (tcTables nBuf tb) → BufTy
  | .hbm, ⟨0, _⟩ => ⟨S82432x1024, .f32⟩
  | .hbm, ⟨1, _⟩ => ⟨S8x2048x1024, .f32⟩
  | .hbm, ⟨2, _⟩ => ⟨S8x2048x128, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x128, .f32⟩
  | .local _ .vmem, ⟨3, _⟩ => ⟨S1x256x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S4x256x1024, .f32⟩
  | .local _ .smem, ⟨0, _⟩ => ⟨S66048, .i32⟩
  | _, _ => ⟨S82432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_0 : BitVec 32 := 0#32
  let c256_i32_1 : BitVec 32 := 256#32
  let v5 : BitVec 32 := Scalar.addi c0_i32_0 c256_i32_1
  let c1_i32 : BitVec 32 := 1#32
  ⟨c0_i32_0, v5, c1_i32⟩
def k0_off1 (i : grid0.Coords) (k0_t1 : Fin k0_t1_loop.trips) : Fin 1 → Nat :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c256_i32 : BitVec 32 := 256#32
  let v2 : BitVec 32 := Scalar.muli v1 c256_i32
  let v3 : BitVec 32 := Scalar.addi c0_i32 v2
  let c4_i32 : BitVec 32 := 4#32
  let v4 : BitVec 32 := Scalar.muli v3 c4_i32
  let c0_i32_0 : BitVec 32 := 0#32
  let c1_i32 : BitVec 32 := 1#32
  let arg12 : BitVec 32 := Scf.iv c0_i32_0 c1_i32 k0_t1
  let c4_i32_48 : BitVec 32 := 4#32
  let v71 : BitVec 32 := Scalar.muli arg12 c4_i32_48
  let v72 : BitVec 32 := Scalar.addi v4 v71
  let c0_i32_49 : BitVec 32 := 0#32
  let v73 : BitVec 32 := Scalar.addi v72 c0_i32_49
  let v74 : Index := Scalar.indexCast v73
  ![v74.toNat]
def k0_off2 (k0_t1 : Fin k0_t1_loop.trips) : Fin 3 → Nat :=
  let c0_i32_50 : BitVec 32 := 0#32
  let c0_i32_0 : BitVec 32 := 0#32
  let c1_i32 : BitVec 32 := 1#32
  let arg12 : BitVec 32 := Scf.iv c0_i32_0 c1_i32 k0_t1
  let c0_i32_51 : BitVec 32 := 0#32
  ![0, arg12.toNat, 0]
def k0_off3 (v75 : BitVec 32) : Fin 2 → Nat :=
  let c0_i32_52 : BitVec 32 := 0#32
  ![v75.toNat, 0]

def k0_chk1 (v75 : BitVec 32) : Prop :=
  (∀ a, (k0_off3 v75) a + S1x1024.size a ≤ S82432x1024.size a)
theorem k0_off3_inb : ∀ (v75 : BitVec 32) (k0_hw1 : k0_chk1 v75), ∀ a, (k0_off3 v75) a + S1x1024.size a ≤ S82432x1024.size a := fun v75 k0_hw1 => k0_hw1

def k0_off4 (i : grid0.Coords) (k0_t1 : Fin k0_t1_loop.trips) : Fin 1 → Nat :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c256_i32 : BitVec 32 := 256#32
  let v2 : BitVec 32 := Scalar.muli v1 c256_i32
  let v3 : BitVec 32 := Scalar.addi c0_i32 v2
  let c4_i32 : BitVec 32 := 4#32
  let v4 : BitVec 32 := Scalar.muli v3 c4_i32
  let c0_i32_0 : BitVec 32 := 0#32
  let c1_i32 : BitVec 32 := 1#32
  let arg12 : BitVec 32 := Scf.iv c0_i32_0 c1_i32 k0_t1
  let c4_i32_53 : BitVec 32 := 4#32
  let v79 : BitVec 32 := Scalar.muli arg12 c4_i32_53
  let v80 : BitVec 32 := Scalar.addi v4 v79
  let c1_i32_54 : BitVec 32 := 1#32
  let v81 : BitVec 32 := Scalar.addi v80 c1_i32_54
  let v82 : Index := Scalar.indexCast v81
  ![v82.toNat]
def k0_off5 (k0_t1 : Fin k0_t1_loop.trips) : Fin 3 → Nat :=
  let c1_i32_55 : BitVec 32 := 1#32
  let c0_i32_0 : BitVec 32 := 0#32
  let c1_i32 : BitVec 32 := 1#32
  let arg12 : BitVec 32 := Scf.iv c0_i32_0 c1_i32 k0_t1
  let c0_i32_56 : BitVec 32 := 0#32
  ![1, arg12.toNat, 0]
def k0_off6 (v83 : BitVec 32) : Fin 2 → Nat :=
  let c0_i32_57 : BitVec 32 := 0#32
  ![v83.toNat, 0]

def k0_chk2 (v83 : BitVec 32) : Prop :=
  (∀ a, (k0_off6 v83) a + S1x1024.size a ≤ S82432x1024.size a)
theorem k0_off6_inb : ∀ (v83 : BitVec 32) (k0_hw2 : k0_chk2 v83), ∀ a, (k0_off6 v83) a + S1x1024.size a ≤ S82432x1024.size a := fun v83 k0_hw2 => k0_hw2

def k0_off7 (i : grid0.Coords) (k0_t1 : Fin k0_t1_loop.trips) : Fin 1 → Nat :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c256_i32 : BitVec 32 := 256#32
  let v2 : BitVec 32 := Scalar.muli v1 c256_i32
  let v3 : BitVec 32 := Scalar.addi c0_i32 v2
  let c4_i32 : BitVec 32 := 4#32
  let v4 : BitVec 32 := Scalar.muli v3 c4_i32
  let c0_i32_0 : BitVec 32 := 0#32
  let c1_i32 : BitVec 32 := 1#32
  let arg12 : BitVec 32 := Scf.iv c0_i32_0 c1_i32 k0_t1
  let c4_i32_58 : BitVec 32 := 4#32
  let v87 : BitVec 32 := Scalar.muli arg12 c4_i32_58
  let v88 : BitVec 32 := Scalar.addi v4 v87
  let c2_i32 : BitVec 32 := 2#32
  let v89 : BitVec 32 := Scalar.addi v88 c2_i32
  let v90 : Index := Scalar.indexCast v89
  ![v90.toNat]
def k0_off8 (k0_t1 : Fin k0_t1_loop.trips) : Fin 3 → Nat :=
  let c2_i32_59 : BitVec 32 := 2#32
  let c0_i32_0 : BitVec 32 := 0#32
  let c1_i32 : BitVec 32 := 1#32
  let arg12 : BitVec 32 := Scf.iv c0_i32_0 c1_i32 k0_t1
  let c0_i32_60 : BitVec 32 := 0#32
  ![2, arg12.toNat, 0]
def k0_off9 (v91 : BitVec 32) : Fin 2 → Nat :=
  let c0_i32_61 : BitVec 32 := 0#32
  ![v91.toNat, 0]

def k0_chk3 (v91 : BitVec 32) : Prop :=
  (∀ a, (k0_off9 v91) a + S1x1024.size a ≤ S82432x1024.size a)
theorem k0_off9_inb : ∀ (v91 : BitVec 32) (k0_hw3 : k0_chk3 v91), ∀ a, (k0_off9 v91) a + S1x1024.size a ≤ S82432x1024.size a := fun v91 k0_hw3 => k0_hw3

def k0_off10 (i : grid0.Coords) (k0_t1 : Fin k0_t1_loop.trips) : Fin 1 → Nat :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c256_i32 : BitVec 32 := 256#32
  let v2 : BitVec 32 := Scalar.muli v1 c256_i32
  let v3 : BitVec 32 := Scalar.addi c0_i32 v2
  let c4_i32 : BitVec 32 := 4#32
  let v4 : BitVec 32 := Scalar.muli v3 c4_i32
  let c0_i32_0 : BitVec 32 := 0#32
  let c1_i32 : BitVec 32 := 1#32
  let arg12 : BitVec 32 := Scf.iv c0_i32_0 c1_i32 k0_t1
  let c4_i32_62 : BitVec 32 := 4#32
  let v95 : BitVec 32 := Scalar.muli arg12 c4_i32_62
  let v96 : BitVec 32 := Scalar.addi v4 v95
  let c3_i32 : BitVec 32 := 3#32
  let v97 : BitVec 32 := Scalar.addi v96 c3_i32
  let v98 : Index := Scalar.indexCast v97
  ![v98.toNat]
def k0_off11 (k0_t1 : Fin k0_t1_loop.trips) : Fin 3 → Nat :=
  let c3_i32_63 : BitVec 32 := 3#32
  let c0_i32_0 : BitVec 32 := 0#32
  let c1_i32 : BitVec 32 := 1#32
  let arg12 : BitVec 32 := Scf.iv c0_i32_0 c1_i32 k0_t1
  let c0_i32_64 : BitVec 32 := 0#32
  ![3, arg12.toNat, 0]
def k0_off12 (v99 : BitVec 32) : Fin 2 → Nat :=
  let c0_i32_65 : BitVec 32 := 0#32
  ![v99.toNat, 0]

def k0_chk4 (v99 : BitVec 32) : Prop :=
  (∀ a, (k0_off12 v99) a + S1x1024.size a ≤ S82432x1024.size a)
theorem k0_off12_inb : ∀ (v99 : BitVec 32) (k0_hw4 : k0_chk4 v99), ∀ a, (k0_off12 v99) a + S1x1024.size a ≤ S82432x1024.size a := fun v99 k0_hw4 => k0_hw4

@[reducible] def k0_t2_loop : Scf.Loop 32 :=
  let c0_i32_3 : BitVec 32 := 0#32
  let c256_i32_4 : BitVec 32 := 256#32
  let v6 : BitVec 32 := Scalar.addi c0_i32_3 c256_i32_4
  let c1_i32_5 : BitVec 32 := 1#32
  ⟨c0_i32_3, v6, c1_i32_5⟩
def k0_off13 (k0_t2 : Fin k0_t2_loop.trips) : Fin 3 → Nat :=
  let c0_i32_48 : BitVec 32 := 0#32
  let c0_i32_3 : BitVec 32 := 0#32
  let c1_i32_5 : BitVec 32 := 1#32
  let arg12 : BitVec 32 := Scf.iv c0_i32_3 c1_i32_5 k0_t2
  let c0_i32_49 : BitVec 32 := 0#32
  ![0, arg12.toNat, 0]
def k0_off14 (k0_t2 : Fin k0_t2_loop.trips) : Fin 2 → Nat :=
  let c0_i32_3 : BitVec 32 := 0#32
  let c1_i32_5 : BitVec 32 := 1#32
  let arg12 : BitVec 32 := Scf.iv c0_i32_3 c1_i32_5 k0_t2
  let c0_i32_50 : BitVec 32 := 0#32
  ![arg12.toNat, 0]
@[reducible] def k0_t3_loop : Scf.Loop 32 :=
  let c0_i32_7 : BitVec 32 := 0#32
  let c256_i32_8 : BitVec 32 := 256#32
  let v7 : BitVec 32 := Scalar.addi c0_i32_7 c256_i32_8
  let c1_i32_9 : BitVec 32 := 1#32
  ⟨c0_i32_7, v7, c1_i32_9⟩
def k0_off15 (k0_t3 : Fin k0_t3_loop.trips) : Fin 3 → Nat :=
  let c1_i32_48 : BitVec 32 := 1#32
  let c0_i32_7 : BitVec 32 := 0#32
  let c1_i32_9 : BitVec 32 := 1#32
  let arg12 : BitVec 32 := Scf.iv c0_i32_7 c1_i32_9 k0_t3
  let c0_i32_49 : BitVec 32 := 0#32
  ![1, arg12.toNat, 0]
def k0_off16 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let c0_i32_50 : BitVec 32 := 0#32
  ![arg12.toNat, 0]
@[reducible] def k0_t4_loop : Scf.Loop 32 :=
  let c0_i32_11 : BitVec 32 := 0#32
  let c256_i32_12 : BitVec 32 := 256#32
  let v8 : BitVec 32 := Scalar.addi c0_i32_11 c256_i32_12
  let c1_i32_13 : BitVec 32 := 1#32
  ⟨c0_i32_11, v8, c1_i32_13⟩
def k0_off17 (k0_t4 : Fin k0_t4_loop.trips) : Fin 3 → Nat :=
  let c2_i32 : BitVec 32 := 2#32
  let c0_i32_11 : BitVec 32 := 0#32
  let c1_i32_13 : BitVec 32 := 1#32
  let arg12 : BitVec 32 := Scf.iv c0_i32_11 c1_i32_13 k0_t4
  let c0_i32_48 : BitVec 32 := 0#32
  ![2, arg12.toNat, 0]
def k0_off18 (k0_t4 : Fin k0_t4_loop.trips) : Fin 2 → Nat :=
  let c0_i32_11 : BitVec 32 := 0#32
  let c1_i32_13 : BitVec 32 := 1#32
  let arg12 : BitVec 32 := Scf.iv c0_i32_11 c1_i32_13 k0_t4
  let c0_i32_49 : BitVec 32 := 0#32
  ![arg12.toNat, 0]
@[reducible] def k0_t5_loop : Scf.Loop 32 :=
  let c0_i32_15 : BitVec 32 := 0#32
  let c256_i32_16 : BitVec 32 := 256#32
  let v9 : BitVec 32 := Scalar.addi c0_i32_15 c256_i32_16
  let c1_i32_17 : BitVec 32 := 1#32
  ⟨c0_i32_15, v9, c1_i32_17⟩
def k0_off19 (k0_t5 : Fin k0_t5_loop.trips) : Fin 3 → Nat :=
  let c3_i32 : BitVec 32 := 3#32
  let c0_i32_15 : BitVec 32 := 0#32
  let c1_i32_17 : BitVec 32 := 1#32
  let arg12 : BitVec 32 := Scf.iv c0_i32_15 c1_i32_17 k0_t5
  let c0_i32_48 : BitVec 32 := 0#32
  ![3, arg12.toNat, 0]
def k0_off20 (k0_t5 : Fin k0_t5_loop.trips) : Fin 2 → Nat :=
  let c0_i32_15 : BitVec 32 := 0#32
  let c1_i32_17 : BitVec 32 := 1#32
  let arg12 : BitVec 32 := Scf.iv c0_i32_15 c1_i32_17 k0_t5
  let c0_i32_49 : BitVec 32 := 0#32
  ![arg12.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombiningReferenceIdeal.lean ====
abbrev S66048 : Shape := ⟨1, ![66048]⟩
abbrev S82432x1024 : Shape := ⟨2, ![82432, 1024]⟩
abbrev S8x2048x1024 : Shape := ⟨3, ![8, 2048, 1024]⟩
abbrev S8x2048x128 : Shape := ⟨3, ![8, 2048, 128]⟩
abbrev S8x1x1024 : Shape := ⟨3, ![8, 1, 1024]⟩
abbrev S1024 : Shape := ⟨1, ![1024]⟩
abbrev S65536 : Shape := ⟨1, ![65536]⟩
abbrev S_ : Shape := ⟨0, ![]⟩
abbrev S65536x1 : Shape := ⟨2, ![65536, 1]⟩
abbrev S65536x1024 : Shape := ⟨2, ![65536, 1024]⟩
abbrev S8x2048x4 : Shape := ⟨3, ![8, 2048, 4]⟩
abbrev S16384x4x1024 : Shape := ⟨3, ![16384, 4, 1024]⟩
abbrev S16384x1024 : Shape := ⟨2, ![16384, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S66048, .i32⟩
  | .hbm, ⟨1, _⟩ => ⟨S82432x1024, .f32⟩
  | .hbm, ⟨2, _⟩ => ⟨S8x2048x1024, .f32⟩
  | .hbm, ⟨3, _⟩ => ⟨S8x2048x128, .f32⟩
  | .hbm, ⟨4, _⟩ => ⟨S8x1x1024, .f32⟩
  | .hbm, ⟨5, _⟩ => ⟨S1024, .f32⟩
  | .hbm, ⟨6, _⟩ => ⟨S1024, .f32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x1024, .f32⟩
  | .hbm, ⟨17, _⟩ => ⟨S8x2048x4, .f32⟩
  | .hbm, ⟨18, _⟩ => ⟨S65536, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S16384x4x1024, .f32⟩
  | .hbm, ⟨23, _⟩ => ⟨S_, .f32⟩
  | .hbm, ⟨24, _⟩ => ⟨S16384x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | _, _ => ⟨S66048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Proof.Chunk.lean ====
/- One chunk of sixteen time steps, as the kernel computes it, head by head: the vector functions of the kernel's text
   gathered into a few named ones, at any number format, and the statement that a trip of the kernel's loop stores
   exactly these. -/
module

public import proofs.«01_k».proof.Proof.Gen.KernelIdeal.Loops

@[expose] public section

set_option maxRecDepth 16384

noncomputable section

namespace Cert.Proof.Hg

open Idealize.ShloMosaic Idealize.ShloMosaic.TcCoe Idealize.SL.Sem
open Cert.KernelIdeal Cert.KernelIdeal.Gen

variable {F : FTy → Type} [FloatOps F]

theorem rowSlices (s : Fin 16) : S16x128.Slices ![s.val, 0] S1x128 := by revert s; decide

/-- Row `s` of a chunk. -/
def row (x : FVec F S16x128 .f32) (s : Fin 16) : FVec F S1x128 .f32 :=
  extractStridedSlice S1x128 ![s.val, 0] x (rowSlices s)

/-- A row repeated over eight time steps. -/
def row8 (x : FVec F S16x128 .f32) (s : Fin 16) : FVec F S8x128 .f32 :=
  broadcastTo S8x128 (row x s) broadcasts_S1x128_S8x128

/-- The attention of eight queries to key `s`, the decays given by their logarithms `d`. -/
def score (qi : FVec F S8x128 .f32) (k : FVec F S16x128 .f32) (s : Fin 16) (d : FVec F S8x128 .f32) : FVec F S8x1 .f32 :=
  shapeCast S8x1 (multiReduction .add [1] S8 (mulf (mulf qi (row8 k s)) (exp d)) 0x00000000#32 reduces_S8x128_S8 (.inl rfl) rfl)
    shapeCasts_S8_S8x1

/-- Add the value of key `s`, weighted. -/
def addTerm (v : FVec F S16x128 .f32) (s : Fin 16) (a : FVec F S8x1 .f32) (acc : FVec F S8x128 .f32) : FVec F S8x128 .f32 :=
  addf acc (mulf (broadcastTo S8x128 a broadcasts_S8x1_S8x128) (row8 v s))

/-- A key of an earlier block of eight: every query sees it. -/
def far (qi bi : FVec F S8x128 .f32) (k v b : FVec F S16x128 .f32) (acc : FVec F S8x128 .f32) (s : Fin 16) : FVec F S8x128 .f32 :=
  addTerm v s (score qi k s (subf bi (row8 b s))) acc

/-- A key of the queries' own block of eight: the queries from `s` on see it. -/
def near (rows : IVec S8x1 32) (qi bi : FVec F S8x128 .f32) (k v b : FVec F S16x128 .f32) (acc : FVec F S8x128 .f32) (s : Fin 16) :
    FVec F S8x128 .f32 :=
  addTerm v s (select (cmpi .sge rows (broadcast S8x1 (BitVec.ofNat 32 s.val)))
    (score qi k s (minimumf (subf bi (row8 b s)) (broadcast S8x128 (Scalar.ofBits .f32 0x00000000#32))))
    (broadcast S8x1 (Scalar.ofBits .f32 0x00000000#32))) acc

/-- The contribution of the state carried into the chunk. -/
def inter (q b : FVec F S16x128 .f32) (st : FVec F S128x128 .f32) : FVec F S16x128 .f32 :=
  matmul dot_S16x128_S128x128_S16x128_1_1_0_0_n_n none (truncf .bf16 (mulf q (exp b)) bitsLt_bf16_f32)
    (truncf .bf16 st bitsLt_bf16_f32) (constant S16x128 .f32 0x00000000#32)

def lo8 (x : FVec F S16x128 .f32) : FVec F S8x128 .f32 := extractStridedSlice S8x128 ![0, 0] x slices_S16x128_o0_0_S8x128
def hi8 (x : FVec F S16x128 .f32) : FVec F S8x128 .f32 := extractStridedSlice S8x128 ![8, 0] x slices_S16x128_o8_0_S8x128

/-- Rows 0 to 7 of a head's output before its normalisation. -/
def outLo (v4 : IVec S16x1 32) (q k v b : FVec F S16x128 .f32) (st : FVec F S128x128 .f32) : FVec F S8x128 .f32 :=
  List.foldl (near (extractStridedSlice S8x1 ![0, 0] v4 slices_S16x1_o0_0_S8x1) (lo8 q) (lo8 b) k v b) (lo8 (inter q b st))
    [0, 1, 2, 3, 4, 5, 6, 7]

/-- Rows 8 to 15. -/
def outHi (v4 : IVec S16x1 32) (q k v b : FVec F S16x128 .f32) (st : FVec F S128x128 .f32) : FVec F S8x128 .f32 :=
  List.foldl (near (extractStridedSlice S8x1 ![8, 0] v4 slices_S16x1_o8_0_S8x1) (hi8 q) (hi8 b) k v b)
    (List.foldl (far (hi8 q) (hi8 b) k v b) (hi8 (inter q b st)) [0, 1, 2, 3, 4, 5, 6, 7]) [8, 9, 10, 11, 12, 13, 14, 15]

/-- A head's output before its normalisation. -/
def out (v4 : IVec S16x1 32) (q k v b : FVec F S16x128 .f32) (st : FVec F S128x128 .f32) : FVec F S16x128 .f32 :=
  concatenate S16x128 0 [⟨S8x128, outLo v4 q k v b st⟩, ⟨S8x128, outHi v4 q k v b st⟩] concatenates_S8x128_S8x128_S16x128_d0

/-- The state a head hands the next chunk. -/
def newState (k v b : FVec F S16x128 .f32) (st : FVec F S128x128 .f32) : FVec F S128x128 .f32 :=
  addf (mulf st (broadcastTo S128x128 (exp (row b 15)) broadcasts_S1x128_S128x128))
    (matmul dot_S16x128_S16x128_S128x128_0_0_1_1_n_n none (truncf .bf16 v bitsLt_bf16_f32)
      (truncf .bf16 (mulf k (exp (subf (broadcastTo S16x128 (row b 15) broadcasts_S1x128_S16x128) b))) bitsLt_bf16_f32)
      (constant S128x128 .f32 0x00000000#32))

/-- A head's normalised and gated output. -/
def gated (v7 : Vec F S1x128 .f32) (g o : FVec F S16x128 .f32) : FVec F S16x128 .f32 :=
  mulf (mulf (mulf o (broadcastTo S16x128 (rsqrt (addf (divf
      (shapeCast S16x1 (multiReduction .add [1] S16 (mulf o o) 0x00000000#32 reduces_S16x128_S16 (.inl rfl) rfl) shapeCasts_S16_S16x1)
      (broadcast S16x1 (Scalar.ofBits .f32 0x43000000#32))) (broadcast S16x1 (Scalar.ofBits .f32 0x358637BD#32))))
      broadcasts_S16x1_S16x128)) (broadcastTo S16x128 (k0_pay2 v7) broadcasts_S1x128_S16x128))
    (mulf g (logistic g))

/-- Head `h`'s 128 columns. -/
def cols : Fin 4 → FVec F S16x512 .f32 → FVec F S16x128 .f32
  | 0, x => extractStridedSlice S16x128 ![0, 0] x slices_S16x512_o0_0_S16x128
  | 1, x => extractStridedSlice S16x128 ![0, 128] x slices_S16x512_o0_128_S16x128
  | 2, x => extractStridedSlice S16x128 ![0, 256] x slices_S16x512_o0_256_S16x128
  | 3, x => extractStridedSlice S16x128 ![0, 384] x slices_S16x512_o0_384_S16x128

/-- The cumulative log decay of a chunk `x`. -/
def bAll (v3 : IVec S16x512 32) (v5 : Vec F S1x512 .f32) (x : Vec F S1x16x2048 .f32) : FVec F S16x512 .f32 :=
  k0_pay21 v3 (k0_pay19 v3 (k0_pay1 v5) x) k0_pay20

/-- What head `h` leaves in its state, from the chunk and the state it finds. -/
def chunkState (v3 : IVec S16x512 32) (v5 : Vec F S1x512 .f32) (x : Vec F S1x16x2048 .f32) (h : Fin 4)
    (st : Vec F S1x128x128 .f32) : FVec F S1x128x128 .f32 :=
  shapeCast S1x128x128 (newState (cols h (k0_pay18 (k0_pay1 v5) x)) (cols h (k0_pay16 x)) (cols h (bAll v3 v5 x))
    (shapeCast S128x128 st shapeCasts_S1x128x128_S128x128)) shapeCasts_S128x128_S1x128x128

/-- What head `h` writes, from the chunk and the state it finds. -/
def chunkOut (v3 : IVec S16x512 32) (v4 : IVec S16x1 32) (v5 : Vec F S1x512 .f32) (v7 : Vec F S1x128 .f32)
    (x : Vec F S1x16x2048 .f32) (h : Fin 4) (st : Vec F S1x128x128 .f32) : FVec F S1x16x128 .f32 :=
  shapeCast S1x16x128 (gated v7 (cols h (k0_pay17 x)) (out v4 (cols h (k0_pay14 x)) (cols h (k0_pay18 (k0_pay1 v5) x))
    (cols h (k0_pay16 x)) (cols h (bAll v3 v5 x)) (shapeCast S128x128 st shapeCasts_S1x128x128_S128x128)))
    shapeCasts_S16x128_S1x16x128

section
variable (𝒱 : Variants) (c : Dev nD) (bd : Option 𝒱.V) (i : grid0.Coords)
  (arg2 : Memref sig .tc .vmem S1x256x2048 .f32) (harg2 : arg2.IsWhole) (arg3 : Memref sig .tc .vmem S1x1x4x128x128 .f32)
  (harg3 : arg3.IsWhole) (arg4 : Memref sig .tc .vmem S1x512 .f32) (harg4 : arg4.IsWhole) (arg5 : Memref sig .tc .vmem S1x128 .f32)
  (harg5 : arg5.IsWhole) (arg6 : Memref sig .tc .vmem S1x256x512 .f32) (harg6 : arg6.IsWhole)
  (arg7 : Memref sig .tc .vmem S1x4x128x128 .f32) (harg7 : arg7.IsWhole) (arg8 : Memref sig .tc .vmem S4x128x128 .f32)
  (harg8 : arg8.IsWhole) (v3 : IVec S16x512 32) (v4 : IVec S16x1 32) (v5 : Vec F S1x512 .f32) (v7 : Vec F S1x128 .f32)
  (X2 : BufTy.Contents (Elt F) arg2.view.ty) (k : Fin k0_t1_loop.trips) (f6 : BufTy.Contents (Elt F) arg6.view.ty)
  (f8 : BufTy.Contents (Elt F) arg8.view.ty)

/-- The chunk trip `k` loads. -/
abbrev chunk : Vec F S1x16x2048 .f32 :=
  View.readAt (Elt F) arg2.view (Rect.unit (s := S1x256x2048) (k0_off1 k) S1x16x2048.size (k0_off1_inb k)).toLoadRect X2

theorem trip_states : (trip_k0_t1 (F := F) 𝒱 c bd i arg2 harg2 arg3 harg3 arg4 harg4 arg5 harg5 arg6 harg6 arg7 harg7 arg8 harg8 v3 v4
      v5 v7 X2 k).2.1 f6 f8 =
    [⟨Rect.unit (s := S4x128x128) ![3, 0, 0] S1x128x128.size inb_S4x128x128_S1x128x128_3_0_0, chunkState v3 v5 (chunk arg2 X2 k) 3
        (View.readAt (Elt F) arg8.view (Rect.unit (s := S4x128x128) ![3, 0, 0] S1x128x128.size inb_S4x128x128_S1x128x128_3_0_0).toLoadRect f8)⟩,
      ⟨Rect.unit (s := S4x128x128) ![2, 0, 0] S1x128x128.size inb_S4x128x128_S1x128x128_2_0_0, chunkState v3 v5 (chunk arg2 X2 k) 2
        (View.readAt (Elt F) arg8.view (Rect.unit (s := S4x128x128) ![2, 0, 0] S1x128x128.size inb_S4x128x128_S1x128x128_2_0_0).toLoadRect f8)⟩,
      ⟨Rect.unit (s := S4x128x128) ![1, 0, 0] S1x128x128.size inb_S4x128x128_S1x128x128_1_0_0, chunkState v3 v5 (chunk arg2 X2 k) 1
        (View.readAt (Elt F) arg8.view (Rect.unit (s := S4x128x128) ![1, 0, 0] S1x128x128.size inb_S4x128x128_S1x128x128_1_0_0).toLoadRect f8)⟩,
      ⟨Rect.unit (s := S4x128x128) ![0, 0, 0] S1x128x128.size inb_S4x128x128_S1x128x128_0_0_0, chunkState v3 v5 (chunk arg2 X2 k) 0
        (View.readAt (Elt F) arg8.view (Rect.unit (s := S4x128x128) ![0, 0, 0] S1x128x128.size inb_S4x128x128_S1x128x128_0_0_0).toLoadRect f8)⟩] := by
  unfold trip_k0_t1
  rfl

theorem trip_rows : (trip_k0_t1 (F := F) 𝒱 c bd i arg2 harg2 arg3 harg3 arg4 harg4 arg5 harg5 arg6 harg6 arg7 harg7 arg8 harg8 v3 v4
      v5 v7 X2 k).1 f6 f8 =
    [⟨Rect.unit (s := S1x256x512) (k0_off5 k) S1x16x128.size (k0_off5_inb k), chunkOut v3 v4 v5 v7 (chunk arg2 X2 k) 3
        (View.readAt (Elt F) arg8.view (Rect.unit (s := S4x128x128) ![3, 0, 0] S1x128x128.size inb_S4x128x128_S1x128x128_3_0_0).toLoadRect f8)⟩,
      ⟨Rect.unit (s := S1x256x512) (k0_off4 k) S1x16x128.size (k0_off4_inb k), chunkOut v3 v4 v5 v7 (chunk arg2 X2 k) 2
        (View.readAt (Elt F) arg8.view (Rect.unit (s := S4x128x128) ![2, 0, 0] S1x128x128.size inb_S4x128x128_S1x128x128_2_0_0).toLoadRect f8)⟩,
      ⟨Rect.unit (s := S1x256x512) (k0_off3 k) S1x16x128.size (k0_off3_inb k), chunkOut v3 v4 v5 v7 (chunk arg2 X2 k) 1
        (View.readAt (Elt F) arg8.view (Rect.unit (s := S4x128x128) ![1, 0, 0] S1x128x128.size inb_S4x128x128_S1x128x128_1_0_0).toLoadRect f8)⟩,
      ⟨Rect.unit (s := S1x256x512) (k0_off2 k) S1x16x128.size (k0_off2_inb k), chunkOut v3 v4 v5 v7 (chunk arg2 X2 k) 0
        (View.readAt (Elt F) arg8.view (Rect.unit (s := S4x128x128) ![0, 0, 0] S1x128x128.size inb_S4x128x128_S1x128x128_0_0_0).toLoadRect f8)⟩] := by
  unfold trip_k0_t1
  rfl

end

end Cert.Proof.Hg

end
-- ==== Proof.Block.lean ====
/- A block of 256 time steps: the kernel's loop over its sixteen chunks, read as values. `stateAt` is the four heads' states
   after some number of chunks, `rowsAt` the rows written; the loop's recorded stores leave exactly these. -/
module

public import proofs.«01_k».proof.Proof.Chunk
public import Idealize.ShloMosaic.Lib.WritesUnit
public import Idealize.ShloMosaic.Lib.VecWindow
public import Idealize.ShloMosaic.Lib.ValueIdxCore

@[expose] public section

set_option maxRecDepth 16384

noncomputable section

namespace Cert.Proof.Hg

open Idealize.ShloMosaic Idealize.ShloMosaic.TcCoe Idealize.SL.Sem
open Idealize.ShloMosaic.ValueIdx
open Cert.KernelIdeal Cert.KernelIdeal.Gen

variable {F : FTy → Type} [FloatOps F]

/-- The row numbers, as the kernel makes them. -/
abbrev rows512 : IVec S16x512 32 := iota .tc S16x512 32 [0] iota_S16x512_d0_w32
abbrev rows1 : IVec S16x1 32 := iota .tc S16x1 32 [0] iota_S16x1_d0_w32

/-- Chunk `k` of a block. -/
def chunkAt (x : Vec F S1x256x2048 .f32) (k : ℕ) : Vec F S1x16x2048 .f32 :=
  fun j => x (ix3 0 ⟨16 * (k % 16) + (j 1).val, by have h : (j 1).val < 16 := (j 1).isLt; omega⟩ (j 2))

/-- Head `h`'s state among the four. -/
def headOf (st : Vec F S4x128x128 .f32) (h : Fin 4) : Vec F S1x128x128 .f32 := fun j => st (ix3 h (j 1) (j 2))

/-- The four states after chunk `k`, from those before it. -/
def stepState (lb : Vec F S1x512 .f32) (x : Vec F S1x256x2048 .f32) (k : ℕ) (st : Vec F S4x128x128 .f32) : Vec F S4x128x128 .f32 :=
  fun j => chunkState rows512 lb (chunkAt x k) (j 0) (headOf st (j 0)) (ix3 0 (j 1) (j 2))

/-- The four states after `k` chunks. -/
def stateAt (lb : Vec F S1x512 .f32) (x : Vec F S1x256x2048 .f32) (st : Vec F S4x128x128 .f32) : ℕ → Vec F S4x128x128 .f32
  | 0 => st
  | k + 1 => stepState lb x k (stateAt lb x st k)

/-- The rows the block writes. -/
def rowsAt (lb : Vec F S1x512 .f32) (gw : Vec F S1x128 .f32) (x : Vec F S1x256x2048 .f32) (st : Vec F S4x128x128 .f32) :
    Vec F S1x256x512 .f32 := fun j =>
  chunkOut rows512 rows1 lb gw (chunkAt x ((j 1).val / 16)) ⟨(j 2).val / 128, by have h : (j 2).val < 512 := (j 2).isLt; omega⟩
    (headOf (stateAt lb x st ((j 1).val / 16)) ⟨(j 2).val / 128, by have h : (j 2).val < 512 := (j 2).isLt; omega⟩)
    (ix3 0 ⟨(j 1).val % 16, by omega⟩ ⟨(j 2).val % 128, by omega⟩)

section
variable (𝒱 : Variants) (c : Dev nD) (bd : Option 𝒱.V) (i : grid0.Coords)
  (arg2 : Memref sig .tc .vmem S1x256x2048 .f32) (harg2 : arg2.IsWhole) (arg3 : Memref sig .tc .vmem S1x1x4x128x128 .f32)
  (harg3 : arg3.IsWhole) (arg4 : Memref sig .tc .vmem S1x512 .f32) (harg4 : arg4.IsWhole) (arg5 : Memref sig .tc .vmem S1x128 .f32)
  (harg5 : arg5.IsWhole) (arg6 : Memref sig .tc .vmem S1x256x512 .f32) (harg6 : arg6.IsWhole)
  (arg7 : Memref sig .tc .vmem S1x4x128x128 .f32) (harg7 : arg7.IsWhole) (arg8 : Memref sig .tc .vmem S4x128x128 .f32)
  (harg8 : arg8.IsWhole) (v5 : Vec F S1x512 .f32) (v7 : Vec F S1x128 .f32)
  (X2 : BufTy.Contents (Elt F) arg2.view.ty) (G6 : BufTy.Contents (Elt F) arg6.view.ty)
  (G8 : BufTy.Contents (Elt F) arg8.view.ty)

/-- The chunk a trip loads is the block's. -/
theorem chunk_eq (k : Fin k0_t1_loop.trips) : chunk arg2 X2 k = chunkAt (arg2.view.read (Elt F) X2) k.val := by
  have hk : k.val < 16 := k.isLt
  unfold chunk
  rw [View.readAt_unit arg2.view X2 (k0_off1_inb k) (k0_off1_eq k) (by rw [← k0_off1_eq k]; exact k0_off1_inb k)]
  funext j
  refine congrArg (arg2.view.read (Elt F) X2) (funext fun a => Fin.ext ?_)
  match a with
  | ⟨0, _⟩ => show 0 + 1 * (j 0).val = 0; have h0 : (j 0).val < 1 := (j 0).isLt; omega
  | ⟨1, _⟩ => show 16 * k.val + 1 * (j 1).val = 16 * (k.val % 16) + (j 1).val; rw [Nat.mod_eq_of_lt hk]; omega
  | ⟨2, _⟩ => show 0 + 1 * (j 2).val = (j 2).val; omega

/-- A head's state as a trip loads it. -/
theorem head_eq (f8 : BufTy.Contents (Elt F) arg8.view.ty) (h : Fin 4) (inb : ∀ a, (![h.val, 0, 0] : Fin 3 → ℕ) a + S1x128x128.size a ≤ S4x128x128.size a) :
    View.readAt (Elt F) arg8.view (Rect.unit (s := S4x128x128) ![h.val, 0, 0] S1x128x128.size inb).toLoadRect f8
      = headOf (arg8.view.read (Elt F) f8) h := by
  rw [View.readAt_unit arg8.view f8 inb rfl inb]
  funext j
  refine congrArg (arg8.view.read (Elt F) f8) (funext fun a => Fin.ext ?_)
  match a with
  | ⟨0, _⟩ => show h.val + 1 * (j 0).val = h.val; have h0 : (j 0).val < 1 := (j 0).isLt; omega
  | ⟨1, _⟩ => show 0 + 1 * (j 1).val = (j 1).val; omega
  | ⟨2, _⟩ => show 0 + 1 * (j 2).val = (j 2).val; omega

/-- The stores of the four states, read back. -/
theorem read_states (f : BufTy.Contents (Elt F) arg8.view.ty) (L : List (View.Piece (Elt F) S4x128x128 .f32))
    (w : Fin 4 → Vec F S1x128x128 .f32) (h : Fin 4) (a b : Fin 128) :
    arg8.view.read (Elt F) (arg8.view.writes (Elt F) f
      ([⟨Rect.unit (s := S4x128x128) ![3, 0, 0] S1x128x128.size inb_S4x128x128_S1x128x128_3_0_0, w 3⟩,
        ⟨Rect.unit (s := S4x128x128) ![2, 0, 0] S1x128x128.size inb_S4x128x128_S1x128x128_2_0_0, w 2⟩,
        ⟨Rect.unit (s := S4x128x128) ![1, 0, 0] S1x128x128.size inb_S4x128x128_S1x128x128_1_0_0, w 1⟩,
        ⟨Rect.unit (s := S4x128x128) ![0, 0, 0] S1x128x128.size inb_S4x128x128_S1x128x128_0_0_0, w 0⟩] ++ L)) (ix3 h a b)
      = w h (ix3 0 a b) := by
  have hin : ∀ (n : ℕ), h.val = n → ∀ d, ((ix3 h a b : S4x128x128.Idx) d).val = (![n, 0, 0] : Fin 3 → ℕ) d
      + ((ix3 0 a b : S1x128x128.Idx) d).val := fun n hn d => by
    match d with
    | ⟨0, _⟩ => show h.val = n + 0; omega
    | ⟨1, _⟩ => show a.val = 0 + a.val; omega
    | ⟨2, _⟩ => show b.val = 0 + b.val; omega
  have hout : ∀ (n : ℕ), h.val < n → ((ix3 h a b : S4x128x128.Idx) 0).val < (![n, 0, 0] : Fin 3 → ℕ) 0
      ∨ (![n, 0, 0] : Fin 3 → ℕ) 0 + S1x128x128.size 0 ≤ ((ix3 h a b : S4x128x128.Idx) 0).val := fun n hn => Or.inl hn
  simp only [List.cons_append, List.nil_append]
  match h, hin, hout with
  | 3, hin, hout =>
    rw [View.read_writes_cons_unit_of_mem arg8.view f inb_S4x128x128_S1x128x128_3_0_0 (w 3) _ _ (ix3 0 a b) rfl (hin 3 rfl)]
  | 2, hin, hout =>
    rw [View.read_writes_cons_unit_of_not_mem arg8.view f inb_S4x128x128_S1x128x128_3_0_0 (w 3) _ _ rfl 0 (hout 3 (by decide)),
      View.read_writes_cons_unit_of_mem arg8.view f inb_S4x128x128_S1x128x128_2_0_0 (w 2) _ _ (ix3 0 a b) rfl (hin 2 rfl)]
  | 1, hin, hout =>
    rw [View.read_writes_cons_unit_of_not_mem arg8.view f inb_S4x128x128_S1x128x128_3_0_0 (w 3) _ _ rfl 0 (hout 3 (by decide)),
      View.read_writes_cons_unit_of_not_mem arg8.view f inb_S4x128x128_S1x128x128_2_0_0 (w 2) _ _ rfl 0 (hout 2 (by decide)),
      View.read_writes_cons_unit_of_mem arg8.view f inb_S4x128x128_S1x128x128_1_0_0 (w 1) _ _ (ix3 0 a b) rfl (hin 1 rfl)]
  | 0, hin, hout =>
    rw [View.read_writes_cons_unit_of_not_mem arg8.view f inb_S4x128x128_S1x128x128_3_0_0 (w 3) _ _ rfl 0 (hout 3 (by decide)),
      View.read_writes_cons_unit_of_not_mem arg8.view f inb_S4x128x128_S1x128x128_2_0_0 (w 2) _ _ rfl 0 (hout 2 (by decide)),
      View.read_writes_cons_unit_of_not_mem arg8.view f inb_S4x128x128_S1x128x128_1_0_0 (w 1) _ _ rfl 0 (hout 1 (by decide)),
      View.read_writes_cons_unit_of_mem arg8.view f inb_S4x128x128_S1x128x128_0_0_0 (w 0) _ _ (ix3 0 a b) rfl (hin 0 rfl)]

/-- The stores of a chunk's rows, read back: under them, … -/
theorem read_rows (k : Fin k0_t1_loop.trips) (f : BufTy.Contents (Elt F) arg6.view.ty) (L : List (View.Piece (Elt F) S1x256x512 .f32))
    (w : Fin 4 → Vec F S1x16x128 .f32) (r : Fin 256) (l : Fin 512) :
    arg6.view.read (Elt F) (arg6.view.writes (Elt F) f
      ([⟨Rect.unit (s := S1x256x512) (k0_off5 k) S1x16x128.size (k0_off5_inb k), w 3⟩,
        ⟨Rect.unit (s := S1x256x512) (k0_off4 k) S1x16x128.size (k0_off4_inb k), w 2⟩,
        ⟨Rect.unit (s := S1x256x512) (k0_off3 k) S1x16x128.size (k0_off3_inb k), w 1⟩,
        ⟨Rect.unit (s := S1x256x512) (k0_off2 k) S1x16x128.size (k0_off2_inb k), w 0⟩] ++ L)) (ix3 0 r l)
      = if r.val / 16 = k.val then w ⟨l.val / 128, by omega⟩ (ix3 0 ⟨r.val % 16, by omega⟩ ⟨l.val % 128, by omega⟩)
        else arg6.view.read (Elt F) (arg6.view.writes (Elt F) f L) (ix3 0 r l) := by
  have hk : k.val < 16 := k.isLt
  simp only [List.cons_append, List.nil_append]
  split
  · rename_i hr
    have hin : ∀ (n : ℕ), l.val / 128 = n → ∀ a, ((ix3 0 r l : S1x256x512.Idx) a).val = (![0, 16 * k.val, 128 * n] : Fin 3 → ℕ) a
        + ((ix3 0 ⟨r.val % 16, by omega⟩ ⟨l.val % 128, by omega⟩ : S1x16x128.Idx) a).val := fun n hn a => by
      match a with
      | ⟨0, _⟩ => rfl
      | ⟨1, _⟩ => show r.val = 16 * k.val + r.val % 16; omega
      | ⟨2, _⟩ => show l.val = 128 * n + l.val % 128; omega
    by_cases h3 : l.val / 128 = 3
    · rw [View.read_writes_cons_unit_of_mem arg6.view f (k0_off5_inb k) (w 3) _ _ _ (k0_off5_eq k) (hin 3 h3)]
      exact congrArg (fun h => w h _) (Fin.ext h3.symm)
    rw [View.read_writes_cons_unit_of_not_mem arg6.view f _ _ _ _ (k0_off5_eq k) 2 (by left; show l.val < 384; omega)]
    by_cases h2 : l.val / 128 = 2
    · rw [View.read_writes_cons_unit_of_mem arg6.view f (k0_off4_inb k) (w 2) _ _ _ (k0_off4_eq k) (hin 2 h2)]
      exact congrArg (fun h => w h _) (Fin.ext h2.symm)
    rw [View.read_writes_cons_unit_of_not_mem arg6.view f _ _ _ _ (k0_off4_eq k) 2 (by left; show l.val < 256; omega)]
    by_cases h1 : l.val / 128 = 1
    · rw [View.read_writes_cons_unit_of_mem arg6.view f (k0_off3_inb k) (w 1) _ _ _ (k0_off3_eq k) (hin 1 h1)]
      exact congrArg (fun h => w h _) (Fin.ext h1.symm)
    rw [View.read_writes_cons_unit_of_not_mem arg6.view f _ _ _ _ (k0_off3_eq k) 2 (by left; show l.val < 128; omega)]
    have h0 : l.val / 128 = 0 := by omega
    rw [View.read_writes_cons_unit_of_mem arg6.view f (k0_off2_inb k) (w 0) _ _ _ (k0_off2_eq k) (hin 0 h0)]
    exact congrArg (fun h => w h _) (Fin.ext h0.symm)
  · rename_i hr
    have hout : ∀ n : ℕ, ((ix3 0 r l : S1x256x512.Idx) 1).val < (![0, 16 * k.val, n] : Fin 3 → ℕ) 1
        ∨ (![0, 16 * k.val, n] : Fin 3 → ℕ) 1 + S1x16x128.size 1 ≤ ((ix3 0 r l : S1x256x512.Idx) 1).val := fun n => by
      show r.val < 16 * k.val ∨ 16 * k.val + 16 ≤ r.val
      omega
    rw [View.read_writes_cons_unit_of_not_mem arg6.view f _ _ _ _ (k0_off5_eq k) 1 (hout _),
      View.read_writes_cons_unit_of_not_mem arg6.view f _ _ _ _ (k0_off4_eq k) 1 (hout _),
      View.read_writes_cons_unit_of_not_mem arg6.view f _ _ _ _ (k0_off3_eq k) 1 (hout _),
      View.read_writes_cons_unit_of_not_mem arg6.view f _ _ _ _ (k0_off2_eq k) 1 (hout _)]

/-- The loop's stores after `k` trips. -/
abbrev stores (k : ℕ) := pb_k0_t1 (F := F) 𝒱 c bd i arg2 harg2 arg3 harg3 arg4 harg4 arg5 harg5 arg6 harg6 arg7 harg7 arg8 harg8
  rows512 rows1 v5 v7 X2 G6 G8 k

theorem four {α : Type} {w : Fin 4 → α} {a b c d : α} (h0 : a = w 0) (h1 : b = w 1) (h2 : c = w 2) (h3 : d = w 3) :
    ∀ h : Fin 4, ![a, b, c, d] h = w h
  | 0 => h0
  | 1 => h1
  | 2 => h2
  | 3 => h3

/-- A trip's stores of the states, over values. -/
theorem trip_states' (k : Fin k0_t1_loop.trips) (f6 : BufTy.Contents (Elt F) arg6.view.ty) (f8 : BufTy.Contents (Elt F) arg8.view.ty)
    (st : Vec F S4x128x128 .f32) (hst : arg8.view.read (Elt F) f8 = st) (L : List (View.Piece (Elt F) S4x128x128 .f32)) (G : BufTy.Contents (Elt F) arg8.view.ty) :
    arg8.view.read (Elt F) (arg8.view.writes (Elt F) G ((tripL_k0_t1 (F := F) 𝒱 c bd i arg2 harg2 arg3 harg3 arg4 harg4 arg5 harg5 arg6 harg6 arg7 harg7 arg8 harg8
      rows512 rows1 v5 v7 X2 k f6 f8).2 ++ L)) = stepState v5 (arg2.view.read (Elt F) X2) k.val st := by
  subst hst
  have e : (tripL_k0_t1 (F := F) 𝒱 c bd i arg2 harg2 arg3 harg3 arg4 harg4 arg5 harg5 arg6 harg6 arg7 harg7 arg8 harg8
      rows512 rows1 v5 v7 X2 k f6 f8).2 = _ := trip_states 𝒱 c bd i arg2 harg2 arg3 harg3 arg4 harg4 arg5 harg5 arg6 harg6 arg7 harg7
        arg8 harg8 rows512 rows1 v5 v7 X2 k f6 f8
  have e3 := head_eq arg8 f8 3 inb_S4x128x128_S1x128x128_3_0_0
  have e2 := head_eq arg8 f8 2 inb_S4x128x128_S1x128x128_2_0_0
  have e1 := head_eq arg8 f8 1 inb_S4x128x128_S1x128x128_1_0_0
  have e0 := head_eq arg8 f8 0 inb_S4x128x128_S1x128x128_0_0_0
  rw [e]
  funext j
  obtain ⟨h, a, b, rfl⟩ : ∃ (h : Fin 4) (a b : Fin 128), j = ix3 h a b := ⟨j 0, j 1, j 2, eq_ix3 j⟩
  refine (read_states arg8 G L (fun h => chunkState rows512 v5 (chunk arg2 X2 k) h (![View.readAt (Elt F) arg8.view
      (Rect.unit (s := S4x128x128) ![0, 0, 0] S1x128x128.size inb_S4x128x128_S1x128x128_0_0_0).toLoadRect f8, View.readAt (Elt F) arg8.view
      (Rect.unit (s := S4x128x128) ![1, 0, 0] S1x128x128.size inb_S4x128x128_S1x128x128_1_0_0).toLoadRect f8, View.readAt (Elt F) arg8.view
      (Rect.unit (s := S4x128x128) ![2, 0, 0] S1x128x128.size inb_S4x128x128_S1x128x128_2_0_0).toLoadRect f8, View.readAt (Elt F) arg8.view
      (Rect.unit (s := S4x128x128) ![3, 0, 0] S1x128x128.size inb_S4x128x128_S1x128x128_3_0_0).toLoadRect f8] h)) h a b).trans ?_
  unfold stepState
  rw [chunk_eq]
  refine congrArg (fun s => chunkState rows512 v5 (chunkAt (arg2.view.read (Elt F) X2) k.val) h s (ix3 0 a b)) ?_
  exact four e0 e1 e2 e3 h

/-- A trip's stores of its rows, over values. -/
theorem trip_rows' (k : Fin k0_t1_loop.trips) (f6 : BufTy.Contents (Elt F) arg6.view.ty) (f8 : BufTy.Contents (Elt F) arg8.view.ty)
    (st : Vec F S4x128x128 .f32) (hst : arg8.view.read (Elt F) f8 = st) (L : List (View.Piece (Elt F) S1x256x512 .f32))
    (G : BufTy.Contents (Elt F) arg6.view.ty) (r : Fin 256) (l : Fin 512) :
    arg6.view.read (Elt F) (arg6.view.writes (Elt F) G ((tripL_k0_t1 (F := F) 𝒱 c bd i arg2 harg2 arg3 harg3 arg4 harg4 arg5 harg5 arg6 harg6 arg7 harg7 arg8 harg8
      rows512 rows1 v5 v7 X2 k f6 f8).1 ++ L)) (ix3 0 r l)
      = if r.val / 16 = k.val then chunkOut rows512 rows1 v5 v7 (chunkAt (arg2.view.read (Elt F) X2) k.val) ⟨l.val / 128, by omega⟩
          (headOf st ⟨l.val / 128, by omega⟩) (ix3 0 ⟨r.val % 16, by omega⟩ ⟨l.val % 128, by omega⟩)
        else arg6.view.read (Elt F) (arg6.view.writes (Elt F) G L) (ix3 0 r l) := by
  subst hst
  have e : (tripL_k0_t1 (F := F) 𝒱 c bd i arg2 harg2 arg3 harg3 arg4 harg4 arg5 harg5 arg6 harg6 arg7 harg7 arg8 harg8
      rows512 rows1 v5 v7 X2 k f6 f8).1 = _ := trip_rows 𝒱 c bd i arg2 harg2 arg3 harg3 arg4 harg4 arg5 harg5 arg6 harg6 arg7 harg7
        arg8 harg8 rows512 rows1 v5 v7 X2 k f6 f8
  have e3 := head_eq arg8 f8 3 inb_S4x128x128_S1x128x128_3_0_0
  have e2 := head_eq arg8 f8 2 inb_S4x128x128_S1x128x128_2_0_0
  have e1 := head_eq arg8 f8 1 inb_S4x128x128_S1x128x128_1_0_0
  have e0 := head_eq arg8 f8 0 inb_S4x128x128_S1x128x128_0_0_0
  rw [e]
  refine (read_rows arg6 k G L (fun h => chunkOut rows512 rows1 v5 v7 (chunk arg2 X2 k) h (![View.readAt (Elt F) arg8.view
      (Rect.unit (s := S4x128x128) ![0, 0, 0] S1x128x128.size inb_S4x128x128_S1x128x128_0_0_0).toLoadRect f8, View.readAt (Elt F) arg8.view
      (Rect.unit (s := S4x128x128) ![1, 0, 0] S1x128x128.size inb_S4x128x128_S1x128x128_1_0_0).toLoadRect f8, View.readAt (Elt F) arg8.view
      (Rect.unit (s := S4x128x128) ![2, 0, 0] S1x128x128.size inb_S4x128x128_S1x128x128_2_0_0).toLoadRect f8, View.readAt (Elt F) arg8.view
      (Rect.unit (s := S4x128x128) ![3, 0, 0] S1x128x128.size inb_S4x128x128_S1x128x128_3_0_0).toLoadRect f8] h)) r l).trans ?_
  rw [chunk_eq]
  split
  · refine congrArg (fun s => chunkOut rows512 rows1 v5 v7 (chunkAt (arg2.view.read (Elt F) X2) k.val) ⟨l.val / 128, by omega⟩ s
      (ix3 0 ⟨r.val % 16, by omega⟩ ⟨l.val % 128, by omega⟩)) ?_
    exact four e0 e1 e2 e3 _
  · rfl

/-- The states after `k` trips, and the rows written by then. -/
theorem loop_values (k : ℕ) (hk : k ≤ 16) :
    arg8.view.read (Elt F) (arg8.view.writes (Elt F) G8
        (pb_k0_t1 (F := F) 𝒱 c bd i arg2 harg2 arg3 harg3 arg4 harg4 arg5 harg5 arg6 harg6 arg7 harg7 arg8 harg8 rows512 rows1 v5 v7 X2 G6 G8 k).2)
      = stateAt v5 (arg2.view.read (Elt F) X2) (arg8.view.read (Elt F) G8) k
    ∧ ∀ (r : Fin 256) (l : Fin 512), r.val < 16 * k → arg6.view.read (Elt F) (arg6.view.writes (Elt F) G6
        (pb_k0_t1 (F := F) 𝒱 c bd i arg2 harg2 arg3 harg3 arg4 harg4 arg5 harg5 arg6 harg6 arg7 harg7 arg8 harg8 rows512 rows1 v5 v7 X2 G6 G8 k).1) (ix3 0 r l)
      = rowsAt v5 v7 (arg2.view.read (Elt F) X2) (arg8.view.read (Elt F) G8) (ix3 0 r l) := by
  induction k with
  | zero => exact ⟨rfl, fun r l h => absurd h (by omega)⟩
  | succ k ih =>
    obtain ⟨ih8, ih6⟩ := ih (by omega)
    have hk' : k < k0_t1_loop.trips := (by omega : k < 16)
    have e := pb_k0_t1_succ (F := F) 𝒱 c bd i arg2 harg2 arg3 harg3 arg4 harg4 arg5 harg5 arg6 harg6 arg7 harg7 arg8 harg8
      rows512 rows1 v5 v7 X2 G6 G8 ⟨k, hk'⟩
    have e8 := congrArg Prod.snd e
    have e6 := congrArg Prod.fst e
    dsimp only at e8 e6
    constructor
    · rw [e8]
      exact trip_states' 𝒱 c bd i arg2 harg2 arg3 harg3 arg4 harg4 arg5 harg5 arg6 harg6 arg7 harg7 arg8 harg8 v5 v7 X2 ⟨k, hk'⟩ _ _ _ ih8 _ G8
    · intro r l hr
      rw [e6]
      refine (trip_rows' 𝒱 c bd i arg2 harg2 arg3 harg3 arg4 harg4 arg5 harg5 arg6 harg6 arg7 harg7 arg8 harg8 v5 v7 X2 ⟨k, hk'⟩ _ _ _ ih8 _ G6 r l).trans ?_
      split
      · rename_i h
        obtain rfl : k = r.val / 16 := h.symm
        rfl
      · rename_i h
        have h' : ¬ r.val / 16 = k := h
        exact ih6 r l (by omega)

end

end Cert.Proof.Hg

end
-- ==== Proof.Body.lean ====
/- The kernel's body at one point of its grid, in its three cases: the first block of a sequence, which loads the initial
   states; a middle one; the last one, which also hands the final states out. Each case's buffers end at the values of
   Block.lean. -/
module

public import proofs.«01_k».proof.Proof.Block
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.Proof.Hg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ (UR sig nD τ) ℕ

/-- The point is a sequence's first block, … -/
abbrev first (i : grid0.Coords) : Prop :=
  (Scalar.cmpi .ne (Scalar.extui (Scalar.cmpi .eq (BitVec.ofNat 32 (i 1).val) 0#32)) 0#32) = 1#1
/-- … its last block. -/
abbrev last (i : grid0.Coords) : Prop := k0_cond2 i = 1#1

/-- The heads' initial states, each stored transposed. -/
def initOf (x1 : Vec F S1x1x4x128x128 .f32) : Vec F S4x128x128 .f32 :=
  fun j => k0_pay9 (fun q => x1 (ix5 0 0 (j 0) (q 3) (q 4))) (ix3 0 (j 1) (j 2))

/-- The heads' final states, transposed back. -/
def finalOf (st : Vec F S4x128x128 .f32) : Vec F S1x4x128x128 .f32 :=
  fun j => k0_pay5 (headOf st (j 1)) (ix4 0 0 (j 2) (j 3))

/-- The stores of the four final states, read back. -/
theorem final_left (arg7 : Memref sig .tc .vmem S1x4x128x128 .f32) (arg8 : Memref sig .tc .vmem S4x128x128 .f32)
    (f7 : BufTy.Contents (Elt F) arg7.view.ty) (f8 : BufTy.Contents (Elt F) arg8.view.ty) (st : Vec F S4x128x128 .f32)
    (h8 : arg8.view.read (Elt F) f8 = st) :
    arg7.view.read (Elt F) (arg7.view.writes (Elt F) f7
      [⟨Rect.unit (s := S1x4x128x128) ![0, 3, 0, 0] S1x1x128x128.size inb_S1x4x128x128_S1x1x128x128_0_3_0_0,
          k0_pay8 (View.readAt (Elt F) arg8.view (Rect.unit (s := S4x128x128) ![3, 0, 0] S1x128x128.size inb_S4x128x128_S1x128x128_3_0_0).toLoadRect f8)⟩,
        ⟨Rect.unit (s := S1x4x128x128) ![0, 2, 0, 0] S1x1x128x128.size inb_S1x4x128x128_S1x1x128x128_0_2_0_0,
          k0_pay7 (View.readAt (Elt F) arg8.view (Rect.unit (s := S4x128x128) ![2, 0, 0] S1x128x128.size inb_S4x128x128_S1x128x128_2_0_0).toLoadRect f8)⟩,
        ⟨Rect.unit (s := S1x4x128x128) ![0, 1, 0, 0] S1x1x128x128.size inb_S1x4x128x128_S1x1x128x128_0_1_0_0,
          k0_pay6 (View.readAt (Elt F) arg8.view (Rect.unit (s := S4x128x128) ![1, 0, 0] S1x128x128.size inb_S4x128x128_S1x128x128_1_0_0).toLoadRect f8)⟩,
        ⟨Rect.unit (s := S1x4x128x128) ![0, 0, 0, 0] S1x1x128x128.size inb_S1x4x128x128_S1x1x128x128_0_0_0_0,
          k0_pay5 (View.readAt (Elt F) arg8.view (Rect.unit (s := S4x128x128) ![0, 0, 0] S1x128x128.size inb_S4x128x128_S1x128x128_0_0_0).toLoadRect f8)⟩])
      = finalOf st := by
  subst h8
  have e3 := head_eq arg8 f8 3 inb_S4x128x128_S1x128x128_3_0_0
  have e2 := head_eq arg8 f8 2 inb_S4x128x128_S1x128x128_2_0_0
  have e1 := head_eq arg8 f8 1 inb_S4x128x128_S1x128x128_1_0_0
  have e0 := head_eq arg8 f8 0 inb_S4x128x128_S1x128x128_0_0_0
  funext j
  obtain ⟨z, h, a, b, rfl⟩ : ∃ (z : Fin 1) (h : Fin 4) (a b : Fin 128), j = ix4 z h a b := ⟨j 0, j 1, j 2, j 3, eq_ix4 j⟩
  obtain rfl : z = 0 := Subsingleton.elim _ _
  have hin : ∀ (n : ℕ), h.val = n → ∀ d, ((ix4 0 h a b : S1x4x128x128.Idx) d).val = (![0, n, 0, 0] : Fin 4 → ℕ) d
      + ((ix4 0 0 a b : S1x1x128x128.Idx) d).val := fun n hn d => by
    match d with
    | ⟨0, _⟩ => rfl
    | ⟨1, _⟩ => show h.val = n + 0; omega
    | ⟨2, _⟩ => show a.val = 0 + a.val; omega
    | ⟨3, _⟩ => show b.val = 0 + b.val; omega
  have hout : ∀ (n : ℕ), h.val < n → ((ix4 0 h a b : S1x4x128x128.Idx) 1).val < (![0, n, 0, 0] : Fin 4 → ℕ) 1
      ∨ (![0, n, 0, 0] : Fin 4 → ℕ) 1 + S1x1x128x128.size 1 ≤ ((ix4 0 h a b : S1x4x128x128.Idx) 1).val := fun n hn => Or.inl hn
  match h, hin, hout with
  | 3, hin, hout =>
    rw [View.read_writes_cons_unit_of_mem arg7.view f7 inb_S1x4x128x128_S1x1x128x128_0_3_0_0 _ _ _ (ix4 0 0 a b) rfl (hin 3 rfl)]
    exact congrFun (congrArg k0_pay5 e3) _
  | 2, hin, hout =>
    rw [View.read_writes_cons_unit_of_not_mem arg7.view f7 inb_S1x4x128x128_S1x1x128x128_0_3_0_0 _ _ _ rfl 1 (hout 3 (by decide)),
      View.read_writes_cons_unit_of_mem arg7.view f7 inb_S1x4x128x128_S1x1x128x128_0_2_0_0 _ _ _ (ix4 0 0 a b) rfl (hin 2 rfl)]
    exact congrFun (congrArg k0_pay5 e2) _
  | 1, hin, hout =>
    rw [View.read_writes_cons_unit_of_not_mem arg7.view f7 inb_S1x4x128x128_S1x1x128x128_0_3_0_0 _ _ _ rfl 1 (hout 3 (by decide)),
      View.read_writes_cons_unit_of_not_mem arg7.view f7 inb_S1x4x128x128_S1x1x128x128_0_2_0_0 _ _ _ rfl 1 (hout 2 (by decide)),
      View.read_writes_cons_unit_of_mem arg7.view f7 inb_S1x4x128x128_S1x1x128x128_0_1_0_0 _ _ _ (ix4 0 0 a b) rfl (hin 1 rfl)]
    exact congrFun (congrArg k0_pay5 e1) _
  | 0, hin, hout =>
    rw [View.read_writes_cons_unit_of_not_mem arg7.view f7 inb_S1x4x128x128_S1x1x128x128_0_3_0_0 _ _ _ rfl 1 (hout 3 (by decide)),
      View.read_writes_cons_unit_of_not_mem arg7.view f7 inb_S1x4x128x128_S1x1x128x128_0_2_0_0 _ _ _ rfl 1 (hout 2 (by decide)),
      View.read_writes_cons_unit_of_not_mem arg7.view f7 inb_S1x4x128x128_S1x1x128x128_0_1_0_0 _ _ _ rfl 1 (hout 1 (by decide)),
      View.read_writes_cons_unit_of_mem arg7.view f7 inb_S1x4x128x128_S1x1x128x128_0_0_0_0 _ _ _ (ix4 0 0 a b) rfl (hin 0 rfl)]
    exact congrFun (congrArg k0_pay5 e0) _

/-- A head's initial state as the first block loads it. -/
theorem init_eq (arg3 : Memref sig .tc .vmem S1x1x4x128x128 .f32) (f3 : BufTy.Contents (Elt F) arg3.view.ty) (h : Fin 4)
    (inb : ∀ a, (![0, 0, h.val, 0, 0] : Fin 5 → ℕ) a + S1x1x1x128x128.size a ≤ S1x1x4x128x128.size a) :
    View.readAt (Elt F) arg3.view (Rect.unit (s := S1x1x4x128x128) ![0, 0, h.val, 0, 0] S1x1x1x128x128.size inb).toLoadRect f3
      = fun q => arg3.view.read (Elt F) f3 (ix5 0 0 h (q 3) (q 4)) := by
  rw [View.readAt_unit arg3.view f3 inb rfl inb]
  funext j
  refine congrArg (arg3.view.read (Elt F) f3) (funext fun a => Fin.ext ?_)
  match a with
  | ⟨0, _⟩ => show 0 + 1 * (j 0).val = 0; have h0 : (j 0).val < 1 := (j 0).isLt; omega
  | ⟨1, _⟩ => show 0 + 1 * (j 1).val = 0; have h0 : (j 1).val < 1 := (j 1).isLt; omega
  | ⟨2, _⟩ => show h.val + 1 * (j 2).val = h.val; have h0 : (j 2).val < 1 := (j 2).isLt; omega
  | ⟨3, _⟩ => show 0 + 1 * (j 3).val = (j 3).val; omega
  | ⟨4, _⟩ => show 0 + 1 * (j 4).val = (j 4).val; omega

/-- The stores of the four initial states, read back. -/
theorem init_left (arg3 : Memref sig .tc .vmem S1x1x4x128x128 .f32) (arg8 : Memref sig .tc .vmem S4x128x128 .f32)
    (f3 : BufTy.Contents (Elt F) arg3.view.ty) (f8 : BufTy.Contents (Elt F) arg8.view.ty) (x1 : Vec F S1x1x4x128x128 .f32)
    (h3 : arg3.view.read (Elt F) f3 = x1) :
    arg8.view.read (Elt F) (arg8.view.writes (Elt F) f8
      [⟨Rect.unit (s := S4x128x128) ![3, 0, 0] S1x128x128.size inb_S4x128x128_S1x128x128_3_0_0,
          k0_pay12 (View.readAt (Elt F) arg3.view (Rect.unit (s := S1x1x4x128x128) ![0, 0, 3, 0, 0] S1x1x1x128x128.size inb_S1x1x4x128x128_S1x1x1x128x128_0_0_3_0_0).toLoadRect f3)⟩,
        ⟨Rect.unit (s := S4x128x128) ![2, 0, 0] S1x128x128.size inb_S4x128x128_S1x128x128_2_0_0,
          k0_pay11 (View.readAt (Elt F) arg3.view (Rect.unit (s := S1x1x4x128x128) ![0, 0, 2, 0, 0] S1x1x1x128x128.size inb_S1x1x4x128x128_S1x1x1x128x128_0_0_2_0_0).toLoadRect f3)⟩,
        ⟨Rect.unit (s := S4x128x128) ![1, 0, 0] S1x128x128.size inb_S4x128x128_S1x128x128_1_0_0,
          k0_pay10 (View.readAt (Elt F) arg3.view (Rect.unit (s := S1x1x4x128x128) ![0, 0, 1, 0, 0] S1x1x1x128x128.size inb_S1x1x4x128x128_S1x1x1x128x128_0_0_1_0_0).toLoadRect f3)⟩,
        ⟨Rect.unit (s := S4x128x128) ![0, 0, 0] S1x128x128.size inb_S4x128x128_S1x128x128_0_0_0,
          k0_pay9 (View.readAt (Elt F) arg3.view (Rect.unit (s := S1x1x4x128x128) ![0, 0, 0, 0, 0] S1x1x1x128x128.size inb_S1x1x4x128x128_S1x1x1x128x128_0_0_0_0_0).toLoadRect f3)⟩])
      = initOf x1 := by
  subst h3
  funext j
  obtain ⟨h, a, b, rfl⟩ : ∃ (h : Fin 4) (a b : Fin 128), j = ix3 h a b := ⟨j 0, j 1, j 2, eq_ix3 j⟩
  have e0 : View.readAt (Elt F) arg3.view (Rect.unit (s := S1x1x4x128x128) ![0, 0, 0, 0, 0] S1x1x1x128x128.size
      inb_S1x1x4x128x128_S1x1x1x128x128_0_0_0_0_0).toLoadRect f3 = _ := init_eq arg3 f3 0 inb_S1x1x4x128x128_S1x1x1x128x128_0_0_0_0_0
  have e1 : View.readAt (Elt F) arg3.view (Rect.unit (s := S1x1x4x128x128) ![0, 0, 1, 0, 0] S1x1x1x128x128.size
      inb_S1x1x4x128x128_S1x1x1x128x128_0_0_1_0_0).toLoadRect f3 = _ := init_eq arg3 f3 1 inb_S1x1x4x128x128_S1x1x1x128x128_0_0_1_0_0
  have e2 : View.readAt (Elt F) arg3.view (Rect.unit (s := S1x1x4x128x128) ![0, 0, 2, 0, 0] S1x1x1x128x128.size
      inb_S1x1x4x128x128_S1x1x1x128x128_0_0_2_0_0).toLoadRect f3 = _ := init_eq arg3 f3 2 inb_S1x1x4x128x128_S1x1x1x128x128_0_0_2_0_0
  have e3 : View.readAt (Elt F) arg3.view (Rect.unit (s := S1x1x4x128x128) ![0, 0, 3, 0, 0] S1x1x1x128x128.size
      inb_S1x1x4x128x128_S1x1x1x128x128_0_0_3_0_0).toLoadRect f3 = _ := init_eq arg3 f3 3 inb_S1x1x4x128x128_S1x1x1x128x128_0_0_3_0_0
  rw [e0, e1, e2, e3]
  exact read_states arg8 f8 [] (fun h => k0_pay9 fun q => arg3.view.read (Elt F) f3 (ix5 0 0 h (q 3) (q 4))) h a b

section
variable (c : Dev nD) (i : grid0.Coords)
  (arg2 : Memref sig .tc .vmem S1x256x2048 .f32) (harg2 : arg2.IsWhole) (arg3 : Memref sig .tc .vmem S1x1x4x128x128 .f32)
  (harg3 : arg3.IsWhole) (arg4 : Memref sig .tc .vmem S1x512 .f32) (harg4 : arg4.IsWhole) (arg5 : Memref sig .tc .vmem S1x128 .f32)
  (harg5 : arg5.IsWhole) (arg6 : Memref sig .tc .vmem S1x256x512 .f32) (harg6 : arg6.IsWhole)
  (arg7 : Memref sig .tc .vmem S1x4x128x128 .f32) (harg7 : arg7.IsWhole) (arg8 : Memref sig .tc .vmem S4x128x128 .f32)
  (harg8 : arg8.IsWhole)

/-- What the loop leaves, from what the buffers held before it. -/
theorem loop_left (f0 : BufTy.Contents (Elt F) arg2.view.ty) (f2 : BufTy.Contents (Elt F) arg4.view.ty)
    (f3 : BufTy.Contents (Elt F) arg5.view.ty) (f4 : BufTy.Contents (Elt F) arg6.view.ty) (fs : BufTy.Contents (Elt F) arg8.view.ty)
    (v5 : Vec F S1x512 .f32) (v7 : Vec F S1x128 .f32) (x0 : Vec F S1x256x2048 .f32) (x2 : Vec F S1x512 .f32) (x3 : Vec F S1x128 .f32) (xs : Vec F S4x128x128 .f32)
    (h0 : arg2.view.read (Elt F) f0 = x0) (h2 : arg4.view.read (Elt F) f2 = x2) (h3 : arg5.view.read (Elt F) f3 = x3)
    (hs : arg8.view.read (Elt F) fs = xs)
    (h5 : v5 = View.readAt (Elt F) arg4.view (Rect.unit (s := S1x512) ![0, 0] S1x512.size inb_S1x512_S1x512_0_0).toLoadRect f2)
    (h7 : v7 = View.readAt (Elt F) arg5.view (Rect.unit (s := S1x128) ![0, 0] S1x128.size inb_S1x128_S1x128_0_0).toLoadRect f3) :
    arg8.view.read (Elt F) (arg8.view.writes (Elt F) fs (pb_k0_t1 (F := F) Variants.none c none i arg2 harg2 arg3 harg3 arg4 harg4 arg5
        harg5 arg6 harg6 arg7 harg7 arg8 harg8 rows512 rows1 v5 v7 f0 f4 fs (Scf.trips k0_t1_loop.lb k0_t1_loop.ub k0_t1_loop.st)).2)
      = stateAt x2 x0 xs 16
    ∧ arg6.view.read (Elt F) (arg6.view.writes (Elt F) f4 (pb_k0_t1 (F := F) Variants.none c none i arg2 harg2 arg3 harg3 arg4 harg4 arg5
        harg5 arg6 harg6 arg7 harg7 arg8 harg8 rows512 rows1 v5 v7 f0 f4 fs (Scf.trips k0_t1_loop.lb k0_t1_loop.ub k0_t1_loop.st)).1)
      = rowsAt x2 x3 x0 xs := by
  rw [show Scf.trips k0_t1_loop.lb k0_t1_loop.ub k0_t1_loop.st = 16 from rfl]
  rw [View.readAt_full] at h5 h7
  subst h0 h2 h3 hs
  subst h5 h7
  obtain ⟨h8, h6⟩ := loop_values Variants.none c none i arg2 harg2 arg3 harg3 arg4 harg4 arg5 harg5 arg6 harg6 arg7 harg7 arg8 harg8
    (arg4.view.read (Elt F) f2) (arg5.view.read (Elt F) f3) f0 f4 fs 16 (le_refl _)
  refine ⟨h8, funext fun j => ?_⟩
  obtain ⟨z, r, l, rfl⟩ : ∃ (z : Fin 1) (r : Fin 256) (l : Fin 512), j = ix3 z r l := ⟨j 0, j 1, j 2, eq_ix3 j⟩
  obtain rfl : z = 0 := Subsingleton.elim _ _
  exact h6 r l r.isLt

set_option maxHeartbeats 4000000 in
theorem middle (hc0 : ¬first i) (hc1 : ¬last i) (x0 : Vec F S1x256x2048 .f32) (x2 : Vec F S1x512 .f32) (x3 : Vec F S1x128 .f32)
    (xs : Vec F S4x128x128 .f32) (E : Set ℕ) (K : PUnit → sProp 𝕄) :
    iprop(owns (c : Thread nD τ) arg2 fullShare x0 ∗ owns (c : Thread nD τ) arg4 fullShare x2 ∗ owns (c : Thread nD τ) arg5 fullShare x3
        ∗ (∃ d, owns (c : Thread nD τ) arg6 fullShare d) ∗ owns (c : Thread nD τ) arg8 fullShare xs
        ∗ (iprop(owns (c : Thread nD τ) arg2 fullShare x0 ∗ owns (c : Thread nD τ) arg4 fullShare x2 ∗ owns (c : Thread nD τ) arg5 fullShare x3
            ∗ owns (c : Thread nD τ) arg6 fullShare (rowsAt x2 x3 x0 xs) ∗ owns (c : Thread nD τ) arg8 fullShare (stateAt x2 x0 xs 16)) -∗ K ⟨⟩))
      ⊢ wp frame (wpE (defs₀ (F := F)) Variants.none c none) E
          (cc0_hgrn_branch i arg2 harg2 arg3 harg3 arg4 harg4 arg5 harg5 arg6 harg6 arg7 harg7 arg8 harg8) K := by
  simp only [cc0_hgrn_branch_eq_skeleton]; unfold cc0_hgrn_branch_skel
  simp only [k0_part1_eq_skeleton]
  unfold owns
  iintro ⟨⟨%f0, %hf0, H0⟩, ⟨%f2, %hf2, H2⟩, ⟨%f3, %hf3, H3⟩, ⟨%d4, %f4, -, H4⟩, ⟨%fs, %hfs, HS⟩, Hk⟩
  sl_exec (disch := first | sl_exact hc0 | sl_exact hc1)
  obtain ⟨e8, e6⟩ := loop_left c i arg2 harg2 arg3 harg3 arg4 harg4 arg5 harg5 arg6 harg6 arg7 harg7 arg8 harg8 f0 f2 f3 f4 fs _ _
    x0 x2 x3 xs hf0 hf2 hf3 hfs rfl rfl
  sl_step
  iapply Hk
  isplitl [H0]
  · iexists f0; isplitr
    · ipureintro; exact hf0
    · iexact H0
  isplitl [H2]
  · iexists f2; isplitr
    · ipureintro; exact hf2
    · iexact H2
  isplitl [H3]
  · iexists f3; isplitr
    · ipureintro; exact hf3
    · iexact H3
  isplitl [H4]
  · iexists _; isplitr
    swap; · iexact H4
    ipureintro; exact e6
  iexists _; isplitr
  swap; · iexact HS
  ipureintro; exact e8

set_option maxHeartbeats 4000000 in
theorem firstBlock (hc0 : first i) (hc1 : ¬last i) (x0 : Vec F S1x256x2048 .f32) (x1 : Vec F S1x1x4x128x128 .f32) (x2 : Vec F S1x512 .f32) (x3 : Vec F S1x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (rowsAt x2 x3 x0 (initOf x1)) ∗ owns (c : Thread nD τ) arg8 fullShare (stateAt x2 x0 (initOf x1) 16)) -∗ K ⟨⟩))
      ⊢ wp frame (wpE (defs₀ (F := F)) Variants.none c none) E
          (cc0_hgrn_branch i arg2 harg2 arg3 harg3 arg4 harg4 arg5 harg5 arg6 harg6 arg7 harg7 arg8 harg8) K := by
  simp only [cc0_hgrn_branch_eq_skeleton]; unfold cc0_hgrn_branch_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  sl_exec (disch := first | sl_exact hc0 | sl_exact hc1)
  obtain ⟨e8, e6⟩ := loop_left c i arg2 harg2 arg3 harg3 arg4 harg4 arg5 harg5 arg6 harg6 arg7 harg7 arg8 harg8 f0 f2 f3 f4 _ _ _
    x0 x2 x3 _ hf0 hf2 hf3 (init_left arg3 arg8 f1 arg8.view.junk x1 hf1) rfl rfl
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [H3]
  · iexists f3; isplitr
    · ipureintro; exact hf3
    · iexact H3
  isplitl [H4]
  · iexists _; isplitr
    swap; · iexact H4
    ipureintro; exact e6
  iexists _; isplitr
  swap; · iexact HS
  ipureintro; rw [View.writes_append]; exact e8

set_option maxHeartbeats 4000000 in
theorem lastBlock (hc0 : ¬first i) (hc1 : last i) (x0 : Vec F S1x256x2048 .f32) (x2 : Vec F S1x512 .f32) (x3 : Vec F S1x128 .f32)
    (xs : Vec F S4x128x128 .f32) (E : Set ℕ) (K : PUnit → sProp 𝕄) :
    iprop(owns (c : Thread nD τ) arg2 fullShare x0 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg4 fullShare x2 ∗ owns (c : Thread nD τ) arg5 fullShare x3
            ∗ owns (c : Thread nD τ) arg6 fullShare (rowsAt x2 x3 x0 xs) ∗ owns (c : Thread nD τ) arg7 fullShare (finalOf (stateAt x2 x0 xs 16)) ∗ owns (c : Thread nD τ) arg8 fullShare (stateAt x2 x0 xs 16)) -∗ K ⟨⟩))
      ⊢ wp frame (wpE (defs₀ (F := F)) Variants.none c none) E
          (cc0_hgrn_branch i arg2 harg2 arg3 harg3 arg4 harg4 arg5 harg5 arg6 harg6 arg7 harg7 arg8 harg8) K := by
  simp only [cc0_hgrn_branch_eq_skeleton]; unfold cc0_hgrn_branch_skel
  simp only [k0_part1_eq_skeleton]
  unfold owns
  iintro ⟨⟨%f0, %hf0, H0⟩, ⟨%f2, %hf2, H2⟩, ⟨%f3, %hf3, H3⟩, ⟨%d4, %f4, -, H4⟩, ⟨%d5, %f5, -, H5⟩, ⟨%fs, %hfs, HS⟩, Hk⟩
  sl_exec (disch := first | sl_exact hc0 | sl_exact hc1)
  obtain ⟨e8, e6⟩ := loop_left c i arg2 harg2 arg3 harg3 arg4 harg4 arg5 harg5 arg6 harg6 arg7 harg7 arg8 harg8 f0 f2 f3 f4 fs _ _
    x0 x2 x3 xs hf0 hf2 hf3 hfs rfl rfl
  sl_step
  iapply Hk
  isplitl [H0]
  · iexists f0; isplitr
    · ipureintro; exact hf0
    · iexact H0
  isplitl [H2]
  · iexists f2; isplitr
    · ipureintro; exact hf2
    · iexact H2
  isplitl [H3]
  · iexists f3; isplitr
    · ipureintro; exact hf3
    · iexact H3
  isplitl [H4]
  · iexists _; isplitr
    swap; · iexact H4
    ipureintro; exact e6
  isplitl [H5]
  · iexists _; isplitr
    swap; · iexact H5
    ipureintro; exact final_left arg7 arg8 f5 _ _ e8
  iexists _; isplitr
  swap; · iexact HS
  ipureintro; exact e8
end

end Cert.Proof.Hg

end
-- ==== Proof.Launch.lean ====
/- The launch: 64 points, eight blocks of each of eight sequences in turn. `carry b j` is the four heads' states sequence `b`
   has reached before its block `j`; every point's buffers are stated through it, and the whole run follows. -/
module

public import proofs.«01_k».proof.Proof.Body

@[expose] public section

set_option maxRecDepth 16384

noncomputable section

namespace Cert.Proof.Hg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## Which points are first and last -/

theorem first_iff (t : Fin cfg0.N) : first (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0) t

theorem last_iff (t : Fin cfg0.N) : last (grid0.coords t) ↔ t.val % 8 = 7 :=
  (fun t => by
    have ht : t.val < 64 := Nat.lt_of_lt_of_eq t.isLt N_0
    have e1 : (grid0.coords t 1).val = t.val / 1 % 8 := Pipeline.Grid.coords_val t 1 (by decide) rfl
    simp only [last, k0_cond2, e1]
    word_cmp
   : ∀ t : Fin grid0.N, last (grid0.coords t) ↔ t.val % 8 = 7) t

theorem live (w : Fin cfg0.W) (hw : w ≠ 5) : ∀ t : Fin cfg0.N, cfg0.idle w (grid0.coords t) = false :=
  match w with
  | ⟨0, _⟩ => fun _ => rfl
  | ⟨1, _⟩ => fun _ => rfl
  | ⟨2, _⟩ => fun _ => rfl
  | ⟨3, _⟩ => fun _ => rfl
  | ⟨4, _⟩ => fun _ => rfl
  | ⟨5, _⟩ => absurd rfl hw

theorem live_last : ∀ t : Fin cfg0.N, last (grid0.coords t) → cfg0.idle 5 (grid0.coords t) = false := by decide +kernel
theorem idle_else : ∀ t : Fin cfg0.N, ¬last (grid0.coords t) → cfg0.idle 5 (grid0.coords t) = true := by decide +kernel

theorem no_flush (t : Fin cfg0.N) (h : ¬last (grid0.coords t)) : (cfg0.win 5).flush t = false := by
  have h7 : ¬ t.val % 8 = 7 := fun e => h ((last_iff t).mpr e)
  exact Bool.eq_false_iff.mpr fun e => h7 ((flush0_5 t).mp e)

/-! ## What the buffers hold -/

variable (m : (ℓ : Loc nD τ sig) → Buf (Elt F) ℓ) (ρ : Dev nD → PrngReg) (c : Dev nD)

/-- Point number `n`. -/
def pt (n : ℕ) : Fin cfg0.N := ⟨n % 64, by rw [show cfg0.N = 64 from N_0]; omega⟩

theorem pt_val (t : Fin cfg0.N) : pt t.val = t :=
  Fin.ext (Nat.mod_eq_of_lt (Nat.lt_of_lt_of_eq t.isLt N_0))

/-- The blocks a point reads: of the projected rows, the initial states, the bounds, the norm's weights. -/
abbrev hgBlk (t : Fin cfg0.N) : Vec F S1x256x2048 .f32 := iblk m c 0 t
abbrev s0Blk (t : Fin cfg0.N) : Vec F S1x1x4x128x128 .f32 := iblk m c 1 t
abbrev lbBlk (t : Fin cfg0.N) : Vec F S1x512 .f32 := iblk m c 2 t
abbrev gwBlk (t : Fin cfg0.N) : Vec F S1x128 .f32 := iblk m c 3 t

/-- The states sequence `b` has reached before its block `j`. -/
def carry (b : ℕ) : ℕ → Vec F S4x128x128 .f32
  | 0 => initOf (s0Blk m c (pt (8 * b)))
  | j + 1 => stateAt (lbBlk m c (pt (8 * b + j))) (hgBlk m c (pt (8 * b + j))) (carry b j) 16

/-- The states before and after point `t`, and the rows it writes. -/
abbrev before (n : ℕ) : Vec F S4x128x128 .f32 := carry m c (n / 8) (n % 8)
abbrev after (n : ℕ) : Vec F S4x128x128 .f32 := carry m c (n / 8) (n % 8 + 1)
def rowsOut (t : Fin cfg0.N) : Vec F S1x256x512 .f32 := rowsAt (lbBlk m c t) (gwBlk m c t) (hgBlk m c t) (before m c t.val)

theorem before_first (t : Fin cfg0.N) (h : t.val % 8 = 0) : before m c t.val = initOf (s0Blk m c t) := by
  have e : 8 * (t.val / 8) = t.val := by omega
  show carry m c (t.val / 8) (t.val % 8) = _
  rw [h, carry, e, pt_val]

theorem before_later (n : ℕ) (h : ¬ n % 8 = 0) : after m c (n - 1) = before m c n := by
  show carry m c ((n - 1) / 8) ((n - 1) % 8 + 1) = carry m c (n / 8) (n % 8)
  rw [show (n - 1) / 8 = n / 8 by omega, show (n - 1) % 8 + 1 = n % 8 by omega]

theorem after_eq (t : Fin cfg0.N) : stateAt (lbBlk m c t) (hgBlk m c t) (before m c t.val) 16 = after m c t.val := by
  show _ = carry m c (t.val / 8) (t.val % 8 + 1)
  rw [carry, show 8 * (t.val / 8) + t.val % 8 = t.val by omega, pt_val]

/-- The scratch that carries the states from point to point. -/
abbrev scr : Memref sig .tc .vmem S4x128x128 .f32 := Memref.whole cc0_scratch0

theorem atLaunch : (Pipeline.ΦA spec0 c : sProp 𝕄)
    = iprop((∃ d, owns (c : Thread nD τ) scr fullShare d) ∗ (∃ r, prngReg c r)) := by
  unfold Pipeline.ΦA; rw [scopedRest0_eq]; simp only [scr, owns_whole]; try rfl

/-- Between points: at first anything in the scratch, then what the point before left. -/
def inv : (n : ℕ) → n ≤ cfg0.N → sProp 𝕄
  | 0, _ => Pipeline.ΦA spec0 c
  | n + 1, _ => iprop(owns (c : Thread nD τ) scr fullShare (after m c n) ∗ (∃ r, prngReg c r))

theorem inv_succ (n : ℕ) (h : n + 1 ≤ cfg0.N) :
    inv m c (n + 1) h = iprop(owns (c : Thread nD τ) scr fullShare (after m c n) ∗ (∃ r, prngReg c r)) := rfl

theorem inv_pos (n : ℕ) (h : n ≤ cfg0.N) (hz : n ≠ 0) :
    inv m c n h = iprop(owns (c : Thread nD τ) scr fullShare (after m c (n - 1)) ∗ (∃ r, prngReg c r)) := by
  cases n with
  | zero => exact absurd rfl hz
  | succ n => rfl

theorem inv_forget (n : ℕ) (h : n ≤ cfg0.N) : inv m c n h ⊢ Pipeline.ΦA spec0 c := by
  cases n with
  | zero => exact Entails.refl _
  | succ n =>
    rw [inv_succ, atLaunch]
    iintro ⟨HS, Hg⟩
    isplitl [HS]
    · iexists _; iexact HS
    iexact Hg

theorem inv_open (n : ℕ) (h : n ≤ cfg0.N) :
    inv m c n h ⊢ (iprop((∃ d, owns (c : Thread nD τ) scr fullShare d) ∗ (∃ r, prngReg c r)) : sProp 𝕄) :=
  atLaunch (F := F) c ▸ inv_forget m c n h

/-- The pipeline's data: arrays as the region finds them, each point's buffers as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsOut m c t
    | ⟨5, _⟩ => finalOf (after m c t.val)
  Φ t := inv m c t.val (Nat.le_of_lt_succ t.isLt)
  q _ := fullShare
  owed _ := 0

theorem A_eq (w : Fin cfg0.W) : (dats m 0 c).A w = V m c (Pipeline.arrRef spec0 w) := by dsimp only [dats]

theorem inv_at (t : Fin cfg0.N) : (dats m 0 c).Φ t.castSucc = inv m c t.val (Nat.le_of_lt t.isLt) := by
  dsimp only [dats]; exact Pipeline.Dat.Φ_castSucc (inv m c) t

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = rowsOut m c t := by dsimp only [dats]
theorem after5 (t : Fin cfg0.N) : (dats m 0 c).after 5 t = finalOf (after m c t.val) := by dsimp only [dats]

theorem found0 (t : Fin cfg0.N) (d) : (dats m 0 c).before 0 t d = iblk m c 0 t := before0_0_of m (dats m 0 c) (A_eq m c 0) (after0 m c) t d
theorem found1 (t : Fin cfg0.N) (d) : (dats m 0 c).before 1 t d = iblk m c 1 t := before0_1_of m (dats m 0 c) (A_eq m c 1) (after1 m c) t d
theorem found2 (t : Fin cfg0.N) (d) : (dats m 0 c).before 2 t d = iblk m c 2 t := before0_2_of m (dats m 0 c) (A_eq m c 2) (after2 m c) t d
theorem found3 (t : Fin cfg0.N) (d) : (dats m 0 c).before 3 t d = iblk m c 3 t := before0_3_of m (dats m 0 c) (A_eq m c 3) (after3 m c) t d

/-! ## The body at any point -/

/-- A window that is live is left owned at its value. -/
theorem leaves (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body is called with, … -/
def pre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- … and what it leaves. -/
def post (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 2000000 in
theorem body (t : Fin cfg0.N) :
    pre m c t ⊢ wp frame (wpE (defs₀ (F := F)) Variants.none c none) Set.univ (bodyAt0 t) (fun _ => post m c t) := by
  unfold pre post bodyAt0
  simp only [found0, found1, found2, found3]
  rw [show (dats m 0 c).owesAt () t.succ = (dats m 0 c).owesAt () t.castSucc from rfl,
    show (dats m 0 c).Φ t.succ = inv m c (t.val + 1) t.isLt from rfl, inv_succ,
    leaves m c 0 t (live 0 (by decide) t), leaves m c 1 t (live 1 (by decide) t), leaves m c 2 t (live 2 (by decide) t),
    leaves m c 3 t (live 3 (by decide) t), leaves m c 4 t (live 4 (by decide) t), after0, after1, after2, after3, after4, inv_at]
  by_cases h0 : t.val % 8 = 0
  · have hl : ¬last (grid0.coords t) := fun h => by have := (last_iff t).mp h; omega
    rw [Dat.leavesExact_idle (dats m 0 c) 5 t (idle_else t hl) (no_flush t hl)]
    unfold rowsOut; rw [← after_eq, before_first m c t h0]
    iintro ⟨HΦ, Ho, ⟨%d0, H0⟩, ⟨%d1, H1⟩, ⟨%d2, H2⟩, ⟨%d3, H3⟩, ⟨%d4, H4⟩, ⟨%d5, H5⟩⟩
    ihave HΦ := (inv_open m c t.val (Nat.le_of_lt t.isLt)) $$ HΦ
    icases HΦ with ⟨HS, Hg⟩
    iapply (firstBlock c (grid0.coords t) _ _ _ _ _ _ _ _ _ _ _ _ _ _ ((first_iff t).mpr h0) hl (hgBlk m c t) (s0Blk m c t) (lbBlk m c t) (gwBlk m c t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hf : ¬first (grid0.coords t) := fun h => h0 ((first_iff t).mp h)
    rw [inv_pos m c t.val _ (by omega), before_later m c t.val h0]
    by_cases h1 : t.val % 8 = 7
    · have hl : last (grid0.coords t) := (last_iff t).mpr h1
      rw [leaves m c 5 t (live_last t hl), after5]
      unfold rowsOut; rw [← after_eq]
      iintro ⟨⟨HS, Hg⟩, Ho, ⟨%d0, H0⟩, ⟨%d1, H1⟩, ⟨%d2, H2⟩, ⟨%d3, H3⟩, ⟨%d4, H4⟩, ⟨%d5, H5⟩⟩
      iapply (lastBlock c (grid0.coords t) _ _ _ _ _ _ _ _ _ _ _ _ _ _ hf hl (hgBlk m c t) (lbBlk m c t) (gwBlk m c t) (before m c t.val) Set.univ _)
      isplitl [H0]; · iexact H0
      isplitl [H2]; · iexact H2
      isplitl [H3]; · iexact H3
      isplitl [H4]; · iexists _; iexact H4
      isplitl [H5]; · iexists _; iexact H5
      isplitl [HS]; · iexact HS
      iintro ⟨H0, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬last (grid0.coords t) := fun h => h1 ((last_iff t).mp h)
      rw [Dat.leavesExact_idle (dats m 0 c) 5 t (idle_else t hl) (no_flush t hl)]
      unfold rowsOut; rw [← after_eq]
      iintro ⟨⟨HS, Hg⟩, Ho, ⟨%d0, H0⟩, ⟨%d1, H1⟩, ⟨%d2, H2⟩, ⟨%d3, H3⟩, ⟨%d4, H4⟩, ⟨%d5, H5⟩⟩
      iapply (middle c (grid0.coords t) _ _ _ _ _ _ _ _ _ _ _ _ _ _ hf hl (hgBlk m c t) (lbBlk m c t) (gwBlk m c t) (before m c t.val) Set.univ _)
      isplitl [H0]; · iexact H0
      isplitl [H2]; · iexact H2
      isplitl [H3]; · iexact H3
      isplitl [H4]; · iexists _; iexact H4
      isplitl [HS]; · iexact HS
      iintro ⟨H0, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, body_row]
  exact triple_restated (body m c t) rfl .rfl fun _ => .rfl

/-! ## The run -/

theorem hout : (dats m 0 c).Φ (Fin.last cfg0.N) ⊢ Pipeline.ΦA spec0 c := inv_forget m c _ (Nat.le_refl _)

set_option backward.isDefEq.respectTransparency.types false in
/-- The whole run: every array ends at what the points' buffers make of it, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => Entails.refl _) (hout := hout m)

end Cert.Proof.Hg

end
-- ==== Proof.RefRun.lean ====
/- The reference's run, read as a recurrence: its chunk scan keeps a state, one trip sends the state to the next, and
   the results are the fields of the state after 128 trips. -/
module

public import proofs.«01_k».proof.Proof.Gen.ReferenceIdeal.Run
public import proofs.«01_k».proof.Proof.Gen.ReferenceIdeal.Step

@[expose] public section

set_option maxRecDepth 16384

noncomputable section

namespace Cert.Proof.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]

/-- The scan's carried arrays, read off the buffers that carry them. -/
def stateOf (V : Valuation τ sig (Elt F)) : State F :=
  ⟨V (Proc.devRef .tc main_v65_6), V (Proc.devRef .tc main_v65_7), V (Proc.devRef .tc main_v65_0),
    V (Proc.devRef .tc main_v65_1), V (Proc.devRef .tc main_v65_2), V (Proc.devRef .tc main_v65_3)⟩

/-- The buffers before trip `j`: the trip's number is `j`, and the causal mask is the one computed before the scan. -/
structure At (j : ℕ) (V : Valuation τ sig (Elt F)) : Prop where
  num : V (Proc.devRef .tc main_v65_5) = constantI S_ 32 (BitVec.ofNat 32 j)
  mask : V (Proc.devRef .tc main_v65_4) = Step.K_main_v55 (F := F)

theorem trip_state {j : ℕ} {V : Valuation τ sig (Elt F)} (h : At j V) :
    step_main_v65_6 V = Step.b64 j (stateOf V) := by
  unfold step_main_v65_6 res_main_while0b_v111 res_main_while0b_v89 res_main_while0b_v87 res_main_while0b_v86
  rw [h.num]
  rfl

theorem trip_rows {j : ℕ} {V : Valuation τ sig (Elt F)} (h : At j V) :
    step_main_v65_7 V = Step.b71 j (stateOf V) := by
  unfold step_main_v65_7 res_main_while0b_v89 res_main_while0b_v87 res_main_while0b_v86 res_main_while0b_v85
  rw [h.num, h.mask]
  rfl

theorem at_succ {j : ℕ} {V : Valuation τ sig (Elt F)} (h : At j V) : At (j + 1) (STEP V) where
  num := (STEP_main_v65_5 V).trans (by
    unfold step_main_v65_5
    rw [h.num]
    funext i
    show BitVec.ofNat 32 j + 1#32 = BitVec.ofNat 32 (j + 1)
    simp only [BitVec.ofNat_add])
  mask := (STEP_main_v65_4 V).trans h.mask

theorem stateOf_STEP {j : ℕ} {V : Valuation τ sig (Elt F)} (h : At j V) :
    stateOf (STEP V) = Step.step j (stateOf V) := by
  unfold Step.step stateOf
  rw [STEP_main_v65_6, STEP_main_v65_7, STEP_main_v65_0, STEP_main_v65_1, STEP_main_v65_2, STEP_main_v65_3,
    trip_state h, trip_rows h]
  rfl

variable (m : (ℓ : Loc nD τ sig) → Buf (Elt F) ℓ) (c : Dev nD)

/-- The state the scan starts from. -/
abbrev start : State F :=
  Step.init (m ((c.tc : Thread nD τ).loc main_arg1)) (m ((c.tc : Thread nD τ).loc main_arg0))
    (m ((c.tc : Thread nD τ).loc main_arg2))

/-- The state before trip `k`. -/
def states (s : State F) : ℕ → State F
  | 0 => s
  | k + 1 => Step.step k (states s k)

set_option maxHeartbeats 1000000 in
theorem entry_at : At 0 (entryContents preI m c) := by
  constructor <;> (simp only [entryContents, afterL_cons, afterL_nil]; after_reads_simp) <;> rfl

set_option maxHeartbeats 1000000 in
theorem entry_state : stateOf (entryContents preI m c) = start m c := by
  unfold stateOf start Step.init
  congr 1 <;> (simp only [entryContents, afterL_cons, afterL_nil]; after_reads_simp) <;> rfl

theorem iterate_at : ∀ k, At k (STEP^[k] (entryContents preI m c))
    ∧ stateOf (STEP^[k] (entryContents preI m c)) = states (start m c) k
  | 0 => ⟨entry_at m c, entry_state m c⟩
  | k + 1 => by
    rw [Function.iterate_succ_apply']
    have h := iterate_at k
    exact ⟨at_succ h.1, (stateOf_STEP h.1).trans (by rw [h.2]; rfl)⟩

theorem out_eq {V : Valuation τ sig (Elt F)} {x0 : (⟨S8x2048x2048, .f32⟩ : BufTy).Contents (Elt F)}
    (h0 : V (Proc.devRef .tc main_arg0) = x0) {x3 : (⟨S128, .f32⟩ : BufTy).Contents (Elt F)}
    (h3 : V (Proc.devRef .tc main_arg3) = x3) : out_main_v84 V = Step.R_main_v84 (stateOf V) x0 x3 := by
  unfold out_main_v84 Step.R_main_v84
  rw [h0, h3]
  rfl

/-- The reference runs to the end; its two results are read off the state after the last trip, its arguments are kept. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v84) = Step.R_main_v84 (states (start m c) 128)
        (m ((c.tc : Thread nD τ).loc main_arg0)) (m ((c.tc : Thread nD τ).loc main_arg3))
      ∧ r.2.mem ((c.tc : Thread nD τ).loc main_v65_6) = (states (start m c) 128).main_v65_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := (iterate_at m c 128).2
    ⟨(h c).1.trans ((out_eq (iter_main_arg0 m c 128) (iter_main_arg3 m c 128)).trans (by rw [hk])),
      (h c).2.1.trans (congrArg State.main_v65_6 hk), (h c).2.2⟩) (Value.run m ρ)

end Cert.Proof.Ref

end
-- ==== Proof.Frames.lean ====
/- The three programs run, keep their arguments and end with every counter at zero. The kernel and its idealized form are one
   run read at two kinds of numbers. -/
module

public import proofs.«01_k».proof.Defs
public import proofs.«01_k».proof.Proof.Launch
public import proofs.«01_k».proof.Proof.RefRun
public import proofs.«01_k».proof.Proof.Gen.Kernel
public import Idealize.ShloMosaic.Lib.Claim

@[expose] public section

set_option maxRecDepth 16384

noncomputable section

namespace Cert.Proof

open Idealize.ShloMosaic Idealize.ShloMosaic.TcCoe Idealize.SL Idealize.SL.Sem

section
open Cert.KernelIdeal Cert.KernelIdeal.Gen
variable {F : FTy → Type} [FloatOps F] (m : (ℓ : Loc nD τ sig) → Buf (Elt F) ℓ) (ρ : Dev nD → PrngReg)

/-- The kernel's run: its results are what the points left in the arrays of the last two windows. -/
theorem kernel_run : θ_run defs (onTc (τ := τ) (main (F := F))) ⟨m, fun _ => 0, ρ⟩ (fun r => (∀ c : Dev nD,
      r.2.mem ((c.tc : Thread nD τ).loc main_v22_0) = (Hg.dats m 0 c).arrAt 4 cfg0.N
      ∧ r.2.mem ((c.tc : Thread nD τ).loc main_v22_1) = (Hg.dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.2.1 c).1 4, (h.2.1 c).1 5, h.1 c⟩, h.2.2⟩)
    (θ_run_and (frame_of m ρ (Hg.dats m) (Hg.A_eq m) ((θ_run defs _ _).mono (fun _ h => h.1) (Hg.run_main m ρ))) (Hg.run_main m ρ))
end

section
attribute [local instance] Cert.Kernel.Gen.facts
variable {F : FTy → Type} [FloatOps F]

/-- The two programs' tables of bodies are one. -/
theorem tables : Cert.Kernel.defs (F := F) = Cert.KernelIdeal.defs :=
  congrArg (Pipeline.defs (Cert.KernelIdeal.pcfgs (F := F))) (congrArg Defs.onTc (funext fun l => funext fun a => match l, a with
    | 0, (t, s) => rfl
    | ⟨_ + 1, h⟩, _ => absurd h (Nat.not_lt.2 (Nat.le_add_left _ _))))
end

theorem frame_kernel : Cert.quiescent_Kernel (hKernel := Cert.Kernel.Gen.facts) := fun m ρ _ => by
  rw [tables]
  exact (θ_run Cert.KernelIdeal.defs _ _).mono (fun _ h => ⟨fun c => (h.1 c).2.2, h.2⟩) (kernel_run (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2.2, h.2⟩) (kernel_run (F := Ideal) m ρ)

theorem frame_reference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Ref.run (F := Ideal) m ρ)

end Cert.Proof

end
-- ==== Proof.Spec.lean ====
/- The recurrence over one chunk of sixteen steps as plain functions of extended reals, for one sequence and one head:
   the log decays' running sums, the attention within the chunk, the output rows and the state handed on. -/
module

public import Idealize.ShloMosaic.Lib.Pointwise

@[expose] public section

set_option maxRecDepth 16384

noncomputable section

namespace Cert.Proof.Spec

open Idealize.ShloMosaic

/-- The running sum of sixteen entries. -/
def pre (g : Fin 16 → EReal) (t : Fin 16) : EReal := ∑ s : Fin 16, if s ≤ t then g s else 0

def sig (x : EReal) : EReal := Ideal.div 1 (1 + Ideal.exp (-x))

/-- The logarithm of a step's decay. -/
def gate (lb f : EReal) : EReal := Ideal.log (lb + (1 - lb) * sig f)

/-- A step's key. -/
def key (lb f : EReal) : EReal := (1 - lb) * sig (-f)

/-- The attention of query `t` to key `s`. -/
def att (q k b : Fin 16 → Fin 128 → EReal) (t s : Fin 16) : EReal :=
  if s ≤ t then ∑ d : Fin 128, q t d * k s d * Ideal.exp (b t d - b s d) else 0

/-- A row of the chunk's output before its normalisation. -/
def outAt (q k v b : Fin 16 → Fin 128 → EReal) (S : Fin 128 → Fin 128 → EReal) (t : Fin 16) (e : Fin 128) : EReal :=
  (∑ d : Fin 128, q t d * Ideal.exp (b t d) * S d e) + ∑ s : Fin 16, att q k b t s * v s e

/-- The state handed to the next chunk. -/
def next (k v b : Fin 16 → Fin 128 → EReal) (S : Fin 128 → Fin 128 → EReal) (d e : Fin 128) : EReal :=
  S d e * Ideal.exp (b 15 d) + ∑ s : Fin 16, k s d * Ideal.exp (b 15 d - b s d) * v s e

/-- A row normalised, weighted and gated. -/
def finish (gw g o : Fin 128 → EReal) (e : Fin 128) : EReal :=
  o e * Ideal.rsqrt (Ideal.div (∑ d : Fin 128, o d * o d) (Ideal.ofBits .f32 0x43000000#32) + Ideal.ofBits .f32 0x358637BD#32) *
    gw e * (g e * sig (g e))

/-! ### The running sum by doubling -/

def roll (n : ℕ) (g : Fin 16 → EReal) (t : Fin 16) : EReal :=
  g t + if n ≤ t.val then g ⟨(t.val + 16 - n) % 16, Nat.mod_lt _ (by decide)⟩ else 0

theorem roll_pre_nat (G : ℕ → EReal) (t : Fin 16) :
    roll 8 (roll 4 (roll 2 (roll 1 fun s => G s.val))) t = pre (fun s => G s.val) t := by
  unfold pre
  fin_cases t <;> simp [roll, Fin.sum_univ_succ, Fin.le_def] <;> ac_rfl

theorem roll_pre (g : Fin 16 → EReal) (t : Fin 16) : roll 8 (roll 4 (roll 2 (roll 1 g))) t = pre g t := by
  have e : g = fun s : Fin 16 => (fun n : ℕ => if h : n < 16 then g ⟨n, h⟩ else 0) s.val := by
    funext s; simp
  rw [e]; exact roll_pre_nat (fun n : ℕ => if h : n < 16 then g ⟨n, h⟩ else 0) t

/-! ### The decays never grow -/

/-- What a lower bound made by a softmax's running sum can be: a real between nought and one, or the bottom element. -/
def Good (lb : EReal) : Prop := lb = ⊥ ∨ ∃ r : ℝ, 0 ≤ r ∧ r ≤ 1 ∧ lb = (r : EReal)

theorem sig_mem (x : EReal) : ∃ r : ℝ, 0 ≤ r ∧ r ≤ 1 ∧ sig x = (r : EReal) := by
  have e : sig x = Ideal.logistic x := rfl
  rw [e]
  induction x with
  | bot => exact ⟨0, le_rfl, zero_le_one, by simp⟩
  | top => exact ⟨1, zero_le_one, le_rfl, by simp⟩
  | coe r =>
    have h : 0 < Real.exp (-r) := Real.exp_pos _
    refine ⟨(1 + Real.exp (-r))⁻¹, by positivity, ?_, Ideal.logistic_coe r⟩
    exact inv_le_one_of_one_le₀ (by linarith)

theorem gate_nonpos {lb : EReal} (h : Good lb) (f : EReal) : gate lb f ≤ 0 := by
  obtain ⟨s, hs0, hs1, hs⟩ := sig_mem f
  unfold gate
  rw [hs]
  rcases h with rfl | ⟨r, hr0, hr1, rfl⟩
  · rw [EReal.bot_add]
    exact bot_le
  · have e : (r : EReal) + (1 - (r : EReal)) * (s : EReal) = ((r + (1 - r) * s : ℝ) : EReal) := by
      push_cast
      rfl
    rw [e, Ideal.log_coe]
    split
    · exact bot_le
    · rw [← EReal.coe_zero, EReal.coe_le_coe_iff]
      refine Real.log_nonpos (by nlinarith) (by nlinarith)

theorem pre_sub (g : Fin 16 → EReal) (hg : ∀ s, g s ≤ 0) {s t : Fin 16} (h : s ≤ t) : pre g t - pre g s ≤ 0 := by
  have e : pre g t ≤ pre g s := by
    unfold pre
    refine Finset.sum_le_sum fun i _ => ?_
    by_cases hi : i ≤ s
    · rw [if_pos hi, if_pos (hi.trans h)]
    · rw [if_neg hi]
      split
      · exact hg i
      · exact le_rfl
  exact (EReal.sub_le_sub e le_rfl).trans (EReal.sub_self_le_zero)

end Cert.Proof.Spec

end
-- ==== Proof.RefValue.lean ====
/- One trip of the reference's scan at the extended reals, entry by entry: it is the recurrence of `Spec`. -/
module

public import proofs.«01_k».proof.Proof.Gen.ReferenceIdeal.Step
public import proofs.«01_k».proof.Proof.Spec
public import Idealize.ShloMosaic.Lib.DynamicIndex

@[expose] public section

set_option maxRecDepth 16384

noncomputable section

namespace Cert.Proof.Ref

open Idealize.ShloMosaic Idealize.ShloMosaic.TcCoe
open Cert.ReferenceIdeal Cert.ReferenceIdeal.Gen Cert.ReferenceIdeal.Step

theorem foldl_add {n : ℕ} (f : Fin n → EReal) (v : EReal) :
    (List.finRange n).foldl (fun r i => r + f i) v = v + ∑ i, f i := by
  rw [Fin.sum_univ_def]
  generalize List.finRange n = L
  induction L generalizing v with
  | nil => simp
  | cons a L ih => rw [List.foldl_cons, ih, List.map_cons, List.sum_cons, add_assoc]

theorem window_nat (G : ℕ → EReal) (t : Fin 16) :
    (∑ w : Fin 16, if 15 ≤ t.val + w.val then G (t.val + w.val - 15) else 0) = Spec.pre (fun s => G s.val) t := by
  unfold Spec.pre
  fin_cases t <;> simp [Fin.sum_univ_succ, Fin.le_def]

theorem cumsum_apply (x : FVec Ideal S8x16x4x128 .f32) (init : FVec Ideal S_ .f32) (hi : init (Shape.Idx.first h_S_) = 0)
    (b : Fin 8) (t : Fin 16) (h : Fin 4) (d : Fin 128) :
    Host.reduceWindowAdd ![1, 16, 1, 1] ![1, 1, 1, 1] ![0, 15, 0, 0] ![0, 0, 0, 0] x init
      reduceWindows_S8x16x4x128_S8x16x4x128_w1s1p0_0_w16s1p15_0_w1s1p0_0_w1s1p0_0 h_S_ (ix4 b t h d) =
    Spec.pre (fun s => x (ix4 b s h d)) t := by
  show Host.reduceWindow (· + ·) ![1, 16, 1, 1] ![1, 1, 1, 1] ![0, 15, 0, 0] ![0, 0, 0, 0] x
    (fun _ : (⟨0, ![]⟩ : Shape).Idx => init (Shape.Idx.first h_S_))
    reduceWindows_S8x16x4x128_S8x16x4x128_w1s1p0_0_w16s1p15_0_w1s1p0_0_w1s1p0_0 (by decide) (ix4 b t h d) = _
  unfold Host.reduceWindow
  simp only [hi]
  rw [foldl_add, zero_add]
  have step : ∀ w : (⟨4, ![1, 16, 1, 1]⟩ : Shape).Idx,
      (if hin : ∀ a : Fin 4, (![0, 15, 0, 0] : Fin 4 → ℕ) a ≤ (ix4 b t h d a).val * (![1, 1, 1, 1] : Fin 4 → ℕ) a + (w a).val ∧
          (ix4 b t h d a).val * (![1, 1, 1, 1] : Fin 4 → ℕ) a + (w a).val - (![0, 15, 0, 0] : Fin 4 → ℕ) a < S8x16x4x128.size a then
        x (fun a => ⟨(ix4 b t h d a).val * (![1, 1, 1, 1] : Fin 4 → ℕ) a + (w a).val - (![0, 15, 0, 0] : Fin 4 → ℕ) a, (hin a).2⟩)
      else 0) =
      if 15 ≤ t.val + (w 1).val then
        (fun n : ℕ => if h' : n < 16 then x (ix4 b ⟨n, h'⟩ h d) else 0) (t.val + (w 1).val - 15) else 0 := by
    intro w
    have w0 : (w 0).val = 0 := by have : (w 0).val < 1 := (w 0).isLt; omega
    have w1 : (w 1).val < 16 := (w 1).isLt
    have w2 : (w 2).val = 0 := by have : (w 2).val < 1 := (w 2).isLt; omega
    have w3 : (w 3).val = 0 := by have : (w 3).val < 1 := (w 3).isLt; omega
    have lt := t.isLt
    by_cases hw : 15 ≤ t.val + (w 1).val
    · have hin : ∀ a : Fin 4, (![0, 15, 0, 0] : Fin 4 → ℕ) a ≤ (ix4 b t h d a).val * (![1, 1, 1, 1] : Fin 4 → ℕ) a + (w a).val ∧
          (ix4 b t h d a).val * (![1, 1, 1, 1] : Fin 4 → ℕ) a + (w a).val - (![0, 15, 0, 0] : Fin 4 → ℕ) a < S8x16x4x128.size a := by
        intro a
        fin_cases a
        · refine ⟨Nat.zero_le _, ?_⟩
          show b.val * 1 + (w 0).val - 0 < 8
          omega
        · refine ⟨?_, ?_⟩
          · show 15 ≤ t.val * 1 + (w 1).val
            omega
          · show t.val * 1 + (w 1).val - 15 < 16
            omega
        · refine ⟨Nat.zero_le _, ?_⟩
          show h.val * 1 + (w 2).val - 0 < 4
          omega
        · refine ⟨Nat.zero_le _, ?_⟩
          show d.val * 1 + (w 3).val - 0 < 128
          omega
      rw [dif_pos hin, if_pos hw]
      simp only
      rw [dif_pos (by omega)]
      congr 1
      funext a
      fin_cases a
      · exact Fin.ext (show b.val * 1 + (w 0).val - 0 = b.val by omega)
      · exact Fin.ext (show t.val * 1 + (w 1).val - 15 = t.val + (w 1).val - 15 by omega)
      · exact Fin.ext (show h.val * 1 + (w 2).val - 0 = h.val by omega)
      · exact Fin.ext (show d.val * 1 + (w 3).val - 0 = d.val by omega)
    · rw [if_neg hw, dif_neg fun hin => hw ?_]
      have := (hin 1).1
      have e : (15 : ℕ) ≤ t.val * 1 + (w 1).val := this
      omega
  refine (Finset.sum_congr rfl fun n _ => step ((Shape.rowMajor ⟨4, ![1, 16, 1, 1]⟩).symm n)).trans ?_
  refine (Equiv.sum_comp (Shape.rowMajor ⟨4, ![1, 16, 1, 1]⟩).symm (fun w : (⟨4, ![1, 16, 1, 1]⟩ : Shape).Idx =>
    if 15 ≤ t.val + (w 1).val then
        (fun n : ℕ => if h' : n < 16 then x (ix4 b ⟨n, h'⟩ h d) else 0) (t.val + (w 1).val - 15) else 0)).trans ?_
  rw [sum_idx4]
  simp only [Fin.sum_univ_one]
  refine (window_nat (fun n : ℕ => if h' : n < 16 then x (ix4 b ⟨n, h'⟩ h d) else 0) t).trans ?_
  congr 1
  funext s
  exact dif_pos s.isLt

theorem shapeCast_drop (x : FVec Ideal S1x8x16x4x128 .f32) (b : Fin 8) (t : Fin 16) (h : Fin 4) (d : Fin 128) :
    shapeCast S8x16x4x128 x shapeCasts_S1x8x16x4x128_S8x16x4x128 (ix4 b t h d) = x (ix5 0 b t h d) := by
  pointwise

theorem low_word : Ideal.ofBits .f32 0xFF800000#32 = ⊥ := by
  simp [Ideal.ofBits, Ideal.ieee]

section
variable (j : ℕ) (hj : j < 128) (s : State Ideal)

/-- A chunk read at a trip's number. -/
theorem slice_apply (x : FVec Ideal S128x8x16x4x128 .f32) (off : Fin 5 → ℤ) (h0 : off = ![(j : ℤ), 0, 0, 0, 0]) (z : Fin 1)
    (b : Fin 8) (t : Fin 16) (h : Fin 4) (d : Fin 128) :
    Host.dynamicSlice S1x8x16x4x128 x off sliceFits_S128x8x16x4x128_S1x8x16x4x128 (ix5 z b t h d) = x (ix5 ⟨j, hj⟩ b t h d) := by
  have hs : S128x8x16x4x128.Slices (![j, 0, 0, 0, 0] : Fin 5 → ℕ) S1x8x16x4x128 :=
    ⟨rfl, fun a => by
      fin_cases a
      · show j + 1 ≤ 128
        omega
      · exact (by decide : 0 + 8 ≤ 8)
      · exact (by decide : 0 + 16 ≤ 16)
      · exact (by decide : 0 + 4 ≤ 4)
      · exact (by decide : 0 + 128 ≤ 128)⟩
  rw [Host.dynamicSlice_eq_extractStridedSlice S1x8x16x4x128 x off ![j, 0, 0, 0, 0] _ hs (fun a => by
    rw [h0]; fin_cases a <;> rfl)]
  pointwise

include hj in
theorem starts : (fun k => (((![(constantI S_ 32 (BitVec.ofNat 32 j) : (⟨S_, .i32⟩ : BufTy).Contents (Elt Ideal)),
      constantI S_ 32 0#32, constantI S_ 32 0#32, constantI S_ 32 0#32, constantI S_ 32 0#32] :
      Fin 5 → (⟨S_, .i32⟩ : BufTy).Contents (Elt Ideal))) k (Shape.Idx.first h_S_)).toInt) = ![(j : ℤ), 0, 0, 0, 0] := by
  funext k
  fin_cases k
  · show (BitVec.ofNat 32 j).toInt = (j : ℤ)
    rw [BitVec.toInt_eq_toNat_cond, BitVec.toNat_ofNat, Nat.mod_eq_of_lt (by omega)]
    split <;> omega
  all_goals rfl

theorem b5_apply (b : Fin 8) (t : Fin 16) (h : Fin 4) (d : Fin 128) : b5 j s (ix4 b t h d) = s.main_v65_0 (ix5 ⟨j, hj⟩ b t h d) := by
  refine Eq.trans ?_ (slice_apply j hj s.main_v65_0 _ (starts j hj) 0 b t h d)
  unfold b5
  exact shapeCast_drop _ b t h d
theorem b11_apply (b : Fin 8) (t : Fin 16) (h : Fin 4) (d : Fin 128) : b11 j s (ix4 b t h d) = s.main_v65_1 (ix5 ⟨j, hj⟩ b t h d) := by
  refine Eq.trans ?_ (slice_apply j hj s.main_v65_1 _ (starts j hj) 0 b t h d)
  unfold b11
  exact shapeCast_drop _ b t h d
theorem b17_apply (b : Fin 8) (t : Fin 16) (h : Fin 4) (d : Fin 128) : b17 j s (ix4 b t h d) = s.main_v65_2 (ix5 ⟨j, hj⟩ b t h d) := by
  refine Eq.trans ?_ (slice_apply j hj s.main_v65_2 _ (starts j hj) 0 b t h d)
  unfold b17
  exact shapeCast_drop _ b t h d
theorem b23_apply (b : Fin 8) (t : Fin 16) (h : Fin 4) (d : Fin 128) : b23 j s (ix4 b t h d) = s.main_v65_3 (ix5 ⟨j, hj⟩ b t h d) := by
  refine Eq.trans ?_ (slice_apply j hj s.main_v65_3 _ (starts j hj) 0 b t h d)
  unfold b23
  exact shapeCast_drop _ b t h d

theorem b26_apply (b : Fin 8) (t : Fin 16) (h : Fin 4) (d : Fin 128) :
    b26 j s (ix4 b t h d) = Spec.pre (fun u => s.main_v65_3 (ix5 ⟨j, hj⟩ b u h d)) t := by
  unfold b26
  rw [cumsum_apply]
  · congr 1
    funext u
    exact b23_apply j hj s b u h d
  · unfold b25 b24
    pointwise

theorem mask_apply (t u : Fin 16) : K_main_v55 (F := Ideal) (ix5 0 t u 0 0) = if u ≤ t then 1#1 else 0#1 := by
  have e : K_main_v55 (F := Ideal) (ix5 0 t u 0 0) =
      Scalar.select (IntOp.cmpi .sge (BitVec.ofNat 32 t.val + 0#32) (BitVec.ofNat 32 u.val)) 1#1 0#1 := by
    pointwise [K_main_v55, K_main_v54, K_main_v53, K_main_c, K_main_call1_v0, K_main_call1_c, K_main_call1_v1, K_main_call1_v2, K_main_call1_v3,
      K_main_call1_v4, K_main_call1_c_0, K_main_call1_v5]
    rfl
  rw [e]
  revert t u
  decide

end

section
variable (j : ℕ) (s : State Ideal)

theorem b30_apply (b : Fin 8) (t : Fin 16) (h : Fin 4) (e : Fin 128) : b30 j s (ix4 b t h e) =
    ∑ d : Fin 128, b5 j s (ix4 b t h d) * Ideal.exp (b26 j s (ix4 b t h d)) * s.main_v65_6 (ix4 b h d e) := by
  pointwise [b30, b29, b28, b27]
  exact Finset.sum_congr rfl fun d _ => mul_comm _ _

theorem b49_apply (b : Fin 8) (t u : Fin 16) (h : Fin 4) : b49 j s (ix4 b t u h) =
    Spec.att (fun t d => b5 j s (ix4 b t h d)) (fun t d => b11 j s (ix4 b t h d)) (fun t d => b26 j s (ix4 b t h d)) t u := by
  unfold Spec.att
  pointwise [b49, b48, b47, b46, b45, b44, b43, b42, b41, b40, b39, b38, b37, b36, b35, b34, b33, b32, b31]
  rw [mask_apply]
  split
  · exact Finset.sum_congr rfl fun d _ => rfl
  · refine Finset.sum_eq_zero fun d _ => ?_
    show _ * Ideal.exp (Ideal.ofBits .f32 0xFF800000#32) = 0
    rw [low_word, Ideal.exp_bot, mul_zero]

theorem b51_apply (b : Fin 8) (t : Fin 16) (h : Fin 4) (e : Fin 128) : b51 j s (ix4 b t h e) =
    ∑ u : Fin 16, b49 j s (ix4 b t u h) * b17 j s (ix4 b u h e) := by
  pointwise [b51, b50]
  exact Finset.sum_congr rfl fun d _ => mul_comm _ _

theorem b65_apply (b : Fin 8) (t : Fin 16) (h : Fin 4) (e : Fin 128) : b65 j s (ix4 b t h e) =
    Spec.outAt (fun t d => b5 j s (ix4 b t h d)) (fun t d => b11 j s (ix4 b t h d)) (fun t d => b17 j s (ix4 b t h d))
      (fun t d => b26 j s (ix4 b t h d)) (fun d e => s.main_v65_6 (ix4 b h d e)) t e := by
  unfold Spec.outAt
  pointwise [b65]
  rw [b30_apply, b51_apply]
  simp only [b49_apply]

theorem b64_apply (b : Fin 8) (h : Fin 4) (d e : Fin 128) : b64 j s (ix4 b h d e) =
    Spec.next (fun t d => b11 j s (ix4 b t h d)) (fun t d => b17 j s (ix4 b t h d))
      (fun t d => b26 j s (ix4 b t h d)) (fun d e => s.main_v65_6 (ix4 b h d e)) d e := by
  unfold Spec.next
  pointwise [b64, b63, b62, b61, b60, b59, b58, b57, b56, b55, b54, b53, b52]
  rw [mul_comm]

end

end Cert.Proof.Ref

end
-- ==== Proof.KernelValue.lean ====
/- The kernel's chunk functions at the extended reals, entry by entry: they are the recurrence of `Spec`, the state held
   transposed. -/
module

public import proofs.«01_k».proof.Proof.Block
public import proofs.«01_k».proof.Proof.Spec

@[expose] public section

set_option maxRecDepth 16384

noncomputable section

namespace Cert.Proof.Hg

open Idealize.ShloMosaic Idealize.ShloMosaic.TcCoe
open Cert.KernelIdeal Cert.KernelIdeal.Gen

/-- Column `128 h + d` of the `o`-th group of 512. -/
abbrev col (o : Fin 4) (h : Fin 4) (d : Fin 128) : Fin 2048 := ⟨512 * o.val + (128 * h.val + d.val), by omega⟩
abbrev col1 (h : Fin 4) (d : Fin 128) : Fin 512 := ⟨128 * h.val + d.val, by omega⟩

theorem cols_apply (h : Fin 4) (x : FVec Ideal S16x512 .f32) (t : Fin 16) (d : Fin 128) : cols h x (ix2 t d) = x (ix2 t (col1 h d)) := by
  fin_cases h <;> (unfold cols; pointwise) <;> exact congrArg x (congrArg (ix2 t) (Fin.ext (by simp [col1])))

theorem col_zero (h : Fin 4) (d : Fin 128) (p : 128 * h.val + d.val < 2048) : (⟨128 * h.val + d.val, p⟩ : Fin 2048) = col 0 h d :=
  Fin.ext (by simp [col])
theorem col_one (h : Fin 4) (d : Fin 128) (p : 512 + (128 * h.val + d.val) < 2048) :
    (⟨512 + (128 * h.val + d.val), p⟩ : Fin 2048) = col 1 h d := Fin.ext (by simp [col])
theorem col_two (h : Fin 4) (d : Fin 128) (p : 1024 + (128 * h.val + d.val) < 2048) :
    (⟨1024 + (128 * h.val + d.val), p⟩ : Fin 2048) = col 2 h d := Fin.ext (by simp [col])
theorem col_three (h : Fin 4) (d : Fin 128) (p : 1536 + (128 * h.val + d.val) < 2048) :
    (⟨1536 + (128 * h.val + d.val), p⟩ : Fin 2048) = col 3 h d := Fin.ext (by simp [col])

variable (lb : Vec Ideal S1x512 .f32) (x : Vec Ideal S1x16x2048 .f32)

theorem qs_apply (t : Fin 16) (h : Fin 4) (d : Fin 128) : k0_pay14 x (ix2 t (col1 h d)) = x (ix3 0 t (col 0 h d)) := by
  pointwise [k0_pay14, k0_pay13]
  rw [col_zero]
theorem vs_apply (t : Fin 16) (h : Fin 4) (d : Fin 128) : k0_pay16 x (ix2 t (col1 h d)) = x (ix3 0 t (col 2 h d)) := by
  pointwise [k0_pay16, k0_pay13]
  rw [col_two]
theorem gs_apply (t : Fin 16) (h : Fin 4) (d : Fin 128) : k0_pay17 x (ix2 t (col1 h d)) = x (ix3 0 t (col 3 h d)) := by
  pointwise [k0_pay17, k0_pay13]
  rw [col_three]
theorem ks_apply (t : Fin 16) (h : Fin 4) (d : Fin 128) :
    k0_pay18 (k0_pay1 lb) x (ix2 t (col1 h d)) = Spec.key (lb (ix2 0 (col1 h d))) (x (ix3 0 t (col 1 h d))) := by
  unfold Spec.key Spec.sig
  pointwise [k0_pay18, k0_pay13, k0_pay1, k0_pay15]
  rw [zero_sub, col_one]
  rfl

/-- One stage of the running sum: a rotation by `n` rows, masked, added. -/
def rollV (n : BitVec 32) (y : FVec Ideal S16x512 .f32) : FVec Ideal S16x512 .f32 :=
  addf y (select (cmpi .sge rows512 (broadcast S16x512 n)) (dynamicRotate 0 n none y rotates_S16x512_d0)
    (broadcast S16x512 (Scalar.ofBits .f32 0x00000000#32)))

theorem sge_rows (n : Fin 16) (t : Fin 16) {α : Type} (a b : α) :
    Scalar.select (IntOp.cmpi .sge (BitVec.ofNat 32 t.val) (BitVec.ofNat 32 n.val)) a b = if n.val ≤ t.val then a else b := by
  have e : IntOp.cmpi .sge (BitVec.ofNat 32 t.val) (BitVec.ofNat 32 n.val) = if n.val ≤ t.val then 1#1 else 0#1 := by
    revert n t; decide
  rw [e]
  split <;> rfl

theorem rollV1 (y : FVec Ideal S16x512 .f32) (t : Fin 16) (c : Fin 512) : rollV 1#32 y (ix2 t c) = Spec.roll 1 (fun s => y (ix2 s c)) t := by
  unfold Spec.roll; pointwise [rollV]; exact congrArg (y (ix2 t c) + ·) (sge_rows 1 t _ _)
theorem rollV2 (y : FVec Ideal S16x512 .f32) (t : Fin 16) (c : Fin 512) : rollV 2#32 y (ix2 t c) = Spec.roll 2 (fun s => y (ix2 s c)) t := by
  unfold Spec.roll; pointwise [rollV]; exact congrArg (y (ix2 t c) + ·) (sge_rows 2 t _ _)
theorem rollV4 (y : FVec Ideal S16x512 .f32) (t : Fin 16) (c : Fin 512) : rollV 4#32 y (ix2 t c) = Spec.roll 4 (fun s => y (ix2 s c)) t := by
  unfold Spec.roll; pointwise [rollV]; exact congrArg (y (ix2 t c) + ·) (sge_rows 4 t _ _)
theorem rollV8 (y : FVec Ideal S16x512 .f32) (t : Fin 16) (c : Fin 512) : rollV 8#32 y (ix2 t c) = Spec.roll 8 (fun s => y (ix2 s c)) t := by
  unfold Spec.roll; pointwise [rollV]; exact congrArg (y (ix2 t c) + ·) (sge_rows 8 t _ _)

/-- The log decays of a chunk. -/
def logs : FVec Ideal S16x512 .f32 :=
  log (addf (broadcastTo S16x512 (k0_pay1 lb) broadcasts_S1x512_S16x512) (mulf
    (broadcastTo S16x512 (subf (broadcast S1x512 (Scalar.ofBits .f32 0x3F800000#32)) (k0_pay1 lb)) broadcasts_S1x512_S16x512)
    (logistic (k0_pay15 x))))

theorem logs_apply (t : Fin 16) (h : Fin 4) (d : Fin 128) :
    logs lb x (ix2 t (col1 h d)) = Spec.gate (lb (ix2 0 (col1 h d))) (x (ix3 0 t (col 1 h d))) := by
  unfold Spec.gate Spec.sig
  pointwise [logs, k0_pay13, k0_pay1, k0_pay15]
  rw [col_one]
  rfl

theorem bAll_eq : bAll rows512 lb x = rollV 8#32 (rollV 4#32 (rollV 2#32 (rollV 1#32 (logs lb x)))) := rfl

theorem bs_apply (t : Fin 16) (h : Fin 4) (d : Fin 128) :
    bAll rows512 lb x (ix2 t (col1 h d)) = Spec.pre (fun s => Spec.gate (lb (ix2 0 (col1 h d))) (x (ix3 0 s (col 1 h d)))) t := by
  rw [← Spec.roll_pre, bAll_eq, rollV8]
  simp only [rollV4, rollV2, rollV1, logs_apply]

/-! ### The head's functions, entry by entry -/

section
variable (q k v b : FVec Ideal S16x128 .f32) (st : FVec Ideal S128x128 .f32)

theorem newState_apply (e d : Fin 128) : newState k v b st (ix2 e d) =
    Spec.next (fun s d => k (ix2 s d)) (fun s e => v (ix2 s e)) (fun s d => b (ix2 s d)) (fun d e => st (ix2 e d)) d e := by
  unfold Spec.next
  pointwise [newState, row]
  exact congrArg _ (Finset.sum_congr rfl fun s _ => mul_comm _ _)

theorem inter_apply (t : Fin 16) (e : Fin 128) : inter q b st (ix2 t e) =
    ∑ d : Fin 128, q (ix2 t d) * Ideal.exp (b (ix2 t d)) * st (ix2 e d) := by
  pointwise [inter]

theorem score_apply (qi : FVec Ideal S8x128 .f32) (s : Fin 16) (dd : FVec Ideal S8x128 .f32) (r : Fin 8) (z : Fin 1) :
    score qi k s dd (ix2 r z) = ∑ d : Fin 128, qi (ix2 r d) * k (ix2 s d) * Ideal.exp (dd (ix2 r d)) := by
  pointwise [score, row8, row]

theorem addTerm_apply (s : Fin 16) (a : FVec Ideal S8x1 .f32) (acc : FVec Ideal S8x128 .f32) (r : Fin 8) (e : Fin 128) :
    addTerm v s a acc (ix2 r e) = acc (ix2 r e) + a (ix2 r 0) * v (ix2 s e) := by
  pointwise [addTerm, row8, row]

/-- The attention of the chunk's queries to its keys. -/
abbrev attOf (t s : Fin 16) : EReal := Spec.att (fun t d => q (ix2 t d)) (fun s d => k (ix2 s d)) (fun s d => b (ix2 s d)) t s

theorem far_apply (qi bi : FVec Ideal S8x128 .f32) (acc : FVec Ideal S8x128 .f32) (s : Fin 16) (r : Fin 8) (e : Fin 128) (t : Fin 16)
    (hq : ∀ d, qi (ix2 r d) = q (ix2 t d)) (hb : ∀ d, bi (ix2 r d) = b (ix2 t d)) (hs : s ≤ t) :
    far qi bi k v b acc s (ix2 r e) = acc (ix2 r e) + attOf q k b t s * v (ix2 s e) := by
  unfold far attOf Spec.att
  rw [addTerm_apply, score_apply, if_pos hs]
  congr 2
  refine Finset.sum_congr rfl fun d _ => ?_
  rw [hq]
  pointwise [row8, row]
  rw [hb]

theorem near_apply (rows : IVec S8x1 32) (qi bi : FVec Ideal S8x128 .f32) (acc : FVec Ideal S8x128 .f32) (s : Fin 16) (r : Fin 8)
    (e : Fin 128) (t : Fin 16) (hr : rows (ix2 r 0) = BitVec.ofNat 32 t.val)
    (hq : ∀ d, qi (ix2 r d) = q (ix2 t d)) (hb : ∀ d, bi (ix2 r d) = b (ix2 t d))
    (hm : ∀ s d, s ≤ t → b (ix2 t d) - b (ix2 s d) ≤ 0) :
    near rows qi bi k v b acc s (ix2 r e) = acc (ix2 r e) + attOf q k b t s * v (ix2 s e) := by
  unfold near attOf Spec.att
  rw [addTerm_apply]
  congr 2
  rw [show ∀ (c : IVec S8x1 1) (x y : FVec Ideal S8x1 .f32), select c x y (ix2 r 0) = Scalar.select (c (ix2 r 0)) (x (ix2 r 0)) (y (ix2 r 0)) from
    fun _ _ _ => rfl, score_apply]
  have e1 : cmpi .sge rows (broadcast S8x1 (BitVec.ofNat 32 s.val)) (ix2 r 0)
      = IntOp.cmpi .sge (BitVec.ofNat 32 t.val) (BitVec.ofNat 32 s.val) := by rw [← hr]; rfl
  rw [e1, sge_rows]
  by_cases hs : s ≤ t
  · rw [if_pos hs, if_pos (Fin.le_def.1 hs)]
    refine Finset.sum_congr rfl fun d _ => ?_
    rw [hq]
    pointwise [row8, row]
    rw [hb, min_eq_left (hm s d hs)]
  · rw [if_neg hs, if_neg fun h => hs (Fin.le_def.2 h)]
    pointwise

theorem foldl_apply (f : FVec Ideal S8x128 .f32 → Fin 16 → FVec Ideal S8x128 .f32) (g : Fin 16 → EReal) (r : Fin 8) (e : Fin 128)
    (L : List (Fin 16)) (h : ∀ acc, ∀ s ∈ L, f acc s (ix2 r e) = acc (ix2 r e) + g s) (acc : FVec Ideal S8x128 .f32) :
    List.foldl f acc L (ix2 r e) = acc (ix2 r e) + (L.map g).sum := by
  induction L generalizing acc with
  | nil => simp
  | cons a L ih =>
    rw [List.foldl_cons, ih (fun acc s hs => h acc s (List.mem_cons_of_mem _ hs)), h acc a List.mem_cons_self, List.map_cons,
      List.sum_cons, add_assoc]

theorem sum_halves (g : Fin 16 → EReal) : ∑ s : Fin 16, g s =
    (([0, 1, 2, 3, 4, 5, 6, 7] : List (Fin 16)).map g).sum + (([8, 9, 10, 11, 12, 13, 14, 15] : List (Fin 16)).map g).sum := by
  rw [← List.sum_append, ← List.map_append, Fin.sum_univ_def]
  rfl

theorem outLo_apply (hm : ∀ t s d, s ≤ t → b (ix2 t d) - b (ix2 s d) ≤ 0) (r : Fin 8) (e : Fin 128) :
    outLo rows1 q k v b st (ix2 r e) = Spec.outAt (fun t d => q (ix2 t d)) (fun s d => k (ix2 s d)) (fun s e => v (ix2 s e))
      (fun s d => b (ix2 s d)) (fun d e => st (ix2 e d)) ⟨r.val, by omega⟩ e := by
  unfold outLo Spec.outAt
  rw [foldl_apply _ (fun s => attOf q k b ⟨r.val, by omega⟩ s * v (ix2 s e)) r e _ (fun acc s _ =>
    near_apply q k v b _ _ _ acc s r e ⟨r.val, by omega⟩ (by pointwise) (fun d => by pointwise [lo8]) (fun d => by pointwise [lo8])
      (hm _)), sum_halves]
  rw [show lo8 (inter q b st) (ix2 r e) = inter q b st (ix2 ⟨r.val, by omega⟩ e) by pointwise [lo8], inter_apply]
  have z : ∀ s : Fin 16, 8 ≤ s.val → attOf q k b ⟨r.val, by omega⟩ s * v (ix2 s e) = 0 := fun s hs => by
    unfold attOf Spec.att
    rw [if_neg (by rw [Fin.le_def]; simp only; omega), zero_mul]
  have z' : (([8, 9, 10, 11, 12, 13, 14, 15] : List (Fin 16)).map fun s => attOf q k b ⟨r.val, by omega⟩ s * v (ix2 s e)).sum = 0 := by
    refine List.sum_eq_zero fun y hy => ?_
    obtain ⟨s, hs, rfl⟩ := List.mem_map.1 hy
    exact z s ((by decide : ∀ s ∈ ([8, 9, 10, 11, 12, 13, 14, 15] : List (Fin 16)), 8 ≤ s.val) s hs)
  rw [z', add_zero]

theorem outHi_apply (hm : ∀ t s d, s ≤ t → b (ix2 t d) - b (ix2 s d) ≤ 0) (r : Fin 8) (e : Fin 128) :
    outHi rows1 q k v b st (ix2 r e) = Spec.outAt (fun t d => q (ix2 t d)) (fun s d => k (ix2 s d)) (fun s e => v (ix2 s e))
      (fun s d => b (ix2 s d)) (fun d e => st (ix2 e d)) ⟨8 + r.val, by omega⟩ e := by
  unfold outHi Spec.outAt
  rw [foldl_apply _ (fun s => attOf q k b ⟨8 + r.val, by omega⟩ s * v (ix2 s e)) r e _ (fun acc s _ =>
    near_apply q k v b _ _ _ acc s r e ⟨8 + r.val, by omega⟩ (by pointwise) (fun d => by pointwise [hi8]) (fun d => by pointwise [hi8])
      (hm _)),
    foldl_apply _ (fun s => attOf q k b ⟨8 + r.val, by omega⟩ s * v (ix2 s e)) r e _ (fun acc s hs =>
    far_apply q k v b _ _ acc s r e ⟨8 + r.val, by omega⟩ (fun d => by pointwise [hi8]) (fun d => by pointwise [hi8]) (by
      have h7 : s.val < 8 := (by decide : ∀ s ∈ ([0, 1, 2, 3, 4, 5, 6, 7] : List (Fin 16)), s.val < 8) s hs
      rw [Fin.le_def]; simp only; omega)), sum_halves]
  rw [show hi8 (inter q b st) (ix2 r e) = inter q b st (ix2 ⟨8 + r.val, by omega⟩ e) by pointwise [hi8], inter_apply, add_assoc]

theorem out_apply (hm : ∀ t s d, s ≤ t → b (ix2 t d) - b (ix2 s d) ≤ 0) (t : Fin 16) (e : Fin 128) :
    out rows1 q k v b st (ix2 t e) = Spec.outAt (fun t d => q (ix2 t d)) (fun s d => k (ix2 s d)) (fun s e => v (ix2 s e))
      (fun s d => b (ix2 s d)) (fun d e => st (ix2 e d)) t e := by
  unfold out
  pointwise
  split
  · exact outLo_apply q k v b st hm _ e
  · rename_i h
    refine (outHi_apply q k v b st hm _ e).trans ?_
    congr 1
    apply Fin.ext
    simp only
    omega

theorem gated_apply (gw : Vec Ideal S1x128 .f32) (g o : FVec Ideal S16x128 .f32) (t : Fin 16) (e : Fin 128) :
    gated gw g o (ix2 t e) = Spec.finish (fun e => gw (ix2 0 e)) (fun e => g (ix2 t e)) (fun e => o (ix2 t e)) e := by
  unfold Spec.finish Spec.sig
  pointwise [gated, k0_pay2]
  rfl

end

/-! ### A chunk -/

/-- The chunk's queries, keys, values, running log decays and gates for head `h`. -/
abbrev qF (h : Fin 4) (t : Fin 16) (d : Fin 128) : EReal := x (ix3 0 t (col 0 h d))
abbrev kF (h : Fin 4) (t : Fin 16) (d : Fin 128) : EReal := Spec.key (lb (ix2 0 (col1 h d))) (x (ix3 0 t (col 1 h d)))
abbrev vF (h : Fin 4) (t : Fin 16) (d : Fin 128) : EReal := x (ix3 0 t (col 2 h d))
abbrev gF (h : Fin 4) (t : Fin 16) (d : Fin 128) : EReal := x (ix3 0 t (col 3 h d))
abbrev bF (h : Fin 4) (t : Fin 16) (d : Fin 128) : EReal :=
  Spec.pre (fun s => Spec.gate (lb (ix2 0 (col1 h d))) (x (ix3 0 s (col 1 h d)))) t

theorem chunkState_apply (h : Fin 4) (st : Vec Ideal S1x128x128 .f32) (e d : Fin 128) :
    chunkState rows512 lb x h st (ix3 0 e d) =
      Spec.next (kF lb x h) (vF x h) (bF lb x h) (fun d e => st (ix3 0 e d)) d e := by
  unfold chunkState
  pointwise
  rw [newState_apply]
  simp only [cols_apply, ks_apply, vs_apply, bs_apply]
  congr 1
  funext d e
  pointwise

theorem chunkOut_apply (gw : Vec Ideal S1x128 .f32) (h : Fin 4) (st : Vec Ideal S1x128x128 .f32)
    (hl : ∀ d, Spec.Good (lb (ix2 0 (col1 h d)))) (t : Fin 16) (e : Fin 128) :
    chunkOut rows512 rows1 lb gw x h st (ix3 0 t e) = Spec.finish (fun e => gw (ix2 0 e)) (gF x h t)
      (Spec.outAt (qF x h) (kF lb x h) (vF x h) (bF lb x h) (fun d e => st (ix3 0 e d)) t) e := by
  unfold chunkOut
  pointwise
  rw [gated_apply]
  have hm : ∀ t s d, s ≤ t → cols h (bAll rows512 lb x) (ix2 t d) - cols h (bAll rows512 lb x) (ix2 s d) ≤ 0 := fun t s d hs => by
    rw [cols_apply, cols_apply, bs_apply, bs_apply]
    exact Spec.pre_sub _ (fun s => Spec.gate_nonpos (hl d) _) hs
  simp only [out_apply _ _ _ _ _ hm]
  simp only [cols_apply, ks_apply, vs_apply, bs_apply, gs_apply, qs_apply]
  congr 1
  funext e
  congr 1
  funext d e
  pointwise

end Cert.Proof.Hg

end
-- ==== Proof.Whole.lean ====
module

public import proofs.«01_k».proof.Proof.KernelValue

/-!
The recurrence over whole sequences: 128 chunks of 16 rows, for each of the 8 sequences and the 4 heads.
-/

@[expose] public section

set_option maxRecDepth 16384

noncomputable section

namespace Cert.Proof.Spec

open Cert.Proof.Hg (col col1)

variable (hg : Fin 8 → Fin 2048 → Fin 2048 → EReal) (s0 : Fin 8 → Fin 4 → Fin 128 → Fin 128 → EReal)
variable (lb : Fin 512 → EReal) (gw : Fin 128 → EReal)

/-- Row `t` of chunk `n`. -/
def row (n : ℕ) (t : Fin 16) : Fin 2048 := ⟨16 * (n % 128) + t, by omega⟩

/-- The queries of a chunk. -/
def wq (b : Fin 8) (h : Fin 4) (n : ℕ) (t : Fin 16) (d : Fin 128) : EReal := hg b (row n t) (col 0 h d)
/-- The keys of a chunk. -/
def wk (b : Fin 8) (h : Fin 4) (n : ℕ) (t : Fin 16) (d : Fin 128) : EReal :=
  key (lb (col1 h d)) (hg b (row n t) (col 1 h d))
/-- The values of a chunk. -/
def wv (b : Fin 8) (h : Fin 4) (n : ℕ) (t : Fin 16) (d : Fin 128) : EReal := hg b (row n t) (col 2 h d)
/-- The logarithms of the forget gates, summed from the chunk's start. -/
def wb (b : Fin 8) (h : Fin 4) (n : ℕ) (t : Fin 16) (d : Fin 128) : EReal :=
  pre (fun u => gate (lb (col1 h d)) (hg b (row n u) (col 1 h d))) t

/-- The state before chunk `n`. -/
def wstate (b : Fin 8) (h : Fin 4) : ℕ → Fin 128 → Fin 128 → EReal
  | 0 => s0 b h
  | n + 1 => next (wk hg lb b h n) (wv hg b h n) (wb hg lb b h n) (wstate b h n)

/-- The row a chunk leaves before the norm. -/
def wrow (b : Fin 8) (h : Fin 4) (n : ℕ) (t : Fin 16) (e : Fin 128) : EReal :=
  outAt (wq hg b h n) (wk hg lb b h n) (wv hg b h n) (wb hg lb b h n) (wstate hg s0 lb b h n) t e

/-- One entry of the result. -/
def wout (b : Fin 8) (h : Fin 4) (n : ℕ) (t : Fin 16) (e : Fin 128) : EReal :=
  finish gw (fun e => hg b (row n t) (col 3 h e)) (wrow hg s0 lb b h n t) e

end Cert.Proof.Spec

end
-- ==== Proof.RefWhole.lean ====
module

public import proofs.«01_k».proof.Proof.RefValue
public import proofs.«01_k».proof.Proof.RefRun
public import proofs.«01_k».proof.Proof.Whole

/-! The reference's two results as the recurrence over whole sequences. -/

@[expose] public section

set_option maxRecDepth 16384

noncomputable section

namespace Cert.Proof.Ref

open Idealize.ShloMosaic Idealize.ShloMosaic.TcCoe
open Cert.ReferenceIdeal Cert.ReferenceIdeal.Gen Cert.ReferenceIdeal.Step
open Cert.Proof.Hg (col col1)

variable (a0 : FVec Ideal S8x2048x2048 .f32) (a1 : FVec Ideal S8x4x128x128 .f32) (a2 : FVec Ideal S2x512 .f32)
  (a3 : FVec Ideal S128 .f32)

/-- The fused projection by sequence, row and column. -/
def hgF (b : Fin 8) (r c : Fin 2048) : EReal := a0 (ix3 b r c)
/-- The state carried in. -/
def s0F (b : Fin 8) (h : Fin 4) (d e : Fin 128) : EReal := a1 (ix4 b h d e)
/-- The lower bounds. -/
def lbF (c : Fin 512) : EReal := A_main_v18 (F := Ideal) a0 a2 (ix1 c)
/-- The weights of the head norm. -/
def gwF (e : Fin 128) : EReal := a3 (ix1 e)

section Reads
variable (n : Fin 128) (b : Fin 8) (t : Fin 16) (h : Fin 4) (d : Fin 128)

theorem row_eq (p) : (⟨n.val * 16 + t.val, p⟩ : Fin 2048) = Spec.row n.val t :=
  Fin.ext (by simp only [Spec.row]; omega)

theorem col0_eq (p) : (⟨h.val * 128 + d.val, p⟩ : Fin 2048) = col 0 h d :=
  Fin.ext (by simp only [col]; omega)
theorem colS_eq (o : ℕ) (ho : o < 4) (p) : (⟨512 * o + (h.val * 128 + d.val), p⟩ : Fin 2048) = col ⟨o, ho⟩ h d :=
  Fin.ext (by simp only [col]; omega)
theorem colT_eq (p) : (⟨h.val * 128 + d.val, p⟩ : Fin 512) = col1 h d :=
  Fin.ext (by simp only [col1]; omega)

theorem v57_apply : A_main_v57 (F := Ideal) a0 a2 (ix5 n b t h d) = Spec.wq (hgF a0) b h n t d := by
  pointwise [A_main_v57, A_main_v56, A_main_v22, A_main_v19]
  rw [row_eq, col0_eq]; rfl

theorem v61_apply : A_main_v61 (F := Ideal) a0 a2 (ix5 n b t h d) = Spec.wv (hgF a0) b h n t d := by
  pointwise [A_main_v61, A_main_v60, A_main_v24, A_main_v21]
  rw [row_eq, show (⟨1024 + (h.val * 128 + d.val), by omega⟩ : Fin 2048) = col 2 h d from colS_eq h d 2 (by omega) _]; rfl

theorem v59_apply : A_main_v59 (F := Ideal) a0 a2 (ix5 n b t h d) = Spec.wk (hgF a0) (lbF a0 a2) b h n t d := by
  pointwise [A_main_v59, A_main_v58, A_main_v52, A_main_v51, A_main_v50, A_main_v49, K_main_v48, K_main_cst_7,
    A_main_v47, K_main_v46, K_main_cst_6, A_main_v45, A_main_v44, A_main_v43, A_main_v42, A_main_v23, A_main_v20,
    A_main_v25, K_main_v41, K_main_cst_5]
  rw [row_eq, show (⟨512 + (h.val * 128 + d.val), by omega⟩ : Fin 2048) = col 1 h d from colS_eq h d 1 (by omega) _,
    colT_eq]; rfl

theorem v63_apply : A_main_v63 (F := Ideal) a0 a2 (ix5 n b t h d)
    = Spec.gate (lbF a0 a2 (col1 h d)) (hgF a0 b (Spec.row n t) (col 1 h d)) := by
  pointwise [A_main_v63, A_main_v62, A_main_v40, A_main_v39, A_main_v38, A_main_v37, A_main_v36, A_main_v35,
    A_main_v34, A_main_v33, K_main_v32, K_main_cst_4, A_main_v31, K_main_v30, K_main_cst_3, A_main_v29, A_main_v28,
    A_main_v27, A_main_v23, A_main_v20, A_main_v25, K_main_v26, K_main_cst_2]
  rw [row_eq, show (⟨512 + (h.val * 128 + d.val), by omega⟩ : Fin 2048) = col 1 h d from colS_eq h d 1 (by omega) _,
    colT_eq]; rfl

end Reads

/-- The scan before trip `k`. -/
abbrev scan (k : ℕ) : State Ideal := states (init (F := Ideal) a1 a0 a2) k

theorem scan_q (k : ℕ) : (scan a0 a1 a2 k).main_v65_0 = A_main_v57 (F := Ideal) a0 a2 := by
  induction k with
  | zero => rfl
  | succ k ih => exact ih
theorem scan_k (k : ℕ) : (scan a0 a1 a2 k).main_v65_1 = A_main_v59 (F := Ideal) a0 a2 := by
  induction k with
  | zero => rfl
  | succ k ih => exact ih
theorem scan_v (k : ℕ) : (scan a0 a1 a2 k).main_v65_2 = A_main_v61 (F := Ideal) a0 a2 := by
  induction k with
  | zero => rfl
  | succ k ih => exact ih
theorem scan_f (k : ℕ) : (scan a0 a1 a2 k).main_v65_3 = A_main_v63 (F := Ideal) a0 a2 := by
  induction k with
  | zero => rfl
  | succ k ih => exact ih

section Trip
variable (k : ℕ) (hk : k < 128) (b : Fin 8) (h : Fin 4)
include hk

theorem q_eq : (fun (t : Fin 16) (d : Fin 128) => b5 k (scan a0 a1 a2 k) (ix4 b t h d)) = Spec.wq (hgF a0) b h k := by
  funext t d
  rw [b5_apply k hk, scan_q, v57_apply]
theorem k_eq : (fun (t : Fin 16) (d : Fin 128) => b11 k (scan a0 a1 a2 k) (ix4 b t h d))
    = Spec.wk (hgF a0) (lbF a0 a2) b h k := by
  funext t d
  rw [b11_apply k hk, scan_k, v59_apply]
theorem v_eq : (fun (t : Fin 16) (d : Fin 128) => b17 k (scan a0 a1 a2 k) (ix4 b t h d)) = Spec.wv (hgF a0) b h k := by
  funext t d
  rw [b17_apply k hk, scan_v, v61_apply]
theorem f_eq : (fun (t : Fin 16) (d : Fin 128) => b26 k (scan a0 a1 a2 k) (ix4 b t h d))
    = Spec.wb (hgF a0) (lbF a0 a2) b h k := by
  funext t d
  rw [b26_apply k hk, scan_f]
  unfold Spec.wb
  congr 1
  funext u
  rw [v63_apply]

end Trip

theorem state_eq (k : ℕ) (hk : k ≤ 128) (b : Fin 8) (h : Fin 4) :
    (fun (d e : Fin 128) => (scan a0 a1 a2 k).main_v65_6 (ix4 b h d e))
      = Spec.wstate (hgF a0) (s0F a1) (lbF a0 a2) b h k := by
  induction k with
  | zero => rfl
  | succ k ih =>
    funext d e
    have e1 : (scan a0 a1 a2 (k + 1)).main_v65_6 = b64 k (scan a0 a1 a2 k) := rfl
    rw [e1, b64_apply k, k_eq _ _ _ k hk, v_eq _ _ _ k hk, f_eq _ _ _ k hk, ih (by omega)]
    rfl

theorem row_out (k : ℕ) (hk : k < 128) (b : Fin 8) (t : Fin 16) (h : Fin 4) (e : Fin 128) :
    b65 k (scan a0 a1 a2 k) (ix4 b t h e) = Spec.wrow (hgF a0) (s0F a1) (lbF a0 a2) b h k t e := by
  rw [b65_apply k, q_eq _ _ _ k hk, k_eq _ _ _ k hk, v_eq _ _ _ k hk, f_eq _ _ _ k hk, state_eq _ _ _ k hk.le]
  rfl

/-! ## The rows as the scan lays them down -/

theorem b71_apply (k : ℕ) (hk : k < 128) (s : State Ideal) (n : Fin 128) (b : Fin 8) (t : Fin 16) (h : Fin 4) (e : Fin 128) :
    b71 k s (ix5 n b t h e) = if n.val = k then b65 k s (ix4 b t h e) else s.main_v65_7 (ix5 n b t h e) := by
  have hs : S128x8x16x4x128.Slices (![k, 0, 0, 0, 0] : Fin 5 → ℕ) S1x8x16x4x128 :=
    ⟨rfl, fun a => by
      fin_cases a
      · show k + 1 ≤ 128
        omega
      · exact (by decide : 0 + 8 ≤ 8)
      · exact (by decide : 0 + 16 ≤ 16)
      · exact (by decide : 0 + 4 ≤ 4)
      · exact (by decide : 0 + 128 ≤ 128)⟩
  unfold b71
  have st := starts k hk
  rw [show (fun i => (((![(constantI S_ 32 (BitVec.ofNat 32 k) : (⟨S_, .i32⟩ : BufTy).Contents (Elt Ideal)), b67 k s, b68 k s,
      b69 k s, b70 k s] : Fin 5 → (⟨S_, .i32⟩ : BufTy).Contents (Elt Ideal))) i (Shape.Idx.first h_S_)).toInt)
      = ![(k : ℤ), 0, 0, 0, 0] from st]
  rw [Host.dynamicUpdateSlice_eq_updateSlice _ _ _ _ ![k, 0, 0, 0, 0] (fun a => by
    fin_cases a
    · show (min (max (k : ℤ) 0) ((128 - 1 : ℕ) : ℤ)).toNat = k
      omega
    all_goals rfl) hs]
  rw [updateSlice_apply]
  by_cases hn : n.val = k
  · rw [if_pos hn, dif_pos (fun a => by
      fin_cases a
      · show k ≤ n.val ∧ n.val < k + 1
        omega
      · exact ⟨Nat.zero_le _, by show b.val < 0 + 8; omega⟩
      · exact ⟨Nat.zero_le _, by show t.val < 0 + 16; omega⟩
      · exact ⟨Nat.zero_le _, by show h.val < 0 + 4; omega⟩
      · exact ⟨Nat.zero_le _, by show e.val < 0 + 128; omega⟩)]
    refine (congrArg (b66 k s) (?_ : _ = ix5 (0 : Fin 1) b t h e)).trans ?_
    · funext a
      fin_cases a
      · exact Fin.ext (by show n.val - k = 0; omega)
      all_goals rfl
    · pointwise [b66]
  · rw [if_neg hn, dif_neg]
    intro hin
    have h0 : k ≤ n.val ∧ n.val < k + 1 := hin 0
    omega

theorem scan_rows (k : ℕ) (hk : k ≤ 128) (n : Fin 128) (hn : n.val < k) (b : Fin 8) (t : Fin 16) (h : Fin 4) (e : Fin 128) :
    (scan a0 a1 a2 k).main_v65_7 (ix5 n b t h e) = Spec.wrow (hgF a0) (s0F a1) (lbF a0 a2) b h n t e := by
  induction k with
  | zero => omega
  | succ k ih =>
    have e1 : (scan a0 a1 a2 (k + 1)).main_v65_7 = b71 k (scan a0 a1 a2 k) := rfl
    rw [e1, b71_apply k (by omega)]
    split
    · next hk' => rw [row_out _ _ _ k (by omega), hk']
    · exact ih (by omega) (by omega)

/-- The norm, the gate and the layout after the scan. -/
theorem finish_apply (s : State Ideal) (W : Fin 4 → ℕ → Fin 16 → Fin 128 → EReal) (b : Fin 8)
    (hs : ∀ (n : Fin 128) (t : Fin 16) (h : Fin 4) (e : Fin 128), s.main_v65_7 (ix5 n b t h e) = W h n t e)
    (t : Fin 2048) (x : Fin 512) :
    R_main_v84 s a0 a3 (ix3 b t x)
      = Spec.finish (gwF a3) (fun e => hgF a0 b (Spec.row (t.val / 16) ⟨t.val % 16, by omega⟩) (col 3 ⟨x.val / 128, by omega⟩ e))
        (W ⟨x.val / 128, by omega⟩ (t.val / 16) ⟨t.val % 16, by omega⟩) ⟨x.val % 128, by omega⟩ := by
  have hr : Spec.row (t.val / 16) ⟨t.val % 16, by omega⟩ = t := Fin.ext (by simp only [Spec.row]; omega)
  have hc : col 3 ⟨x.val / 128, by omega⟩ ⟨x.val % 128, by omega⟩ = ⟨1536 + x.val, by omega⟩ :=
    Fin.ext (by show 512 * 3 + (128 * (x.val / 128) + x.val % 128) = 1536 + x.val; omega)
  pointwise [R_main_v84]
  simp only [hs]
  unfold Spec.finish Spec.sig hgF gwF
  simp only [hr, hc]

/-- The reference's rows. -/
theorem rows_eq (b : Fin 8) (t : Fin 2048) (x : Fin 512) :
    R_main_v84 (scan a0 a1 a2 128) a0 a3 (ix3 b t x)
      = Spec.wout (hgF a0) (s0F a1) (lbF a0 a2) (gwF a3) b ⟨x.val / 128, by omega⟩ (t.val / 16) ⟨t.val % 16, by omega⟩
        ⟨x.val % 128, by omega⟩ := by
  generalize hS : scan a0 a1 a2 128 = S
  exact finish_apply a0 a3 S (fun h n t e => Spec.wrow (hgF a0) (s0F a1) (lbF a0 a2) b h n t e) b
    (fun n t h e => by rw [← hS]; exact scan_rows a0 a1 a2 128 le_rfl n n.isLt b t h e) t x

/-- The reference's last state. -/
theorem last_eq (b : Fin 8) (h : Fin 4) (d e : Fin 128) :
    (scan a0 a1 a2 128).main_v65_6 (ix4 b h d e) = Spec.wstate (hgF a0) (s0F a1) (lbF a0 a2) b h 128 d e :=
  congrFun (congrFun (state_eq a0 a1 a2 128 le_rfl b h) d) e

end Cert.Proof.Ref

end
-- ==== Proof.KernelWhole.lean ====
module

public import proofs.«01_k».proof.Proof.Launch
public import proofs.«01_k».proof.Proof.RefWhole
public import Idealize.ShloMosaic.Lib.Pipeline.ValueKit

/-! The kernel's blocks, state and rows as the recurrence over whole sequences. -/

@[expose] public section

set_option maxRecDepth 16384

noncomputable section

namespace Cert.Proof.Hg

open Idealize.ShloMosaic Idealize.ShloMosaic.TcCoe
open Cert.KernelIdeal Cert.KernelIdeal.Gen
open Cert.Proof.Ref (hgF s0F lbF gwF)

variable (m : (ℓ : Loc nD τ sig) → Buf (Elt Ideal) ℓ) (c : Dev nD)

/-! ## What the arrays hold when the launch starts -/

theorem entry17 : V m c main_v17 = broadcastInDim S1x8x4x128x128 ![1, 2, 3, 4] bcast_S8x4x128x128_S1x8x4x128x128_1_2_3_4
    (m ((c : Thread nD τ).loc main_arg1)) := by
  unfold V
  simp only [List.flatten_cons, List.flatten_nil, List.append_nil, List.cons_append, List.nil_append, hostOps0, hostOps0_1, hostOps0_2]
  after_results

theorem entry21 : V m c main_v21 = shapeCast S1x128 (m ((c : Thread nD τ).loc main_arg3)) shapeCasts_S128_S1x128 := by
  unfold V
  simp only [List.flatten_cons, List.flatten_nil, List.append_nil, List.cons_append, List.nil_append, hostOps0, hostOps0_1, hostOps0_2]
  after_results
  rfl

theorem entry20 : V m c main_v20 = shapeCast S1x512 (ReferenceIdeal.Step.A_main_v18 (F := Ideal)
    (m ((c : Thread nD τ).loc main_arg0)) (m ((c : Thread nD τ).loc main_arg2))) shapeCasts_S512_S1x512 := by
  unfold V
  simp only [List.flatten_cons, List.flatten_nil, List.append_nil, List.cons_append, List.nil_append, hostOps0, hostOps0_1, hostOps0_2]
  after_results
  rfl

/-! ## The blocks at coordinates -/

theorem index0 : ∀ t : Fin cfg0.N, win0_0.index t = ![t.val / 8, t.val % 8, 0] := by decide +kernel
theorem index1 : ∀ t : Fin cfg0.N, win0_1.index t = ![0, t.val / 8, 0, 0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val / 8, t.val % 8, 0] := by decide +kernel
theorem index5 : ∀ t : Fin cfg0.N, win0_5.index t = ![t.val / 8, 0, 0, 0] := by decide +kernel

theorem pt_lt (t : Fin cfg0.N) : t.val < 64 := Nat.lt_of_lt_of_eq t.isLt N_0
/-- The sequence a point works on. -/
def seq (t : Fin cfg0.N) : Fin 8 := ⟨t.val / 8, by have := pt_lt t; omega⟩

theorem hgBlk_apply (t : Fin cfg0.N) (r : Fin 256) (x : Fin 2048) :
    hgBlk m c t (ix3 0 r x) = hgF (m ((c : Thread nD τ).loc main_arg0)) (seq t) ⟨256 * (t.val % 8) + r.val, by omega⟩ x := by
  unfold hgBlk iblk hgF
  blk_simp
  rw [V_main_arg0]
  refine congrArg (m ((c : Thread nD τ).loc main_arg0)) ?_
  funext a
  apply Fin.ext
  fin_cases a <;> blk_simp [index0] <;> simp [ix3, seq] <;> omega

theorem s0Blk_apply (t : Fin cfg0.N) (h : Fin 4) (d e : Fin 128) :
    s0Blk m c t (ix5 0 0 h d e) = s0F (m ((c : Thread nD τ).loc main_arg1)) (seq t) h d e := by
  unfold s0Blk iblk s0F
  blk_simp
  rw [entry17]
  refine (congrArg (broadcastInDim S1x8x4x128x128 ![1, 2, 3, 4] bcast_S8x4x128x128_S1x8x4x128x128_1_2_3_4
    (m ((c : Thread nD τ).loc main_arg1))) (?_ : _ = ix5 (0 : Fin 1) (seq t) h d e)).trans ?_
  · funext a
    apply Fin.ext
    fin_cases a <;> blk_simp [index1] <;> simp [ix5, seq]
  · pointwise

theorem lbBlk_apply (t : Fin cfg0.N) (x : Fin 512) :
    lbBlk m c t (ix2 0 x) = lbF (m ((c : Thread nD τ).loc main_arg0)) (m ((c : Thread nD τ).loc main_arg2)) x := by
  unfold lbBlk iblk lbF
  blk_simp
  rw [entry20]
  generalize ReferenceIdeal.Step.A_main_v18 (F := Ideal) (m ((c : Thread nD τ).loc main_arg0)) (m ((c : Thread nD τ).loc main_arg2)) = L
  refine (congrArg (shapeCast S1x512 L shapeCasts_S512_S1x512) (?_ : _ = ix2 (0 : Fin 1) x)).trans ?_
  · funext a
    apply Fin.ext
    fin_cases a <;> blk_simp [index2] <;> simp [ix2]
  · pointwise

theorem gwBlk_apply (t : Fin cfg0.N) (x : Fin 128) :
    gwBlk m c t (ix2 0 x) = gwF (m ((c : Thread nD τ).loc main_arg3)) x := by
  unfold gwBlk iblk gwF
  blk_simp
  rw [entry21]
  refine (congrArg (shapeCast S1x128 (m ((c : Thread nD τ).loc main_arg3)) shapeCasts_S128_S1x128)
    (?_ : _ = ix2 (0 : Fin 1) x)).trans ?_
  · funext a
    apply Fin.ext
    fin_cases a <;> blk_simp [index3] <;> simp [ix2]
  · pointwise

theorem initOf_apply (x1 : FVec Ideal S1x1x4x128x128 .f32) (h : Fin 4) (e d : Fin 128) :
    initOf (F := Ideal) x1 (ix3 h e d) = x1 (ix5 0 0 h d e) := by
  unfold initOf
  pointwise [k0_pay9]
  rfl
theorem finalOf_apply (st : FVec Ideal S4x128x128 .f32) (z : Fin 1) (h : Fin 4) (d e : Fin 128) :
    finalOf (F := Ideal) st (ix4 z h d e) = st (ix3 h e d) := by
  unfold finalOf headOf
  pointwise [k0_pay5]
  rfl

/-! ## One block -/

section OneBlock

variable (A0 : FVec Ideal S8x2048x2048 .f32) (A1 : FVec Ideal S8x4x128x128 .f32) (A2 : FVec Ideal S2x512 .f32) (A3 : FVec Ideal S128 .f32)
variable (lb : FVec Ideal S1x512 .f32) (gw : FVec Ideal S1x128 .f32) (x : FVec Ideal S1x256x2048 .f32)
  (st : FVec Ideal S4x128x128 .f32) (b : Fin 8) (j : ℕ) (hj : j < 8)
variable (hlb : ∀ i, lb (ix2 0 i) = lbF A0 A2 i) (hgw : ∀ e, gw (ix2 0 e) = gwF A3 e)
  (hx : ∀ (r : Fin 256) (i : Fin 2048), x (ix3 0 r i) = hgF A0 b ⟨256 * j + r.val, by omega⟩ i)
  (hst : ∀ (h : Fin 4) (e d : Fin 128), st (ix3 h e d) = Spec.wstate (hgF A0) (s0F A1) (lbF A0 A2) b h (16 * j) d e)

include hx in
theorem chunk_apply (k : ℕ) (hk : k < 16) (t : Fin 16) (i : Fin 2048) :
    chunkAt (F := Ideal) x k (ix3 0 t i) = hgF A0 b (Spec.row (16 * j + k) t) i := by
  unfold chunkAt
  refine (hx ⟨16 * (k % 16) + t.val, by omega⟩ i).trans ?_
  congr 1
  apply Fin.ext
  simp only [Spec.row]
  omega

include hx in
theorem q_chunk (k : ℕ) (hk : k < 16) (h : Fin 4) : qF (chunkAt x k) h = Spec.wq (hgF A0) b h (16 * j + k) := by
  funext t d
  exact chunk_apply A0 x b j hj hx k hk t _
include hx in
theorem v_chunk (k : ℕ) (hk : k < 16) (h : Fin 4) : vF (chunkAt x k) h = Spec.wv (hgF A0) b h (16 * j + k) := by
  funext t d
  exact chunk_apply A0 x b j hj hx k hk t _
include hx hlb in
theorem k_chunk (k : ℕ) (hk : k < 16) (h : Fin 4) :
    kF lb (chunkAt x k) h = Spec.wk (hgF A0) (lbF A0 A2) b h (16 * j + k) := by
  funext t d
  unfold kF Spec.wk
  rw [hlb, chunk_apply A0 x b j hj hx k hk]
include hx hlb in
theorem b_chunk (k : ℕ) (hk : k < 16) (h : Fin 4) :
    bF lb (chunkAt x k) h = Spec.wb (hgF A0) (lbF A0 A2) b h (16 * j + k) := by
  funext t d
  unfold bF Spec.wb
  congr 1
  funext u
  rw [hlb, chunk_apply A0 x b j hj hx k hk]

include hx hlb hst in
theorem stateAt_apply (k : ℕ) (hk : k ≤ 16) (h : Fin 4) (e d : Fin 128) :
    stateAt (F := Ideal) lb x st k (ix3 h e d) = Spec.wstate (hgF A0) (s0F A1) (lbF A0 A2) b h (16 * j + k) d e := by
  induction k generalizing h e d with
  | zero => exact hst h e d
  | succ k ih =>
    show chunkState (F := Ideal) rows512 lb (chunkAt x k) h (headOf (F := Ideal) (stateAt lb x st k) h) (ix3 0 e d) = _
    rw [chunkState_apply, k_chunk A0 A2 lb x b j hj hlb hx k (by omega), v_chunk A0 x b j hj hx k (by omega),
      b_chunk A0 A2 lb x b j hj hlb hx k (by omega)]
    have hh : (fun d e => headOf (F := Ideal) (stateAt lb x st k) h (ix3 0 e d))
        = Spec.wstate (hgF A0) (s0F A1) (lbF A0 A2) b h (16 * j + k) := by
      funext d e
      exact ih (by omega) h e d
    rw [hh]
    rfl

include hx hlb hst hgw in
theorem rowsAt_apply (good : ∀ i, Spec.Good (lbF A0 A2 i)) (z : Fin 1) (r : Fin 256) (i : Fin 512) :
    rowsAt (F := Ideal) lb gw x st (ix3 z r i) = Spec.wout (hgF A0) (s0F A1) (lbF A0 A2) (gwF A3) b ⟨i.val / 128, by omega⟩
      (16 * j + r.val / 16) ⟨r.val % 16, by omega⟩ ⟨i.val % 128, by omega⟩ := by
  show chunkOut (F := Ideal) rows512 rows1 lb gw (chunkAt x (r.val / 16)) ⟨i.val / 128, _⟩
    (headOf (F := Ideal) (stateAt lb x st (r.val / 16)) ⟨i.val / 128, _⟩) (ix3 0 ⟨r.val % 16, _⟩ ⟨i.val % 128, _⟩) = _
  have hk : r.val / 16 < 16 := by omega
  rw [chunkOut_apply _ _ _ _ _ (fun d => by rw [hlb]; exact good _), q_chunk A0 x b j hj hx _ hk,
    k_chunk A0 A2 lb x b j hj hlb hx _ hk, v_chunk A0 x b j hj hx _ hk, b_chunk A0 A2 lb x b j hj hlb hx _ hk]
  have hh : (fun d e => headOf (F := Ideal) (stateAt lb x st (r.val / 16)) ⟨i.val / 128, by omega⟩ (ix3 0 e d))
      = Spec.wstate (hgF A0) (s0F A1) (lbF A0 A2) b ⟨i.val / 128, by omega⟩ (16 * j + r.val / 16) := by
    funext d e
    exact stateAt_apply A0 A1 A2 lb x st b j hj hlb hx hst _ hk.le _ e d
  rw [hh]
  have hg : gF (chunkAt x (r.val / 16)) ⟨i.val / 128, by omega⟩ ⟨r.val % 16, by omega⟩
      = fun e => hgF A0 b (Spec.row (16 * j + r.val / 16) ⟨r.val % 16, by omega⟩) (col 3 ⟨i.val / 128, by omega⟩ e) := by
    funext e
    exact chunk_apply A0 x b j hj hx _ hk _ _
  rw [hg]
  have hw : (fun e => gw (ix2 0 e)) = gwF A3 := funext hgw
  rw [hw]
  rfl

end OneBlock

/-! ## The state carried along a sequence, and the result arrays -/

/-- The arguments as launched. -/
abbrev A0 : FVec Ideal S8x2048x2048 .f32 := m ((c : Thread nD τ).loc main_arg0)
abbrev A1 : FVec Ideal S8x4x128x128 .f32 := m ((c : Thread nD τ).loc main_arg1)
abbrev A2 : FVec Ideal S2x512 .f32 := m ((c : Thread nD τ).loc main_arg2)
abbrev A3 : FVec Ideal S128 .f32 := m ((c : Thread nD τ).loc main_arg3)

theorem hgBlk_at (b : Fin 8) (j : ℕ) (hj : j < 8) (t : Fin cfg0.N) (ht : t.val = 8 * b.val + j) (r : Fin 256) (i : Fin 2048) :
    hgBlk m c t (ix3 0 r i) = hgF (A0 m c) b ⟨256 * j + r.val, by omega⟩ i := by
  rw [hgBlk_apply]
  congr 1
  · congr 1
    apply Fin.ext
    show t.val / 8 = b.val
    omega
  · apply Fin.ext
    show 256 * (t.val % 8) + r.val = 256 * j + r.val
    omega

theorem carry_apply (b : Fin 8) (j : ℕ) (hj : j ≤ 8) (h : Fin 4) (e d : Fin 128) :
    carry m c b.val j (ix3 h e d) = Spec.wstate (hgF (A0 m c)) (s0F (A1 m c)) (lbF (A0 m c) (A2 m c)) b h (16 * j) d e := by
  induction j generalizing h e d with
  | zero =>
    rw [carry, initOf_apply, s0Blk_apply]
    show s0F (A1 m c) (seq (pt (8 * b.val))) h d e = s0F (A1 m c) b h d e
    congr 1
    apply Fin.ext
    show 8 * b.val % 64 / 8 = b.val
    omega
  | succ j ih =>
    rw [carry]
    exact stateAt_apply (A0 m c) (A1 m c) (A2 m c) _ _ _ b j (by omega) (lbBlk_apply m c _)
      (hgBlk_at m c b j (by omega) _ (by show (8 * b.val + j) % 64 = _; omega)) (fun h e d => ih (by omega) h e d) 16 le_rfl h e d

/-- The first result array. -/
def G4 (i : S8x2048x512.Idx) : EReal :=
  Spec.wout (hgF (A0 m c)) (s0F (A1 m c)) (lbF (A0 m c) (A2 m c)) (gwF (A3 m c)) (i 0)
    ⟨(i 2).val / 128, by have : (i 2).val < 512 := (i 2).isLt; omega⟩ ((i 1).val / 16) ⟨(i 1).val % 16, by omega⟩
    ⟨(i 2).val % 128, by omega⟩
/-- The second result array. -/
def G5 (i : S8x4x128x128.Idx) : EReal :=
  Spec.wstate (hgF (A0 m c)) (s0F (A1 m c)) (lbF (A0 m c) (A2 m c)) (i 0) (i 1) 128 (i 2) (i 3)

theorem rowsOut_apply (good : ∀ i, Spec.Good (lbF (A0 m c) (A2 m c) i)) (t : Fin cfg0.N) (z : Fin 1) (r : Fin 256) (i : Fin 512) :
    rowsOut m c t (ix3 z r i) = G4 m c (ix3 (seq t) ⟨256 * (t.val % 8) + r.val, by omega⟩ i) := by
  have ht := pt_lt t
  refine (rowsAt_apply (A0 m c) (A1 m c) (A2 m c) (A3 m c) _ _ _ _ (seq t) (t.val % 8) (by omega) (lbBlk_apply m c _) (gwBlk_apply m c _)
    (hgBlk_at m c (seq t) (t.val % 8) (by omega) t (by show t.val = 8 * (t.val / 8) + t.val % 8; omega))
    (fun h e d => carry_apply m c (seq t) (t.val % 8) (by omega) h e d) good z r i).trans ?_
  unfold G4
  have e1 : 16 * (t.val % 8) + r.val / 16 = (256 * (t.val % 8) + r.val) / 16 := by omega
  have e2 : (⟨r.val % 16, by omega⟩ : Fin 16) = ⟨(256 * (t.val % 8) + r.val) % 16, by omega⟩ := Fin.ext (by
    show r.val % 16 = (256 * (t.val % 8) + r.val) % 16
    omega)
  rw [e1, e2]
  rfl

theorem arr4 (good : ∀ i, Spec.Good (lbF (A0 m c) (A2 m c) i)) : (dats m 0 c).arrAt 4 cfg0.N = G4 m c := by
  refine (dats m 0 c).arrAt_eq_of_covers 4 (G4 m c) (by decide +kernel) fun t hf y => ?_
  blk_simp
  rw [after4]
  have hy : y = ix3 (y 0) (y 1) (y 2) := by funext a; fin_cases a <;> rfl
  rw [hy]
  refine (rowsOut_apply m c good t (y 0) (y 1) (y 2)).trans (congrArg (G4 m c) ?_)
  funext a
  apply Fin.ext
  have y0 : (y 0).val < 1 := (y 0).isLt
  fin_cases a <;> blk_simp [index4] <;> simp [ix3, seq] <;> omega

theorem arr5 : (dats m 0 c).arrAt 5 cfg0.N = G5 m c := by
  refine (dats m 0 c).arrAt_eq_of_covers 5 (G5 m c) (by decide +kernel) fun t hf y => ?_
  have h7 : t.val % 8 = 7 := (flush0_5 t).mp hf
  blk_simp
  rw [after5]
  have hy : y = ix4 (y 0) (y 1) (y 2) (y 3) := by funext a; fin_cases a <;> rfl
  rw [hy]
  refine (finalOf_apply _ (y 0) (y 1) (y 2) (y 3)).trans ?_
  have hc := carry_apply m c (seq t) (t.val % 8 + 1) (by omega) (y 1) (y 3) (y 2)
  refine hc.trans ?_
  rw [h7]
  refine Eq.trans (b := G5 m c (ix4 (seq t) (y 1) (y 2) (y 3))) rfl (congrArg (G5 m c) ?_)
  funext a
  apply Fin.ext
  have y0 : (y 0).val < 1 := (y 0).isLt
  fin_cases a <;> blk_simp [index5] <;> simp [ix4, seq] <;> omega

end Cert.Proof.Hg

end
-- ==== Proof.Bound.lean ====
module

public import proofs.«01_k».proof.Proof.RefWhole

/-! The lower bound of the gates is the second layer's share of a two-way softmax: a real in the unit interval, or the
least element where the logits leave no share. -/

@[expose] public section

set_option maxRecDepth 16384

noncomputable section

namespace Cert.Proof.Ref

open Idealize.ShloMosaic Idealize.ShloMosaic.TcCoe
open Cert.ReferenceIdeal Cert.ReferenceIdeal.Gen Cert.ReferenceIdeal.Step

theorem good_share (p q : EReal) (h0 : 0 ≤ p) (h1 : 0 ≤ q) :
    Spec.Good (Ideal.div p (p + q) + Ideal.div q (p + q) - Ideal.div p (p + q)) := by
  have hp : p ≠ ⊥ := fun h => by simp [h] at h0
  have hq : q ≠ ⊥ := fun h => by simp [h] at h1
  by_cases hT : p + q = ⊤
  · rw [hT]
    unfold Ideal.div
    simp only [EReal.top_ne_zero, if_false, EReal.inv_top, mul_zero, add_zero, sub_zero]
    exact Or.inr ⟨0, le_rfl, zero_le_one, rfl⟩
  · induction p with
    | bot => exact absurd rfl hp
    | top => exact absurd (EReal.top_add_of_ne_bot hq) hT
    | coe p =>
      induction q with
      | bot => exact absurd rfl hq
      | top => exact absurd (EReal.add_top_of_ne_bot hp) hT
      | coe q =>
        have p0 : 0 ≤ p := EReal.coe_nonneg.mp h0
        have q0 : 0 ≤ q := EReal.coe_nonneg.mp h1
        rw [← EReal.coe_add]
        by_cases hz : p + q = 0
        · have hp0 : p = 0 := by linarith
          have hq0 : q = 0 := by linarith
          subst hp0 hq0
          left
          simp [Ideal.div]
        · have hz' : ((p + q : ℝ) : EReal) ≠ 0 := fun h => hz (by exact_mod_cast h)
          have hpos : 0 < p + q := lt_of_le_of_ne (by linarith) (Ne.symm hz)
          unfold Ideal.div
          simp only [if_neg hz']
          right
          refine ⟨q / (p + q), by positivity, (div_le_one hpos).mpr (by linarith), ?_⟩
          rw [← EReal.coe_inv, ← EReal.coe_mul, ← EReal.coe_mul, ← EReal.coe_add, ← EReal.coe_sub]
          congr 1
          field_simp
          ring

theorem exp_nonneg (x : EReal) : 0 ≤ Ideal.exp x := by
  induction x with
  | bot => exact le_refl (0 : EReal)
  | top => exact (le_top : (0 : EReal) ≤ ⊤)
  | coe r => exact EReal.coe_nonneg.mpr (Real.exp_nonneg r)

variable (a0 : FVec Ideal S8x2048x2048 .f32) (a2 : FVec Ideal S2x512 .f32)

theorem share_apply (i : Fin 2) (x : Fin 512) : A_main_v10 (F := Ideal) a0 a2 (ix2 i x)
    = Ideal.div (A_main_v6 (F := Ideal) a0 a2 (ix2 i x)) (A_main_v6 (F := Ideal) a0 a2 (ix2 0 x) + A_main_v6 (F := Ideal) a0 a2 (ix2 1 x)) := by
  unfold A_main_v10 A_main_v9 A_main_v8 A_main_v7 K_main_cst_1
  generalize A_main_v6 (F := Ideal) a0 a2 = E
  pointwise
  rw [Fin.sum_univ_two]

theorem sum_rows (x : Fin 512) : A_main_v11 (F := Ideal) a0 a2 (ix2 1 x)
    = A_main_v10 (F := Ideal) a0 a2 (ix2 0 x) + A_main_v10 (F := Ideal) a0 a2 (ix2 1 x) := by
  unfold A_main_v11
  generalize A_main_v10 (F := Ideal) a0 a2 = E
  have hi : K_main_call0_call0_v0 (F := Ideal) (Shape.Idx.first h_S_) = 0 := by
    unfold K_main_call0_call0_v0 K_main_call0_call0_cst
    pointwise
  show Host.reduceWindow (· + ·) ![2, 1] ![1, 1] ![1, 0] ![0, 0] E
    (fun _ : (⟨0, ![]⟩ : Shape).Idx => K_main_call0_call0_v0 (F := Ideal) (Shape.Idx.first h_S_))
    reduceWindows_S2x512_S2x512_w2s1p1_0_w1s1p0_0 (by decide) (ix2 1 x) = _
  unfold Host.reduceWindow
  simp only [hi]
  rw [foldl_add, zero_add]
  have step : ∀ w : (⟨2, ![2, 1]⟩ : Shape).Idx,
      (if hin : ∀ a : Fin 2, (![1, 0] : Fin 2 → ℕ) a ≤ (ix2 (1 : Fin 2) x a).val * (![1, 1] : Fin 2 → ℕ) a + (w a).val ∧
          (ix2 (1 : Fin 2) x a).val * (![1, 1] : Fin 2 → ℕ) a + (w a).val - (![1, 0] : Fin 2 → ℕ) a < S2x512.size a then
        E (fun a => ⟨(ix2 (1 : Fin 2) x a).val * (![1, 1] : Fin 2 → ℕ) a + (w a).val - (![1, 0] : Fin 2 → ℕ) a, (hin a).2⟩)
      else 0) = E (ix2 (w 0) x) := by
    intro w
    have w0 : (w 0).val < 2 := (w 0).isLt
    have w1 : (w 1).val = 0 := by have : (w 1).val < 1 := (w 1).isLt; omega
    have lx := x.isLt
    have hin : ∀ a : Fin 2, (![1, 0] : Fin 2 → ℕ) a ≤ (ix2 (1 : Fin 2) x a).val * (![1, 1] : Fin 2 → ℕ) a + (w a).val ∧
        (ix2 (1 : Fin 2) x a).val * (![1, 1] : Fin 2 → ℕ) a + (w a).val - (![1, 0] : Fin 2 → ℕ) a < S2x512.size a := by
      intro a
      fin_cases a
      · refine ⟨?_, ?_⟩
        · show 1 ≤ 1 * 1 + (w 0).val
          omega
        · show 1 * 1 + (w 0).val - 1 < 2
          omega
      · refine ⟨Nat.zero_le _, ?_⟩
        show x.val * 1 + (w 1).val - 0 < 512
        omega
    rw [dif_pos hin]
    refine congrArg E ?_
    funext a
    fin_cases a
    · exact Fin.ext (show 1 * 1 + (w 0).val - 1 = (w 0).val by omega)
    · exact Fin.ext (show x.val * 1 + (w 1).val - 0 = x.val by omega)
  refine (Finset.sum_congr rfl fun n _ => step ((Shape.rowMajor ⟨2, ![2, 1]⟩).symm n)).trans ?_
  refine (Equiv.sum_comp (Shape.rowMajor ⟨2, ![2, 1]⟩).symm (fun w : (⟨2, ![2, 1]⟩ : Shape).Idx => E (ix2 (w 0) x))).trans ?_
  rw [sum_idx2]
  simp only [Fin.sum_univ_one, Fin.sum_univ_two]
  rfl

theorem good_lb (x : Fin 512) : Spec.Good (lbF a0 a2 x) := by
  have e : lbF a0 a2 x = A_main_v11 (F := Ideal) a0 a2 (ix2 1 x) - A_main_v10 (F := Ideal) a0 a2 (ix2 0 x) := by
    unfold lbF A_main_v18 A_main_v17 A_main_v16 A_main_v15 A_main_v14 A_main_v13 A_main_v12
    generalize A_main_v11 (F := Ideal) a0 a2 = E
    generalize A_main_v10 (F := Ideal) a0 a2 = E'
    pointwise
  rw [e, sum_rows, share_apply, share_apply]
  have n (i : Fin 2) : 0 ≤ A_main_v6 (F := Ideal) a0 a2 (ix2 i x) := by
    unfold A_main_v6
    exact exp_nonneg _
  exact good_share _ _ (n 0) (n 1)

end Cert.Proof.Ref

end
-- ==== Proof.Value.lean ====
module

public import proofs.«01_k».proof.Proof.Frames
public import proofs.«01_k».proof.Proof.KernelWhole
public import proofs.«01_k».proof.Proof.Bound

/-! Kernel and reference end with the same rows and the same last state. -/

@[expose] public section

set_option maxRecDepth 16384

noncomputable section

namespace Cert.Proof

open Idealize.ShloMosaic Idealize.ShloMosaic.TcCoe Idealize.SL.Sem

section
attribute [local instance] Cert.KernelIdeal.Gen.facts Cert.ReferenceIdeal.Gen.facts

/-- The reference's rows, entry by entry those of the kernel. -/
theorem rows_same (a0 : FVec Ideal Cert.ReferenceIdeal.S8x2048x2048 .f32) (a1 : FVec Ideal Cert.ReferenceIdeal.S8x4x128x128 .f32)
    (a2 : FVec Ideal Cert.ReferenceIdeal.S2x512 .f32) (a3 : FVec Ideal Cert.ReferenceIdeal.S128 .f32)
    (m : (ℓ : Loc Cert.KernelIdeal.nD Cert.KernelIdeal.τ Cert.KernelIdeal.sig) → Buf (Elt Ideal) ℓ) (c : Dev Cert.KernelIdeal.nD)
    (h0 : a0 = Hg.A0 m c) (h1 : a1 = Hg.A1 m c) (h2 : a2 = Hg.A2 m c) (h3 : a3 = Hg.A3 m c) :
    Cert.ReferenceIdeal.Step.R_main_v84 (Ref.scan a0 a1 a2 128) a0 a3 = Hg.G4 m c := by
  subst h0 h1 h2 h3
  funext i
  have hi : i = ix3 (i 0) (i 1) (i 2) := by funext a; fin_cases a <;> rfl
  rw [hi]
  exact Ref.rows_eq _ _ _ _ (i 0) (i 1) (i 2)

theorem last_same (a0 : FVec Ideal Cert.ReferenceIdeal.S8x2048x2048 .f32) (a1 : FVec Ideal Cert.ReferenceIdeal.S8x4x128x128 .f32)
    (a2 : FVec Ideal Cert.ReferenceIdeal.S2x512 .f32)
    (m : (ℓ : Loc Cert.KernelIdeal.nD Cert.KernelIdeal.τ Cert.KernelIdeal.sig) → Buf (Elt Ideal) ℓ) (c : Dev Cert.KernelIdeal.nD)
    (h0 : a0 = Hg.A0 m c) (h1 : a1 = Hg.A1 m c) (h2 : a2 = Hg.A2 m c) :
    (Ref.scan a0 a1 a2 128).main_v65_6 = Hg.G5 m c := by
  subst h0 h1 h2
  funext i
  have hi : i = ix4 (i 0) (i 1) (i 2) (i 3) := by funext a; fin_cases a <;> rfl
  rw [hi]
  exact Ref.last_eq _ _ _ (i 0) (i 1) (i 2) (i 3)

end

theorem value : Cert.algebraic_KernelIdeal_ReferenceIdeal (hKernelIdeal := Cert.KernelIdeal.Gen.facts)
    (hReferenceIdeal := Cert.ReferenceIdeal.Gen.facts) := by
  intro m ρ m' ρ' _ hagree
  refine ⟨fun c => Hg.G4 m c, fun c => Hg.G5 m c, (θ_run Cert.KernelIdeal.defs _ _).mono (fun _ h c => ?_) (kernel_run (F := Ideal) m ρ),
    (θ_run Cert.ReferenceIdeal.defs _ _).mono (fun _ h c => ?_) (Ref.run (F := Ideal) m' ρ')⟩
  · obtain ⟨e0, e1, rest⟩ := h.1 c
    exact ⟨e0.trans (Hg.arr4 m c fun i => Ref.good_lb _ _ i), e1.trans (Hg.arr5 m c), rest⟩
  · obtain ⟨e0, e1, rest⟩ := h c
    obtain ⟨g0, g1, g2, g3⟩ := hagree c
    exact ⟨e0.trans (rows_same _ _ _ _ m c g0 g1 g2 g3), e1.trans (last_same _ _ _ m c g0 g1 g2), rest⟩

end Cert.Proof

end
-- ==== Proof.ProjValue.lean ====
module

public import proofs.«01_k».proof.Proof.Gen.ProjectionIdeal.Value
public import proofs.«01_k».proof.Proof.Gen.ProjectionReferenceIdeal.Run
public import Idealize.ShloMosaic.Lib.Pipeline.ValueKit
public import Idealize.ShloMosaic.Lib.Pointwise
public import proofs.«01_k».proof.Proof.Gen.Projection.Frame
public import proofs.«01_k».proof.Defs

/-! The input projection: what the points leave is the modulated row times the weights, as in the reference. -/

@[expose] public section

set_option maxRecDepth 16384

noncomputable section

namespace Cert.Proof.Proj

open Idealize.ShloMosaic Idealize.ShloMosaic.TcCoe Idealize.SL.Sem

/-- The modulated row `s` of sequence `b`, at feature `x`. -/
def lin (X : FVec Ideal Cert.ProjectionIdeal.S8x2048x1024 .f32) (sh sc : FVec Ideal Cert.ProjectionIdeal.S8x1x1024 .f32) (b : Fin 8) (s : Fin 2048) (x : Fin 1024) : EReal :=
  X (ix3 b s x) * (Ideal.ofBits .f32 0x3F800000#32 + sc (ix3 b 0 x)) + sh (ix3 b 0 x)

/-- Entry `k` of that row's projection. -/
def proj (X : FVec Ideal Cert.ProjectionIdeal.S8x2048x1024 .f32) (sh sc : FVec Ideal Cert.ProjectionIdeal.S8x1x1024 .f32) (w : FVec Ideal Cert.ProjectionIdeal.S1024x4608 .f32)
    (b : Fin 8) (s : Fin 2048) (k : Fin 4608) : EReal :=
  ∑ x : Fin 1024, lin X sh sc b s x * w (ix2 x k)

/-! ## The reference -/

section
open Cert.ProjectionReferenceIdeal Cert.ProjectionReferenceIdeal.Gen
attribute [local instance] Cert.ProjectionReferenceIdeal.Gen.facts

/-- The reference's whole product. -/
def refProj (X : FVec Ideal S8x2048x1024 .f32) (sh sc : FVec Ideal S8x1x1024 .f32) (w : FVec Ideal S1024x4608 .f32) :
    FVec Ideal S8x2048x4608 .f32 :=
  Host.dotGeneral dot_S8x2048x1024_S1024x4608_S8x2048x4608_2_0_01_1_n_n none
    (addf (mulf X (broadcastInDim S8x2048x1024 ![0, 1, 2] bcast_S8x1x1024_S8x2048x1024_0_1_2
      (addf (broadcastInDim S8x1x1024 ![] bcast_S_S8x1x1024 (constant (F := Ideal) S_ .f32 0x3F800000#32)) sc)))
      (broadcastInDim S8x2048x1024 ![0, 1, 2] bcast_S8x1x1024_S8x2048x1024_0_1_2 sh)) w

theorem refProj_apply (X : FVec Ideal S8x2048x1024 .f32) (sh sc : FVec Ideal S8x1x1024 .f32) (w : FVec Ideal S1024x4608 .f32)
    (b : Fin 8) (s : Fin 2048) (k : Fin 4608) : refProj X sh sc w (ix3 b s k) = proj X sh sc w b s k := by
  unfold refProj proj lin
  pointwise

end

open Cert.ProjectionIdeal Cert.ProjectionIdeal.Gen
attribute [local instance] Cert.ProjectionIdeal.Gen.facts

/-! ## The kernel's blocks -/

variable (m : (ℓ : Loc nD τ sig) → Buf (Elt Ideal) ℓ) (c : Dev nD)

abbrev A0 : FVec Ideal S8x2048x1024 .f32 := m ((c : Thread nD τ).loc main_arg0)
abbrev A1 : FVec Ideal S8x1x1024 .f32 := m ((c : Thread nD τ).loc main_arg1)
abbrev A2 : FVec Ideal S8x1x1024 .f32 := m ((c : Thread nD τ).loc main_arg2)
abbrev A3 : FVec Ideal S1024x4608 .f32 := m ((c : Thread nD τ).loc main_arg3)

theorem entry3 : V m c main_v0 = truncf .bf16 (A3 m c) bitsLt_bf16_f32 := by
  unfold V
  simp only [hostOps0]
  after_results

theorem index0 : ∀ t : Fin cfg0.N, win0_0.index t = ![t.val / 8, t.val % 8, 0] := by decide +kernel
theorem index1 : ∀ t : Fin cfg0.N, win0_1.index t = ![t.val / 8, 0, 0] := by decide +kernel
theorem index2 : ∀ t : Fin cfg0.N, win0_2.index t = ![t.val / 8, 0, 0] := by decide +kernel
theorem index3 : ∀ t : Fin cfg0.N, win0_3.index t = ![0, 0] := by decide +kernel
theorem index4 : ∀ t : Fin cfg0.N, win0_4.index t = ![t.val / 8, t.val % 8, 0] := by decide +kernel
theorem index5 : ∀ t : Fin cfg0.N, win0_5.index t = ![t.val / 8, t.val % 8, 0] := by decide +kernel
theorem index6 : ∀ t : Fin cfg0.N, win0_6.index t = ![t.val / 8, t.val % 8, 0] := by decide +kernel

theorem pt_lt (t : Fin cfg0.N) : t.val < 64 := Nat.lt_of_lt_of_eq t.isLt N_0
/-- The sequence a point works on, and the place in it of the point's row `r`. -/
def seq (t : Fin cfg0.N) : Fin 8 := ⟨t.val / 8, by have := pt_lt t; omega⟩
def row (t : Fin cfg0.N) (r : Fin 256) : Fin 2048 := ⟨256 * (t.val % 8) + r.val, by omega⟩

theorem blk0_apply (t : Fin cfg0.N) (r : Fin 256) (x : Fin 1024) :
    iblk m c 0 t (ix3 (0 : Fin 1) r x) = A0 m c (ix3 (seq t) (row t r) x) := by
  unfold iblk
  blk_simp
  rw [V_main_arg0]
  refine congrArg (m ((c : Thread nD τ).loc main_arg0)) ?_
  funext a
  apply Fin.ext
  fin_cases a <;> blk_simp [index0] <;> simp [ix3, seq, row] <;> omega

theorem blk1_apply (t : Fin cfg0.N) (x : Fin 1024) : iblk m c 1 t (ix3 (0 : Fin 1) (0 : Fin 1) x) = A1 m c (ix3 (seq t) 0 x) := by
  unfold iblk
  blk_simp
  rw [V_main_arg1]
  refine congrArg (m ((c : Thread nD τ).loc main_arg1)) ?_
  funext a
  apply Fin.ext
  fin_cases a <;> blk_simp [index1] <;> simp [ix3, seq]

theorem blk2_apply (t : Fin cfg0.N) (x : Fin 1024) : iblk m c 2 t (ix3 (0 : Fin 1) (0 : Fin 1) x) = A2 m c (ix3 (seq t) 0 x) := by
  unfold iblk
  blk_simp
  rw [V_main_arg2]
  refine congrArg (m ((c : Thread nD τ).loc main_arg2)) ?_
  funext a
  apply Fin.ext
  fin_cases a <;> blk_simp [index2] <;> simp [ix3, seq]

theorem blk3_apply (t : Fin cfg0.N) (x : Fin 1024) (k : Fin 4608) : iblk m c 3 t (ix2 x k) = A3 m c (ix2 x k) := by
  unfold iblk
  blk_simp
  rw [entry3]
  refine (congrArg (truncf .bf16 (A3 m c) bitsLt_bf16_f32) (?_ : _ = ix2 x k)).trans ?_
  · funext a
    apply Fin.ext
    fin_cases a <;> blk_simp [index3] <;> simp [ix2]
  · pointwise

/-! ## The payloads -/

theorem pay2_apply (v0 : Vec Ideal S1x256x1024 .f32) (v2 v8 : Vec Ideal S1x1x1024 .f32) (r : Fin 256) (x : Fin 1024) :
    k0_pay2 (F := Ideal) v0 v2 v8 (ix2 r x)
      = v0 (ix3 0 r x) * (Ideal.ofBits .f32 0x3F800000#32 + v2 (ix3 0 0 x)) + v8 (ix3 0 0 x) := by
  unfold k0_pay2
  pointwise

theorem pay3_apply (v0 : Vec Ideal S1x256x1024 .f32) (v2 v8 : Vec Ideal S1x1x1024 .f32) (w : Vec Ideal S1024x512 .bf16) (r : Fin 256) (k : Fin 512) :
    k0_pay3 (F := Ideal) v0 v2 v8 w (ix3 0 r k) = ∑ x : Fin 1024, k0_pay2 (F := Ideal) v0 v2 v8 (ix2 r x) * w (ix2 x k) := by
  unfold k0_pay3
  generalize k0_pay2 (F := Ideal) v0 v2 v8 = z
  pointwise

theorem pay4_apply (v0 : Vec Ideal S1x256x1024 .f32) (v2 v8 : Vec Ideal S1x1x1024 .f32) (w : Vec Ideal S1024x2048 .bf16) (r : Fin 256) (k : Fin 2048) :
    k0_pay4 (F := Ideal) v0 v2 v8 w (ix3 0 r k) = ∑ x : Fin 1024, k0_pay2 (F := Ideal) v0 v2 v8 (ix2 r x) * w (ix2 x k) := by
  unfold k0_pay4
  generalize k0_pay2 (F := Ideal) v0 v2 v8 = z
  pointwise

theorem pay5_apply (v0 : Vec Ideal S1x256x1024 .f32) (v2 v8 : Vec Ideal S1x1x1024 .f32) (w : Vec Ideal S1024x2048 .bf16) (r : Fin 256) (k : Fin 2048) :
    k0_pay1 (F := Ideal) (k0_pay5 (F := Ideal) v0 v2 v8 w) (ix3 0 r k) = ∑ x : Fin 1024, k0_pay2 (F := Ideal) v0 v2 v8 (ix2 r x) * w (ix2 x k) := by
  unfold k0_pay1 k0_pay5
  generalize k0_pay2 (F := Ideal) v0 v2 v8 = z
  pointwise

/-- The product of a point's modulated block with a column of the weights. -/
theorem sum_eq (t : Fin cfg0.N) (r : Fin 256) (k : Fin 4608) (w : Fin 1024 → EReal) (hw : ∀ x, w x = iblk m c 3 t (ix2 x k)) :
    ∑ x : Fin 1024, k0_pay2 (F := Ideal) (iblk m c 0 t) (iblk m c 2 t) (iblk m c 1 t) (ix2 r x) * w x
      = proj (A0 m c) (A1 m c) (A2 m c) (A3 m c) (seq t) (row t r) k := by
  unfold proj lin
  refine Finset.sum_congr rfl fun x _ => ?_
  rw [hw x]
  exact congrArg₂ (· * ·) ((pay2_apply _ _ _ r x).trans (congrArg₂ (· + ·) (congrArg₂ (· * ·) (blk0_apply m c t r x)
    (congrArg (_ + ·) (blk2_apply m c t x))) (blk1_apply m c t x))) (blk3_apply m c t x k)

theorem out4_apply (t : Fin cfg0.N) (r : Fin 256) (k : Fin 512) :
    out0_4 (F := Ideal) (iblk m c 0 t) (iblk m c 1 t) (iblk m c 2 t) (iblk m c 3 t) (ix3 0 r k)
      = proj (A0 m c) (A1 m c) (A2 m c) (A3 m c) (seq t) (row t r) ⟨k.val, by omega⟩ := by
  unfold out0_4 r0_0 r0_1 r0_3
  rw [View.canon_cons_unit_lit _ _ _ (by decide), View.ld_unit_lit _ _ (by decide), View.ld_unit_lit _ _ (by decide), View.ld_unit_lit _ _ (by decide)]
  refine (pay3_apply _ _ _ _ r k).trans (sum_eq m c t r ⟨k.val, by omega⟩ _ fun x => ?_)
  refine (View.ld_apply _ _ _).trans (congrArg (iblk m c 3 t) ?_)
  funext a
  apply Fin.ext
  fin_cases a <;> simp [r0_2, ix2, Rect.unit]

theorem out5_apply (t : Fin cfg0.N) (r : Fin 256) (k : Fin 2048) :
    out0_5 (F := Ideal) (iblk m c 0 t) (iblk m c 1 t) (iblk m c 2 t) (iblk m c 3 t) (ix3 0 r k)
      = proj (A0 m c) (A1 m c) (A2 m c) (A3 m c) (seq t) (row t r) ⟨512 + k.val, by omega⟩ := by
  unfold out0_5 r0_0 r0_1 r0_5
  rw [View.canon_cons_unit_lit _ _ _ (by decide), View.ld_unit_lit _ _ (by decide), View.ld_unit_lit _ _ (by decide), View.ld_unit_lit _ _ (by decide)]
  refine (pay4_apply _ _ _ _ r k).trans (sum_eq m c t r ⟨512 + k.val, by omega⟩ _ fun x => ?_)
  refine (View.ld_apply _ _ _).trans (congrArg (iblk m c 3 t) ?_)
  funext a
  apply Fin.ext
  fin_cases a <;> simp [r0_4, ix2, Rect.unit]

theorem out6_apply (t : Fin cfg0.N) (r : Fin 256) (k : Fin 2048) :
    out0_6 (F := Ideal) (iblk m c 0 t) (iblk m c 1 t) (iblk m c 2 t) (iblk m c 3 t) (ix3 0 r k)
      = proj (A0 m c) (A1 m c) (A2 m c) (A3 m c) (seq t) (row t r) ⟨2560 + k.val, by omega⟩ := by
  unfold out0_6 r0_0 r0_1 r0_5
  rw [View.canon_cons_unit_lit _ _ _ (by decide), View.ld_unit_lit _ _ (by decide), View.ld_unit_lit _ _ (by decide), View.ld_unit_lit _ _ (by decide)]
  refine (pay5_apply _ _ _ _ r k).trans (sum_eq m c t r ⟨2560 + k.val, by omega⟩ _ fun x => ?_)
  refine (View.ld_apply _ _ _).trans (congrArg (iblk m c 3 t) ?_)
  funext a
  apply Fin.ext
  fin_cases a <;> simp [r0_6, ix2, Rect.unit]

/-! ## The results -/

/-- Result 0: columns 0 to 511 of the projection. -/
def G4 : FVec Ideal S8x2048x512 .f32 := fun i =>
  proj (A0 m c) (A1 m c) (A2 m c) (A3 m c) (i 0) (i 1) ⟨(i 2).val, by have : (i 2).val < 512 := (i 2).isLt; omega⟩

theorem arr4 : (dats m 0 c).arrAt 4 cfg0.N = G4 m c := by
  refine (dats m 0 c).arrAt_eq_of_covers 4 (G4 m c) (by decide +kernel) fun t hf y => ?_
  blk_simp
  rw [after0_4]
  have hy : y = ix3 (y 0) (y 1) (y 2) := by funext a; fin_cases a <;> rfl
  have h0 : y 0 = (0 : Fin 1) := Subsingleton.elim (α := Fin 1) _ _
  rw [hy, h0]
  refine (out4_apply m c t (y 1) (y 2)).trans ?_
  refine (?_ : _ = G4 m c (ix3 (seq t) (row t (y 1)) (y 2))).trans (congrArg (G4 m c) ?_)
  · rfl
  funext a
  apply Fin.ext
  fin_cases a <;> blk_simp [index4] <;> simp [ix3, seq, row] <;> omega

/-- Result 1: columns 512 to 2559 of the projection. -/
def G5 : FVec Ideal S8x2048x2048 .f32 := fun i =>
  proj (A0 m c) (A1 m c) (A2 m c) (A3 m c) (i 0) (i 1) ⟨512 + (i 2).val, by have : (i 2).val < 2048 := (i 2).isLt; omega⟩

theorem arr5 : (dats m 0 c).arrAt 5 cfg0.N = G5 m c := by
  refine (dats m 0 c).arrAt_eq_of_covers 5 (G5 m c) (by decide +kernel) fun t hf y => ?_
  blk_simp
  rw [after0_5]
  have hy : y = ix3 (y 0) (y 1) (y 2) := by funext a; fin_cases a <;> rfl
  have h0 : y 0 = (0 : Fin 1) := Subsingleton.elim (α := Fin 1) _ _
  rw [hy, h0]
  refine (out5_apply m c t (y 1) (y 2)).trans ?_
  refine (?_ : _ = G5 m c (ix3 (seq t) (row t (y 1)) (y 2))).trans (congrArg (G5 m c) ?_)
  · rfl
  funext a
  apply Fin.ext
  fin_cases a <;> blk_simp [index5] <;> simp [ix3, seq, row] <;> omega

/-- Result 2: columns 2560 to 4607 of the projection. -/
def G6 : FVec Ideal S8x2048x2048 .f32 := fun i =>
  proj (A0 m c) (A1 m c) (A2 m c) (A3 m c) (i 0) (i 1) ⟨2560 + (i 2).val, by have : (i 2).val < 2048 := (i 2).isLt; omega⟩

theorem arr6 : (dats m 0 c).arrAt 6 cfg0.N = G6 m c := by
  refine (dats m 0 c).arrAt_eq_of_covers 6 (G6 m c) (by decide +kernel) fun t hf y => ?_
  blk_simp
  rw [after0_6]
  have hy : y = ix3 (y 0) (y 1) (y 2) := by funext a; fin_cases a <;> rfl
  have h0 : y 0 = (0 : Fin 1) := Subsingleton.elim (α := Fin 1) _ _
  rw [hy, h0]
  refine (out6_apply m c t (y 1) (y 2)).trans ?_
  refine (?_ : _ = G6 m c (ix3 (seq t) (row t (y 1)) (y 2))).trans (congrArg (G6 m c) ?_)
  · rfl
  funext a
  apply Fin.ext
  fin_cases a <;> blk_simp [index6] <;> simp [ix3, seq, row] <;> omega

/-! ## The claims -/

/-- The kernel runs and keeps its arguments. -/
theorem frame_kernel : Cert.quiescent_Projection (hProjection := Cert.Projection.Gen.facts) := fun m ρ _ => Cert.Projection.Gen.frame m ρ

theorem frame_ideal : Cert.quiescent_ProjectionIdeal (hProjectionIdeal := Cert.ProjectionIdeal.Gen.facts) := fun m ρ _ => Cert.ProjectionIdeal.Gen.frame m ρ

theorem frame_reference : Cert.quiescent_ProjectionReferenceIdeal (hProjectionReferenceIdeal := Cert.ProjectionReferenceIdeal.Gen.facts) := fun m ρ _ =>
  (θ_run Cert.ProjectionReferenceIdeal.defs _ _).mono
    (fun r h => ⟨fun c => (h c).2.2.2, sem_eq_zero_of_no_sems (by decide) r.2⟩) (Cert.ProjectionReferenceIdeal.Value.run (F := Ideal) m ρ)

section
attribute [local instance] Cert.ProjectionReferenceIdeal.Gen.facts

theorem same4 (X : FVec Ideal S8x2048x1024 .f32) (sh sc : FVec Ideal S8x1x1024 .f32) (w : FVec Ideal S1024x4608 .f32)
    (h0 : X = A0 m c) (h1 : sh = A1 m c) (h2 : sc = A2 m c) (h3 : w = A3 m c) (h) :
    extractStridedSlice S8x2048x512 ![0, 0, 0] (refProj X sh sc w) h = G4 m c := by
  subst h0 h1 h2 h3
  funext i
  have hi : i = ix3 (i 0) (i 1) (i 2) := by funext a; fin_cases a <;> rfl
  rw [hi]
  refine Eq.trans ?_ (refProj_apply _ _ _ _ (i 0) (i 1) ⟨(i 2).val, by have : (i 2).val < 512 := (i 2).isLt; omega⟩)
  generalize refProj (A0 m c) (A1 m c) (A2 m c) (A3 m c) = z
  pointwise

theorem same5 (X : FVec Ideal S8x2048x1024 .f32) (sh sc : FVec Ideal S8x1x1024 .f32) (w : FVec Ideal S1024x4608 .f32)
    (h0 : X = A0 m c) (h1 : sh = A1 m c) (h2 : sc = A2 m c) (h3 : w = A3 m c) (h) :
    extractStridedSlice S8x2048x2048 ![0, 0, 512] (refProj X sh sc w) h = G5 m c := by
  subst h0 h1 h2 h3
  funext i
  have hi : i = ix3 (i 0) (i 1) (i 2) := by funext a; fin_cases a <;> rfl
  rw [hi]
  refine Eq.trans ?_ (refProj_apply _ _ _ _ (i 0) (i 1) ⟨512 + (i 2).val, by have : (i 2).val < 2048 := (i 2).isLt; omega⟩)
  generalize refProj (A0 m c) (A1 m c) (A2 m c) (A3 m c) = z
  pointwise

theorem same6 (X : FVec Ideal S8x2048x1024 .f32) (sh sc : FVec Ideal S8x1x1024 .f32) (w : FVec Ideal S1024x4608 .f32)
    (h0 : X = A0 m c) (h1 : sh = A1 m c) (h2 : sc = A2 m c) (h3 : w = A3 m c) (h) :
    extractStridedSlice S8x2048x2048 ![0, 0, 2560] (refProj X sh sc w) h = G6 m c := by
  subst h0 h1 h2 h3
  funext i
  have hi : i = ix3 (i 0) (i 1) (i 2) := by funext a; fin_cases a <;> rfl
  rw [hi]
  refine Eq.trans ?_ (refProj_apply _ _ _ _ (i 0) (i 1) ⟨2560 + (i 2).val, by have : (i 2).val < 2048 := (i 2).isLt; omega⟩)
  generalize refProj (A0 m c) (A1 m c) (A2 m c) (A3 m c) = z
  pointwise
end

theorem value : Cert.algebraic_ProjectionIdeal_ProjectionReferenceIdeal (hProjectionIdeal := Cert.ProjectionIdeal.Gen.facts)
    (hProjectionReferenceIdeal := Cert.ProjectionReferenceIdeal.Gen.facts) := by
  intro m ρ m' ρ' _ hagree
  refine ⟨fun c => G4 m c, fun c => G5 m c, fun c => G6 m c,
    (θ_run Cert.ProjectionIdeal.defs _ _).mono (fun _ h c => ?_) (Cert.ProjectionIdeal.Value.run_blocks (F := Ideal) m ρ),
    (θ_run Cert.ProjectionReferenceIdeal.defs _ _).mono (fun _ h c => ?_) (Cert.ProjectionReferenceIdeal.Value.run (F := Ideal) m' ρ')⟩
  · obtain ⟨e0, e1, e2, rest⟩ := h c
    exact ⟨e0.trans (arr4 m c), e1.trans (arr5 m c), e2.trans (arr6 m c), rest⟩
  · obtain ⟨e0, e1, e2, rest⟩ := h c
    obtain ⟨g0, g1, g2, g3⟩ := hagree c
    exact ⟨e0.trans (same4 m c _ _ _ _ g0 g1 g2 g3 _), e1.trans (same5 m c _ _ _ _ g0 g1 g2 g3 _), e2.trans (same6 m c _ _ _ _ g0 g1 g2 g3 _), rest⟩

end Cert.Proof.Proj

end
-- ==== Proof.MixSpec.lean ====
module

public import proofs.«01_k».proof.Proof.Gen.MixingIdeal
public import proofs.«01_k».proof.Proof.Gen.MixingReferenceIdeal.Run
public import Idealize.ShloMosaic.Lib.Pipeline.ValueKit
public import Idealize.ShloMosaic.Lib.Pointwise
public import proofs.«01_k».proof.Defs

/-! The mixing of the two branches: the mathematics of a row, and the reference as that. -/

@[expose] public section

set_option maxRecDepth 16384

noncomputable section

namespace Cert.Proof.Mix

open Idealize.ShloMosaic Idealize.ShloMosaic.TcCoe Idealize.SL.Sem

/-! ## One row -/

/-- The gated linear unit of a row of 512. -/
def gluRow (y : Fin 512 → EReal) (wg : Fin 512 → Fin 512 → EReal) (bg : Fin 512 → EReal) (j : Fin 512) : EReal :=
  y j * Ideal.logistic (∑ x : Fin 512, y x * wg x j + bg j)

/-- The two branches raised to 1024 features, each under its gate, added. -/
def mergedRow (y : Fin 512 → EReal) (h : Fin 512 → EReal) (g : Fin 2048 → EReal) (w5 wh : Fin 512 → Fin 1024 → EReal) (k : Fin 1024) : EReal :=
  Ideal.logistic (g ⟨k.val, by omega⟩) * (∑ j : Fin 512, y j * w5 j k)
    + Ideal.logistic (g ⟨1024 + k.val, by omega⟩) * (∑ j : Fin 512, h j * wh j k)

/-- The row before its normalisation: the residual and the gated output projection. -/
def preRow (z : Fin 1024 → EReal) (wo : Fin 1024 → Fin 1024 → EReal) (x gate : Fin 1024 → EReal) (k : Fin 1024) : EReal :=
  Ideal.ofBits .f32 0x3FB504F3#32 * x k + gate k * (∑ j : Fin 1024, z j * wo j k)

/-- The mean of a row. -/
def meanRow (z : Fin 1024 → EReal) : EReal := Ideal.div (∑ x : Fin 1024, z x) (Ideal.ofBits .f32 0x44800000#32)

/-- The row normalised, scaled and shifted. -/
def normRow (z g b : Fin 1024 → EReal) (k : Fin 1024) : EReal :=
  (z k - meanRow z) * Ideal.rsqrt (meanRow (fun x => (z x - meanRow z) * (z x - meanRow z)) + Ideal.ofBits .f32 0x3727C5AC#32) * g k + b k

/-- The modulated row. -/
def modRow (z sc sh : Fin 1024 → EReal) (k : Fin 1024) : EReal := z k * (1 + sc k) + sh k

/-- The normalised row `s` of sequence `b`, from the sixteen arguments' contents. -/
def outRow (a0 a1 : FVec Ideal Cert.MixingIdeal.S8x2048x512 .f32) (a2 : FVec Ideal Cert.MixingIdeal.S8x2048x2048 .f32)
    (a3 : FVec Ideal Cert.MixingIdeal.S8x2048x1024 .f32) (a4 : FVec Ideal Cert.MixingIdeal.S8x1x1024 .f32)
    (a7 : FVec Ideal Cert.MixingIdeal.S512x512 .f32) (a8 : FVec Ideal Cert.MixingIdeal.S512 .f32)
    (a9 a10 : FVec Ideal Cert.MixingIdeal.S512x1024 .f32) (a11 : FVec Ideal Cert.MixingIdeal.S1024x1024 .f32)
    (a12 a13 : FVec Ideal Cert.MixingIdeal.S1024 .f32) (b : Fin 8) (s : Fin 2048) : Fin 1024 → EReal :=
  normRow (preRow (mergedRow (gluRow (fun j => a0 (ix3 b s j)) (fun x j => a7 (ix2 x j)) (fun j => a8 (ix1 j)))
      (fun j => a1 (ix3 b s j)) (fun j => a2 (ix3 b s j)) (fun j k => a9 (ix2 j k)) (fun j k => a10 (ix2 j k)))
    (fun j k => a11 (ix2 j k)) (fun k => a3 (ix3 b s k)) (fun k => a4 (ix3 b 0 k))) (fun k => a12 (ix1 k)) (fun k => a13 (ix1 k))

/-! ## The reference -/

section
open Cert.MixingReferenceIdeal Cert.MixingReferenceIdeal.Gen
attribute [local instance] Cert.MixingReferenceIdeal.Gen.facts

/-- The reference's gated linear unit. -/
def refGlu (a0 : FVec Ideal S8x2048x512 .f32) (a7 : FVec Ideal S512x512 .f32) (a8 : FVec Ideal S512 .f32) : FVec Ideal S8x2048x512 .f32 :=
  mulf a0 (Host.divf (broadcastInDim S8x2048x512 ![] bcast_S_S8x2048x512 (constant (F := Ideal) S_ .f32 0x3F800000#32)) (addf (broadcastInDim S8x2048x512 ![] bcast_S_S8x2048x512 (constant (F := Ideal) S_ .f32 0x3F800000#32)) (Host.exp (Host.negf (addf (Host.dotGeneral dot_S8x2048x512_S512x512_S8x2048x512_2_0_01_1_n_n none a0 a7) (broadcastInDim S8x2048x512 ![0, 1, 2] bcast_S1x1x512_S8x2048x512_0_1_2 (broadcastInDim S1x1x512 ![2] bcast_S512_S1x1x512_2 a8)))))))

theorem refGlu_apply (a0 : FVec Ideal S8x2048x512 .f32) (a7 : FVec Ideal S512x512 .f32) (a8 : FVec Ideal S512 .f32) (b : Fin 8) (s : Fin 2048) (j : Fin 512) :
    refGlu a0 a7 a8 (ix3 b s j) = gluRow (fun j => a0 (ix3 b s j)) (fun x j => a7 (ix2 x j)) (fun j => a8 (ix1 j)) j := by
  unfold refGlu gluRow
  pointwise
  rfl

/-- The reference's gates. -/
def refGates (a2 : FVec Ideal S8x2048x2048 .f32) : FVec Ideal S8x2048x2048 .f32 :=
  Host.divf (broadcastInDim S8x2048x2048 ![] bcast_S_S8x2048x2048 (constant (F := Ideal) S_ .f32 0x3F800000#32)) (addf (broadcastInDim S8x2048x2048 ![] bcast_S_S8x2048x2048 (constant (F := Ideal) S_ .f32 0x3F800000#32)) (Host.exp (Host.negf a2)))

theorem refGates_apply (a2 : FVec Ideal S8x2048x2048 .f32) (b : Fin 8) (s : Fin 2048) (j : Fin 2048) :
    refGates a2 (ix3 b s j) = Ideal.logistic (a2 (ix3 b s j)) := by
  unfold refGates
  pointwise
  rfl

/-- The reference's two branches under their gates. -/
def refMerged (y h : FVec Ideal S8x2048x512 .f32) (g : FVec Ideal S8x2048x2048 .f32) (a9 a10 : FVec Ideal S512x1024 .f32) : FVec Ideal S8x2048x1024 .f32 :=
  addf (mulf (extractStridedSlice S8x2048x1024 ![0, 0, 0] g slices_S8x2048x2048_S8x2048x1024_0_0_0) (Host.dotGeneral dot_S8x2048x512_S512x1024_S8x2048x1024_2_0_01_1_n_n none y a9))
    (mulf (extractStridedSlice S8x2048x1024 ![0, 0, 1024] g slices_S8x2048x2048_S8x2048x1024_0_0_1024) (Host.dotGeneral dot_S8x2048x512_S512x1024_S8x2048x1024_2_0_01_1_n_n none h a10))

theorem refMerged_apply (y h : FVec Ideal S8x2048x512 .f32) (a2 : FVec Ideal S8x2048x2048 .f32) (a9 a10 : FVec Ideal S512x1024 .f32) (b : Fin 8) (s : Fin 2048) (k : Fin 1024) :
    refMerged y h (refGates a2) a9 a10 (ix3 b s k)
      = mergedRow (fun j => y (ix3 b s j)) (fun j => h (ix3 b s j)) (fun j => a2 (ix3 b s j)) (fun j k => a9 (ix2 j k)) (fun j k => a10 (ix2 j k)) k := by
  unfold mergedRow
  rw [← refGates_apply a2 b s ⟨k.val, by omega⟩, ← refGates_apply a2 b s ⟨1024 + k.val, by omega⟩]
  generalize refGates a2 = g
  unfold refMerged
  pointwise

/-- The reference's row before its normalisation. -/
def refPre (z : FVec Ideal S8x2048x1024 .f32) (a11 : FVec Ideal S1024x1024 .f32) (a3 : FVec Ideal S8x2048x1024 .f32) (a4 : FVec Ideal S8x1x1024 .f32) : FVec Ideal S8x2048x1024 .f32 :=
  addf (mulf (broadcastInDim S8x2048x1024 ![] bcast_S_S8x2048x1024 (constant (F := Ideal) S_ .f32 0x3FB504F3#32)) a3) (mulf (broadcastInDim S8x2048x1024 ![0, 1, 2] bcast_S8x1x1024_S8x2048x1024_0_1_2 a4) (Host.dotGeneral dot_S8x2048x1024_S1024x1024_S8x2048x1024_2_0_01_1_n_n none z a11))

theorem refPre_apply (z : FVec Ideal S8x2048x1024 .f32) (a11 : FVec Ideal S1024x1024 .f32) (a3 : FVec Ideal S8x2048x1024 .f32) (a4 : FVec Ideal S8x1x1024 .f32) (b : Fin 8) (s : Fin 2048) (k : Fin 1024) :
    refPre z a11 a3 a4 (ix3 b s k)
      = preRow (fun j => z (ix3 b s j)) (fun j k => a11 (ix2 j k)) (fun k => a3 (ix3 b s k)) (fun k => a4 (ix3 b 0 k)) k := by
  unfold refPre preRow
  pointwise

/-- The reference's mean over the features, kept as a column. -/
def refMean (z : FVec Ideal S8x2048x1024 .f32) : FVec Ideal S8x2048x1 .f32 :=
  Host.divf (broadcastInDim S8x2048x1 ![0, 1] bcast_S8x2048_S8x2048x1_0_1 (Host.reduceAdd z (constant (F := Ideal) S_ .f32 0x00000000#32) reducesTo_S8x2048x1024_S8x2048_d2 h_S_)) (broadcastInDim S8x2048x1 ![] bcast_S_S8x2048x1 (constant (F := Ideal) S_ .f32 0x44800000#32))

theorem refMean_apply (z : FVec Ideal S8x2048x1024 .f32) (b : Fin 8) (s : Fin 2048) : refMean z (ix3 b s 0) = meanRow (fun k => z (ix3 b s k)) := by
  unfold refMean meanRow
  pointwise

/-- The row less its mean. -/
def refCentred (z : FVec Ideal S8x2048x1024 .f32) : FVec Ideal S8x2048x1024 .f32 :=
  subf z (broadcastInDim S8x2048x1024 ![0, 1, 2] bcast_S8x2048x1_S8x2048x1024_0_1_2 (refMean z))

theorem refCentred_apply (z : FVec Ideal S8x2048x1024 .f32) (b : Fin 8) (s : Fin 2048) (k : Fin 1024) :
    refCentred z (ix3 b s k) = z (ix3 b s k) - meanRow (fun k => z (ix3 b s k)) := by
  rw [← refMean_apply]
  unfold refCentred
  generalize refMean z = u
  pointwise

theorem refVar_apply (z : FVec Ideal S8x2048x1024 .f32) (b : Fin 8) (s : Fin 2048) :
    refMean (mulf (refCentred z) (refCentred z)) (ix3 b s 0)
      = meanRow (fun x => (z (ix3 b s x) - meanRow (fun k => z (ix3 b s k))) * (z (ix3 b s x) - meanRow (fun k => z (ix3 b s k)))) := by
  refine (refMean_apply _ b s).trans (congrArg meanRow (funext fun x => ?_))
  rw [← refCentred_apply]
  generalize refCentred z = u
  pointwise

/-- The reference's normalisation. -/
def refNorm (z : FVec Ideal S8x2048x1024 .f32) (a12 a13 : FVec Ideal S1024 .f32) : FVec Ideal S8x2048x1024 .f32 :=
  addf (mulf (mulf (refCentred z) (broadcastInDim S8x2048x1024 ![0, 1, 2] bcast_S8x2048x1_S8x2048x1024_0_1_2 (Host.rsqrt (addf (refMean (mulf (refCentred z) (refCentred z))) (broadcastInDim S8x2048x1 ![] bcast_S_S8x2048x1 (constant (F := Ideal) S_ .f32 0x3727C5AC#32))))))
      (broadcastInDim S8x2048x1024 ![0, 1, 2] bcast_S1x1x1024_S8x2048x1024_0_1_2 (broadcastInDim S1x1x1024 ![2] bcast_S1024_S1x1x1024_2 a12)))
    (broadcastInDim S8x2048x1024 ![0, 1, 2] bcast_S1x1x1024_S8x2048x1024_0_1_2 (broadcastInDim S1x1x1024 ![2] bcast_S1024_S1x1x1024_2 a13))

theorem refNorm_apply (z : FVec Ideal S8x2048x1024 .f32) (a12 a13 : FVec Ideal S1024 .f32) (b : Fin 8) (s : Fin 2048) (k : Fin 1024) :
    refNorm z a12 a13 (ix3 b s k) = normRow (fun k => z (ix3 b s k)) (fun k => a12 (ix1 k)) (fun k => a13 (ix1 k)) k := by
  unfold normRow
  rw [← refVar_apply, ← refCentred_apply]
  unfold refNorm
  generalize refMean (mulf (refCentred z) (refCentred z)) = v
  generalize refCentred z = u
  pointwise

/-- The reference's modulation. -/
def refMod (z : FVec Ideal S8x2048x1024 .f32) (a6 a5 : FVec Ideal S8x1x1024 .f32) : FVec Ideal S8x2048x1024 .f32 :=
  addf (mulf z (broadcastInDim S8x2048x1024 ![0, 1, 2] bcast_S8x1x1024_S8x2048x1024_0_1_2
      (addf (broadcastInDim S8x1x1024 ![] bcast_S_S8x1x1024 (constant (F := Ideal) S_ .f32 0x3F800000#32)) a6)))
    (broadcastInDim S8x2048x1024 ![0, 1, 2] bcast_S8x1x1024_S8x2048x1024_0_1_2 a5)

theorem refMod_apply (z : FVec Ideal S8x2048x1024 .f32) (a6 a5 : FVec Ideal S8x1x1024 .f32) (b : Fin 8) (s : Fin 2048) (k : Fin 1024) :
    refMod z a6 a5 (ix3 b s k) = modRow (fun k => z (ix3 b s k)) (fun k => a6 (ix3 b 0 k)) (fun k => a5 (ix3 b 0 k)) k := by
  unfold refMod modRow
  pointwise

/-- The reference's first result. -/
def refOut (a0 a1 : FVec Ideal S8x2048x512 .f32) (a2 : FVec Ideal S8x2048x2048 .f32) (a3 : FVec Ideal S8x2048x1024 .f32) (a4 : FVec Ideal S8x1x1024 .f32)
    (a7 : FVec Ideal S512x512 .f32) (a8 : FVec Ideal S512 .f32) (a9 a10 : FVec Ideal S512x1024 .f32) (a11 : FVec Ideal S1024x1024 .f32)
    (a12 a13 : FVec Ideal S1024 .f32) : FVec Ideal S8x2048x1024 .f32 :=
  refNorm (refPre (refMerged (refGlu a0 a7 a8) a1 (refGates a2) a9 a10) a11 a3 a4) a12 a13

theorem refOut_apply (a0 a1 : FVec Ideal S8x2048x512 .f32) (a2 : FVec Ideal S8x2048x2048 .f32) (a3 : FVec Ideal S8x2048x1024 .f32) (a4 : FVec Ideal S8x1x1024 .f32)
    (a7 : FVec Ideal S512x512 .f32) (a8 : FVec Ideal S512 .f32) (a9 a10 : FVec Ideal S512x1024 .f32) (a11 : FVec Ideal S1024x1024 .f32)
    (a12 a13 : FVec Ideal S1024 .f32) (b : Fin 8) (s : Fin 2048) (k : Fin 1024) :
    refOut a0 a1 a2 a3 a4 a7 a8 a9 a10 a11 a12 a13 (ix3 b s k) = outRow a0 a1 a2 a3 a4 a7 a8 a9 a10 a11 a12 a13 b s k := by
  unfold refOut outRow
  simp only [refNorm_apply, refPre_apply, refMerged_apply, refGlu_apply]

variable (m : (ℓ : Loc nD τ sig) → Buf (Elt Ideal) ℓ) (c : Dev nD)

theorem res0_eq : Value.res_out0 (F := Ideal) m c
    = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) := rfl

theorem res1_eq : Value.res_out1 (F := Ideal) m c
    = refMod (Value.res_out0 (F := Ideal) m c) (m ((c.tc : Thread nD τ).loc main_arg6)) (m ((c.tc : Thread nD τ).loc main_arg5)) := rfl

end

end Cert.Proof.Mix

end
-- ==== Proof.MixValue.lean ====
module

public import proofs.«01_k».proof.Proof.Gen.MixingIdeal.Value
public import proofs.«01_k».proof.Proof.MixSpec
public import Idealize.ShloMosaic.Lib.Pipeline.ValueKit
public import Idealize.ShloMosaic.Lib.Pointwise
public import proofs.«01_k».proof.Proof.Gen.Mixing.Frame
public import proofs.«01_k».proof.Defs

/-! The mixing of the two branches: what the points leave is the normalised row and its modulation, as in the reference. -/

@[expose] public section

set_option maxRecDepth 16384

noncomputable section

namespace Cert.Proof.Mix

open Idealize.ShloMosaic Idealize.ShloMosaic.TcCoe Idealize.SL.Sem

open Cert.MixingIdeal Cert.MixingIdeal.Gen
attribute [local instance] Cert.MixingIdeal.Gen.facts

/-! ## The kernel's blocks -/

variable (m : (ℓ : Loc nD τ sig) → Buf (Elt Ideal) ℓ) (c : Dev nD)

abbrev A0 : FVec Ideal S8x2048x512 .f32 := m ((c : Thread nD τ).loc main_arg0)
abbrev A1 : FVec Ideal S8x2048x512 .f32 := m ((c : Thread nD τ).loc main_arg1)
abbrev A2 : FVec Ideal S8x2048x2048 .f32 := m ((c : Thread nD τ).loc main_arg2)
abbrev A3 : FVec Ideal S8x2048x1024 .f32 := m ((c : Thread nD τ).loc main_arg3)
abbrev A4 : FVec Ideal S8x1x1024 .f32 := m ((c : Thread nD τ).loc main_arg4)
abbrev A5 : FVec Ideal S8x1x1024 .f32 := m ((c : Thread nD τ).loc main_arg5)
abbrev A6 : FVec Ideal S8x1x1024 .f32 := m ((c : Thread nD τ).loc main_arg6)
abbrev A7 : FVec Ideal S512x512 .f32 := m ((c : Thread nD τ).loc main_arg7)
abbrev A8 : FVec Ideal S512 .f32 := m ((c : Thread nD τ).loc main_arg8)
abbrev A9 : FVec Ideal S512x1024 .f32 := m ((c : Thread nD τ).loc main_arg9)
abbrev A10 : FVec Ideal S512x1024 .f32 := m ((c : Thread nD τ).loc main_arg10)
abbrev A11 : FVec Ideal S1024x1024 .f32 := m ((c : Thread nD τ).loc main_arg11)
abbrev A12 : FVec Ideal S1024 .f32 := m ((c : Thread nD τ).loc main_arg12)
abbrev A13 : FVec Ideal S1024 .f32 := m ((c : Thread nD τ).loc main_arg13)

theorem entry7 : V m c main_v12 = truncf .bf16 (A7 m c) bitsLt_bf16_f32 := by
  unfold V
  simp only [hostOps0]
  after_results

theorem entry9 : V m c main_v14 = truncf .bf16 (A9 m c) bitsLt_bf16_f32 := by
  unfold V
  simp only [hostOps0]
  after_results

theorem entry10 : V m c main_v15 = truncf .bf16 (A10 m c) bitsLt_bf16_f32 := by
  unfold V
  simp only [hostOps0]
  after_results

theorem entry11 : V m c main_v16 = truncf .bf16 (A11 m c) bitsLt_bf16_f32 := by
  unfold V
  simp only [hostOps0]
  after_results

theorem entry8 : V m c main_v13 = shapeCast S1x512 (A8 m c) shapeCasts_S512_S1x512 := by
  unfold V
  simp only [hostOps0]
  after_results
  rfl

theorem entry12 : V m c main_v17 = shapeCast S1x1024 (A12 m c) shapeCasts_S1024_S1x1024 := by
  unfold V
  simp only [hostOps0]
  after_results
  rfl

theorem entry13 : V m c main_v18 = shapeCast S1x1024 (A13 m c) shapeCasts_S1024_S1x1024 := by
  unfold V
  simp only [hostOps0]
  after_results
  rfl

theorem index0 : ∀ t : Fin cfg0.N, win0_0.index t = ![t.val / 8, t.val % 8, 0] := by decide +kernel
theorem index1 : ∀ t : Fin cfg0.N, win0_1.index t = ![t.val / 8, t.val % 8, 0] := by decide +kernel
theorem index2 : ∀ t : Fin cfg0.N, win0_2.index t = ![t.val / 8, t.val % 8, 0] := by decide +kernel
theorem index3 : ∀ t : Fin cfg0.N, win0_3.index t = ![t.val / 8, t.val % 8, 0] := by decide +kernel
theorem index4 : ∀ t : Fin cfg0.N, win0_4.index t = ![t.val / 8, 0, 0] := by decide +kernel
theorem index5 : ∀ t : Fin cfg0.N, win0_5.index t = ![t.val / 8, 0, 0] := by decide +kernel
theorem index6 : ∀ t : Fin cfg0.N, win0_6.index t = ![t.val / 8, 0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel
theorem index12 : ∀ t : Fin cfg0.N, win0_12.index t = ![0, 0] := by decide +kernel
theorem index13 : ∀ t : Fin cfg0.N, win0_13.index t = ![0, 0] := by decide +kernel
theorem index16 : ∀ t : Fin cfg0.N, win0_16.index t = ![t.val / 8, t.val % 8, 0] := by decide +kernel
theorem index17 : ∀ t : Fin cfg0.N, win0_17.index t = ![t.val / 8, t.val % 8, 0] := by decide +kernel

theorem pt_lt (t : Fin cfg0.N) : t.val < 64 := Nat.lt_of_lt_of_eq t.isLt N_0
/-- The sequence a point works on, and the place in it of the point's row `r`. -/
def seq (t : Fin cfg0.N) : Fin 8 := ⟨t.val / 8, by have := pt_lt t; omega⟩
def row (t : Fin cfg0.N) (r : Fin 256) : Fin 2048 := ⟨256 * (t.val % 8) + r.val, by omega⟩

theorem blk0_apply (t : Fin cfg0.N) (r : Fin 256) (x : Fin 512) :
    iblk m c 0 t (ix3 (0 : Fin 1) r x) = A0 m c (ix3 (seq t) (row t r) x) := by
  unfold iblk
  blk_simp
  rw [V_main_arg0]
  refine congrArg (m ((c : Thread nD τ).loc main_arg0)) ?_
  funext a
  apply Fin.ext
  fin_cases a <;> blk_simp [index0] <;> simp [ix3, seq, row] <;> omega

theorem blk1_apply (t : Fin cfg0.N) (r : Fin 256) (x : Fin 512) :
    iblk m c 1 t (ix3 (0 : Fin 1) r x) = A1 m c (ix3 (seq t) (row t r) x) := by
  unfold iblk
  blk_simp
  rw [V_main_arg1]
  refine congrArg (m ((c : Thread nD τ).loc main_arg1)) ?_
  funext a
  apply Fin.ext
  fin_cases a <;> blk_simp [index1] <;> simp [ix3, seq, row] <;> omega

theorem blk2_apply (t : Fin cfg0.N) (r : Fin 256) (x : Fin 2048) :
    iblk m c 2 t (ix3 (0 : Fin 1) r x) = A2 m c (ix3 (seq t) (row t r) x) := by
  unfold iblk
  blk_simp
  rw [V_main_arg2]
  refine congrArg (m ((c : Thread nD τ).loc main_arg2)) ?_
  funext a
  apply Fin.ext
  fin_cases a <;> blk_simp [index2] <;> simp [ix3, seq, row] <;> omega

theorem blk3_apply (t : Fin cfg0.N) (r : Fin 256) (x : Fin 1024) :
    iblk m c 3 t (ix3 (0 : Fin 1) r x) = A3 m c (ix3 (seq t) (row t r) x) := by
  unfold iblk
  blk_simp
  rw [V_main_arg3]
  refine congrArg (m ((c : Thread nD τ).loc main_arg3)) ?_
  funext a
  apply Fin.ext
  fin_cases a <;> blk_simp [index3] <;> simp [ix3, seq, row] <;> omega

theorem blk4_apply (t : Fin cfg0.N) (x : Fin 1024) : iblk m c 4 t (ix3 (0 : Fin 1) (0 : Fin 1) x) = A4 m c (ix3 (seq t) 0 x) := by
  unfold iblk
  blk_simp
  rw [V_main_arg4]
  refine congrArg (m ((c : Thread nD τ).loc main_arg4)) ?_
  funext a
  apply Fin.ext
  fin_cases a <;> blk_simp [index4] <;> simp [ix3, seq]

theorem blk5_apply (t : Fin cfg0.N) (x : Fin 1024) : iblk m c 5 t (ix3 (0 : Fin 1) (0 : Fin 1) x) = A5 m c (ix3 (seq t) 0 x) := by
  unfold iblk
  blk_simp
  rw [V_main_arg5]
  refine congrArg (m ((c : Thread nD τ).loc main_arg5)) ?_
  funext a
  apply Fin.ext
  fin_cases a <;> blk_simp [index5] <;> simp [ix3, seq]

theorem blk6_apply (t : Fin cfg0.N) (x : Fin 1024) : iblk m c 6 t (ix3 (0 : Fin 1) (0 : Fin 1) x) = A6 m c (ix3 (seq t) 0 x) := by
  unfold iblk
  blk_simp
  rw [V_main_arg6]
  refine congrArg (m ((c : Thread nD τ).loc main_arg6)) ?_
  funext a
  apply Fin.ext
  fin_cases a <;> blk_simp [index6] <;> simp [ix3, seq]

theorem blk7_apply (t : Fin cfg0.N) (x : Fin 512) (k : Fin 512) : iblk m c 7 t (ix2 x k) = A7 m c (ix2 x k) := by
  unfold iblk
  blk_simp
  rw [entry7]
  refine (congrArg (truncf .bf16 (A7 m c) bitsLt_bf16_f32) (?_ : _ = ix2 x k)).trans ?_
  · funext a
    apply Fin.ext
    fin_cases a <;> blk_simp [index7] <;> simp [ix2]
  · pointwise

theorem blk9_apply (t : Fin cfg0.N) (x : Fin 512) (k : Fin 1024) : iblk m c 9 t (ix2 x k) = A9 m c (ix2 x k) := by
  unfold iblk
  blk_simp
  rw [entry9]
  refine (congrArg (truncf .bf16 (A9 m c) bitsLt_bf16_f32) (?_ : _ = ix2 x k)).trans ?_
  · funext a
    apply Fin.ext
    fin_cases a <;> blk_simp [index9] <;> simp [ix2]
  · pointwise

theorem blk10_apply (t : Fin cfg0.N) (x : Fin 512) (k : Fin 1024) : iblk m c 10 t (ix2 x k) = A10 m c (ix2 x k) := by
  unfold iblk
  blk_simp
  rw [entry10]
  refine (congrArg (truncf .bf16 (A10 m c) bitsLt_bf16_f32) (?_ : _ = ix2 x k)).trans ?_
  · funext a
    apply Fin.ext
    fin_cases a <;> blk_simp [index10] <;> simp [ix2]
  · pointwise

theorem blk11_apply (t : Fin cfg0.N) (x : Fin 1024) (k : Fin 1024) : iblk m c 11 t (ix2 x k) = A11 m c (ix2 x k) := by
  unfold iblk
  blk_simp
  rw [entry11]
  refine (congrArg (truncf .bf16 (A11 m c) bitsLt_bf16_f32) (?_ : _ = ix2 x k)).trans ?_
  · funext a
    apply Fin.ext
    fin_cases a <;> blk_simp [index11] <;> simp [ix2]
  · pointwise

theorem blk8_apply (t : Fin cfg0.N) (k : Fin 512) : iblk m c 8 t (ix2 (0 : Fin 1) k) = A8 m c (ix1 k) := by
  unfold iblk
  blk_simp
  rw [entry8]
  refine (congrArg (shapeCast S1x512 (A8 m c) shapeCasts_S512_S1x512) (?_ : _ = ix2 (0 : Fin 1) k)).trans ?_
  · funext a
    apply Fin.ext
    fin_cases a <;> blk_simp [index8] <;> simp [ix2]
  · pointwise

theorem blk12_apply (t : Fin cfg0.N) (k : Fin 1024) : iblk m c 12 t (ix2 (0 : Fin 1) k) = A12 m c (ix1 k) := by
  unfold iblk
  blk_simp
  rw [entry12]
  refine (congrArg (shapeCast S1x1024 (A12 m c) shapeCasts_S1024_S1x1024) (?_ : _ = ix2 (0 : Fin 1) k)).trans ?_
  · funext a
    apply Fin.ext
    fin_cases a <;> blk_simp [index12] <;> simp [ix2]
  · pointwise

theorem blk13_apply (t : Fin cfg0.N) (k : Fin 1024) : iblk m c 13 t (ix2 (0 : Fin 1) k) = A13 m c (ix1 k) := by
  unfold iblk
  blk_simp
  rw [entry13]
  refine (congrArg (shapeCast S1x1024 (A13 m c) shapeCasts_S1024_S1x1024) (?_ : _ = ix2 (0 : Fin 1) k)).trans ?_
  · funext a
    apply Fin.ext
    fin_cases a <;> blk_simp [index13] <;> simp [ix2]
  · pointwise

/-! ## The payloads -/

/-- A block of gated linear units. -/
def gluBlk (v0 : FVec Ideal S1x256x512 .f32) (v3 : FVec Ideal S512x512 .bf16) (v6 : FVec Ideal S1x512 .f32) : FVec Ideal S256x512 .f32 :=
  mulf (shapeCast S256x512 v0 shapeCasts_S1x256x512_S256x512)
    (logistic (addf (matmul dot_S256x512_S512x512_S256x512_1_0_0_1_n_n none
      (truncf .bf16 (shapeCast S256x512 v0 shapeCasts_S1x256x512_S256x512) bitsLt_bf16_f32)
      (shapeCast S512x512 v3 shapeCasts_S512x512_S512x512) (constant S256x512 .f32 0x00000000#32))
      (broadcastTo S256x512 (shapeCast S1x512 v6 shapeCasts_S1x512_S1x512) broadcasts_S1x512_S256x512)))

theorem gluBlk_apply (v0 : FVec Ideal S1x256x512 .f32) (v3 : FVec Ideal S512x512 .bf16) (v6 : FVec Ideal S1x512 .f32) (r : Fin 256) (j : Fin 512) :
    gluBlk v0 v3 v6 (ix2 r j) = gluRow (fun j => v0 (ix3 0 r j)) (fun x j => v3 (ix2 x j)) (fun j => v6 (ix2 0 j)) j := by
  unfold gluBlk gluRow
  pointwise

/-- A block of merged branches. -/
def mergedBlk (y : FVec Ideal S256x512 .f32) (v12 : FVec Ideal S1x256x2048 .f32) (v17 : FVec Ideal S512x1024 .bf16) (v22 : FVec Ideal S1x256x512 .f32)
    (v25 : FVec Ideal S512x1024 .bf16) : FVec Ideal S256x1024 .f32 :=
  addf (mulf (extractStridedSlice S256x1024 ![0, 0] (logistic (shapeCast S256x2048 v12 shapeCasts_S1x256x2048_S256x2048)) slices_S256x2048_o0_0_S256x1024)
      (matmul dot_S256x512_S512x1024_S256x1024_1_0_0_1_n_n none (truncf .bf16 y bitsLt_bf16_f32)
        (shapeCast S512x1024 v17 shapeCasts_S512x1024_S512x1024) (constant S256x1024 .f32 0x00000000#32)))
    (mulf (extractStridedSlice S256x1024 ![0, 1024] (logistic (shapeCast S256x2048 v12 shapeCasts_S1x256x2048_S256x2048)) slices_S256x2048_o0_1024_S256x1024)
      (matmul dot_S256x512_S512x1024_S256x1024_1_0_0_1_n_n none (truncf .bf16 (shapeCast S256x512 v22 shapeCasts_S1x256x512_S256x512) bitsLt_bf16_f32)
        (shapeCast S512x1024 v25 shapeCasts_S512x1024_S512x1024) (constant S256x1024 .f32 0x00000000#32)))

theorem mergedBlk_apply (y : FVec Ideal S256x512 .f32) (v12 : FVec Ideal S1x256x2048 .f32) (v17 : FVec Ideal S512x1024 .bf16) (v22 : FVec Ideal S1x256x512 .f32)
    (v25 : FVec Ideal S512x1024 .bf16) (r : Fin 256) (k : Fin 1024) :
    mergedBlk y v12 v17 v22 v25 (ix2 r k) = mergedRow (fun j => y (ix2 r j)) (fun j => v22 (ix3 0 r j)) (fun j => v12 (ix3 0 r j))
      (fun j k => v17 (ix2 j k)) (fun j k => v25 (ix2 j k)) k := by
  unfold mergedBlk mergedRow
  pointwise

theorem pay3_eq (v0 : FVec Ideal S1x256x512 .f32) (v3 : FVec Ideal S512x512 .bf16) (v6 : FVec Ideal S1x512 .f32) (v12 : FVec Ideal S1x256x2048 .f32)
    (v17 : FVec Ideal S512x1024 .bf16) (v22 : FVec Ideal S1x256x512 .f32) (v25 : FVec Ideal S512x1024 .bf16) (v31 : FVec Ideal S1024x1024 .bf16) :
    k0_pay3 (F := Ideal) v0 v3 v6 v12 v17 v22 v25 v31
      = matmul dot_S256x1024_S1024x1024_S256x1024_1_0_0_1_n_n none (truncf .bf16 (mergedBlk (gluBlk v0 v3 v6) v12 v17 v22 v25) bitsLt_bf16_f32)
        (shapeCast S1024x1024 v31 shapeCasts_S1024x1024_S1024x1024) (constant S256x1024 .f32 0x00000000#32) := rfl

theorem pay3_apply (v0 : FVec Ideal S1x256x512 .f32) (v3 : FVec Ideal S512x512 .bf16) (v6 : FVec Ideal S1x512 .f32) (v12 : FVec Ideal S1x256x2048 .f32)
    (v17 : FVec Ideal S512x1024 .bf16) (v22 : FVec Ideal S1x256x512 .f32) (v25 : FVec Ideal S512x1024 .bf16) (v31 : FVec Ideal S1024x1024 .bf16)
    (r : Fin 256) (k : Fin 1024) :
    k0_pay3 (F := Ideal) v0 v3 v6 v12 v17 v22 v25 v31 (ix2 r k)
      = ∑ j : Fin 1024, mergedBlk (gluBlk v0 v3 v6) v12 v17 v22 v25 (ix2 r j) * v31 (ix2 j k) := by
  rw [pay3_eq]
  generalize mergedBlk (gluBlk v0 v3 v6) v12 v17 v22 v25 = z
  pointwise

/-- A block before its normalisation. -/
def preBlk (v33 : FVec Ideal S256x1024 .f32) (v34 : FVec Ideal S1x256x1024 .f32) (v38 : FVec Ideal S1x1x1024 .f32) : FVec Ideal S256x1024 .f32 :=
  addf (mulf (broadcast S256x1024 (Scalar.ofBits (F := Ideal) .f32 0x3FB504F3#32)) (shapeCast S256x1024 v34 shapeCasts_S1x256x1024_S256x1024))
    (mulf (broadcastTo S256x1024 (shapeCast S1x1024 v38 shapeCasts_S1x1x1024_S1x1024) broadcasts_S1x1024_S256x1024) v33)

theorem preBlk_apply (v33 : FVec Ideal S256x1024 .f32) (v34 : FVec Ideal S1x256x1024 .f32) (v38 : FVec Ideal S1x1x1024 .f32) (r : Fin 256) (k : Fin 1024) :
    preBlk v33 v34 v38 (ix2 r k) = Ideal.ofBits .f32 0x3FB504F3#32 * v34 (ix3 0 r k) + v38 (ix3 0 0 k) * v33 (ix2 r k) := by
  unfold preBlk
  pointwise

/-- The means of a block's rows. -/
def meanBlk (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits (F := Ideal) .f32 0x44800000#32))

theorem meanBlk_apply (z : FVec Ideal S256x1024 .f32) (r : Fin 256) : meanBlk z (ix2 r 0) = meanRow (fun k => z (ix2 r k)) := by
  unfold meanBlk meanRow
  pointwise

/-- A block less its rows' means. -/
def centredBlk (z : FVec Ideal S256x1024 .f32) : FVec Ideal S256x1024 .f32 :=
  subf z (broadcastTo S256x1024 (meanBlk z) broadcasts_S256x1_S256x1024)

theorem centredBlk_apply (z : FVec Ideal S256x1024 .f32) (r : Fin 256) (k : Fin 1024) :
    centredBlk z (ix2 r k) = z (ix2 r k) - meanRow (fun k => z (ix2 r k)) := by
  rw [← meanBlk_apply]
  unfold centredBlk
  generalize meanBlk z = u
  pointwise

theorem varBlk_apply (z : FVec Ideal S256x1024 .f32) (r : Fin 256) :
    meanBlk (mulf (centredBlk z) (centredBlk z)) (ix2 r 0)
      = meanRow (fun x => (z (ix2 r x) - meanRow (fun k => z (ix2 r k))) * (z (ix2 r x) - meanRow (fun k => z (ix2 r k)))) := by
  refine (meanBlk_apply _ r).trans (congrArg meanRow (funext fun x => ?_))
  rw [← centredBlk_apply]
  generalize centredBlk z = u
  pointwise

theorem pay4_eq (v33 : FVec Ideal S256x1024 .f32) (v34 : FVec Ideal S1x256x1024 .f32) (v38 : FVec Ideal S1x1x1024 .f32) (v43 v45 : FVec Ideal S1x1024 .f32) :
    k0_pay4 (F := Ideal) v33 v34 v38 v43 v45
      = addf (mulf (mulf (centredBlk (preBlk v33 v34 v38)) (broadcastTo S256x1024 (rsqrt (addf
            (meanBlk (mulf (centredBlk (preBlk v33 v34 v38)) (centredBlk (preBlk v33 v34 v38))))
            (broadcast S256x1 (Scalar.ofBits (F := Ideal) .f32 0x3727C5AC#32)))) broadcasts_S256x1_S256x1024))
          (broadcastTo S256x1024 (shapeCast S1x1024 v43 shapeCasts_S1x1024_S1x1024) broadcasts_S1x1024_S256x1024))
        (broadcastTo S256x1024 (shapeCast S1x1024 v45 shapeCasts_S1x1024_S1x1024) broadcasts_S1x1024_S256x1024) := rfl

theorem pay4_apply (v33 : FVec Ideal S256x1024 .f32) (v34 : FVec Ideal S1x256x1024 .f32) (v38 : FVec Ideal S1x1x1024 .f32) (v43 v45 : FVec Ideal S1x1024 .f32)
    (r : Fin 256) (k : Fin 1024) :
    k0_pay4 (F := Ideal) v33 v34 v38 v43 v45 (ix2 r k)
      = normRow (fun k => preBlk v33 v34 v38 (ix2 r k)) (fun k => v43 (ix2 0 k)) (fun k => v45 (ix2 0 k)) k := by
  unfold normRow
  rw [← varBlk_apply, ← centredBlk_apply, pay4_eq]
  generalize meanBlk (mulf (centredBlk (preBlk v33 v34 v38)) (centredBlk (preBlk v33 v34 v38))) = v
  generalize centredBlk (preBlk v33 v34 v38) = u
  pointwise

theorem pay5_apply (v33 : FVec Ideal S256x1024 .f32) (v34 : FVec Ideal S1x256x1024 .f32) (v38 : FVec Ideal S1x1x1024 .f32) (v43 v45 : FVec Ideal S1x1024 .f32)
    (r : Fin 256) (k : Fin 1024) :
    k0_pay5 (F := Ideal) v33 v34 v38 v43 v45 (ix3 0 r k) = k0_pay4 (F := Ideal) v33 v34 v38 v43 v45 (ix2 r k) := by
  unfold k0_pay5
  generalize k0_pay4 (F := Ideal) v33 v34 v38 v43 v45 = z
  pointwise

theorem pay8_apply (z : FVec Ideal S256x1024 .f32) (v70 v76 : FVec Ideal S1x1x1024 .f32) (r : Fin 256) (k : Fin 1024) :
    k0_pay8 (F := Ideal) z (k0_pay6 (F := Ideal) v70) v76 (ix3 0 r k)
      = modRow (fun k => z (ix2 r k)) (fun k => v70 (ix3 0 0 k)) (fun k => v76 (ix3 0 0 k)) k := by
  unfold k0_pay8 k0_pay7 k0_pay6 modRow
  pointwise

/-- A point's normalised block is the arguments' rows'. -/
theorem out_row (t : Fin cfg0.N) (r : Fin 256) (k : Fin 1024) :
    k0_pay4 (F := Ideal) (k0_pay3 (F := Ideal) (iblk m c 0 t) (iblk m c 7 t) (iblk m c 8 t) (iblk m c 2 t) (iblk m c 9 t) (iblk m c 1 t) (iblk m c 10 t) (iblk m c 11 t))
        (iblk m c 3 t) (iblk m c 4 t) (iblk m c 12 t) (iblk m c 13 t) (ix2 r k)
      = outRow (A0 m c) (A1 m c) (A2 m c) (A3 m c) (A4 m c) (A7 m c) (A8 m c) (A9 m c) (A10 m c) (A11 m c) (A12 m c) (A13 m c) (seq t) (row t r) k := by
  refine (pay4_apply _ _ _ _ _ r k).trans ?_
  unfold outRow
  have e12 := funext (blk12_apply m c t)
  have e13 := funext (blk13_apply m c t)
  refine (congrArg (normRow _ (fun k => iblk m c 12 t (ix2 (0 : Fin 1) k)) · k) e13).trans ?_
  refine (congrArg (normRow _ · _ k) e12).trans ?_
  refine congrArg (normRow · _ _ k) (funext fun x => ?_)
  refine (preBlk_apply _ _ _ r x).trans ?_
  unfold preRow
  refine congrArg₂ (· + ·) (congrArg (_ * ·) (blk3_apply m c t r x)) (congrArg₂ (· * ·) (blk4_apply m c t x) ?_)
  refine (pay3_apply _ _ _ _ _ _ _ _ r x).trans (Finset.sum_congr rfl fun j _ => ?_)
  refine congrArg₂ (· * ·) ((mergedBlk_apply _ _ _ _ _ r j).trans ?_) (blk11_apply m c t j x)
  unfold mergedRow
  refine congrArg₂ (· + ·) (congrArg₂ (· * ·) (congrArg Ideal.logistic (blk2_apply m c t r _)) (Finset.sum_congr rfl fun i _ => ?_))
    (congrArg₂ (· * ·) (congrArg Ideal.logistic (blk2_apply m c t r _)) (Finset.sum_congr rfl fun i _ =>
      congrArg₂ (· * ·) (blk1_apply m c t r i) (blk10_apply m c t i j)))
  refine congrArg₂ (· * ·) ((gluBlk_apply _ _ _ r i).trans ?_) (blk9_apply m c t i j)
  unfold gluRow
  exact congrArg₂ (· * ·) (blk0_apply m c t r i) (congrArg Ideal.logistic (congrArg₂ (· + ·) (Finset.sum_congr rfl fun x _ =>
    congrArg₂ (· * ·) (blk0_apply m c t r x) (blk7_apply m c t x i)) (blk8_apply m c t i)))

theorem out16_apply (t : Fin cfg0.N) (r : Fin 256) (k : Fin 1024) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r k)
      = outRow (A0 m c) (A1 m c) (A2 m c) (A3 m c) (A4 m c) (A7 m c) (A8 m c) (A9 m c) (A10 m c) (A11 m c) (A12 m c) (A13 m c) (seq t) (row t r) k := by
  unfold out0_16 k0_pay30 r0_0 r0_1 r0_2 r0_3 r0_4 r0_5 r0_6 r0_7 r0_8
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact (pay5_apply _ _ _ _ _ r k).trans (out_row m c t r k)

theorem out17_apply (t : Fin cfg0.N) (r : Fin 256) (k : Fin 1024) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r k)
      = modRow (outRow (A0 m c) (A1 m c) (A2 m c) (A3 m c) (A4 m c) (A7 m c) (A8 m c) (A9 m c) (A10 m c) (A11 m c) (A12 m c) (A13 m c) (seq t) (row t r))
        (fun k => A6 m c (ix3 (seq t) 0 k)) (fun k => A5 m c (ix3 (seq t) 0 k)) k := by
  unfold out0_17 k0_pay31 k0_pay32 k0_pay30 r0_0 r0_1 r0_2 r0_3 r0_4 r0_5 r0_6 r0_7 r0_8
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  refine (pay8_apply _ _ _ r k).trans ?_
  unfold modRow
  exact congrArg₂ (· + ·) (congrArg₂ (· * ·) (out_row m c t r k) (congrArg (1 + ·) (blk6_apply m c t k))) (blk5_apply m c t k)

/-! ## The results -/

/-- Result 0: the normalised rows. -/
def G16 : FVec Ideal S8x2048x1024 .f32 := fun i =>
  outRow (A0 m c) (A1 m c) (A2 m c) (A3 m c) (A4 m c) (A7 m c) (A8 m c) (A9 m c) (A10 m c) (A11 m c) (A12 m c) (A13 m c) (i 0) (i 1) (i 2)

/-- Result 1: their modulation. -/
def G17 : FVec Ideal S8x2048x1024 .f32 := fun i =>
  modRow (outRow (A0 m c) (A1 m c) (A2 m c) (A3 m c) (A4 m c) (A7 m c) (A8 m c) (A9 m c) (A10 m c) (A11 m c) (A12 m c) (A13 m c) (i 0) (i 1))
    (fun k => A6 m c (ix3 (i 0) 0 k)) (fun k => A5 m c (ix3 (i 0) 0 k)) (i 2)

theorem arr16 : (dats m 0 c).arrAt 16 cfg0.N = G16 m c := by
  refine (dats m 0 c).arrAt_eq_of_covers 16 (G16 m c) (by decide +kernel) fun t hf y => ?_
  blk_simp
  rw [after0_16]
  have hy : y = ix3 (y 0) (y 1) (y 2) := by funext a; fin_cases a <;> rfl
  have h0 : y 0 = (0 : Fin 1) := Subsingleton.elim (α := Fin 1) _ _
  rw [hy, h0]
  refine (out16_apply m c t (y 1) (y 2)).trans ?_
  refine (?_ : _ = G16 m c (ix3 (seq t) (row t (y 1)) (y 2))).trans (congrArg (G16 m c) ?_)
  · rfl
  funext a
  apply Fin.ext
  fin_cases a <;> blk_simp [index16] <;> simp [ix3, seq, row] <;> omega

theorem arr17 : (dats m 0 c).arrAt 17 cfg0.N = G17 m c := by
  refine (dats m 0 c).arrAt_eq_of_covers 17 (G17 m c) (by decide +kernel) fun t hf y => ?_
  blk_simp
  rw [after0_17]
  have hy : y = ix3 (y 0) (y 1) (y 2) := by funext a; fin_cases a <;> rfl
  have h0 : y 0 = (0 : Fin 1) := Subsingleton.elim (α := Fin 1) _ _
  rw [hy, h0]
  refine (out17_apply m c t (y 1) (y 2)).trans ?_
  refine (?_ : _ = G17 m c (ix3 (seq t) (row t (y 1)) (y 2))).trans (congrArg (G17 m c) ?_)
  · rfl
  funext a
  apply Fin.ext
  fin_cases a <;> blk_simp [index17] <;> simp [ix3, seq, row] <;> omega

/-! ## The claims -/

/-- The kernel runs and keeps its arguments. -/
theorem frame_kernel : Cert.quiescent_Mixing (hMixing := Cert.Mixing.Gen.facts) := fun m ρ _ => Cert.Mixing.Gen.frame m ρ

theorem frame_ideal : Cert.quiescent_MixingIdeal (hMixingIdeal := Cert.MixingIdeal.Gen.facts) := fun m ρ _ => Cert.MixingIdeal.Gen.frame m ρ

theorem frame_reference : Cert.quiescent_MixingReferenceIdeal (hMixingReferenceIdeal := Cert.MixingReferenceIdeal.Gen.facts) := fun m ρ _ =>
  (θ_run Cert.MixingReferenceIdeal.defs _ _).mono
    (fun r h => ⟨fun c => (h c).2.2, sem_eq_zero_of_no_sems (by decide) r.2⟩) (Cert.MixingReferenceIdeal.Value.run (F := Ideal) m ρ)

theorem same16 : refOut (A0 m c) (A1 m c) (A2 m c) (A3 m c) (A4 m c) (A7 m c) (A8 m c) (A9 m c) (A10 m c) (A11 m c) (A12 m c) (A13 m c) = G16 m c := by
  funext i
  have hi : i = ix3 (i 0) (i 1) (i 2) := by funext a; fin_cases a <;> rfl
  rw [hi]
  exact refOut_apply _ _ _ _ _ _ _ _ _ _ _ _ (i 0) (i 1) (i 2)

theorem same17 : refMod (refOut (A0 m c) (A1 m c) (A2 m c) (A3 m c) (A4 m c) (A7 m c) (A8 m c) (A9 m c) (A10 m c) (A11 m c) (A12 m c) (A13 m c)) (A6 m c) (A5 m c) = G17 m c := by
  funext i
  have hi : i = ix3 (i 0) (i 1) (i 2) := by funext a; fin_cases a <;> rfl
  rw [hi]
  refine (refMod_apply _ _ _ (i 0) (i 1) (i 2)).trans ?_
  exact congrArg (modRow · _ _ _) (funext fun k => refOut_apply _ _ _ _ _ _ _ _ _ _ _ _ (i 0) (i 1) k)

theorem value : Cert.algebraic_MixingIdeal_MixingReferenceIdeal (hMixingIdeal := Cert.MixingIdeal.Gen.facts)
    (hMixingReferenceIdeal := Cert.MixingReferenceIdeal.Gen.facts) := by
  intro m ρ m' ρ' _ hagree
  refine ⟨fun c => G16 m c, fun c => G17 m c,
    (θ_run Cert.MixingIdeal.defs _ _).mono (fun _ h c => ?_) (Cert.MixingIdeal.Value.run_blocks (F := Ideal) m ρ),
    (θ_run Cert.MixingReferenceIdeal.defs _ _).mono (fun _ h c => ?_) (Cert.MixingReferenceIdeal.Value.run (F := Ideal) m' ρ')⟩
  · obtain ⟨e0, e1, e2, e3, rest⟩ := h c
    exact ⟨e0.trans (arr16 m c), e1.trans (arr17 m c), rest⟩
  · obtain ⟨e0, e1, rest⟩ := h c
    obtain ⟨g0, g1, g2, g3, g4, g5, g6, g7, g8, g9, g10, g11, g12, g13, g14, g15⟩ := hagree c
    have hres : Cert.MixingReferenceIdeal.Value.res_out0 (F := Ideal) m' c = G16 m c := by
      refine (res0_eq m' c).trans ?_
      rw [g0, g1, g2, g3, g4, g7, g8, g9, g10, g11, g12, g13]
      exact same16 m c
    refine ⟨e0.trans hres, (e1.trans (res1_eq m' c)).trans ?_, rest⟩
    rw [hres, g5, g6, ← same16]
    exact same17 m c

end Cert.Proof.Mix

end
-- ==== Proof.ModValue.lean ====
module

public import proofs.«01_k».proof.Proof.Gen.ModulationIdeal.Value
public import proofs.«01_k».proof.Proof.Gen.ModulationReferenceIdeal.Run
public import Idealize.ShloMosaic.Lib.Pipeline.ValueKit
public import Idealize.ShloMosaic.Lib.Pointwise
public import proofs.«01_k».proof.Proof.Gen.Modulation.Frame
public import proofs.«01_k».proof.Defs

/-! The adaLN modulation: what the points leave is each condition's row, through its own sigmoid, times the layer's weights, plus the layer's bias, as in the reference. -/

@[expose] public section

set_option maxRecDepth 16384

noncomputable section

namespace Cert.Proof.Mdl

open Idealize.ShloMosaic Idealize.ShloMosaic.TcCoe Idealize.SL.Sem

/-- One entry: a condition's row `v` through its own sigmoid, times a column `w`, plus a bias. -/
def entry (v w : Fin 1024 → EReal) (b : EReal) : EReal := (∑ x : Fin 1024, v x * Ideal.logistic (v x) * w x) + b

/-- Row `r` of the two batches' conditions, one after the other. -/
def cond (a0 : FVec Ideal Cert.ModulationIdeal.S8x1024 .f32) (a1 : FVec Ideal Cert.ModulationIdeal.S128x1024 .f32) (r : Fin 136) (x : Fin 1024) : EReal :=
  if h : r.val < 8 then a0 (ix2 ⟨r.val, h⟩ x) else a1 (ix2 ⟨r.val - 8, by omega⟩ x)

/-- Entry `k` of layer `l`'s modulation of row `r`. -/
def modulation (a0 : FVec Ideal Cert.ModulationIdeal.S8x1024 .f32) (a1 : FVec Ideal Cert.ModulationIdeal.S128x1024 .f32)
    (a2 : FVec Ideal Cert.ModulationIdeal.S2x1024x6144 .f32) (a3 : FVec Ideal Cert.ModulationIdeal.S2x6144 .f32)
    (l : Fin 2) (r : Fin 136) (k : Fin 6144) : EReal :=
  entry (cond a0 a1 r) (fun x => a2 (ix3 l x k)) (a3 (ix2 l k))

/-! ## The reference -/

section
open Cert.ModulationReferenceIdeal Cert.ModulationReferenceIdeal.Gen
attribute [local instance] Cert.ModulationReferenceIdeal.Gen.facts

/-- The first batch's modulation by one layer's weights and bias. -/
def ref8 (a : FVec Ideal S8x1024 .f32) (w : FVec Ideal S1024x6144 .f32) (b : FVec Ideal S6144 .f32) : FVec Ideal S8x6144 .f32 :=
  addf (Host.dotGeneral dot_S8x1024_S1024x6144_S8x6144_1_0_0_1_n_n none
    (mulf a (Host.divf (broadcastInDim S8x1024 ![] bcast_S_S8x1024 (constant (F := Ideal) S_ .f32 0x3F800000#32))
      (addf (broadcastInDim S8x1024 ![] bcast_S_S8x1024 (constant (F := Ideal) S_ .f32 0x3F800000#32)) (Host.exp (Host.negf a))))) w)
    (broadcastInDim S8x6144 ![0, 1] bcast_S1x6144_S8x6144_0_1 (broadcastInDim S1x6144 ![1] bcast_S6144_S1x6144_1 b))

/-- The second batch's modulation by one layer's weights and bias. -/
def ref128 (a : FVec Ideal S128x1024 .f32) (w : FVec Ideal S1024x6144 .f32) (b : FVec Ideal S6144 .f32) : FVec Ideal S128x6144 .f32 :=
  addf (Host.dotGeneral dot_S128x1024_S1024x6144_S128x6144_1_0_0_1_n_n none
    (mulf a (Host.divf (broadcastInDim S128x1024 ![] bcast_S_S128x1024 (constant (F := Ideal) S_ .f32 0x3F800000#32))
      (addf (broadcastInDim S128x1024 ![] bcast_S_S128x1024 (constant (F := Ideal) S_ .f32 0x3F800000#32)) (Host.exp (Host.negf a))))) w)
    (broadcastInDim S128x6144 ![0, 1] bcast_S1x6144_S128x6144_0_1 (broadcastInDim S1x6144 ![1] bcast_S6144_S1x6144_1 b))

/-- Both batches' modulation by one layer's weights and bias, with a leading axis of one. -/
def refLayer (a0 : FVec Ideal S8x1024 .f32) (a1 : FVec Ideal S128x1024 .f32) (w : FVec Ideal S1024x6144 .f32) (b : FVec Ideal S6144 .f32) :
    FVec Ideal S1x136x6144 .f32 :=
  broadcastInDim S1x136x6144 ![1, 2] bcast_S136x6144_S1x136x6144_1_2
    (concatenate S136x6144 0 [⟨S8x6144, ref8 a0 w b⟩, ⟨S128x6144, ref128 a1 w b⟩] concatenates_S8x6144_S128x6144_S136x6144_d0)

/-- A layer's weights and bias. -/
def w0 (a2 : FVec Ideal S2x1024x6144 .f32) : FVec Ideal S1024x6144 .f32 :=
  shapeCast _ (extractStridedSlice S1x1024x6144 ![0, 0, 0] a2 slices_S2x1024x6144_S1x1024x6144_0_0_0) shapeCasts_S1x1024x6144_S1024x6144
def w1 (a2 : FVec Ideal S2x1024x6144 .f32) : FVec Ideal S1024x6144 .f32 :=
  shapeCast _ (extractStridedSlice S1x1024x6144 ![1, 0, 0] a2 slices_S2x1024x6144_S1x1024x6144_1_0_0) shapeCasts_S1x1024x6144_S1024x6144
def b0 (a3 : FVec Ideal S2x6144 .f32) : FVec Ideal S6144 .f32 :=
  shapeCast _ (extractStridedSlice S1x6144 ![0, 0] a3 slices_S2x6144_S1x6144_0_0) shapeCasts_S1x6144_S6144
def b1 (a3 : FVec Ideal S2x6144 .f32) : FVec Ideal S6144 .f32 :=
  shapeCast _ (extractStridedSlice S1x6144 ![1, 0] a3 slices_S2x6144_S1x6144_1_0) shapeCasts_S1x6144_S6144

/-- The reference's whole result. -/
def refAll (a0 : FVec Ideal S8x1024 .f32) (a1 : FVec Ideal S128x1024 .f32) (a2 : FVec Ideal S2x1024x6144 .f32) (a3 : FVec Ideal S2x6144 .f32) :
    FVec Ideal S2x136x6144 .f32 :=
  concatenate S2x136x6144 0 [⟨S1x136x6144, refLayer a0 a1 (w0 a2) (b0 a3)⟩, ⟨S1x136x6144, refLayer a0 a1 (w1 a2) (b1 a3)⟩]
    concatenates_S1x136x6144_S1x136x6144_S2x136x6144_d0

theorem w0_apply (a2 : FVec Ideal S2x1024x6144 .f32) (x : Fin 1024) (k : Fin 6144) : w0 a2 (ix2 x k) = a2 (ix3 0 x k) := by
  unfold w0
  pointwise

theorem w1_apply (a2 : FVec Ideal S2x1024x6144 .f32) (x : Fin 1024) (k : Fin 6144) : w1 a2 (ix2 x k) = a2 (ix3 1 x k) := by
  unfold w1
  pointwise

theorem b0_apply (a3 : FVec Ideal S2x6144 .f32) (k : Fin 6144) : b0 a3 (ix1 k) = a3 (ix2 0 k) := by
  unfold b0
  pointwise

theorem b1_apply (a3 : FVec Ideal S2x6144 .f32) (k : Fin 6144) : b1 a3 (ix1 k) = a3 (ix2 1 k) := by
  unfold b1
  pointwise

theorem ref8_apply (a : FVec Ideal S8x1024 .f32) (w : FVec Ideal S1024x6144 .f32) (b : FVec Ideal S6144 .f32) (r : Fin 8) (k : Fin 6144) :
    ref8 a w b (ix2 r k) = entry (fun x => a (ix2 r x)) (fun x => w (ix2 x k)) (b (ix1 k)) := by
  unfold ref8 entry
  pointwise
  rfl

theorem ref128_apply (a : FVec Ideal S128x1024 .f32) (w : FVec Ideal S1024x6144 .f32) (b : FVec Ideal S6144 .f32) (r : Fin 128) (k : Fin 6144) :
    ref128 a w b (ix2 r k) = entry (fun x => a (ix2 r x)) (fun x => w (ix2 x k)) (b (ix1 k)) := by
  unfold ref128 entry
  pointwise
  rfl

theorem refLayer_apply (a0 : FVec Ideal S8x1024 .f32) (a1 : FVec Ideal S128x1024 .f32) (w : FVec Ideal S1024x6144 .f32) (b : FVec Ideal S6144 .f32)
    (r : Fin 136) (k : Fin 6144) :
    refLayer a0 a1 w b (ix3 0 r k) = entry (cond a0 a1 r) (fun x => w (ix2 x k)) (b (ix1 k)) := by
  have e8 := ref8_apply a0 w b
  have e128 := ref128_apply a1 w b
  unfold refLayer
  generalize ref8 a0 w b = y at *
  generalize ref128 a1 w b = z at *
  by_cases h : r.val < 8
  · have hc : cond a0 a1 r = fun x => a0 (ix2 ⟨r.val, h⟩ x) := by
      funext x
      exact dif_pos h
    rw [hc]
    refine Eq.trans ?_ (e8 ⟨r.val, h⟩ k)
    pointwise [h]
  · have hc : cond a0 a1 r = fun x => a1 (ix2 ⟨r.val - 8, by omega⟩ x) := by
      funext x
      exact dif_neg h
    rw [hc]
    refine Eq.trans ?_ (e128 ⟨r.val - 8, by omega⟩ k)
    pointwise [h]

theorem refAll_apply (a0 : FVec Ideal S8x1024 .f32) (a1 : FVec Ideal S128x1024 .f32) (a2 : FVec Ideal S2x1024x6144 .f32) (a3 : FVec Ideal S2x6144 .f32)
    (l : Fin 2) (r : Fin 136) (k : Fin 6144) : refAll a0 a1 a2 a3 (ix3 l r k) = modulation a0 a1 a2 a3 l r k := by
  have e0 := refLayer_apply a0 a1 (w0 a2) (b0 a3) r k
  have e1 := refLayer_apply a0 a1 (w1 a2) (b1 a3) r k
  simp only [w0_apply, w1_apply, b0_apply, b1_apply] at e0 e1
  unfold refAll modulation
  generalize refLayer a0 a1 (w0 a2) (b0 a3) = y at *
  generalize refLayer a0 a1 (w1 a2) (b1 a3) = z at *
  fin_cases l
  · refine Eq.trans ?_ e0
    pointwise
  · refine Eq.trans ?_ e1
    pointwise

end

open Cert.ModulationIdeal Cert.ModulationIdeal.Gen
attribute [local instance] Cert.ModulationIdeal.Gen.facts

/-! ## The kernel's blocks -/

variable (m : (ℓ : Loc nD τ sig) → Buf (Elt Ideal) ℓ) (c : Dev nD)

abbrev A0 : FVec Ideal S8x1024 .f32 := m ((c : Thread nD τ).loc main_arg0)
abbrev A1 : FVec Ideal S128x1024 .f32 := m ((c : Thread nD τ).loc main_arg1)
abbrev A2 : FVec Ideal S2x1024x6144 .f32 := m ((c : Thread nD τ).loc main_arg2)
abbrev A3 : FVec Ideal S2x6144 .f32 := m ((c : Thread nD τ).loc main_arg3)

/-- The joined conditions. -/
def joined : FVec Ideal S136x1024 .f32 :=
  concatenate S136x1024 0 [⟨S8x1024, A0 m c⟩, ⟨S128x1024, A1 m c⟩] concatenates_S8x1024_S128x1024_S136x1024_d0

theorem entry0 : V m c main_v0 = joined m c := by
  unfold V
  simp only [hostOps0]
  after_results
  rfl

theorem entry2 : V m c main_v1 = shapeCast S2x1x6144 (A3 m c) shapeCasts_S2x6144_S2x1x6144 := by
  unfold V
  simp only [hostOps0]
  after_results
  rfl

theorem joined_apply (r : Fin 136) (x : Fin 1024) : joined m c (ix2 r x) = cond (A0 m c) (A1 m c) r x := by
  unfold joined cond
  generalize A0 m c = y
  generalize A1 m c = z
  by_cases h : r.val < 8
  · pointwise [h]
  · pointwise [h]

theorem index0 : ∀ t : Fin cfg0.N, win0_0.index t = ![0, 0] := by decide +kernel
theorem index1 : ∀ t : Fin cfg0.N, win0_1.index t = ![t.val / 4, 0, t.val % 4] := by decide +kernel
theorem index2 : ∀ t : Fin cfg0.N, win0_2.index t = ![t.val / 4, 0, t.val % 4] := by decide +kernel
theorem index3 : ∀ t : Fin cfg0.N, win0_3.index t = ![t.val / 4, 0, t.val % 4] := by decide +kernel

theorem pt_lt (t : Fin cfg0.N) : t.val < 8 := Nat.lt_of_lt_of_eq t.isLt N_0
/-- The layer a point works on, and the place of the point's column `k` in it. -/
def lay (t : Fin cfg0.N) : Fin 2 := ⟨t.val / 4, by have := pt_lt t; omega⟩
def col (t : Fin cfg0.N) (k : Fin 1536) : Fin 6144 := ⟨1536 * (t.val % 4) + k.val, by omega⟩

theorem blk0_apply (t : Fin cfg0.N) (r : Fin 136) (x : Fin 1024) : iblk m c 0 t (ix2 r x) = cond (A0 m c) (A1 m c) r x := by
  unfold iblk
  blk_simp
  rw [entry0]
  refine (congrArg (joined m c) (?_ : _ = ix2 r x)).trans (joined_apply m c r x)
  funext a
  apply Fin.ext
  fin_cases a <;> blk_simp [index0] <;> simp [ix2]

theorem blk1_apply (t : Fin cfg0.N) (x : Fin 1024) (k : Fin 1536) :
    iblk m c 1 t (ix3 (0 : Fin 1) x k) = A2 m c (ix3 (lay t) x (col t k)) := by
  unfold iblk
  blk_simp
  rw [V_main_arg2]
  refine congrArg (m ((c : Thread nD τ).loc main_arg2)) ?_
  funext a
  apply Fin.ext
  fin_cases a <;> blk_simp [index1] <;> simp [ix3, lay, col] <;> omega

theorem blk2_apply (t : Fin cfg0.N) (k : Fin 1536) :
    iblk m c 2 t (ix3 (0 : Fin 1) (0 : Fin 1) k) = A3 m c (ix2 (lay t) (col t k)) := by
  unfold iblk
  blk_simp
  rw [entry2]
  refine (congrArg (shapeCast S2x1x6144 (A3 m c) shapeCasts_S2x6144_S2x1x6144) (?_ : _ = ix3 (lay t) (0 : Fin 1) (col t k))).trans ?_
  · funext a
    apply Fin.ext
    fin_cases a <;> blk_simp [index2] <;> simp [ix3, lay, col] <;> omega
  · pointwise

/-! ## The payload -/

theorem pay_apply (v0 : Vec Ideal S136x1024 .f32) (v5 : Vec Ideal S1x1024x1536 .f32) (v9 : Vec Ideal S1x1x1536 .f32) (r : Fin 136) (k : Fin 1536) :
    k0_pay1 (F := Ideal) v0 v5 v9 (ix3 0 r k) = entry (fun x => v0 (ix2 r x)) (fun x => v5 (ix3 0 x k)) (v9 (ix3 0 0 k)) := by
  unfold k0_pay1 entry
  pointwise

theorem out3_apply (t : Fin cfg0.N) (r : Fin 136) (k : Fin 1536) :
    out0_3 (F := Ideal) (iblk m c 0 t) (iblk m c 1 t) (iblk m c 2 t) (ix3 0 r k)
      = modulation (A0 m c) (A1 m c) (A2 m c) (A3 m c) (lay t) r (col t k) := by
  unfold out0_3 r0_0 r0_1 r0_2 r0_3
  rw [View.canon_cons_unit_lit _ _ _ (by decide), View.ld_unit_lit _ _ (by decide), View.ld_unit_lit _ _ (by decide), View.ld_unit_lit _ _ (by decide)]
  refine (pay_apply _ _ _ r k).trans ?_
  unfold modulation
  exact congr (congr (congrArg entry (funext fun x => blk0_apply m c t r x)) (funext fun x => blk1_apply m c t x k)) (blk2_apply m c t k)

/-! ## The result -/

/-- The result: the modulation of every layer, row and column. -/
def G3 : FVec Ideal S2x136x6144 .f32 := fun i => modulation (A0 m c) (A1 m c) (A2 m c) (A3 m c) (i 0) (i 1) (i 2)

theorem arr3 : (dats m 0 c).arrAt 3 cfg0.N = G3 m c := by
  refine (dats m 0 c).arrAt_eq_of_covers 3 (G3 m c) (by decide +kernel) fun t hf y => ?_
  blk_simp
  rw [after0_3]
  have hy : y = ix3 (y 0) (y 1) (y 2) := by funext a; fin_cases a <;> rfl
  have h0 : y 0 = (0 : Fin 1) := Subsingleton.elim (α := Fin 1) _ _
  rw [hy, h0]
  refine (out3_apply m c t (y 1) (y 2)).trans ?_
  refine (?_ : _ = G3 m c (ix3 (lay t) (y 1) (col t (y 2)))).trans (congrArg (G3 m c) ?_)
  · rfl
  funext a
  apply Fin.ext
  fin_cases a <;> blk_simp [index3] <;> simp [ix3, lay, col] <;> omega

/-! ## The claims -/

/-- The kernel runs and keeps its arguments. -/
theorem frame_kernel : Cert.quiescent_Modulation (hModulation := Cert.Modulation.Gen.facts) := fun m ρ _ => Cert.Modulation.Gen.frame m ρ

theorem frame_ideal : Cert.quiescent_ModulationIdeal (hModulationIdeal := Cert.ModulationIdeal.Gen.facts) := fun m ρ _ => Cert.ModulationIdeal.Gen.frame m ρ

theorem frame_reference : Cert.quiescent_ModulationReferenceIdeal (hModulationReferenceIdeal := Cert.ModulationReferenceIdeal.Gen.facts) := fun m ρ _ =>
  (θ_run Cert.ModulationReferenceIdeal.defs _ _).mono
    (fun r h => ⟨fun c => (h c).2, sem_eq_zero_of_no_sems (by decide) r.2⟩) (Cert.ModulationReferenceIdeal.Value.run (F := Ideal) m ρ)

section
attribute [local instance] Cert.ModulationReferenceIdeal.Gen.facts

theorem same3 (a0 : FVec Ideal S8x1024 .f32) (a1 : FVec Ideal S128x1024 .f32) (a2 : FVec Ideal S2x1024x6144 .f32) (a3 : FVec Ideal S2x6144 .f32)
    (h0 : a0 = A0 m c) (h1 : a1 = A1 m c) (h2 : a2 = A2 m c) (h3 : a3 = A3 m c) : refAll a0 a1 a2 a3 = G3 m c := by
  subst h0 h1 h2 h3
  funext i
  have hi : i = ix3 (i 0) (i 1) (i 2) := by funext a; fin_cases a <;> rfl
  rw [hi]
  exact refAll_apply _ _ _ _ (i 0) (i 1) (i 2)
end

theorem value : Cert.algebraic_ModulationIdeal_ModulationReferenceIdeal (hModulationIdeal := Cert.ModulationIdeal.Gen.facts)
    (hModulationReferenceIdeal := Cert.ModulationReferenceIdeal.Gen.facts) := by
  intro m ρ m' ρ' _ hagree
  refine ⟨fun c => G3 m c,
    (θ_run Cert.ModulationIdeal.defs _ _).mono (fun _ h c => ?_) (Cert.ModulationIdeal.Value.run_blocks (F := Ideal) m ρ),
    (θ_run Cert.ModulationReferenceIdeal.defs _ _).mono (fun _ h c => ?_) (Cert.ModulationReferenceIdeal.Value.run (F := Ideal) m' ρ')⟩
  · obtain ⟨e0, rest⟩ := h c
    exact ⟨e0.trans (arr3 m c), rest⟩
  · obtain ⟨e0, rest⟩ := h c
    obtain ⟨g0, g1, g2, g3⟩ := hagree c
    exact ⟨e0.trans (same3 m c _ _ _ _ g0 g1 g2 g3), rest⟩

end Cert.Proof.Mdl

end
-- ==== Proof.CountValue.lean ====
module

public import proofs.«01_k».proof.Proof.Gen.CountingIdeal.Value
public import proofs.«01_k».proof.Proof.Gen.CountingReferenceIdeal.Run
public import Idealize.ShloMosaic.Lib.Pipeline.ValueKit
public import Idealize.ShloMosaic.Lib.Pointwise
public import Idealize.ShloMosaic.Lib.KernelVsHost
public import proofs.«01_k».proof.Proof.Gen.Counting.Frame
public import proofs.«01_k».proof.Defs

/-! The counting of the experts' assignments: what the tiles add up, token by token and choice by choice, is the reference's count over all assignments in one list. -/

@[expose] public section

set_option maxRecDepth 16384

noncomputable section

namespace Cert.Proof.Cnt

open Idealize.ShloMosaic Idealize.ShloMosaic.TcCoe Idealize.SL.Sem

/-- One where a choice is the expert, zero elsewhere. -/
def hit (v : BitVec 32) (k : Fin 128) : EReal := FloatOps.uitofp (F := Ideal) .f32 (IntOp.cmpi .eq v (BitVec.ofNat 32 k.val))

/-- A sum over a product's range is the sum over its quotients and remainders. -/
theorem sum_mul {a b : ℕ} (f : Fin (a * b) → EReal) (g : Fin a → Fin b → EReal) (h : ∀ i j (hx : i.val * b + j.val < a * b), f ⟨i.val * b + j.val, hx⟩ = g i j) :
    ∑ x : Fin (a * b), f x = ∑ i : Fin a, ∑ j : Fin b, g i j := by
  rw [← finProdFinEquiv.sum_comp, Fintype.sum_prod_type]
  refine Finset.sum_congr rfl fun i _ => Finset.sum_congr rfl fun j _ => ?_
  have hx : i.val * b + j.val < a * b := by
    have := (finProdFinEquiv (i, j)).isLt
    simp [finProdFinEquiv] at this
    rw [Nat.mul_comm b] at this
    omega
  refine Eq.trans (congrArg f ?_) (h i j hx)
  apply Fin.ext
  simp [finProdFinEquiv, Nat.mul_comm, Nat.add_comm]

/-- The number of assignments to expert `k`. -/
def count (A : IVec Cert.CountingIdeal.S16512x128 32) (k : Fin 128) : EReal :=
  ∑ r : Fin 16512, ∑ q : Fin 4, hit (A (ix2 r ⟨q.val, by omega⟩)) k

/-! ## The reference -/

section
open Cert.CountingReferenceIdeal Cert.CountingReferenceIdeal.Gen
attribute [local instance] Cert.CountingReferenceIdeal.Gen.facts

/-- The reference's whole result. -/
def refCount (A : IVec S16512x128 32) : FVec Ideal S1x128 .f32 :=
  broadcastInDim S1x128 ![1] bcast_S128_S1x128_1 (Host.reduceAdd (uitofp .f32 (cmpi .eq
    (broadcastInDim S66048x128 ![0, 1] bcast_S66048x1_S66048x128_0_1 (broadcastInDim S66048x1 ![0] bcast_S66048_S66048x1_0
      (shapeCast _ (extractStridedSlice S16512x4 ![0, 0] A slices_S16512x128_S16512x4_0_0) shapeCasts_S16512x4_S66048)))
    (broadcastInDim S66048x128 ![0, 1] bcast_S1x128_S66048x128_0_1 (broadcastInDim S1x128 ![1] bcast_S128_S1x128_1 (iotaInDim S128 32 0)))))
    (constant (F := Ideal) S_ .f32 0x00000000#32) reducesTo_S66048x128_S128_d0 h_S_)

/-- The list of all assignments. -/
def flat (A : IVec S16512x128 32) : IVec S66048 32 :=
  shapeCast _ (extractStridedSlice S16512x4 ![0, 0] A slices_S16512x128_S16512x4_0_0) shapeCasts_S16512x4_S66048

theorem flat_apply (A : IVec S16512x128 32) (r : Fin 16512) (q : Fin 4) (hx : r.val * 4 + q.val < 66048) :
    flat A (ix1 ⟨r.val * 4 + q.val, hx⟩) = A (ix2 r ⟨q.val, by omega⟩) := by
  unfold flat
  pointwise

theorem refCount_sum (A : IVec S16512x128 32) (k : Fin 128) : refCount A (ix2 0 k) = ∑ x : Fin 66048, hit (flat A (ix1 x)) k := by
  show (broadcastInDim S1x128 ![1] bcast_S128_S1x128_1 (Host.reduceAdd (uitofp .f32 (cmpi .eq
    (broadcastInDim S66048x128 ![0, 1] bcast_S66048x1_S66048x128_0_1 (broadcastInDim S66048x1 ![0] bcast_S66048_S66048x1_0 (flat A)))
    (broadcastInDim S66048x128 ![0, 1] bcast_S1x128_S66048x128_0_1 (broadcastInDim S1x128 ![1] bcast_S128_S1x128_1 (iotaInDim S128 32 0)))))
    (constant (F := Ideal) S_ .f32 0x00000000#32) reducesTo_S66048x128_S128_d0 h_S_)) (ix2 0 k) = _
  generalize flat A = z
  unfold hit
  pointwise

theorem refCount_apply (A : IVec S16512x128 32) (k : Fin 128) : refCount A (ix2 0 k) = count A k := by
  rw [refCount_sum]
  exact sum_mul (a := 16512) (b := 4) (fun x => hit (flat A (ix1 x)) k) _ fun r q hx => congrArg (hit · k) (flat_apply A r q hx)

end

open Cert.CountingIdeal Cert.CountingIdeal.Gen Cert.CountingIdeal.Value
attribute [local instance] Cert.CountingIdeal.Gen.facts

/-! ## The kernel's tiles -/

variable (m : (ℓ : Loc nD τ sig) → Buf (Elt Ideal) ℓ) (c : Dev nD)

abbrev A0 : IVec S16512x128 32 := m ((c : Thread nD τ).loc main_arg0)

/-- What one tile adds to expert `k`'s count. -/
def tile (z : IVec S384x128 32) (k : Fin 128) : EReal := ∑ r : Fin 384, ∑ q : Fin 4, hit (z (ix2 r ⟨q.val, by omega⟩)) k

theorem pay2_apply (z : Vec Ideal S384x128 .i32) (acc : Vec Ideal S1x128 .f32) (k : Fin 128) :
    k0_pay2 (F := Ideal) z acc (ix2 0 k) = acc (ix2 0 k) + tile z k := by
  have e : k0_pay2 (F := Ideal) z acc (ix2 0 k) = acc (ix2 0 k) + (∑ r : Fin 384, hit (z (ix2 r 0)) k) + (∑ r : Fin 384, hit (z (ix2 r 1)) k)
      + (∑ r : Fin 384, hit (z (ix2 r 2)) k) + ∑ r : Fin 384, hit (z (ix2 r 3)) k := by
    unfold k0_pay2 hit
    simp only [sitofp_extui_eq_uitofp]
    pointwise
  rw [e]
  unfold tile
  simp only [Fin.sum_univ_four, Finset.sum_add_distrib, add_assoc]
  rfl

theorem index0 : ∀ t : Fin cfg0.N, win0_0.index t = ![t.val, 0] := by decide +kernel

theorem pt_lt (t : Fin cfg0.N) : t.val < 43 := Nat.lt_of_lt_of_eq t.isLt N_0

theorem blk0_apply (t : Fin cfg0.N) (r : Fin 384) (x : Fin 128) (h : t.val * 384 + r.val < 16512) :
    iblk m c 0 t (ix2 r x) = A0 m c (ix2 ⟨t.val * 384 + r.val, h⟩ x) := by
  unfold iblk
  blk_simp
  rw [V_main_arg0]
  refine congrArg (m ((c : Thread nD τ).loc main_arg0)) ?_
  funext a
  apply Fin.ext
  fin_cases a <;> blk_simp [index0] <;> simp [ix2]

/-- What point `n` adds. -/
def add (n : ℕ) (i : S1x128.Idx) : EReal := if h : n < cfg0.N then tile (iblk m c 0 ⟨n, h⟩) (i 1) else 0

theorem step_apply (n : ℕ) (h : n < cfg0.N) (acc : Vec Ideal S1x128 .f32) (i : S1x128.Idx) :
    k0_pay2 (F := Ideal) (iblk m c 0 ⟨n, h⟩) acc i = acc i + add m c n i := by
  have hi : i = ix2 0 (i 1) := by
    funext a
    fin_cases a
    · exact Subsingleton.elim (α := Fin 1) _ _
    · rfl
  unfold add
  rw [dif_pos h]
  generalize i 1 = k at hi
  subst hi
  exact pay2_apply _ _ k

theorem acc_apply (h : 0 + 42 < cfg0.N) (k : Fin 128) :
    Pipeline.accAt (reset1 (F := Ideal) m c) (step1 m c) 0 42 h (ix2 0 k) = count (A0 m c) k := by
  rw [Pipeline.accAt_add_apply (reset1 m c) (step1 m c) (fun _ => (0 : EReal)) (add m c) 0 42
    (fun h i => ?_) (fun n h acc i _ _ => step_apply m c n h acc i) 42 le_rfl h]
  · rw [zero_add, Finset.sum_range]
    unfold count
    refine Eq.symm ((sum_mul (a := 43) (b := 384) (fun r => ∑ q : Fin 4, hit (A0 m c (ix2 r ⟨q.val, by omega⟩)) k)
      (fun s r => ∑ q : Fin 4, hit (iblk m c 0 ⟨s.val, Nat.lt_of_lt_of_eq s.isLt N_0.symm⟩ (ix2 r ⟨q.val, by omega⟩)) k) fun s r hx => ?_).trans ?_)
    · exact Finset.sum_congr rfl fun q _ => congrArg (hit · k) (blk0_apply m c ⟨s.val, Nat.lt_of_lt_of_eq s.isLt N_0.symm⟩ r _ hx).symm
    · refine Finset.sum_congr rfl fun s _ => ?_
      have hs : 0 + s.val < cfg0.N := by rw [Nat.zero_add]; exact Nat.lt_of_lt_of_eq s.isLt N_0.symm
      refine Eq.trans ?_ (dif_pos hs).symm
      exact congrArg (fun t => tile (iblk m c 0 t) k) (Fin.ext (Nat.zero_add s.val).symm : (⟨s.val, Nat.lt_of_lt_of_eq s.isLt N_0.symm⟩ : Fin cfg0.N) = ⟨0 + s.val, hs⟩)
  · refine (step_apply m c 0 h _ i).trans (congrArg (· + _) ?_)
    unfold k0_pay1
    exact Ideal.ofBits_zero_f32

theorem acc_at (b : ℕ) (hb : b = 0) (h : b + 42 < cfg0.N) (i : S1x128.Idx) (k : Fin 128) (hi : i = ix2 0 k) :
    Pipeline.accAt (reset1 (F := Ideal) m c) (step1 m c) b 42 h i = count (A0 m c) k := by
  subst hb hi
  exact acc_apply m c h k

theorem G_apply (k : Fin 128) : G1 (F := Ideal) m c (ix2 0 k) = count (A0 m c) k := by
  have hk : 43 * run1Of (ix2 0 k : S1x128.Idx) = 0 := by
    have h : k.val / 128 = 0 := Nat.div_eq_of_lt k.isLt
    show 43 * (1 * (0 / 1 - 0) + 1 * (k.val / 128 - 0)) = 0
    rw [h]
  have hl : loc1Of (ix2 0 k : S1x128.Idx) = ix2 0 k := by
    funext a
    apply Fin.ext
    fin_cases a
    · rfl
    · exact Nat.mod_eq_of_lt k.isLt
  have h : 43 * run1Of (ix2 0 k : S1x128.Idx) + 42 < cfg0.N := by
    rw [hk]
    exact Nat.lt_of_lt_of_eq (by decide : 0 + 42 < 43) N_0.symm
  exact (dif_pos h).trans (acc_at m c _ hk h _ k hl)

/-! ## The claims -/

/-- The kernel runs and keeps its argument. -/
theorem frame_kernel : Cert.quiescent_Counting (hCounting := Cert.Counting.Gen.facts) := fun m ρ _ => Cert.Counting.Gen.frame m ρ

theorem frame_ideal : Cert.quiescent_CountingIdeal (hCountingIdeal := Cert.CountingIdeal.Gen.facts) := fun m ρ _ => Cert.CountingIdeal.Gen.frame m ρ

theorem frame_reference : Cert.quiescent_CountingReferenceIdeal (hCountingReferenceIdeal := Cert.CountingReferenceIdeal.Gen.facts) := fun m ρ _ =>
  (θ_run Cert.CountingReferenceIdeal.defs _ _).mono
    (fun r h => ⟨fun c => (h c).2, sem_eq_zero_of_no_sems (by decide) r.2⟩) (Cert.CountingReferenceIdeal.Value.run (F := Ideal) m ρ)

section
attribute [local instance] Cert.CountingReferenceIdeal.Gen.facts

theorem same (A : IVec S16512x128 32) (h0 : A = A0 m c) : refCount A = G1 m c := by
  subst h0
  funext i
  have hi : i = ix2 0 (i 1) := by
    funext a
    fin_cases a
    · exact Subsingleton.elim (α := Fin 1) _ _
    · rfl
  generalize i 1 = k at hi
  subst hi
  exact (refCount_apply _ k).trans (G_apply m c k).symm
end

theorem value : Cert.algebraic_CountingIdeal_CountingReferenceIdeal (hCountingIdeal := Cert.CountingIdeal.Gen.facts)
    (hCountingReferenceIdeal := Cert.CountingReferenceIdeal.Gen.facts) := by
  intro m ρ m' ρ' _ hagree
  refine ⟨fun c => G1 m c,
    (θ_run Cert.CountingIdeal.defs _ _).mono (fun _ h c => h c) (Cert.CountingIdeal.Value.run (F := Ideal) m ρ),
    (θ_run Cert.CountingReferenceIdeal.defs _ _).mono (fun _ h c => ?_) (Cert.CountingReferenceIdeal.Value.run (F := Ideal) m' ρ')⟩
  obtain ⟨e0, rest⟩ := h c
  exact ⟨e0.trans (same m c _ (hagree c)), rest⟩

end Cert.Proof.Cnt

end
-- ==== Proof.ExpBody.lean ====
/- The expert kernel's body at one point of its grid, in its three cases: a used block whose expert is new, which casts that
   expert's weights into the scratch; a used block of the same expert; an unused block, which is filled with zeros. -/
module

public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Pipeline.ValueKit
public import Idealize.ShloMosaic.Lib.Tactic
public import Idealize.ShloMosaic.Lib.VecWindow

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

local notation "𝕄" => MT nD τ sig Unit (Elt F) ℕ (UR sig nD τ) ℕ

/-- The block's expert is new: there is none before it, or that one's is another. -/
abbrev fresh (i : grid0.Coords) (n e p : BitVec 32) : Prop :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p))) : BitVec 32) 0#32 = 1#1

/-! ## The tables' words -/

/-- The number of used blocks, the expert of block `i`, and the one of the block before it, as the body reads them. -/
def used (T : S1.Idx → BitVec 32) : BitVec 32 := T (ix1 0)
theorem coord_lt (i : grid0.Coords) : (i 0).val < 161 := (i 0).isLt
def expertOf (T : S161.Idx → BitVec 32) (i : grid0.Coords) : BitVec 32 := T (ix1 ⟨(i 0).val, coord_lt i⟩)
def expertBefore (T : S161.Idx → BitVec 32) (i : grid0.Coords) : BitVec 32 :=
  T (ix1 ⟨(i 0).val - 1, Nat.lt_of_le_of_lt (Nat.sub_le _ _) (coord_lt i)⟩)

theorem k0_off2_eq : ∀ i : grid0.Coords, k0_off2 i = ![(i 0).val - 1] := by decide +kernel

theorem used_read (c : Dev nD) (T : Buf (Elt F) ((c : Thread nD τ).loc main_arg2)) (h) :
    ((Memref.whole main_arg2).access (Rect.unit (s := S1) ![0] S1.size inb_S1_S1_0) : View sig .tc _ _ _).read (Elt F) T (Shape.Idx.first h) = used T := by
  refine congrArg T ?_
  funext a
  apply Fin.ext
  fin_cases a
  rfl

theorem expert_read (c : Dev nD) (i : grid0.Coords) (T : Buf (Elt F) ((c : Thread nD τ).loc main_arg1)) (h) :
    ((Memref.whole main_arg1).access (Rect.unit (s := S161) (k0_off1 i) S1.size (k0_off1_inb i)) : View sig .tc _ _ _).read (Elt F) T (Shape.Idx.first h)
      = expertOf T i := by
  refine congrArg T ?_
  funext a
  apply Fin.ext
  fin_cases a
  exact (congrFun (k0_off1_eq i) 0 : k0_off1 i 0 = (i 0).val)

theorem before_read (c : Dev nD) (i : grid0.Coords) (T : Buf (Elt F) ((c : Thread nD τ).loc main_arg1)) (h) :
    ((Memref.whole main_arg1).access (Rect.unit (s := S161) (k0_off2 i) S1.size (k0_off2_inb i)) : View sig .tc _ _ _).read (Elt F) T (Shape.Idx.first h)
      = expertBefore T i := by
  refine congrArg T ?_
  funext a
  apply Fin.ext
  fin_cases a
  exact (congrFun (k0_off2_eq i) 0 : k0_off2 i 0 = (i 0).val - 1)

/-! ## Whole stores and loads, and the two operations of what they hold -/

theorem k0_pay3_congr {a a' : Vec F S512x1024 .f32} {b b' : Vec F S1024x2048 .bf16} {g g' : Vec F S1x1x1x2048 .f32}
    {d d' : Vec F S1024x1024 .bf16} {e e' : Vec F S1x1x1x1024 .f32} (ha : a = a') (hb : b = b') (hg : g = g') (hd : d = d') (he : e = e') :
    k0_pay3 a b g d e = k0_pay3 a' b' g' d' e' := by subst ha hb hg hd he; rfl

section
variable (c : Dev nD) (i : grid0.Coords)
  (arg3 : Memref sig .tc .vmem S512x1024 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S512x1024 .f32) (harg8 : arg8.IsWhole)
  (arg9 : Memref sig .tc .vmem S1024x2048 .bf16) (harg9 : arg9.IsWhole)
  (arg10 : Memref sig .tc .vmem S1024x1024 .bf16) (harg10 : arg10.IsWhole)
  (q : PosShare TreeShare) (T1 : Buf (Elt F) ((c : Thread nD τ).loc main_arg1)) (T2 : Buf (Elt F) ((c : Thread nD τ).loc main_arg2))

set_option maxHeartbeats 4000000 in
theorem freshBlock (hc : fresh i (used T2) (expertOf T1 i) (expertBefore T1 i)) (h2 : k0_cond2 i (used T2) = 1#1)
    (h3 : ¬k0_cond3 i (used T2) = 1#1) (x0 : Vec F S512x1024 .f32) (x1 : Vec F S1x1x1024x2048 .f32) (x2 : Vec F S1x1x1x2048 .f32)
    (x3 : Vec F S1x1x1024x1024 .f32) (x4 : Vec F S1x1x1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d)
        ∗ (((c : Thread nD τ).loc main_arg1) ↦{q} T1) ∗ (((c : Thread nD τ).loc main_arg2) ↦{q} T2)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay3 x0 (k0_pay1 x1) x2 (k0_pay2 x3) x4)
            ∗ owns (c : Thread nD τ) arg9 fullShare (k0_pay1 x1) ∗ owns (c : Thread nD τ) arg10 fullShare (k0_pay2 x3)
            ∗ (((c : Thread nD τ).loc main_arg1) ↦{q} T1) ∗ (((c : Thread nD τ).loc main_arg2) ↦{q} T2)) -∗ K ⟨⟩))
      ⊢ wp frame (wpE (defs₀ (F := F)) Variants.none c none) E
          (cc0_moe_experts i (Memref.whole main_arg1) (Memref.isWhole_whole _) (Memref.whole main_arg2) (Memref.isWhole_whole _)
            arg3 harg3 arg4 harg4 arg5 harg5 arg6 harg6 arg7 harg7 arg8 harg8 arg9 harg9 arg10 harg10) K := by
  simp only [cc0_moe_experts_eq_skeleton]; unfold cc0_moe_experts_skel
  simp only [smemLoad, smemLoadElt, Prog.bind_op, Prog.bind_ret]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, HT1, HT2, Hk⟩
  iapply (wp_load_rect Variants.none (c : Thread nD τ) none E (m := Memref.whole main_arg2) (r := Rect.unit (s := S1) ![0] S1.size inb_S1_S1_0) (Finset.subset_univ _)) $$ HT2
  iintro HT2
  iapply (wp_load_rect Variants.none (c : Thread nD τ) none E (m := Memref.whole main_arg1) (r := Rect.unit (s := S161) (k0_off1 i) S1.size (k0_off1_inb i)) (Finset.subset_univ _)) $$ HT1
  iintro HT1
  iapply (wp_load_rect Variants.none (c : Thread nD τ) none E (m := Memref.whole main_arg1) (r := Rect.unit (s := S161) (k0_off2 i) S1.size (k0_off2_inb i)) (Finset.subset_univ _)) $$ HT1
  iintro HT1
  rw [used_read, expert_read, before_read]
  sl_exec (disch := first | sl_exact hc | sl_exact h2 | sl_exact h3)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [H3]
  · iexists f3; isplitr
    · ipureintro; exact hf3
    · iexact H3
  isplitl [H4]
  · iexists f4; isplitr
    · ipureintro; exact hf4
    · iexact H4
  isplitl [H5]
  · iexists _; isplitr
    swap; · iexact H5
    ipureintro; exact (View.read_writes_full _ _ _ _ []).trans (k0_pay3_congr ((View.readAt_full _ _ _).trans hf0)
      ((View.readCov_full _ _ _ _ []).trans (congrArg k0_pay1 ((View.readAt_full _ _ _).trans hf1))) ((View.readAt_full _ _ _).trans hf2)
      ((View.readCov_full _ _ _ _ []).trans (congrArg k0_pay2 ((View.readAt_full _ _ _).trans hf3))) ((View.readAt_full _ _ _).trans hf4))
  isplitl [H6]
  · iexists _; isplitr
    swap; · iexact H6
    ipureintro; exact (View.read_writes_full _ _ _ _ []).trans (congrArg k0_pay1 ((View.readAt_full _ _ _).trans hf1))
  isplitl [H7]
  · iexists _; isplitr
    swap; · iexact H7
    ipureintro; exact (View.read_writes_full _ _ _ _ []).trans (congrArg k0_pay2 ((View.readAt_full _ _ _).trans hf3))
  isplitl [HT1]
  · iexact HT1
  iexact HT2

set_option maxHeartbeats 4000000 in
theorem sameBlock (hc : ¬fresh i (used T2) (expertOf T1 i) (expertBefore T1 i)) (h2 : k0_cond2 i (used T2) = 1#1)
    (h3 : ¬k0_cond3 i (used T2) = 1#1) (x0 : Vec F S512x1024 .f32) (x2 : Vec F S1x1x1x2048 .f32) (x4 : Vec F S1x1x1x1024 .f32)
    (w1 : Vec F S1024x2048 .bf16) (w2 : Vec F S1024x1024 .bf16) (E : Set ℕ) (K : PUnit → sProp 𝕄) :
    iprop(owns (c : Thread nD τ) arg3 fullShare x0 ∗ owns (c : Thread nD τ) arg5 fullShare x2 ∗ owns (c : Thread nD τ) arg7 fullShare x4
        ∗ (∃ d, owns (c : Thread nD τ) arg8 fullShare d) ∗ owns (c : Thread nD τ) arg9 fullShare w1 ∗ owns (c : Thread nD τ) arg10 fullShare w2
        ∗ (((c : Thread nD τ).loc main_arg1) ↦{q} T1) ∗ (((c : Thread nD τ).loc main_arg2) ↦{q} T2)
        ∗ (iprop(owns (c : Thread nD τ) arg3 fullShare x0 ∗ owns (c : Thread nD τ) arg5 fullShare x2 ∗ owns (c : Thread nD τ) arg7 fullShare x4
            ∗ owns (c : Thread nD τ) arg8 fullShare (k0_pay3 x0 w1 x2 w2 x4) ∗ owns (c : Thread nD τ) arg9 fullShare w1 ∗ owns (c : Thread nD τ) arg10 fullShare w2
            ∗ (((c : Thread nD τ).loc main_arg1) ↦{q} T1) ∗ (((c : Thread nD τ).loc main_arg2) ↦{q} T2)) -∗ K ⟨⟩))
      ⊢ wp frame (wpE (defs₀ (F := F)) Variants.none c none) E
          (cc0_moe_experts i (Memref.whole main_arg1) (Memref.isWhole_whole _) (Memref.whole main_arg2) (Memref.isWhole_whole _)
            arg3 harg3 arg4 harg4 arg5 harg5 arg6 harg6 arg7 harg7 arg8 harg8 arg9 harg9 arg10 harg10) K := by
  simp only [cc0_moe_experts_eq_skeleton]; unfold cc0_moe_experts_skel
  simp only [smemLoad, smemLoadElt, Prog.bind_op, Prog.bind_ret]
  unfold owns
  iintro ⟨⟨%f0, %hf0, H0⟩, ⟨%f2, %hf2, H2⟩, ⟨%f4, %hf4, H4⟩, ⟨%d5, %f5, -, H5⟩, ⟨%f6, %hf6, H6⟩, ⟨%f7, %hf7, H7⟩, HT1, HT2, Hk⟩
  iapply (wp_load_rect Variants.none (c : Thread nD τ) none E (m := Memref.whole main_arg2) (r := Rect.unit (s := S1) ![0] S1.size inb_S1_S1_0) (Finset.subset_univ _)) $$ HT2
  iintro HT2
  iapply (wp_load_rect Variants.none (c : Thread nD τ) none E (m := Memref.whole main_arg1) (r := Rect.unit (s := S161) (k0_off1 i) S1.size (k0_off1_inb i)) (Finset.subset_univ _)) $$ HT1
  iintro HT1
  iapply (wp_load_rect Variants.none (c : Thread nD τ) none E (m := Memref.whole main_arg1) (r := Rect.unit (s := S161) (k0_off2 i) S1.size (k0_off2_inb i)) (Finset.subset_univ _)) $$ HT1
  iintro HT1
  rw [used_read, expert_read, before_read]
  sl_exec (disch := first | sl_exact hc | sl_exact h2 | sl_exact h3)
  sl_step
  iapply Hk
  isplitl [H0]
  · iexists f0; isplitr
    · ipureintro; exact hf0
    · iexact H0
  isplitl [H2]
  · iexists f2; isplitr
    · ipureintro; exact hf2
    · iexact H2
  isplitl [H4]
  · iexists f4; isplitr
    · ipureintro; exact hf4
    · iexact H4
  isplitl [H5]
  · iexists _; isplitr
    swap; · iexact H5
    ipureintro; exact (View.read_writes_full _ _ _ _ []).trans (k0_pay3_congr ((View.readAt_full _ _ _).trans hf0)
      ((View.readAt_full _ _ _).trans hf6) ((View.readAt_full _ _ _).trans hf2)
      ((View.readAt_full _ _ _).trans hf7) ((View.readAt_full _ _ _).trans hf4))
  isplitl [H6]
  · iexists f6; isplitr
    · ipureintro; exact hf6
    · iexact H6
  isplitl [H7]
  · iexists f7; isplitr
    · ipureintro; exact hf7
    · iexact H7
  isplitl [HT1]
  · iexact HT1
  iexact HT2

set_option maxHeartbeats 4000000 in
theorem zeroBlock (hc : ¬fresh i (used T2) (expertOf T1 i) (expertBefore T1 i)) (h2 : ¬k0_cond2 i (used T2) = 1#1)
    (h3 : k0_cond3 i (used T2) = 1#1) (E : Set ℕ) (K : PUnit → sProp 𝕄) :
    iprop((∃ d, owns (c : Thread nD τ) arg8 fullShare d)
        ∗ (((c : Thread nD τ).loc main_arg1) ↦{q} T1) ∗ (((c : Thread nD τ).loc main_arg2) ↦{q} T2)
        ∗ (iprop(owns (c : Thread nD τ) arg8 fullShare (k0_pay4 (F := F))
            ∗ (((c : Thread nD τ).loc main_arg1) ↦{q} T1) ∗ (((c : Thread nD τ).loc main_arg2) ↦{q} T2)) -∗ K ⟨⟩))
      ⊢ wp frame (wpE (defs₀ (F := F)) Variants.none c none) E
          (cc0_moe_experts i (Memref.whole main_arg1) (Memref.isWhole_whole _) (Memref.whole main_arg2) (Memref.isWhole_whole _)
            arg3 harg3 arg4 harg4 arg5 harg5 arg6 harg6 arg7 harg7 arg8 harg8 arg9 harg9 arg10 harg10) K := by
  simp only [cc0_moe_experts_eq_skeleton]; unfold cc0_moe_experts_skel
  simp only [smemLoad, smemLoadElt, Prog.bind_op, Prog.bind_ret]
  unfold owns
  iintro ⟨⟨%d5, %f5, -, H5⟩, HT1, HT2, Hk⟩
  iapply (wp_load_rect Variants.none (c : Thread nD τ) none E (m := Memref.whole main_arg2) (r := Rect.unit (s := S1) ![0] S1.size inb_S1_S1_0) (Finset.subset_univ _)) $$ HT2
  iintro HT2
  iapply (wp_load_rect Variants.none (c : Thread nD τ) none E (m := Memref.whole main_arg1) (r := Rect.unit (s := S161) (k0_off1 i) S1.size (k0_off1_inb i)) (Finset.subset_univ _)) $$ HT1
  iintro HT1
  iapply (wp_load_rect Variants.none (c : Thread nD τ) none E (m := Memref.whole main_arg1) (r := Rect.unit (s := S161) (k0_off2 i) S1.size (k0_off2_inb i)) (Finset.subset_univ _)) $$ HT1
  iintro HT1
  rw [used_read, expert_read, before_read]
  sl_exec (disch := first | sl_exact hc | sl_exact h2 | sl_exact h3)
  sl_step
  iapply Hk
  isplitl [H5]
  · iexists _; isplitr
    swap; · iexact H5
    ipureintro; exact View.read_writes_full _ _ _ _ []
  isplitl [HT1]
  · iexact HT1
  iexact HT2
end

end Cert.Proof.Moe

end
-- ==== Proof.ExpTables.lean ====
/- The two tables the expert kernel's blocks are placed by: under the routed condition every block lies inside its array, and the
   body's conditions are plain ones of the block's number and experts. -/
module

public import proofs.«01_k».proof.Proof.ExpBody

@[expose] public section

set_option maxRecDepth 16384

noncomputable section

namespace Cert.Proof.Moe

open Idealize.ShloMosaic Idealize.ShloMosaic.TcCoe Idealize.ShloMosaic.Tactic
open Idealize.SL Idealize.SL.RA Idealize.SL.BI
open Cert.ExpertsIdeal Cert.ExpertsIdeal.Gen

attribute [local instance] Cert.ExpertsIdeal.Gen.facts

/-- Every block has one of the 32 experts, and at least one block is used. -/
structure Routed (T1 : S161.Idx → BitVec 32) (T2 : S1.Idx → BitVec 32) : Prop where
  expert : ∀ x, (T1 x).toNat < 32
  pos : 1 ≤ (used T2).toNat
  small : (used T2).toNat < 2 ^ 31

/-! ## The body's conditions -/

theorem toInt_small {x : BitVec 32} (h : x.toNat < 2 ^ 31) : x.toInt = x.toNat := by
  rw [BitVec.toInt_eq_toNat_cond, if_pos (by omega)]

theorem slt_small {x y : BitVec 32} (hx : x.toNat < 2 ^ 31) (hy : y.toNat < 2 ^ 31) : x.slt y = decide (x.toNat < y.toNat) := by
  unfold BitVec.slt; rw [toInt_small hx, toInt_small hy]
  exact decide_eq_decide.mpr Int.ofNat_lt

theorem num_toNat (i : grid0.Coords) : (BitVec.ofNat 32 (i 0).val).toNat = (i 0).val := by
  have := coord_lt i
  rw [BitVec.toNat_ofNat]; omega

theorem num_slt (i : grid0.Coords) {n : BitVec 32} (hn : n.toNat < 2 ^ 31) :
    (BitVec.ofNat 32 (i 0).val).slt n = decide ((i 0).val < n.toNat) := by
  have := coord_lt i
  rw [slt_small (by rw [num_toNat]; omega) hn, num_toNat]

theorem bit_ne : ∀ b : Bool, IntOp.cmpi .ne ((BitVec.ofBool b).setWidth 32) 0#32 = 1#1 ↔ b = true := by decide

theorem bits_ne : ∀ b1 b2 b3 : Bool,
    IntOp.cmpi .ne ((BitVec.ofBool b1 &&& (BitVec.ofBool b2 ||| BitVec.ofBool b3)).setWidth 32) 0#32 = 1#1 ↔ b1 = true ∧ (b2 = true ∨ b3 = true) := by
  decide

theorem cond2_iff (i : grid0.Coords) {n : BitVec 32} (hn : n.toNat < 2 ^ 31) : k0_cond2 i n = 1#1 ↔ (i 0).val < n.toNat := by
  refine (bit_ne _).trans ?_
  rw [num_slt i hn, decide_eq_true_iff]

theorem cond3_iff (i : grid0.Coords) {n : BitVec 32} (hn : n.toNat < 2 ^ 31) : k0_cond3 i n = 1#1 ↔ ¬(i 0).val < n.toNat := by
  refine (bit_ne _).trans ?_
  have := coord_lt i
  show n.sle (BitVec.ofNat 32 (i 0).val) = true ↔ _
  unfold BitVec.sle
  rw [toInt_small hn, toInt_small (by rw [num_toNat]; omega), num_toNat, decide_eq_true_iff]
  omega

theorem fresh_iff (i : grid0.Coords) {n e p : BitVec 32} (hn : n.toNat < 2 ^ 31) :
    fresh i n e p ↔ (i 0).val < n.toNat ∧ ((i 0).val = 0 ∨ e ≠ p) := by
  refine (bits_ne _ _ _).trans ?_
  have := coord_lt i
  rw [num_slt i hn, decide_eq_true_iff, beq_iff_eq, bne_iff_ne]
  refine and_congr_right fun _ => or_congr_left ?_
  constructor
  · intro h; have := congrArg BitVec.toNat h; rw [num_toNat] at this; exact this
  · intro h; rw [h]

/-! ## The windows' places -/

variable {F : FTy → Type} [FloatOps F]

/-- The tables, as the launch reads them. -/
def tables (T1 : S161.Idx → BitVec 32) (T2 : S1.Idx → BitVec 32) : pre0.Contents (Elt F)
  | ⟨0, _⟩ => T1
  | ⟨1, _⟩ => T2
  | ⟨_ + 2, h⟩ => absurd h (Nat.not_lt.2 (Nat.le_add_left _ _))

variable {T1 : S161.Idx → BitVec 32} {T2 : S1.Idx → BitVec 32}

theorem expert_at (i : grid0.Coords) (h) (h1) :
    (tables (F := F) T1 T2).at 0 (Rect.unit (s := S161) (k0_off1 i) S1.size h) h1 = expertOf T1 i := by
  refine congrArg T1 ?_
  funext a
  apply Fin.ext
  fin_cases a
  exact (congrFun (k0_off1_eq i) 0 : k0_off1 i 0 = (i 0).val)

theorem used_at (h) (h1) : (tables (F := F) T1 T2).at 1 (Rect.unit (s := S1) ![0] S1.size h) h1 = used T2 := by
  refine congrArg T2 ?_
  funext a
  apply Fin.ext
  fin_cases a
  rfl

theorem used_atD : (tables (F := F) T1 T2).atD 1 ![0] = used T2 := by
  unfold Pipeline.Prefetch.Contents.atD
  rw [dif_pos (by decide)]
  refine congrArg T2 ?_
  funext a
  apply Fin.ext
  fin_cases a
  rfl

theorem place1 (i : grid0.Coords) : cc0_transform_1 k0_off1_inb numel1_S1 (tables (F := F) T1 T2) i = ![1, (expertOf T1 i).toNat, 0, 0] :=
  congrArg (fun e : BitVec 32 => (![1, e.toNat, 0, 0] : Fin 4 → ℕ)) (expert_at i _ _)
theorem place2 (i : grid0.Coords) : cc0_transform_2 k0_off1_inb numel1_S1 (tables (F := F) T1 T2) i = ![1, (expertOf T1 i).toNat, 0, 0] :=
  congrArg (fun e : BitVec 32 => (![1, e.toNat, 0, 0] : Fin 4 → ℕ)) (expert_at i _ _)
theorem place3 (i : grid0.Coords) : cc0_transform_3 k0_off1_inb numel1_S1 (tables (F := F) T1 T2) i = ![1, (expertOf T1 i).toNat, 0, 0] :=
  congrArg (fun e : BitVec 32 => (![1, e.toNat, 0, 0] : Fin 4 → ℕ)) (expert_at i _ _)
theorem place4 (i : grid0.Coords) : cc0_transform_4 k0_off1_inb numel1_S1 (tables (F := F) T1 T2) i = ![1, (expertOf T1 i).toNat, 0, 0] :=
  congrArg (fun e : BitVec 32 => (![1, e.toNat, 0, 0] : Fin 4 → ℕ)) (expert_at i _ _)

/-- The rows' block: the block's own, or the last used one's. -/
theorem place0 (hr : Routed T1 T2) (i : grid0.Coords) :
    cc0_transform_0 inb_S1_S1_0 numel1_S1 (tables (F := F) T1 T2) i = ![min (i 0).val ((used T2).toNat - 1), 0] := by
  refine (congrArg (fun n : BitVec 32 => (![(Scalar.minsi (BitVec.ofNat 32 (i 0).val) (Scalar.subi n 1#32)).toNat, 0] : Fin 2 → ℕ)) (used_at _ _)).trans ?_
  have h1 : (used T2 - 1#32).toNat = (used T2).toNat - 1 := by
    rw [BitVec.toNat_sub]
    have := hr.pos; have := hr.small
    show (2 ^ 32 - 1 + _) % 2 ^ 32 = _
    omega
  have h2 : (Scalar.minsi (BitVec.ofNat 32 (i 0).val) (Scalar.subi (used T2) 1#32)).toNat = min (i 0).val ((used T2).toNat - 1) := by
    show (if (BitVec.ofNat 32 (i 0).val).slt (used T2 - 1#32) then BitVec.ofNat 32 (i 0).val else used T2 - 1#32).toNat = _
    rw [num_slt i (by rw [h1]; have := hr.small; omega), h1]
    by_cases h : (i 0).val < (used T2).toNat - 1
    · rw [if_pos (by simpa using h), num_toNat]; omega
    · rw [if_neg (by simpa using h), h1]; omega
  show ![_, 0] = _
  rw [h2]

theorem expert_lt (hr : Routed T1 T2) (i : grid0.Coords) : (expertOf T1 i).toNat < 32 := hr.expert _

/-- Routed tables place every block inside its array. -/
theorem ok_tables (hr : Routed T1 T2) : ok0 (tables (F := F) T1 T2) := by
  refine ⟨fun i => ⟨?_, .inl rfl⟩, fun i => ⟨?_, .inl rfl⟩, fun i => ⟨?_, .inl rfl⟩, fun i => ⟨?_, .inl rfl⟩, fun i => ⟨?_, .inl rfl⟩⟩
  · have := coord_lt i
    rw [place0 hr]
    intro a; fin_cases a
    · show (min _ _ + 1) * 512 ≤ 82432; omega
    · show (0 + 1) * 1024 ≤ 1024; omega
  · have := expert_lt hr i
    rw [place1]
    intro a; fin_cases a
    · show (1 + 1) * 1 ≤ 2; omega
    · show ((expertOf T1 i).toNat + 1) * 1 ≤ 32; omega
    · show (0 + 1) * 1024 ≤ 1024; omega
    · show (0 + 1) * 2048 ≤ 2048; omega
  · have := expert_lt hr i
    rw [place2]
    intro a; fin_cases a
    · show (1 + 1) * 1 ≤ 2; omega
    · show ((expertOf T1 i).toNat + 1) * 1 ≤ 32; omega
    · show (0 + 1) * 1 ≤ 1; omega
    · show (0 + 1) * 2048 ≤ 2048; omega
  · have := expert_lt hr i
    rw [place3]
    intro a; fin_cases a
    · show (1 + 1) * 1 ≤ 2; omega
    · show ((expertOf T1 i).toNat + 1) * 1 ≤ 32; omega
    · show (0 + 1) * 1024 ≤ 1024; omega
    · show (0 + 1) * 1024 ≤ 1024; omega
  · have := expert_lt hr i
    rw [place4]
    intro a; fin_cases a
    · show (1 + 1) * 1 ≤ 2; omega
    · show ((expertOf T1 i).toNat + 1) * 1 ≤ 32; omega
    · show (0 + 1) * 1 ≤ 1; omega
    · show (0 + 1) * 1024 ≤ 1024; omega

end Cert.Proof.Moe

end
-- ==== Proof.ExpLaunch.lean ====
/- The expert kernel's launch: 161 points, a block of rows each. Between points the scratch holds the weights of the last used
   block's expert. -/
module

public import proofs.«01_k».proof.Proof.ExpTables
public import Idealize.ShloMosaic.Lib.Pipeline.Frame

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.ExpertsIdeal Cert.ExpertsIdeal.Gen

attribute [local instance] Cert.ExpertsIdeal.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the region finds -/

/-- The buffers when the region is entered: the two biases reshaped, all else as launched. -/
def V (c : Dev nD) (b : Ref sig .tc) : Buf (Elt F) ((c : Thread nD τ).loc b) := StableHlo.after hostOps0 (fun b => m (c, b)) b

theorem fresh_none : (hostOps0 : List (HloOp τ sig (Elt F))).Forall fun op => op.fresh = ∅ := by
  simp only [List.Forall]; repeat' constructor

theorem enters : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh_none main_chain

theorem writes : (hostOps0 (F := F)).Forall fun op => op.writes ⊆ ([main_v0, main_v1].map (Proc.devRef (τ := τ) .tc)).toFinset :=
  StableHlo.forall_writes_sub_of_map rfl

theorem V_arg0 : V m c main_arg0 = m ((c : Thread nD τ).loc main_arg0) := StableHlo.after_of_writes_sub hostOps0 _ writes (by decide)
theorem V_arg1 : V m c main_arg1 = m ((c : Thread nD τ).loc main_arg1) := StableHlo.after_of_writes_sub hostOps0 _ writes (by decide)
theorem V_arg2 : V m c main_arg2 = m ((c : Thread nD τ).loc main_arg2) := StableHlo.after_of_writes_sub hostOps0 _ writes (by decide)
theorem V_arg3 : V m c main_arg3 = m ((c : Thread nD τ).loc main_arg3) := StableHlo.after_of_writes_sub hostOps0 _ writes (by decide)
theorem V_arg4 : V m c main_arg4 = m ((c : Thread nD τ).loc main_arg4) := StableHlo.after_of_writes_sub hostOps0 _ writes (by decide)
theorem V_arg5 : V m c main_arg5 = m ((c : Thread nD τ).loc main_arg5) := StableHlo.after_of_writes_sub hostOps0 _ writes (by decide)
theorem V_arg6 : V m c main_arg6 = m ((c : Thread nD τ).loc main_arg6) := StableHlo.after_of_writes_sub hostOps0 _ writes (by decide)

/-! ## The tables and the windows' blocks -/

/-- The experts' table and the number of used blocks, as launched. -/
abbrev tab1 : S161.Idx → BitVec 32 := m (((0 : Dev nD) : Thread nD τ).loc main_arg1)
abbrev tab2 : S1.Idx → BitVec 32 := m (((0 : Dev nD) : Thread nD τ).loc main_arg2)

variable (hr : Routed (tab1 m) (tab2 m))

/-- The tables, admitted. -/
def adm (p : Fin 1) : (pcfgs (F := F) p).Adm := ⟨tables (tab1 m) (tab2 m), ok_tables hr⟩

abbrev cfg : Cfg sig Λ₀ := Pipeline.pin (pcfgs (F := F)) (adm m hr) 0

theorem N_eq : (cfg m hr).N = 161 := N_0

theorem pt_lt (t : Fin (cfg m hr).N) : t.val < 161 := Nat.lt_of_lt_of_eq t.isLt (N_eq m hr)

/-- A point's coordinate is its number. -/
theorem coord (t : Fin (cfg m hr).N) : ((grid0.coords t 0).val : ℕ) = t.val := by
  have h := pt_lt m hr t
  have e : (grid0.coords t 0).val = t.val / 1 % 161 := Pipeline.Grid.coords_val (G := grid0) t 0 (by decide) rfl
  rw [e]; omega

theorem index0 (t : Fin (cfg m hr).N) : ((pcfgs (F := F) 0).win (adm m hr 0) 0).index t = ![min t.val ((used (tab2 m)).toNat - 1), 0] :=
  (place0 hr (grid0.coords t)).trans (by rw [coord m hr])
theorem index1 (t : Fin (cfg m hr).N) : ((pcfgs (F := F) 0).win (adm m hr 0) 1).index t = ![1, (expertOf (tab1 m) (grid0.coords t)).toNat, 0, 0] := place1 (grid0.coords t)
theorem index2 (t : Fin (cfg m hr).N) : ((pcfgs (F := F) 0).win (adm m hr 0) 2).index t = ![1, (expertOf (tab1 m) (grid0.coords t)).toNat, 0, 0] := place2 (grid0.coords t)
theorem index3 (t : Fin (cfg m hr).N) : ((pcfgs (F := F) 0).win (adm m hr 0) 3).index t = ![1, (expertOf (tab1 m) (grid0.coords t)).toNat, 0, 0] := place3 (grid0.coords t)
theorem index4 (t : Fin (cfg m hr).N) : ((pcfgs (F := F) 0).win (adm m hr 0) 4).index t = ![1, (expertOf (tab1 m) (grid0.coords t)).toNat, 0, 0] := place4 (grid0.coords t)
theorem index5 (t : Fin (cfg m hr).N) : ((pcfgs (F := F) 0).win (adm m hr 0) 5).index t = ![t.val, 0] :=
  (show _ = ![(BitVec.ofNat 32 (grid0.coords t 0).val).toNat, 0] from rfl).trans (by rw [num_toNat, coord m hr])

/-- The block of window `w`'s array a point is handed. -/
def iblk (w : Fin (cfg m hr).W) (t : Fin (cfg m hr).N) : (((cfg m hr).win w).xblock ((cfg m hr).grid.coords t)).Idx → Elt F ((cfg m hr).win w).elt :=
  (((cfg m hr).win w).blk t).view.read (Elt F) (V m c (Pipeline.arrRef spec0 w))

abbrev rowsBlk (t : Fin (cfg m hr).N) : Vec F S512x1024 .f32 := iblk m c hr 0 t
abbrev guBlk (t : Fin (cfg m hr).N) : Vec F S1x1x1024x2048 .f32 := iblk m c hr 1 t
abbrev gubBlk (t : Fin (cfg m hr).N) : Vec F S1x1x1x2048 .f32 := iblk m c hr 2 t
abbrev dnBlk (t : Fin (cfg m hr).N) : Vec F S1x1x1024x1024 .f32 := iblk m c hr 3 t
abbrev dnbBlk (t : Fin (cfg m hr).N) : Vec F S1x1x1x1024 .f32 := iblk m c hr 4 t

/-! ## The body's three cases, by the point's number -/

/-- The expert of block `n`, and the number of used blocks. -/
def expert (n : ℕ) : ℕ := if h : n < 161 then (tab1 m (ix1 ⟨n, h⟩)).toNat else 0
abbrev nUsed : ℕ := (used (tab2 m)).toNat

theorem expertOf_eq (t : Fin (cfg m hr).N) : (expertOf (tab1 m) (grid0.coords t)).toNat = expert m t.val := by
  unfold expert expertOf
  rw [dif_pos (pt_lt m hr t)]
  refine congrArg (fun x => (tab1 m (ix1 x)).toNat) (Fin.ext (coord m hr t))

theorem before_eq (t : Fin (cfg m hr).N) : (expertBefore (tab1 m) (grid0.coords t)).toNat = expert m (t.val - 1) := by
  unfold expert expertBefore
  rw [dif_pos (Nat.lt_of_le_of_lt (Nat.sub_le _ _) (pt_lt m hr t))]
  refine congrArg (fun x => (tab1 m (ix1 x)).toNat) (Fin.ext (congrArg (· - 1) (coord m hr t)))

theorem isUsed (t : Fin (cfg m hr).N) : k0_cond2 (grid0.coords t) (used (tab2 m)) = 1#1 ↔ t.val < nUsed m := by
  rw [cond2_iff _ hr.small, coord m hr]
theorem isUnused (t : Fin (cfg m hr).N) : k0_cond3 (grid0.coords t) (used (tab2 m)) = 1#1 ↔ ¬t.val < nUsed m := by
  rw [cond3_iff _ hr.small, coord m hr]
theorem isFresh (t : Fin (cfg m hr).N) :
    fresh (grid0.coords t) (used (tab2 m)) (expertOf (tab1 m) (grid0.coords t)) (expertBefore (tab1 m) (grid0.coords t))
      ↔ t.val < nUsed m ∧ (t.val = 0 ∨ expert m t.val ≠ expert m (t.val - 1)) := by
  rw [fresh_iff _ hr.small, coord m hr, ← expertOf_eq m hr, ← before_eq m hr]
  exact and_congr_right fun _ => or_congr_right (not_congr (BitVec.toNat_inj.symm))

/-- Blocks of one expert are handed the same weights. -/
theorem guBlk_same (t t' : Fin (cfg m hr).N) (h : expert m t.val = expert m t'.val) : guBlk m c hr t = guBlk m c hr t' := by
  funext x
  unfold guBlk iblk
  blk_simp
  refine congrArg (V m c main_arg3) ?_
  funext a
  apply Fin.ext
  rw [← expertOf_eq m hr, ← expertOf_eq m hr] at h
  have hi := (index1 m hr t).trans ((congrArg (fun e => (![1, e, 0, 0] : Fin 4 → ℕ)) h).trans (index1 m hr t').symm)
  fin_cases a <;> blk_simp <;> simp <;> exact congrFun hi _

theorem dnBlk_same (t t' : Fin (cfg m hr).N) (h : expert m t.val = expert m t'.val) : dnBlk m c hr t = dnBlk m c hr t' := by
  funext x
  unfold dnBlk iblk
  blk_simp
  refine congrArg (V m c main_arg5) ?_
  funext a
  apply Fin.ext
  rw [← expertOf_eq m hr, ← expertOf_eq m hr] at h
  have hi := (index3 m hr t).trans ((congrArg (fun e => (![1, e, 0, 0] : Fin 4 → ℕ)) h).trans (index3 m hr t').symm)
  fin_cases a <;> blk_simp <;> simp <;> exact congrFun hi _

/-! ## Between points -/

abbrev scr1 : Memref sig .tc .vmem S1024x2048 .bf16 := Memref.whole cc0_scratch0
abbrev scr2 : Memref sig .tc .vmem S1024x1024 .bf16 := Memref.whole cc0_scratch1

theorem atLaunch : (Pipeline.ΦA spec0 c : sProp 𝕄)
    = iprop(((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

/-- The tables' halves the body reads. -/
abbrev tabs : sProp 𝕄 :=
  iprop((((c : Thread nD τ).loc main_arg1) ↦{fullShare.right} (tab1 m : Buf (Elt F) ((c : Thread nD τ).loc main_arg1)))
    ∗ (((c : Thread nD τ).loc main_arg2) ↦{fullShare.right} (tab2 m : Buf (Elt F) ((c : Thread nD τ).loc main_arg2))))

theorem tabs_eq : (Pipeline.ΦT pre0 (adm m hr 0).1 c : sProp 𝕄) = tabs m c :=
  bigSep_univ_eq_bigSepL [(0 : Fin 2), (1 : Fin 2)] (by decide) (by decide) _

/-- Before point `n`, when the block before it was a used one, the scratch holds that block's expert's weights. -/
def good (n : ℕ) (d1 : Vec F S1024x2048 .bf16) (d2 : Vec F S1024x1024 .bf16) : Prop :=
  ∀ k (h : k < (cfg m hr).N), n = k + 1 → k < nUsed m → d1 = k0_pay1 (guBlk m c hr ⟨k, h⟩) ∧ d2 = k0_pay2 (dnBlk m c hr ⟨k, h⟩)

def inv (n : ℕ) : sProp 𝕄 :=
  iprop((∃ d1 d2, ⌜good m c hr n d1 d2⌝ ∗ owns (c : Thread nD τ) scr1 fullShare d1 ∗ owns (c : Thread nD τ) scr2 fullShare d2)
    ∗ (∃ r, prngReg c r) ∗ tabs m c)

/-- What a point leaves in its block of the result. -/
def outOf (t : Fin (cfg m hr).N) : Vec F S512x1024 .f32 :=
  if t.val < nUsed m then k0_pay3 (rowsBlk m c hr t) (k0_pay1 (guBlk m c hr t)) (gubBlk m c hr t) (k0_pay2 (dnBlk m c hr t)) (dnbBlk m c hr t)
  else k0_pay4

/-- The pipeline's data: arrays as the region finds them, each point's buffers as above. -/
def dats (p : Fin 1) (c : Dev nD) : Dat τ (Elt F) Unit ℕ (UR sig nD τ) ℕ (Pipeline.pin (pcfgs (F := F)) (adm m hr) p) c where
  A w := V m c (Pipeline.arrRef spec0 w)
  after w t := match w with
    | ⟨0, _⟩ => iblk m c hr 0 t
    | ⟨1, _⟩ => iblk m c hr 1 t
    | ⟨2, _⟩ => iblk m c hr 2 t
    | ⟨3, _⟩ => iblk m c hr 3 t
    | ⟨4, _⟩ => iblk m c hr 4 t
    | ⟨5, _⟩ => outOf m c hr t
  Φ t := inv m c hr t.val
  q _ := fullShare
  owed _ := 0

theorem A_eq (w : Fin (cfg m hr).W) : (dats m hr 0 c).A w = V m c (Pipeline.arrRef spec0 w) := by dsimp only [dats]; try rfl

theorem after0 (t : Fin (cfg m hr).N) : (dats m hr 0 c).after 0 t = iblk m c hr 0 t := by dsimp only [dats]; try rfl
theorem after1 (t : Fin (cfg m hr).N) : (dats m hr 0 c).after 1 t = iblk m c hr 1 t := by dsimp only [dats]; try rfl
theorem after2 (t : Fin (cfg m hr).N) : (dats m hr 0 c).after 2 t = iblk m c hr 2 t := by dsimp only [dats]; try rfl
theorem after3 (t : Fin (cfg m hr).N) : (dats m hr 0 c).after 3 t = iblk m c hr 3 t := by dsimp only [dats]; try rfl
theorem after4 (t : Fin (cfg m hr).N) : (dats m hr 0 c).after 4 t = iblk m c hr 4 t := by dsimp only [dats]; try rfl
theorem after5 (t : Fin (cfg m hr).N) : (dats m hr 0 c).after 5 t = outOf m c hr t := by dsimp only [dats]; try rfl

theorem found0 (t : Fin (cfg m hr).N) (d) : (dats m hr 0 c).before 0 t d = iblk m c hr 0 t :=
  ((dats m hr 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem found1 (t : Fin (cfg m hr).N) (d) : (dats m hr 0 c).before 1 t d = iblk m c hr 1 t :=
  ((dats m hr 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem found2 (t : Fin (cfg m hr).N) (d) : (dats m hr 0 c).before 2 t d = iblk m c hr 2 t :=
  ((dats m hr 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem found3 (t : Fin (cfg m hr).N) (d) : (dats m hr 0 c).before 3 t d = iblk m c hr 3 t :=
  ((dats m hr 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem found4 (t : Fin (cfg m hr).N) (d) : (dats m hr 0 c).before 4 t d = iblk m c hr 4 t :=
  ((dats m hr 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

theorem live (w : Fin (cfg m hr).W) (t : Fin (cfg m hr).N) : (cfg m hr).idle w (grid0.coords t) = false :=
  match w with
  | ⟨0, _⟩ => rfl
  | ⟨1, _⟩ => rfl
  | ⟨2, _⟩ => rfl
  | ⟨3, _⟩ => rfl
  | ⟨4, _⟩ => rfl
  | ⟨5, _⟩ => by
    show (!(k0_cond2 (grid0.coords t) ((tables (F := F) (tab1 m) (tab2 m)).atD 1 ![0]) == 1#1)
      && !(k0_cond3 (grid0.coords t) ((tables (F := F) (tab1 m) (tab2 m)).atD 1 ![0]) == 1#1)) = false
    rw [used_atD]
    by_cases h : t.val < nUsed m
    · rw [beq_iff_eq.mpr ((isUsed m hr t).mpr h)]; rfl
    · rw [beq_iff_eq.mpr ((isUnused m hr t).mpr h), Bool.not_true, Bool.and_false]

/-- Every window is left owned at its value. -/
theorem leaves (w : Fin (cfg m hr).W) (t : Fin (cfg m hr).N) :
    (dats m hr 0 c).leavesExact w t = owns (c : Thread nD τ) (((cfg m hr).win w).stage ((cfg m hr).slots t w)) fullShare ((dats m hr 0 c).after w t) := by
  unfold Dat.leavesExact; rw [live m hr w t]

/-! ## The body at any point -/

/-- The body at point `t`, on the buffers the pipeline hands it. -/
def bodyAt (t : Fin (cfg m hr).N) : Prog (TpuEff nD τ sig (Elt F) Λ₀ .tc) PUnit :=
  cc0_moe_experts (grid0.coords t) (Memref.whole main_arg1) (Memref.isWhole_whole _) (Memref.whole main_arg2) (Memref.isWhole_whole _)
    (spec0_0.stage ((cfg m hr).slots t 0)) (hstage0_0 (((cfg m hr).slots t 0).cast nbuf0_0))
    (spec0_1.stage ((cfg m hr).slots t 1)) (hstage0_1 (((cfg m hr).slots t 1).cast nbuf0_1))
    (spec0_2.stage ((cfg m hr).slots t 2)) (hstage0_2 (((cfg m hr).slots t 2).cast nbuf0_2))
    (spec0_3.stage ((cfg m hr).slots t 3)) (hstage0_3 (((cfg m hr).slots t 3).cast nbuf0_3))
    (spec0_4.stage ((cfg m hr).slots t 4)) (hstage0_4 (((cfg m hr).slots t 4).cast nbuf0_4))
    (spec0_5.stage ((cfg m hr).slots t 5)) (hstage0_5 (((cfg m hr).slots t 5).cast nbuf0_5))
    (Memref.whole cc0_scratch0) (Memref.isWhole_whole _) (Memref.whole cc0_scratch1) (Memref.isWhole_whole _)

/-- What the body is called with, … -/
def pre (t : Fin (cfg m hr).N) : sProp 𝕄 :=
  iprop((dats m hr 0 c).Φ t.castSucc ∗ (dats m hr 0 c).owesAt () t.castSucc
    ∗ (∃ d, owns (c : Thread nD τ) (spec0_0.stage ((cfg m hr).slots t 0)) fullShare ((dats m hr 0 c).before 0 t d))
    ∗ (∃ d, owns (c : Thread nD τ) (spec0_1.stage ((cfg m hr).slots t 1)) fullShare ((dats m hr 0 c).before 1 t d))
    ∗ (∃ d, owns (c : Thread nD τ) (spec0_2.stage ((cfg m hr).slots t 2)) fullShare ((dats m hr 0 c).before 2 t d))
    ∗ (∃ d, owns (c : Thread nD τ) (spec0_3.stage ((cfg m hr).slots t 3)) fullShare ((dats m hr 0 c).before 3 t d))
    ∗ (∃ d, owns (c : Thread nD τ) (spec0_4.stage ((cfg m hr).slots t 4)) fullShare ((dats m hr 0 c).before 4 t d))
    ∗ (∃ d, owns (c : Thread nD τ) (spec0_5.stage ((cfg m hr).slots t 5)) fullShare ((dats m hr 0 c).before 5 t d)))

/-- … and what it leaves. -/
def post (t : Fin (cfg m hr).N) : sProp 𝕄 :=
  iprop((dats m hr 0 c).Φ t.succ ∗ (dats m hr 0 c).owesAt () t.succ
    ∗ (dats m hr 0 c).leavesExact 0 t ∗ (dats m hr 0 c).leavesExact 1 t ∗ (dats m hr 0 c).leavesExact 2 t
    ∗ (dats m hr 0 c).leavesExact 3 t ∗ (dats m hr 0 c).leavesExact 4 t ∗ (dats m hr 0 c).leavesExact 5 t)

theorem good_after (t : Fin (cfg m hr).N) {d1 : Vec F S1024x2048 .bf16} {d2 : Vec F S1024x1024 .bf16}
    (h : t.val < nUsed m → d1 = k0_pay1 (guBlk m c hr t) ∧ d2 = k0_pay2 (dnBlk m c hr t)) : good m c hr (t.val + 1) d1 d2 := by
  intro k hk e hu
  obtain rfl : k = t.val := by omega
  exact h hu

/-- A used block that is not fresh finds its own weights in the scratch. -/
theorem good_same (t : Fin (cfg m hr).N) {d1 : Vec F S1024x2048 .bf16} {d2 : Vec F S1024x1024 .bf16} (hg : good m c hr t.val d1 d2)
    (hu : t.val < nUsed m) (h0 : t.val ≠ 0) (he : expert m t.val = expert m (t.val - 1)) :
    d1 = k0_pay1 (guBlk m c hr t) ∧ d2 = k0_pay2 (dnBlk m c hr t) := by
  have hk : t.val - 1 < (cfg m hr).N := by have := t.isLt; omega
  have h := hg (t.val - 1) hk (by omega) (by omega)
  rw [guBlk_same m c hr t ⟨t.val - 1, hk⟩ he, dnBlk_same m c hr t ⟨t.val - 1, hk⟩ he]
  exact h

set_option maxHeartbeats 2000000 in
theorem body (t : Fin (cfg m hr).N) :
    pre m c hr t ⊢ wp frame (wpE (defs₀ (F := F)) Variants.none c none) Set.univ (bodyAt m hr t) (fun _ => post m c hr t) := by
  unfold pre post bodyAt
  simp only [found0, found1, found2, found3, found4]
  rw [show (dats m hr 0 c).owesAt () t.succ = (dats m hr 0 c).owesAt () t.castSucc from rfl,
    show (dats m hr 0 c).Φ t.succ = inv m c hr (t.val + 1) from rfl, show (dats m hr 0 c).Φ t.castSucc = inv m c hr t.val from rfl,
    leaves, leaves, leaves, leaves, leaves, leaves, after0, after1, after2, after3, after4, after5]
  unfold inv
  by_cases hu : t.val < nUsed m
  · by_cases hf : t.val = 0 ∨ expert m t.val ≠ expert m (t.val - 1)
    · iintro ⟨⟨⟨%d1, %d2, -, HS1, HS2⟩, Hg, HT1, HT2⟩, Ho, ⟨%e0, H0⟩, ⟨%e1, H1⟩, ⟨%e2, H2⟩, ⟨%e3, H3⟩, ⟨%e4, H4⟩, ⟨%e5, H5⟩⟩
      iapply (freshBlock c (grid0.coords t) _ _ _ _ _ _ _ _ _ _ _ _ _ _ _ _ fullShare.right (tab1 m) (tab2 m) ((isFresh m hr t).mpr ⟨hu, hf⟩) ((isUsed m hr t).mpr hu)
        (fun h => (isUnused m hr t).mp h hu) (rowsBlk m c hr t) (guBlk m c hr t) (gubBlk m c hr t) (dnBlk m c hr t) (dnbBlk m c hr t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS1]; · iexists _; iexact HS1
      isplitl [HS2]; · iexists _; iexact HS2
      isplitl [HT1]; · iexact HT1
      isplitl [HT2]; · iexact HT2
      iintro ⟨H0, H1, H2, H3, H4, H5, HS1, HS2, HT1, HT2⟩
      isplitl [HS1 HS2 Hg HT1 HT2]
      · isplitl [HS1 HS2]
        · iexists _; iexists _; isplitr
          swap
          · isplitl [HS1]; · iexact HS1
            iexact HS2
          ipureintro; exact good_after m c hr t fun _ => ⟨rfl, rfl⟩
        isplitl [Hg]; · iexact Hg
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      unfold outOf; rw [if_pos hu]; iexact H5
    · iintro ⟨⟨⟨%d1, %d2, %hg, HS1, HS2⟩, Hg, HT1, HT2⟩, Ho, ⟨%e0, H0⟩, ⟨%e1, H1⟩, ⟨%e2, H2⟩, ⟨%e3, H3⟩, ⟨%e4, H4⟩, ⟨%e5, H5⟩⟩
      have hd := good_same m c hr t hg hu (fun h => hf (.inl h)) (by by_contra h; exact hf (.inr h))
      iapply (sameBlock c (grid0.coords t) _ _ _ _ _ _ _ _ _ _ _ _ _ _ _ _ fullShare.right (tab1 m) (tab2 m) (fun h => hf ((isFresh m hr t).mp h).2) ((isUsed m hr t).mpr hu)
        (fun h => (isUnused m hr t).mp h hu) (rowsBlk m c hr t) (gubBlk m c hr t) (dnbBlk m c hr t) d1 d2 Set.univ _)
      isplitl [H0]; · iexact H0
      isplitl [H2]; · iexact H2
      isplitl [H4]; · iexact H4
      isplitl [H5]; · iexists _; iexact H5
      isplitl [HS1]; · iexact HS1
      isplitl [HS2]; · iexact HS2
      isplitl [HT1]; · iexact HT1
      isplitl [HT2]; · iexact HT2
      iintro ⟨H0, H2, H4, H5, HS1, HS2, HT1, HT2⟩
      isplitl [HS1 HS2 Hg HT1 HT2]
      · isplitl [HS1 HS2]
        · iexists _; iexists _; isplitr
          swap
          · isplitl [HS1]; · iexact HS1
            iexact HS2
          ipureintro; exact good_after m c hr t fun _ => hd
        isplitl [Hg]; · iexact Hg
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      unfold outOf; rw [if_pos hu, ← hd.1, ← hd.2]; iexact H5
  · iintro ⟨⟨⟨%d1, %d2, -, HS1, HS2⟩, Hg, HT1, HT2⟩, Ho, ⟨%e0, H0⟩, ⟨%e1, H1⟩, ⟨%e2, H2⟩, ⟨%e3, H3⟩, ⟨%e4, H4⟩, ⟨%e5, H5⟩⟩
    iapply (zeroBlock c (grid0.coords t) _ _ _ _ _ _ _ _ _ _ _ _ _ _ _ _ fullShare.right (tab1 m) (tab2 m) (fun h => hu ((isFresh m hr t).mp h).1) (fun h => hu ((isUsed m hr t).mp h))
      ((isUnused m hr t).mpr hu) Set.univ _)
    isplitl [H5]; · iexists _; iexact H5
    isplitl [HT1]; · iexact HT1
    isplitl [HT2]; · iexact HT2
    iintro ⟨H5, HT1, HT2⟩
    isplitl [HS1 HS2 Hg HT1 HT2]
    · isplitl [HS1 HS2]
      · iexists _; iexists _; isplitr
        swap
        · isplitl [HS1]; · iexact HS1
          iexact HS2
        ipureintro; exact good_after m c hr t fun h => absurd h hu
      isplitl [Hg]; · iexact Hg
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold outOf; rw [if_neg hu]; iexact H5

theorem body_row (t : Fin (cfg m hr).N) : defs₀ (F := F) .tc (cfg m hr).body ((cfg m hr).bodyArgs t ((cfg m hr).slots t)) = bodyAt m hr t := by
  unfold defs₀; rw [Defs.onTc_tc]; rfl

theorem obligation : BodyObligation (dats m hr 0 c) (defs₀ (F := F)) Variants.none () Set.univ := fun t => by
  rw [bigSep_W0, bigSep_W0, body_row]
  exact triple_restated (body m c hr t) rfl .rfl fun _ => .rfl

/-! ## The run -/

theorem hin : (iprop(Pipeline.ΦA spec0 c ∗ Pipeline.ΦT pre0 (adm m hr 0).1 c) : sProp 𝕄) ⊢ (dats m hr 0 c).Φ 0 := by
  rw [show (dats m hr 0 c).Φ 0 = inv m c hr 0 from rfl, atLaunch, tabs_eq]
  unfold inv
  iintro ⟨⟨⟨⟨%d1, HS1⟩, ⟨%d2, HS2⟩⟩, Hg⟩, HT⟩
  isplitl [HS1 HS2]
  · iexists d1; iexists d2; isplitr
    swap
    · isplitl [HS1]; · iexact HS1
      iexact HS2
    ipureintro; exact fun k _ h => absurd h (Nat.succ_ne_zero k).symm
  isplitl [Hg]; · iexact Hg
  iexact HT

theorem hout : (dats m hr 0 c).Φ (Fin.last (cfg m hr).N) ⊢ Pipeline.ΦA spec0 c := by
  rw [show (dats m hr 0 c).Φ (Fin.last (cfg m hr).N) = inv m c hr (cfg m hr).N from rfl, atLaunch]
  unfold inv
  iintro ⟨⟨%d1, %d2, -, HS1, HS2⟩, Hg, HT1, HT2⟩
  isplitl [HS1 HS2]
  · isplitl [HS1]
    · iexists _; iexact HS1
    iexists _; iexact HS2
  iexact Hg

theorem tabs_found (k : Fin 2) : V m c (pre0.ref k) = (adm m hr 0).1 k := by
  obtain rfl : c = 0 := Subsingleton.elim _ _
  exact match k with
  | ⟨0, _⟩ => V_arg1 m 0
  | ⟨1, _⟩ => V_arg2 m 0

set_option backward.isDefEq.respectTransparency.types false in
/-- The whole run: every array ends at what the points' buffers make of it, every counter at zero. -/
theorem run_main : θ_run defs (onTc (τ := τ) (main (F := F))) (s₀ m ρ)
    (fun r => (Pipeline.FramePost (Pipeline.pin (pcfgs (F := F)) (adm m hr)) (dats m hr) 0 (V m)) r ∧ r.2.sem = fun _ => 0) :=
  Pipeline.θ_run_frameP_track (Q' := _) pcfgs (adm m hr) (dats m hr) (0 : Fin 1) launch0 defs₀ Variants.none m ρ main
    (hbody := fun c => (obligation m c hr).loose) (hshare := fun c => (dats m hr 0 c).share_full fun _ => rfl)
    (howed := fun _ _ => rfl) (V := V m) (hmain := enters m) (hA := fun c => A_eq m c hr)
    (hpf := fun c k => tabs_found m c hr k) (hin := fun c => hin m c hr) (hout := fun c => hout m c hr)

end Cert.Proof.Moe

end
-- ==== Proof.ExpRefRun.lean ====
/- The expert reference's run, read as a recurrence: its scan over the 161 blocks keeps a state, and the result is read off
   the state after the last. -/
module

public import proofs.«01_k».proof.Proof.Gen.ExpertsReferenceIdeal.Run
public import proofs.«01_k».proof.Proof.Gen.ExpertsReferenceIdeal.Step

@[expose] public section

set_option maxRecDepth 16384

noncomputable section

namespace Cert.Proof.MoeRef

open Idealize.ShloMosaic Idealize.ShloMosaic.TcCoe Idealize.SL.Sem Idealize.ShloMosaic.StableHlo
open Cert.ExpertsReferenceIdeal Cert.ExpertsReferenceIdeal.Gen Cert.ExpertsReferenceIdeal.Value
open Cert.ExpertsReferenceIdeal.Step (State)

variable {F : FTy → Type} [FloatOps F]

/-- The scan's carried arrays, read off the buffers that carry them. -/
def stateOf (V : Valuation τ sig (Elt F)) : State F :=
  ⟨V (Proc.devRef .tc main_v10_7), V (Proc.devRef .tc main_v10_0), V (Proc.devRef .tc main_v10_1), V (Proc.devRef .tc main_v10_2),
    V (Proc.devRef .tc main_v10_3), V (Proc.devRef .tc main_v10_4), V (Proc.devRef .tc main_v10_5)⟩

/-- The buffers before trip `j`: the trip's number is `j`. -/
abbrev At (j : ℕ) (V : Valuation τ sig (Elt F)) : Prop := V (Proc.devRef .tc main_v10_6) = constantI S_ 32 (BitVec.ofNat 32 j)

theorem trip_rows {j : ℕ} {V : Valuation τ sig (Elt F)} (h : At j V) : step_main_v10_7 V = Step.b122 j (stateOf V) := by
  unfold step_main_v10_7 res_main_while0b_v46 res_main_while0b_v42 res_main_while0b_v19
  rw [h]
  rfl

theorem at_succ {j : ℕ} {V : Valuation τ sig (Elt F)} (h : At j V) : At (j + 1) (STEP V) :=
  (STEP_main_v10_6 V).trans (by
    unfold step_main_v10_6
    rw [h]
    funext i
    show BitVec.ofNat 32 j + 1#32 = BitVec.ofNat 32 (j + 1)
    simp only [BitVec.ofNat_add])

theorem stateOf_STEP {j : ℕ} {V : Valuation τ sig (Elt F)} (h : At j V) : stateOf (STEP V) = Step.step j (stateOf V) := by
  unfold Step.step stateOf
  rw [STEP_main_v10_7, STEP_main_v10_0, STEP_main_v10_1, STEP_main_v10_2, STEP_main_v10_3, STEP_main_v10_4, STEP_main_v10_5, trip_rows h]
  rfl

variable (m : (ℓ : Loc nD τ sig) → Buf (Elt F) ℓ) (c : Dev nD)

/-- The state the scan starts from. -/
abbrev start : State F :=
  Step.init (m ((c.tc : Thread nD τ).loc main_arg1)) (m ((c.tc : Thread nD τ).loc main_arg0)) (m ((c.tc : Thread nD τ).loc main_arg3))
    (m ((c.tc : Thread nD τ).loc main_arg4)) (m ((c.tc : Thread nD τ).loc main_arg5)) (m ((c.tc : Thread nD τ).loc main_arg6))

/-- The state before trip `k`. -/
def states (s : State F) : ℕ → State F
  | 0 => s
  | k + 1 => Step.step k (states s k)

set_option maxHeartbeats 1000000 in
theorem entry_at : At 0 (entryContents preI m c) := by
  unfold At
  simp only [entryContents, afterL_cons, afterL_nil]; after_reads_simp <;> rfl

set_option maxHeartbeats 1000000 in
theorem entry_state : stateOf (entryContents preI m c) = start m c := by
  unfold stateOf start Step.init
  congr 1 <;> (simp only [entryContents, afterL_cons, afterL_nil]; after_reads_simp) <;> rfl

theorem iterate_at : ∀ k, At k (STEP^[k] (entryContents preI m c)) ∧ stateOf (STEP^[k] (entryContents preI m c)) = states (start m c) k
  | 0 => ⟨entry_at m c, entry_state m c⟩
  | k + 1 => by
    rw [Function.iterate_succ_apply']
    have h := iterate_at k
    exact ⟨at_succ h.1, (stateOf_STEP h.1).trans (by rw [h.2]; rfl)⟩

theorem out_eq {V : Valuation τ sig (Elt F)} {x2 : (⟨S1, .i32⟩ : BufTy).Contents (Elt F)} (h2 : V (Proc.devRef .tc main_arg2) = x2) :
    out_main_v17 V = Step.R_main_v17 (stateOf V) x2 := by
  unfold out_main_v17 Step.R_main_v17
  rw [h2]
  rfl

/-- The reference runs to the end; its result is read off the state after the last trip, its arguments are kept. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v17) = Step.R_main_v17 (states (start m c) 161) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans ((out_eq (iter_main_arg2 m c 161)).trans (by rw [(iterate_at m c 161).2])), (h c).2⟩) (Value.run m ρ)

end Cert.Proof.MoeRef

end
-- ==== Proof.ExpFrames.lean ====
/- The three expert programs run, keep their arguments and end with every counter at zero. The kernel and its idealized form
   are one run read at two kinds of numbers. -/
module

public import proofs.«01_k».proof.Defs
public import proofs.«01_k».proof.Proof.ExpLaunch
public import proofs.«01_k».proof.Proof.ExpRefRun
public import proofs.«01_k».proof.Proof.Gen.Experts
public import Idealize.ShloMosaic.Lib.Claim

@[expose] public section

set_option maxRecDepth 16384

noncomputable section

namespace Cert.Proof.Moe

open Idealize.ShloMosaic Idealize.ShloMosaic.TcCoe Idealize.SL Idealize.SL.Sem

section
open Cert.ExpertsIdeal Cert.ExpertsIdeal.Gen
attribute [local instance] Cert.ExpertsIdeal.Gen.facts
variable {F : FTy → Type} [FloatOps F] (m : (ℓ : Loc nD τ sig) → Buf (Elt F) ℓ) (ρ : Dev nD → PrngReg) (hr : Routed (tab1 m) (tab2 m))

/-- The kernel's run: its result is what the points left in the last window's array. -/
theorem kernel_run : θ_run defs (onTc (τ := τ) (main (F := F))) ⟨m, fun _ => 0, ρ⟩ (fun r => (∀ c : Dev nD,
      r.2.mem ((c.tc : Thread nD τ).loc main_v2) = (dats m hr 0 c).arrAt 5 (cfg m hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
    ((h.1 c).1 0).trans (((dats m hr 0 c).arrAt_in 0 rfl _).trans ((A_eq m c hr 0).trans (V_arg0 m c))),
    ((h.1 c).2 main_arg1 (Pipeline.mem_restRefs_of main_arg1 (by decide) (show ∀ w : Fin 6, (spec0 w).arr.view.ref ≠ main_arg1 by decide))).trans (V_arg1 m c),
    ((h.1 c).2 main_arg2 (Pipeline.mem_restRefs_of main_arg2 (by decide) (show ∀ w : Fin 6, (spec0 w).arr.view.ref ≠ main_arg2 by decide))).trans (V_arg2 m c),
    ((h.1 c).1 1).trans (((dats m hr 0 c).arrAt_in 1 rfl _).trans ((A_eq m c hr 1).trans (V_arg3 m c))),
    ((h.1 c).2 main_arg4 (Pipeline.mem_restRefs_of main_arg4 (by decide) (show ∀ w : Fin 6, (spec0 w).arr.view.ref ≠ main_arg4 by decide))).trans (V_arg4 m c),
    ((h.1 c).1 3).trans (((dats m hr 0 c).arrAt_in 3 rfl _).trans ((A_eq m c hr 3).trans (V_arg5 m c))),
    ((h.1 c).2 main_arg6 (Pipeline.mem_restRefs_of main_arg6 (by decide) (show ∀ w : Fin 6, (spec0 w).arr.view.ref ≠ main_arg6 by decide))).trans (V_arg6 m c)⟩, h.2⟩) (run_main m ρ hr)
end

/-! ## The condition on the tables -/

section
open Cert.Pre_routed Cert.Pre_routed.Facts

/-- The side conditions of the condition's own operations. -/
theorem routedFacts : Cert.Pre_routed.Facts where
  bcast_S_S161 := by decide
  reducesTo_S161_S_d0 := by decide
  h_S_ := by decide
  shapeCasts_S1_S_ := by decide

theorem bits_and : ∀ a b : BitVec 1, IntOp.andi a b = 1#1 → a = 1#1 ∧ b = 1#1 := by decide

theorem foldl_and {ι : Type} (f : ι → BitVec 1) : ∀ (l : List ι) (a : BitVec 1),
    l.foldl (fun r i => IntOp.andi r (f i)) a = 1#1 → a = 1#1 ∧ ∀ i ∈ l, f i = 1#1
  | [], _, h => ⟨h, fun _ hi => absurd hi List.not_mem_nil⟩
  | j :: l, a, h => by
    obtain ⟨h1, h2⟩ := foldl_and f l _ h
    obtain ⟨h3, h4⟩ := bits_and _ _ h1
    refine ⟨h3, fun i hi => ?_⟩
    rcases List.mem_cons.mp hi with rfl | hi
    · exact h4
    · exact h2 i hi

theorem all_of_reduce (x : IVec S161 1) (v : IVec S_ 1) (h : S161.ReducesTo [0] S_) (h') (j : S_.Idx) (e : Host.reduce IntOp.andi x v h h' j = 1#1) (i : S161.Idx) : x i = 1#1 := by
  have := (foldl_and (fun n => x (S161.rowMajor.symm n)) _ _ e).2 (S161.rowMajor i)
    (List.mem_filter.mpr ⟨List.mem_finRange _, decide_eq_true (funext fun a => a.elim0)⟩)
  simpa using this

theorem bit_true : ∀ b : Bool, BitVec.ofBool b = 1#1 → b = true := by decide

theorem between {x : BitVec 32} (h1 : (0#32).sle x = true) (h2 : x.slt 32#32 = true) : x.toNat < 32 := by
  have e1 := of_decide_eq_true h1
  have e2 := of_decide_eq_true h2
  rw [BitVec.toInt_eq_toNat_cond, BitVec.toInt_eq_toNat_cond] at e1 e2
  have := x.isLt
  simp at e1 e2
  split at e2 <;> omega

theorem positive {x : BitVec 32} (h : (1#32).sle x = true) : 1 ≤ x.toNat ∧ x.toNat < 2 ^ 31 := by
  have e1 := of_decide_eq_true h
  rw [BitVec.toInt_eq_toNat_cond, BitVec.toInt_eq_toNat_cond] at e1
  have := x.isLt
  simp at e1
  split at e1 <;> omega

variable {F : FTy → Type} [FloatOps F]

theorem routed_of_fn [Cert.Pre_routed.Facts] (a0 : FVec F S82432x1024 .f32) (T1 : IVec S161 32) (T2 : IVec S1 32) (a3 : FVec F S2x32x1024x2048 .f32)
    (a4 : FVec F S2x32x2048 .f32) (a5 : FVec F S2x32x1024x1024 .f32) (a6 : FVec F S2x32x1024 .f32)
    (h : Cert.Pre_routed.fn a0 T1 T2 a3 a4 a5 a6 = fun _ => 1#1) : Routed T1 T2 := by
  have h0 := congrFun h (Shape.Idx.first h_S_)
  unfold Cert.Pre_routed.fn at h0
  obtain ⟨h1, hn⟩ := bits_and _ _ h0
  obtain ⟨hge, hlt⟩ := bits_and _ _ h1
  have hu : 1 ≤ (used T2).toNat ∧ (used T2).toNat < 2 ^ 31 := by
    refine positive ((congrArg (BitVec.sle 1#32) (?_ : used T2 = _)).trans (bit_true _ hn))
    unfold used
    refine congrArg T2 (funext fun a => ?_)
    fin_cases a
    exact Subsingleton.elim (α := Fin 1) _ _
  exact ⟨fun x => between (bit_true _ (all_of_reduce _ _ _ _ _ hge x)) (bit_true _ (all_of_reduce _ _ _ _ _ hlt x)), hu.1, hu.2⟩

end

section
attribute [local instance] Cert.Experts.Gen.facts
variable {F : FTy → Type} [FloatOps F]

/-- The two programs' tables of bodies are one. -/
theorem bodies : Cert.Experts.defs (F := F) = Cert.ExpertsIdeal.defs :=
  congrArg (Pipeline.defs (Cert.ExpertsIdeal.pcfgs (F := F))) (congrArg Defs.onTc (funext fun l => funext fun a => match l, a with
    | 0, (t, s) => rfl
    | ⟨_ + 1, h⟩, _ => absurd h (Nat.not_lt.2 (Nat.le_add_left _ _))))
end

theorem frame_kernel : Cert.quiescent_Experts (hExperts := Cert.Experts.Gen.facts) (hPre_routed := routedFacts) := fun m ρ h => by
  rw [bodies]
  exact (θ_run Cert.ExpertsIdeal.defs _ _).mono (fun _ h => ⟨fun c => (h.1 c).2, h.2⟩)
    (kernel_run (F := Bits) m ρ (@routed_of_fn _ _ routedFacts _ _ _ _ _ _ _ (h 0)))

theorem frame_ideal : Cert.quiescent_ExpertsIdeal (hExpertsIdeal := Cert.ExpertsIdeal.Gen.facts) (hPre_routed := routedFacts) := fun m ρ h =>
  (θ_run Cert.ExpertsIdeal.defs _ _).mono (fun _ h => ⟨fun c => (h.1 c).2, h.2⟩)
    (kernel_run (F := Ideal) m ρ (@routed_of_fn _ _ routedFacts _ _ _ _ _ _ _ (h 0)))

theorem frame_reference : Cert.quiescent_ExpertsReferenceIdeal (hExpertsReferenceIdeal := Cert.ExpertsReferenceIdeal.Gen.facts) := fun m ρ _ =>
  (θ_run Cert.ExpertsReferenceIdeal.defs _ _).mono
    (fun r h => ⟨fun c => (h c).2, sem_eq_zero_of_no_sems (by decide) r.2⟩) (MoeRef.run (F := Ideal) m ρ)

theorem frame_reference_routed : Cert.quiescent_ExpertsReferenceIdeal_pre_routed (hExpertsReferenceIdeal := Cert.ExpertsReferenceIdeal.Gen.facts)
    (hPre_routed := routedFacts) := fun m ρ _ => frame_reference m ρ trivial

end Cert.Proof.Moe

end
-- ==== Proof.ExpSpec.lean ====
/- One row through one expert, as plain functions of extended reals: the fused gate and up product, the clamped gated unit, the
   down product. -/
module

public import Idealize.ShloMosaic.Lib.Pointwise

@[expose] public section

set_option maxRecDepth 16384

noncomputable section

namespace Cert.Proof.MoeSpec

open Idealize.ShloMosaic

/-- Column `k` of the fused gate and up product of row `x`. -/
def hid (x : Fin 1024 → EReal) (w : Fin 1024 → Fin 2048 → EReal) (b : Fin 2048 → EReal) (k : Fin 2048) : EReal :=
  (∑ a : Fin 1024, x a * w a k) + b k

/-- The gate, from above only, … -/
def gate (h : Fin 2048 → EReal) (k : Fin 1024) : EReal := min (h ⟨k.val, by omega⟩) (Ideal.ofBits .f32 0x40E00000#32)

/-- … and the other half, from both sides, cut at seven. -/
def up (h : Fin 2048 → EReal) (k : Fin 1024) : EReal :=
  min (Ideal.ofBits .f32 0x40E00000#32) (max (Ideal.ofBits .f32 0xC0E00000#32) (h ⟨1024 + k.val, by omega⟩))

/-- The gated unit. -/
def act (h : Fin 2048 → EReal) (k : Fin 1024) : EReal :=
  gate h k * Ideal.div 1 (1 + Ideal.exp (-(Ideal.ofBits .f32 0x3FD9DB23#32 * gate h k))) * (up h k + 1)

/-- Column `k` of the row's result. -/
def outAt (x : Fin 1024 → EReal) (w : Fin 1024 → Fin 2048 → EReal) (b : Fin 2048 → EReal) (w2 : Fin 1024 → Fin 1024 → EReal)
    (b2 : Fin 1024 → EReal) (k : Fin 1024) : EReal :=
  (∑ a : Fin 1024, act (hid x w b) a * w2 a k) + b2 k

end Cert.Proof.MoeSpec

end
-- ==== Proof.ExpRefValue.lean ====
/- One trip of the expert reference's scan at the extended reals, entry by entry, and the result the scan ends with. -/
module

public import proofs.«01_k».proof.Proof.ExpRefRun
public import proofs.«01_k».proof.Proof.ExpSpec
public import Idealize.ShloMosaic.Lib.DynamicIndex

@[expose] public section

set_option maxRecDepth 16384

noncomputable section

namespace Cert.Proof.MoeRef

open Idealize.ShloMosaic Idealize.ShloMosaic.TcCoe
open Cert.ExpertsReferenceIdeal Cert.ExpertsReferenceIdeal.Gen Cert.ExpertsReferenceIdeal.Step

section
variable (j : ℕ) (s : State Ideal)

theorem b47_apply (r : Fin 512) (k : Fin 2048) : b47 j s (ix2 r k) =
    MoeSpec.hid (fun a => b3 j s (ix2 r a)) (fun a k => b28 j s (ix2 a k)) (fun k => b44 j s (ix1 k)) k := by
  unfold MoeSpec.hid
  pointwise [b47, b46, b45, b29]

theorem b76_apply (r : Fin 512) (k : Fin 1024) : b76 j s (ix2 r k) = MoeSpec.act (fun k => b47 j s (ix2 r k)) k := by
  unfold MoeSpec.act MoeSpec.gate MoeSpec.up
  pointwise [b76, b75, b74, b73, b72, b71, b70, b69, b68, b67, b66, b65, b64, b63, b62, b61, b60, b59, b58, b57, b56, b55, b54, b53, b52, b51, b50, b49, b48]

theorem b118_apply (r : Fin 512) (k : Fin 1024) : b118 j s (ix2 r k) =
    MoeSpec.outAt (fun a => b3 j s (ix2 r a)) (fun a k => b28 j s (ix2 a k)) (fun k => b44 j s (ix1 k))
      (fun a k => b99 j s (ix2 a k)) (fun k => b115 j s (ix1 k)) k := by
  unfold MoeSpec.outAt
  refine Eq.trans (b := (∑ a : Fin 1024, b76 j s (ix2 r a) * b99 j s (ix2 a k)) + b115 j s (ix1 k)) ?_ ?_
  · pointwise [b118, b117, b116, b100]
  · refine congrArg (· + _) (Finset.sum_congr rfl fun a _ => ?_)
    rw [b76_apply]
    exact congrArg (fun h => MoeSpec.act h a * _) (funext fun k => b47_apply j s r k)

end

/-! ## The trip's slices -/

section
variable (j : ℕ) (hj : j < 161) (s : State Ideal)

include hj in
theorem num_int : (BitVec.ofNat 32 j).toInt = (j : ℤ) := by
  rw [BitVec.toInt_eq_toNat_cond, BitVec.toNat_ofNat, Nat.mod_eq_of_lt (by omega)]
  split <;> omega

include hj in
theorem b3_apply (r : Fin 512) (a : Fin 1024) : b3 j s (ix2 r a) = s.main_v10_0 (ix3 ⟨j, hj⟩ r a) := by
  have hs : S161x512x1024.Slices (![j, 0, 0] : Fin 3 → ℕ) S1x512x1024 :=
    ⟨rfl, fun a => by
      fin_cases a
      · show j + 1 ≤ 161
        omega
      · exact (by decide : 0 + 512 ≤ 512)
      · exact (by decide : 0 + 1024 ≤ 1024)⟩
  unfold b3 b2
  rw [Host.dynamicSlice_eq_extractStridedSlice S1x512x1024 s.main_v10_0 _ ![j, 0, 0] _ hs (fun a => by
    fin_cases a
    · exact num_int j hj
    all_goals rfl)]
  pointwise

include hj in
theorem b5_apply (i : S_.Idx) : b5 j s i = s.main_v10_1 (ix1 ⟨j, hj⟩) := by
  have hs : S161.Slices (![j] : Fin 1 → ℕ) S1 :=
    ⟨rfl, fun a => by
      fin_cases a
      show j + 1 ≤ 161
      omega⟩
  unfold b5 b4
  rw [Host.dynamicSlice_eq_extractStridedSlice S1 s.main_v10_1 _ ![j] _ hs (fun a => by
    fin_cases a
    exact num_int j hj)]
  pointwise

variable (e : Fin 32) (he : (s.main_v10_1 (ix1 ⟨j, hj⟩)).toNat = e.val)

include he in
theorem expert_int (i : S_.Idx) : (b5 j s i).toInt = (e.val : ℤ) := by
  rw [b5_apply j hj s i, BitVec.toInt_eq_toNat_cond, he]
  have := e.isLt
  split <;> omega

include he in
theorem b10_int (i : S_.Idx) : (b10 j s i).toInt = (e.val : ℤ) := by
  refine Eq.trans (congrArg BitVec.toInt ?_) (expert_int j hj s e he i)
  exact select_slt_zero_of_nonneg _ _ _ i (by rw [expert_int j hj s e he i]; omega)

include he in
theorem b28_apply (a : Fin 1024) (k : Fin 2048) : b28 j s (ix2 a k) = s.main_v10_2 (ix3 e a k) := by
  have hs : S32x1024x2048.Slices (![e.val, 0, 0] : Fin 3 → ℕ) S1x1024x2048 :=
    ⟨rfl, fun a => by
      fin_cases a
      · exact Nat.succ_le_of_lt e.isLt
      · exact (by decide : 0 + 1024 ≤ 1024)
      · exact (by decide : 0 + 2048 ≤ 2048)⟩
  unfold b28 b27
  rw [Host.dynamicSlice_eq_extractStridedSlice S1x1024x2048 s.main_v10_2 _ ![e.val, 0, 0] _ hs (fun a => by
    fin_cases a
    · exact b10_int j hj s e he _
    all_goals rfl)]
  pointwise

include he in
theorem b44_apply (k : Fin 2048) : b44 j s (ix1 k) = s.main_v10_3 (ix2 e k) := by
  have hs : S32x2048.Slices (![e.val, 0] : Fin 2 → ℕ) S1x2048 :=
    ⟨rfl, fun a => by
      fin_cases a
      · exact Nat.succ_le_of_lt e.isLt
      · exact (by decide : 0 + 2048 ≤ 2048)⟩
  unfold b44 b43
  rw [Host.dynamicSlice_eq_extractStridedSlice S1x2048 s.main_v10_3 _ ![e.val, 0] _ hs (fun a => by
    fin_cases a
    · exact b10_int j hj s e he _
    all_goals rfl)]
  pointwise

include he in
theorem b99_apply (a k : Fin 1024) : b99 j s (ix2 a k) = s.main_v10_4 (ix3 e a k) := by
  have hs : S32x1024x1024.Slices (![e.val, 0, 0] : Fin 3 → ℕ) S1x1024x1024 :=
    ⟨rfl, fun a => by
      fin_cases a
      · exact Nat.succ_le_of_lt e.isLt
      · exact (by decide : 0 + 1024 ≤ 1024)
      · exact (by decide : 0 + 1024 ≤ 1024)⟩
  unfold b99 b98
  rw [Host.dynamicSlice_eq_extractStridedSlice S1x1024x1024 s.main_v10_4 _ ![e.val, 0, 0] _ hs (fun a => by
    fin_cases a
    · exact b10_int j hj s e he _
    all_goals rfl)]
  pointwise

include he in
theorem b115_apply (k : Fin 1024) : b115 j s (ix1 k) = s.main_v10_5 (ix2 e k) := by
  have hs : S32x1024.Slices (![e.val, 0] : Fin 2 → ℕ) S1x1024 :=
    ⟨rfl, fun a => by
      fin_cases a
      · exact Nat.succ_le_of_lt e.isLt
      · exact (by decide : 0 + 1024 ≤ 1024)⟩
  unfold b115 b114
  rw [Host.dynamicSlice_eq_extractStridedSlice S1x1024 s.main_v10_5 _ ![e.val, 0] _ hs (fun a => by
    fin_cases a
    · exact b10_int j hj s e he _
    all_goals rfl)]
  pointwise

include he in
/-- A row of the trip's block, through the block's expert. -/
theorem trip_row (r : Fin 512) (k : Fin 1024) : b118 j s (ix2 r k) =
    MoeSpec.outAt (fun a => s.main_v10_0 (ix3 ⟨j, hj⟩ r a)) (fun a k => s.main_v10_2 (ix3 e a k)) (fun k => s.main_v10_3 (ix2 e k))
      (fun a k => s.main_v10_4 (ix3 e a k)) (fun k => s.main_v10_5 (ix2 e k)) k := by
  rw [b118_apply]
  simp only [b3_apply j hj s, b28_apply j hj s e he, b44_apply j hj s e he, b99_apply j hj s e he, b115_apply j hj s e he]

include hj in
theorem b122_apply (n : Fin 161) (r : Fin 512) (k : Fin 1024) :
    b122 j s (ix3 n r k) = if n.val = j then b118 j s (ix2 r k) else s.main_v10_7 (ix3 n r k) := by
  have hs : S161x512x1024.Slices (![j, 0, 0] : Fin 3 → ℕ) S1x512x1024 :=
    ⟨rfl, fun a => by
      fin_cases a
      · show j + 1 ≤ 161
        omega
      · exact (by decide : 0 + 512 ≤ 512)
      · exact (by decide : 0 + 1024 ≤ 1024)⟩
  unfold b122
  rw [Host.dynamicUpdateSlice_eq_updateSlice _ _ _ _ ![j, 0, 0] (fun a => by
    fin_cases a
    · show (min (max ((BitVec.ofNat 32 j).toInt) 0) ((161 - 1 : ℕ) : ℤ)).toNat = j
      rw [num_int j hj]
      omega
    all_goals rfl) hs]
  rw [updateSlice_apply]
  by_cases hn : n.val = j
  · rw [if_pos hn, dif_pos (fun a => by
      fin_cases a
      · show j ≤ n.val ∧ n.val < j + 1
        omega
      · exact ⟨Nat.zero_le _, by show r.val < 0 + 512; omega⟩
      · exact ⟨Nat.zero_le _, by show k.val < 0 + 1024; omega⟩)]
    refine (congrArg (b119 j s) (?_ : _ = ix3 (0 : Fin 1) r k)).trans ?_
    · funext a
      fin_cases a
      · exact Fin.ext (by show n.val - j = 0; omega)
      all_goals rfl
    · pointwise [b119]
  · rw [if_neg hn, dif_neg]
    intro hin
    have h0 : j ≤ n.val ∧ n.val < j + 1 := hin 0
    omega

end

/-! ## The scan -/

variable (a0 : FVec Ideal S82432x1024 .f32) (a1 : IVec S161 32) (a2 : IVec S1 32) (a3 : FVec Ideal S2x32x1024x2048 .f32)
  (a4 : FVec Ideal S2x32x2048 .f32) (a5 : FVec Ideal S2x32x1024x1024 .f32) (a6 : FVec Ideal S2x32x1024 .f32)

abbrev scan (k : ℕ) : State Ideal := states (init (F := Ideal) a1 a0 a3 a4 a5 a6) k

theorem scan_x (k : ℕ) : (scan a0 a1 a3 a4 a5 a6 k).main_v10_0 = A_main_v8 (F := Ideal) a0 a3 a4 a5 a6 := by
  induction k with
  | zero => rfl
  | succ k ih => exact ih
theorem scan_e (k : ℕ) : (scan a0 a1 a3 a4 a5 a6 k).main_v10_1 = a1 := by
  induction k with
  | zero => rfl
  | succ k ih => exact ih
theorem scan_w (k : ℕ) : (scan a0 a1 a3 a4 a5 a6 k).main_v10_2 = A_main_v1 (F := Ideal) a0 a3 a4 a5 a6 := by
  induction k with
  | zero => rfl
  | succ k ih => exact ih
theorem scan_b (k : ℕ) : (scan a0 a1 a3 a4 a5 a6 k).main_v10_3 = A_main_v3 (F := Ideal) a0 a3 a4 a5 a6 := by
  induction k with
  | zero => rfl
  | succ k ih => exact ih
theorem scan_w2 (k : ℕ) : (scan a0 a1 a3 a4 a5 a6 k).main_v10_4 = A_main_v5 (F := Ideal) a0 a3 a4 a5 a6 := by
  induction k with
  | zero => rfl
  | succ k ih => exact ih
theorem scan_b2 (k : ℕ) : (scan a0 a1 a3 a4 a5 a6 k).main_v10_5 = A_main_v7 (F := Ideal) a0 a3 a4 a5 a6 := by
  induction k with
  | zero => rfl
  | succ k ih => exact ih

theorem x_apply (n : Fin 161) (r : Fin 512) (a : Fin 1024) :
    A_main_v8 (F := Ideal) a0 a3 a4 a5 a6 (ix3 n r a) = a0 (ix2 (⟨n.val * 512 + r.val, by omega⟩ : Fin 82432) a) := by
  pointwise [A_main_v8]
theorem w_apply (e : Fin 32) (a : Fin 1024) (k : Fin 2048) : A_main_v1 (F := Ideal) a0 a3 a4 a5 a6 (ix3 e a k) = a3 (ix4 1 e a k) := by
  pointwise [A_main_v1, A_main_v0]
theorem b_apply (e : Fin 32) (k : Fin 2048) : A_main_v3 (F := Ideal) a0 a3 a4 a5 a6 (ix2 e k) = a4 (ix3 1 e k) := by
  pointwise [A_main_v3, A_main_v2]
theorem w2_apply (e : Fin 32) (a k : Fin 1024) : A_main_v5 (F := Ideal) a0 a3 a4 a5 a6 (ix3 e a k) = a5 (ix4 1 e a k) := by
  pointwise [A_main_v5, A_main_v4]
theorem b2_apply (e : Fin 32) (k : Fin 1024) : A_main_v7 (F := Ideal) a0 a3 a4 a5 a6 (ix2 e k) = a6 (ix3 1 e k) := by
  pointwise [A_main_v7, A_main_v6]

/-- Row `r` of block `n`, through expert `e`. -/
def rowVal (n : Fin 161) (e : Fin 32) (r : Fin 512) (k : Fin 1024) : EReal :=
  MoeSpec.outAt (fun a => a0 (ix2 (⟨n.val * 512 + r.val, by omega⟩ : Fin 82432) a)) (fun a k => a3 (ix4 1 e a k)) (fun k => a4 (ix3 1 e k))
    (fun a k => a5 (ix4 1 e a k)) (fun k => a6 (ix3 1 e k)) k

variable (E : Fin 161 → Fin 32) (hE : ∀ n, (a1 (ix1 n)).toNat = (E n).val)

include hE in
theorem row_out (k : ℕ) (hk : k < 161) (r : Fin 512) (x : Fin 1024) :
    b118 k (scan a0 a1 a3 a4 a5 a6 k) (ix2 r x) = rowVal a0 a3 a4 a5 a6 ⟨k, hk⟩ (E ⟨k, hk⟩) r x := by
  rw [trip_row k hk _ (E ⟨k, hk⟩) (by rw [scan_e]; exact hE _), scan_x, scan_w, scan_b, scan_w2, scan_b2]
  unfold rowVal
  simp only [x_apply, w_apply, b_apply, w2_apply, b2_apply]

include hE in
theorem scan_rows (k : ℕ) (hk : k ≤ 161) (n : Fin 161) (hn : n.val < k) (r : Fin 512) (x : Fin 1024) :
    (scan a0 a1 a3 a4 a5 a6 k).main_v10_7 (ix3 n r x) = rowVal a0 a3 a4 a5 a6 n (E n) r x := by
  induction k with
  | zero => omega
  | succ k ih =>
    have e1 : (scan a0 a1 a3 a4 a5 a6 (k + 1)).main_v10_7 = b122 k (scan a0 a1 a3 a4 a5 a6 k) := rfl
    rw [e1, b122_apply k (by omega)]
    split
    · next hk' =>
      have hn' : n = ⟨k, Nat.lt_of_succ_le hk⟩ := Fin.ext hk'
      rw [hn']
      exact row_out _ _ _ _ _ _ E hE k (by omega) r x
    · exact ih (by omega) (by omega)

/-- What is laid down after the scan: the used blocks' rows, zeros after them. -/
theorem finish_apply (s : State Ideal) (t : Fin 82432) (x : Fin 1024) :
    R_main_v17 s a2 (ix2 t x) = Scalar.select (IntOp.cmpi .slt (BitVec.ofNat 32 (t.val / 512)) (a2 (ix1 0)))
      (s.main_v10_7 (ix3 (⟨t.val / 512, by omega⟩ : Fin 161) (⟨t.val % 512, by omega⟩ : Fin 512) x)) 0 := by
  unfold R_main_v17
  pointwise
  exact congrArg (Scalar.select _ _) Ideal.ofBits_zero_f32

end Cert.Proof.MoeRef

end
-- ==== Proof.ExpValue.lean ====
/- The expert kernel at the extended reals: every block of the result holds its rows through the block's expert, or zeros, as the
   reference's scan leaves them. -/
module

public import proofs.«01_k».proof.Proof.ExpFrames
public import proofs.«01_k».proof.Proof.ExpRefValue
public import Idealize.ShloMosaic.Lib.Pipeline.ValueKit

@[expose] public section

set_option maxRecDepth 16384

noncomputable section

namespace Cert.Proof.Moe

open Idealize.ShloMosaic Idealize.ShloMosaic.TcCoe Idealize.SL.Sem
open Cert.ExpertsIdeal Cert.ExpertsIdeal.Gen
attribute [local instance] Cert.ExpertsIdeal.Gen.facts

/-! ## The payloads -/

theorem pay1_apply (w : Vec Ideal S1x1x1024x2048 .f32) (a : Fin 1024) (k : Fin 2048) : k0_pay1 (F := Ideal) w (ix2 a k) = w (ix4 0 0 a k) := by
  unfold k0_pay1
  pointwise

theorem pay2_apply (w : Vec Ideal S1x1x1024x1024 .f32) (a : Fin 1024) (k : Fin 1024) : k0_pay2 (F := Ideal) w (ix2 a k) = w (ix4 0 0 a k) := by
  unfold k0_pay2
  pointwise

theorem pay4_apply (r : Fin 512) (k : Fin 1024) : k0_pay4 (F := Ideal) (ix2 r k) = 0 := by
  unfold k0_pay4
  pointwise

/-- The block's gate and up product. -/
def hidBlk (v20 : FVec Ideal S512x1024 .f32) (v22 : FVec Ideal S1024x2048 .bf16) (v24 : FVec Ideal S1x1x1x2048 .f32) : FVec Ideal S512x2048 .f32 :=
  addf (matmul dot_S512x1024_S1024x2048_S512x2048_1_0_0_1_n_n none (truncf .bf16 v20 bitsLt_bf16_f32) v22 (constant S512x2048 .f32 0x00000000#32))
    (broadcastTo S512x2048 (shapeCast S1x2048 v24 shapeCasts_S1x1x1x2048_S1x2048) broadcasts_S1x2048_S512x2048)

/-- The block's gated unit. -/
def actBlk (h : FVec Ideal S512x2048 .f32) : FVec Ideal S512x1024 .f32 :=
  have g : FVec Ideal S512x1024 .f32 := minimumf (extractStridedSlice S512x1024 ![0, 0] h slices_S512x2048_o0_0_S512x1024)
    (broadcast S512x1024 (Scalar.ofBits .f32 0x40E00000#32))
  have u : FVec Ideal S512x1024 .f32 := minimumf (broadcast S512x1024 (Scalar.ofBits .f32 0x40E00000#32))
    (maximumf (broadcast S512x1024 (Scalar.ofBits .f32 0xC0E00000#32)) (extractStridedSlice S512x1024 ![0, 1024] h slices_S512x2048_o0_1024_S512x1024))
  mulf (mulf g (logistic (mulf (broadcast S512x1024 (Scalar.ofBits .f32 0x3FD9DB23#32)) g)))
    (addf u (broadcast S512x1024 (Scalar.ofBits .f32 0x3F800000#32)))

theorem hidBlk_apply (v20 : FVec Ideal S512x1024 .f32) (v22 : FVec Ideal S1024x2048 .bf16) (v24 : FVec Ideal S1x1x1x2048 .f32) (r : Fin 512) (k : Fin 2048) :
    hidBlk v20 v22 v24 (ix2 r k) = MoeSpec.hid (fun a => v20 (ix2 r a)) (fun a k => v22 (ix2 a k)) (fun k => v24 (ix4 0 0 0 k)) k := by
  unfold hidBlk MoeSpec.hid
  pointwise

theorem actBlk_apply (h : FVec Ideal S512x2048 .f32) (r : Fin 512) (k : Fin 1024) :
    actBlk h (ix2 r k) = MoeSpec.act (fun k => h (ix2 r k)) k := by
  unfold actBlk MoeSpec.act MoeSpec.gate MoeSpec.up
  pointwise
  rfl

theorem pay3_apply (v20 : FVec Ideal S512x1024 .f32) (v22 : FVec Ideal S1024x2048 .bf16) (v24 : FVec Ideal S1x1x1x2048 .f32)
    (v44 : FVec Ideal S1024x1024 .bf16) (v46 : FVec Ideal S1x1x1x1024 .f32) (r : Fin 512) (k : Fin 1024) :
    k0_pay3 (F := Ideal) v20 v22 v24 v44 v46 (ix2 r k)
      = MoeSpec.outAt (fun a => v20 (ix2 r a)) (fun a k => v22 (ix2 a k)) (fun k => v24 (ix4 0 0 0 k)) (fun a k => v44 (ix2 a k)) (fun k => v46 (ix4 0 0 0 k)) k := by
  unfold MoeSpec.outAt
  refine Eq.trans (b := (∑ a : Fin 1024, actBlk (hidBlk v20 v22 v24) (ix2 r a) * v44 (ix2 a k)) + v46 (ix4 0 0 0 k)) ?_ ?_
  · have e : k0_pay3 (F := Ideal) v20 v22 v24 v44 v46
        = addf (matmul dot_S512x1024_S1024x1024_S512x1024_1_0_0_1_n_n none (truncf .bf16 (actBlk (hidBlk v20 v22 v24)) bitsLt_bf16_f32) v44
            (constant S512x1024 .f32 0x00000000#32))
          (broadcastTo S512x1024 (shapeCast S1x1024 v46 shapeCasts_S1x1x1x1024_S1x1024) broadcasts_S1x1024_S512x1024) := rfl
    rw [e]
    generalize actBlk (hidBlk v20 v22 v24) = z
    pointwise
  · refine congrArg (· + _) (Finset.sum_congr rfl fun a _ => congrArg (· * _) ?_)
    rw [actBlk_apply]
    exact congrArg (fun h => MoeSpec.act h a) (funext fun k => hidBlk_apply v20 v22 v24 r k)

/-! ## The blocks -/

variable (m : (ℓ : Loc nD τ sig) → Buf (Elt Ideal) ℓ) (c : Dev nD) (hr : Routed (tab1 m) (tab2 m))

abbrev A0 : FVec Ideal S82432x1024 .f32 := m ((c : Thread nD τ).loc main_arg0)
abbrev A3 : FVec Ideal S2x32x1024x2048 .f32 := m ((c : Thread nD τ).loc main_arg3)
abbrev A4 : FVec Ideal S2x32x2048 .f32 := m ((c : Thread nD τ).loc main_arg4)
abbrev A5 : FVec Ideal S2x32x1024x1024 .f32 := m ((c : Thread nD τ).loc main_arg5)
abbrev A6 : FVec Ideal S2x32x1024 .f32 := m ((c : Thread nD τ).loc main_arg6)

theorem entry0 : V m c main_v0 = shapeCast S2x32x1x2048 (A4 m c) shapeCasts_S2x32x2048_S2x32x1x2048 := by
  unfold V
  simp only [hostOps0]
  after_results
  rfl

theorem entry1 : V m c main_v1 = shapeCast S2x32x1x1024 (A6 m c) shapeCasts_S2x32x1024_S2x32x1x1024 := by
  unfold V
  simp only [hostOps0]
  after_results
  rfl

include hr in
theorem expert_lt32 (n : Fin 161) : (tab1 m (ix1 n)).toNat < 32 := hr.expert _

/-- The expert of block `n`. -/
def E (n : Fin 161) : Fin 32 := ⟨(tab1 m (ix1 n)).toNat, expert_lt32 m hr n⟩

/-- A point's block. -/
abbrev num (t : Fin (cfg m hr).N) : Fin 161 := ⟨t.val, pt_lt m hr t⟩

theorem E_eq (t : Fin (cfg m hr).N) : (expertOf (tab1 m) (grid0.coords t)).toNat = (E m hr (num m hr t)).val := by
  rw [expertOf_eq m hr]
  unfold expert E
  rw [dif_pos (pt_lt m hr t)]

theorem rows_apply (t : Fin (cfg m hr).N) (hu : t.val < nUsed m) (r : Fin 512) (a : Fin 1024) :
    rowsBlk m c hr t (ix2 r a) = A0 m c (ix2 (⟨(num m hr t).val * 512 + r.val, by have := (num m hr t).isLt; omega⟩ : Fin 82432) a) := by
  unfold rowsBlk iblk
  blk_simp
  refine (congrFun (V_arg0 m c) _).trans (congrArg (m ((c : Thread nD τ).loc main_arg0)) ?_)
  have hi := index0 m hr t
  rw [show min t.val ((used (tab2 m)).toNat - 1) = t.val by unfold nUsed at hu; omega] at hi
  funext x
  apply Fin.ext
  fin_cases x <;> blk_simp <;> simp
  · exact congrFun hi 0
  · exact congrFun hi 1

theorem gu_apply (t : Fin (cfg m hr).N) (a : Fin 1024) (k : Fin 2048) :
    guBlk m c hr t (ix4 0 0 a k) = A3 m c (ix4 1 (E m hr (num m hr t)) a k) := by
  unfold guBlk iblk
  blk_simp
  refine (congrFun (V_arg3 m c) _).trans (congrArg (m ((c : Thread nD τ).loc main_arg3)) ?_)
  have hi := (index1 m hr t).trans (congrArg (fun e => (![1, e, 0, 0] : Fin 4 → ℕ)) (E_eq m hr t))
  funext x
  apply Fin.ext
  fin_cases x <;> blk_simp <;> simp <;> exact congrFun hi _

theorem gub_apply (t : Fin (cfg m hr).N) (k : Fin 2048) :
    gubBlk m c hr t (ix4 0 0 0 k) = A4 m c (ix3 1 (E m hr (num m hr t)) k) := by
  unfold gubBlk iblk
  blk_simp
  refine (congrFun (entry0 m c) _).trans ((congrArg (shapeCast S2x32x1x2048 (A4 m c) shapeCasts_S2x32x2048_S2x32x1x2048) (?_ : _ = ix4 (1 : Fin 2) (E m hr (num m hr t)) (0 : Fin 1) k)).trans ?_)
  · have hi := (index2 m hr t).trans (congrArg (fun e => (![1, e, 0, 0] : Fin 4 → ℕ)) (E_eq m hr t))
    funext x
    apply Fin.ext
    fin_cases x <;> blk_simp <;> simp <;> exact congrFun hi _
  · generalize A4 m c = z
    pointwise

theorem dn_apply (t : Fin (cfg m hr).N) (a k : Fin 1024) :
    dnBlk m c hr t (ix4 0 0 a k) = A5 m c (ix4 1 (E m hr (num m hr t)) a k) := by
  unfold dnBlk iblk
  blk_simp
  refine (congrFun (V_arg5 m c) _).trans (congrArg (m ((c : Thread nD τ).loc main_arg5)) ?_)
  have hi := (index3 m hr t).trans (congrArg (fun e => (![1, e, 0, 0] : Fin 4 → ℕ)) (E_eq m hr t))
  funext x
  apply Fin.ext
  fin_cases x <;> blk_simp <;> simp <;> exact congrFun hi _

theorem dnb_apply (t : Fin (cfg m hr).N) (k : Fin 1024) :
    dnbBlk m c hr t (ix4 0 0 0 k) = A6 m c (ix3 1 (E m hr (num m hr t)) k) := by
  unfold dnbBlk iblk
  blk_simp
  refine (congrFun (entry1 m c) _).trans ((congrArg (shapeCast S2x32x1x1024 (A6 m c) shapeCasts_S2x32x1024_S2x32x1x1024) (?_ : _ = ix4 (1 : Fin 2) (E m hr (num m hr t)) (0 : Fin 1) k)).trans ?_)
  · have hi := (index4 m hr t).trans (congrArg (fun e => (![1, e, 0, 0] : Fin 4 → ℕ)) (E_eq m hr t))
    funext x
    apply Fin.ext
    fin_cases x <;> blk_simp <;> simp <;> exact congrFun hi _
  · generalize A6 m c = z
    pointwise

/-! ## The result -/

/-- Row `r` of block `n`. -/
def cell (n : Fin 161) (r : Fin 512) (k : Fin 1024) : EReal :=
  if n.val < nUsed m then MoeRef.rowVal (A0 m c) (A3 m c) (A4 m c) (A5 m c) (A6 m c) n (E m hr n) r k else 0

theorem outOf_apply (t : Fin (cfg m hr).N) (r : Fin 512) (k : Fin 1024) : outOf m c hr t (ix2 r k) = cell m c hr (num m hr t) r k := by
  unfold outOf cell
  by_cases hu : t.val < nUsed m
  · rw [if_pos hu, if_pos (show (num m hr t).val < nUsed m from hu)]
    refine (pay3_apply _ _ _ _ _ r k).trans ?_
    unfold MoeRef.rowVal
    congr 1
    · funext a; exact rows_apply m c hr t hu r a
    · funext a k; exact (pay1_apply _ a k).trans (gu_apply m c hr t a k)
    · funext k; exact gub_apply m c hr t k
    · funext a k; exact (pay2_apply _ a k).trans (dn_apply m c hr t a k)
    · funext k; exact dnb_apply m c hr t k
  · rw [if_neg hu, if_neg (show ¬(num m hr t).val < nUsed m from hu)]
    exact pay4_apply r k

/-- The whole result. -/
def G : FVec Ideal S82432x1024 .f32 := fun i =>
  cell m c hr ⟨(i 0).val / 512, by have : (i 0).val < 82432 := (i 0).isLt; omega⟩ ⟨(i 0).val % 512, Nat.mod_lt _ (by decide)⟩ (i 1)

theorem flush5 (t : Fin (cfg m hr).N) : ((cfg m hr).win 5).flush t = true := by
  unfold Pipeline.Window.flush
  refine Bool.and_eq_true_iff.mpr ⟨rfl, ?_⟩
  have ht := pt_lt m hr t
  have hN := N_eq m hr
  rw [Bool.or_eq_true_iff, decide_eq_true_iff, decide_eq_true_iff]
  by_cases h : t.val + 1 < (cfg m hr).N
  · refine .inr ⟨h, fun e => ?_⟩
    have e' := congrFun ((index5 m hr ⟨t.val + 1, h⟩).symm.trans (e.trans (index5 m hr t))) 0
    have : t.val + 1 = t.val := e'
    omega
  · exact .inl (by show t.val + 1 = (cfg m hr).N; omega)

theorem covers5 : ((cfg m hr).win 5).Covers := by
  refine ⟨fun a => ?_, fun β => ?_⟩
  · fin_cases a
    · exact (by decide : 0 < 512)
    · exact (by decide : 0 < 1024)
  · let a0 : Fin ((cfg m hr).win 5).shape.rank := (0 : Fin 2)
    let a1 : Fin ((cfg m hr).win 5).shape.rank := (1 : Fin 2)
    have h0 : (β a0).val < 161 := Nat.lt_of_lt_of_eq (β a0).isLt (show (82432 + 512 - 1) / 512 = 161 by decide)
    have h1 : (β a1).val < 1 := Nat.lt_of_lt_of_eq (β a1).isLt (show (1024 + 1024 - 1) / 1024 = 1 by decide)
    refine ⟨⟨(β a0).val, Nat.lt_of_lt_of_eq h0 (N_eq m hr).symm⟩, flush5 m hr _, fun a => ⟨?_, .inl ?_⟩⟩
    · refine (congrFun (index5 m hr _) a).trans ?_
      fin_cases a
      · rfl
      · show 0 = (β a1).val; omega
    · rfl

theorem arr5 : (dats m hr 0 c).arrAt 5 (cfg m hr).N = G m c hr := by
  refine (dats m hr 0 c).arrAt_eq_of_covers 5 (G m c hr) (covers5 m hr) fun t hf (y : S512x1024.Idx) => ?_
  blk_simp
  rw [after5]
  have hy : y = ix2 (y 0) (y 1) := by funext a; fin_cases a <;> rfl
  rw [hy]
  refine (outOf_apply m c hr t (y 0) (y 1)).trans ?_
  have h0 : (y 0).val < 512 := (y 0).isLt
  have hb : t.val * 512 + (y 0).val < 82432 := by have := pt_lt m hr t; omega
  refine (?_ : _ = G m c hr (ix2 (⟨t.val * 512 + (y 0).val, hb⟩ : Fin 82432) (y 1))).trans (congrArg (G m c hr) ?_)
  · unfold G
    refine congrArg₂ (fun n r => cell m c hr n r (y 1)) (Fin.ext ?_) (Fin.ext ?_)
    · show t.val = (t.val * 512 + (y 0).val) / 512; omega
    · show (y 0).val = (t.val * 512 + (y 0).val) % 512; omega
  · have hi := index5 m hr t
    funext x
    apply Fin.ext
    fin_cases x <;> blk_simp <;> simp
    · exact (congrFun hi 0).symm
    · exact (congrFun hi 1).symm

/-! ## The claim -/

section
open Cert.ExpertsReferenceIdeal.Step

theorem bit_select (b : Bool) (x y : EReal) : Scalar.select (BitVec.ofBool b) x y = if b = true then x else y := by
  cases b <;> rfl

theorem same_at (t : Fin 82432) (x : Fin 1024) :
    R_main_v17 (MoeRef.scan (A0 m c) (tab1 m) (A3 m c) (A4 m c) (A5 m c) (A6 m c) 161) (tab2 m) (ix2 t x) = G m c hr (ix2 t x) := by
  have hd : t.val / 512 < 161 := by omega
  refine (MoeRef.finish_apply (tab2 m) _ t x).trans ?_
  have hs := MoeRef.scan_rows (A0 m c) (tab1 m) (A3 m c) (A4 m c) (A5 m c) (A6 m c) (E m hr) (fun n => rfl) 161 (Nat.le_refl _)
    ⟨t.val / 512, hd⟩ hd ⟨t.val % 512, Nat.mod_lt _ (by decide)⟩ x
  refine (congrArg (fun v => Scalar.select _ v (0 : EReal)) hs).trans ?_
  refine (bit_select ((BitVec.ofNat 32 (t.val / 512)).slt (used (tab2 m))) _ _).trans ?_
  have hn : (BitVec.ofNat 32 (t.val / 512)).toNat = t.val / 512 := by rw [BitVec.toNat_ofNat]; omega
  rw [slt_small (by rw [hn]; omega) hr.small, hn]
  unfold G cell
  exact if_congr decide_eq_true_iff rfl rfl

/-- What the reference lays down is the kernel's result. -/
theorem same (a0 : FVec Ideal S82432x1024 .f32) (a1 : IVec S161 32) (a2 : IVec S1 32) (a3 : FVec Ideal S2x32x1024x2048 .f32)
    (a4 : FVec Ideal S2x32x2048 .f32) (a5 : FVec Ideal S2x32x1024x1024 .f32) (a6 : FVec Ideal S2x32x1024 .f32)
    (h0 : a0 = A0 m c) (h1 : a1 = tab1 m) (h2 : a2 = tab2 m) (h3 : a3 = A3 m c) (h4 : a4 = A4 m c) (h5 : a5 = A5 m c) (h6 : a6 = A6 m c) :
    R_main_v17 (MoeRef.scan a0 a1 a3 a4 a5 a6 161) a2 = G m c hr := by
  subst h0 h1 h2 h3 h4 h5 h6
  funext i
  have hi : i = ix2 (i 0) (i 1) := by funext a; fin_cases a <;> rfl
  rw [hi]
  exact same_at m c hr (i 0) (i 1)
end

theorem value : Cert.algebraic_ExpertsIdeal_ExpertsReferenceIdeal (hExpertsIdeal := Cert.ExpertsIdeal.Gen.facts)
    (hExpertsReferenceIdeal := Cert.ExpertsReferenceIdeal.Gen.facts) (hPre_routed := routedFacts) := by
  intro m ρ m' ρ' hpre hagree
  have hr : Routed (tab1 m) (tab2 m) := @routed_of_fn _ _ routedFacts _ _ _ _ _ _ _ (hpre 0)
  refine ⟨fun c => G m c hr,
    (θ_run Cert.ExpertsIdeal.defs _ _).mono (fun _ h c => ?_) (kernel_run (F := Ideal) m ρ hr),
    (θ_run Cert.ExpertsReferenceIdeal.defs _ _).mono (fun _ h c => ?_) (MoeRef.run (F := Ideal) m' ρ')⟩
  · exact ⟨(h.1 c).1.trans (arr5 m c hr), (h.1 c).2⟩
  · obtain ⟨e0, rest⟩ := h c
    obtain ⟨g0, g1, g2, g3, g4, g5, g6⟩ := hagree c
    obtain rfl : c = 0 := Subsingleton.elim (α := Fin 1) _ _
    exact ⟨e0.trans (same m 0 hr _ _ _ _ _ _ _ g0 g1 g2 g3 g4 g5 g6), rest⟩

end Cert.Proof.Moe

end
-- ==== Proof.CombBody.lean ====
/- The combining kernel's body at one point of its grid: it starts one transfer for each of the point's 256 tokens and 4 slots, each
   of one row of the experts' outputs into the scratch, waits for all of them, and puts the tokens' weighted sum through the last
   normalization. -/
module

public import proofs.«01_k».proof.Proof.Gen.CombiningIdeal.Skeleton
public import proofs.«01_k».proof.Proof.Gen.CombiningIdeal.Loops
public import proofs.«01_k».proof.Proof.Gen.CombiningIdeal.Launch
public import Idealize.ShloMosaic.Lib.Batch
public import Idealize.ShloMosaic.Lib.Ring
public import Idealize.ShloMosaic.Lib.ValueLayout
public import Idealize.ShloMosaic.Lib.Pipeline.Frame
public import Idealize.ShloMosaic.Lib.Pipeline.FrameBody
public import Idealize.ShloMosaic.Lib.Pipeline.ValueKit
public import Idealize.ShloMosaic.Lib.Tactic
public import Idealize.ShloMosaic.Lib.VecWindow

@[expose] public section

set_option maxRecDepth 16384

noncomputable section

namespace Cert.Proof.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.CombiningIdeal Cert.CombiningIdeal.Gen

attribute [local instance] Cert.CombiningIdeal.Gen.facts

variable {F : FTy → Type} [FloatOps F]

local notation "𝕄" => MT nD τ sig Unit (Elt F) ℕ (UD sig nD τ) ℕ

/-! ## Offsets -/

theorem trips1 : k0_t1_loop.trips = 256 := by decide +kernel
theorem trips2 : k0_t2_loop.trips = 256 := by decide +kernel
theorem trips3 : k0_t3_loop.trips = 256 := by decide +kernel
theorem trips4 : k0_t4_loop.trips = 256 := by decide +kernel
theorem trips5 : k0_t5_loop.trips = 256 := by decide +kernel

theorem c0_lt (i : grid0.Coords) : (i 0).val < 8 := (i 0).isLt
theorem c1_lt (i : grid0.Coords) : (i 1).val < 8 := (i 1).isLt

/-- The first of a point's 1024 words. -/
def base (i : grid0.Coords) : ℕ := 1024 * ((i 0).val * 8 + (i 1).val)

theorem base_lt (i : grid0.Coords) (j : Fin 1024) : base i + j.val < 66048 := by
  have := c0_lt i; have := c1_lt i; have := j.isLt; unfold base; omega

/-- The number of slot `kk` of token `k` among the point's transfers. -/
theorem slot_lt {k kk : ℕ} (hk : k < 256) (hkk : kk < 4) : 4 * k + kk < 1024 := by omega

theorem iv_small {k : ℕ} (hk : k < 256) : (Scf.iv 0#32 1#32 k).toNat = k := by
  simp only [Scf.iv, BitVec.toNat_add, BitVec.toNat_mul, BitVec.toNat_ofNat]; omega

theorem word_eq (i : grid0.Coords) {k : ℕ} (hk : k < 256) (kk : BitVec 32) (hkk : kk.toNat < 4) :
    (Scalar.addi (Scalar.addi (Scalar.muli (Scalar.addi 0#32 (Scalar.muli (Scalar.addi (Scalar.muli (BitVec.ofNat 32 (i 0).val) 8#32)
      (BitVec.ofNat 32 (i 1).val)) 256#32)) 4#32) (Scalar.muli (Scf.iv 0#32 1#32 k) 4#32)) kk).toNat = base i + (4 * k + kk.toNat) := by
  have h0 := c0_lt i; have h1 := c1_lt i; have hv := iv_small hk
  unfold base
  simp only [Scalar.addi, Scalar.muli, IntOp.addi, IntOp.muli, BitVec.toNat_add, BitVec.toNat_mul, BitVec.toNat_ofNat, hv]
  omega

theorem off1_eq (i : grid0.Coords) (k : Fin k0_t1_loop.trips) (hk : k.val < 256) : k0_off1 i k = ![base i + (4 * k.val + 0)] :=
  congrArg (fun n : ℕ => (![n] : Fin 1 → ℕ)) (word_eq i hk 0#32 (by decide))
theorem off4_eq (i : grid0.Coords) (k : Fin k0_t1_loop.trips) (hk : k.val < 256) : k0_off4 i k = ![base i + (4 * k.val + 1)] :=
  congrArg (fun n : ℕ => (![n] : Fin 1 → ℕ)) (word_eq i hk 1#32 (by decide))
theorem off7_eq (i : grid0.Coords) (k : Fin k0_t1_loop.trips) (hk : k.val < 256) : k0_off7 i k = ![base i + (4 * k.val + 2)] :=
  congrArg (fun n : ℕ => (![n] : Fin 1 → ℕ)) (word_eq i hk 2#32 (by decide))
theorem off10_eq (i : grid0.Coords) (k : Fin k0_t1_loop.trips) (hk : k.val < 256) : k0_off10 i k = ![base i + (4 * k.val + 3)] :=
  congrArg (fun n : ℕ => (![n] : Fin 1 → ℕ)) (word_eq i hk 3#32 (by decide))

theorem off2_eq (k : Fin k0_t1_loop.trips) (hk : k.val < 256) : k0_off2 k = ![0, k.val, 0] :=
  congrArg (fun n : ℕ => (![0, n, 0] : Fin 3 → ℕ)) (iv_small hk)
theorem off5_eq (k : Fin k0_t1_loop.trips) (hk : k.val < 256) : k0_off5 k = ![1, k.val, 0] :=
  congrArg (fun n : ℕ => (![1, n, 0] : Fin 3 → ℕ)) (iv_small hk)
theorem off8_eq (k : Fin k0_t1_loop.trips) (hk : k.val < 256) : k0_off8 k = ![2, k.val, 0] :=
  congrArg (fun n : ℕ => (![2, n, 0] : Fin 3 → ℕ)) (iv_small hk)
theorem off11_eq (k : Fin k0_t1_loop.trips) (hk : k.val < 256) : k0_off11 k = ![3, k.val, 0] :=
  congrArg (fun n : ℕ => (![3, n, 0] : Fin 3 → ℕ)) (iv_small hk)

/-! ## The words, the rows they name, and what is gathered -/

section
variable (T : S66048.Idx → BitVec 32) (i : grid0.Coords)

/-- Word `j` of a point, and the row it names. -/
def word (j : Fin 1024) : BitVec 32 := T (ix1 ⟨base i + j.val, base_lt i j⟩)

variable (hT : ∀ x, (T x).toNat < 82432)

def row (j : Fin 1024) : Fin 82432 := ⟨(word T i j).toNat, hT _⟩

theorem row_inb (n : Fin 82432) : ∀ a, (![n.val, 0] : Fin 2 → ℕ) a + S1x1024.size a ≤ S82432x1024.size a := by
  have := n.isLt; intro a; fin_cases a
  · show n.val + 1 ≤ 82432; omega
  · show 0 + 1024 ≤ 1024; omega

/-- The elements of row `n` of the experts' outputs. -/
def rowSet (n : Fin 82432) : Finset S82432x1024.Idx := (Rect.unit (s := S82432x1024) ![n.val, 0] S1x1024.size (row_inb n)).set

theorem cell_inb (j : Fin 1024) : ∀ a, (![j.val % 4, j.val / 4, 0] : Fin 3 → ℕ) a + S1x1x1024.size a ≤ S4x256x1024.size a := by
  have := j.isLt; intro a; fin_cases a
  · show j.val % 4 + 1 ≤ 4; omega
  · show j.val / 4 + 1 ≤ 256; omega
  · show 0 + 1024 ≤ 1024; omega

/-- The elements of the scratch that transfer `j` fills. -/
def cellSet (j : Fin 1024) : Finset S4x256x1024.Idx := (Rect.unit (s := S4x256x1024) ![j.val % 4, j.val / 4, 0] S1x1x1024.size (cell_inb j)).set

theorem mem_cellSet (j : Fin 1024) (y : S4x256x1024.Idx) : y ∈ cellSet j ↔ (y 0).val = j.val % 4 ∧ (y 1).val = j.val / 4 := by
  unfold cellSet
  rw [Rect.mem_set_unit]
  have h2 : (y 2).val < 1024 := (y 2).isLt
  constructor
  · intro H
    have a0 : j.val % 4 ≤ (y 0).val ∧ (y 0).val < j.val % 4 + 1 := H 0
    have a1 : j.val / 4 ≤ (y 1).val ∧ (y 1).val < j.val / 4 + 1 := H 1
    omega
  · intro H a; fin_cases a
    · show j.val % 4 ≤ (y 0).val ∧ (y 0).val < j.val % 4 + 1; omega
    · show j.val / 4 ≤ (y 1).val ∧ (y 1).val < j.val / 4 + 1; omega
    · show 0 ≤ (y 2).val ∧ (y 2).val < 0 + 1024; omega

theorem cell_disjoint : ∀ j j' : Fin 1024, j ≠ j' → Disjoint (cellSet j) (cellSet j') := fun j j' hne => by
  rw [Finset.disjoint_left]; intro y hy hy'; rw [mem_cellSet] at hy hy'; exact hne (Fin.ext (by omega))

theorem numOf_lt (y : S4x256x1024.Idx) : 4 * (y 1).val + (y 0).val < 1024 := by
  have h0 : (y 0).val < 4 := (y 0).isLt
  have h1 : (y 1).val < 256 := (y 1).isLt
  omega

/-- The transfer that fills an element. -/
def numOf (y : S4x256x1024.Idx) : Fin 1024 := ⟨4 * (y 1).val + (y 0).val, numOf_lt y⟩

theorem cell_cover : Finset.univ.biUnion cellSet = Finset.univ := by
  ext y; simp only [Finset.mem_biUnion, Finset.mem_univ, true_and, iff_true]
  refine ⟨numOf y, (mem_cellSet _ _).mpr ?_⟩
  have h0 : (y 0).val < 4 := (y 0).isLt
  show (y 0).val = (4 * (y 1).val + (y 0).val) % 4 ∧ (y 1).val = (4 * (y 1).val + (y 0).val) / 4
  omega

theorem numOf_of_mem {j : Fin 1024} {y : S4x256x1024.Idx} (h : y ∈ cellSet j) : numOf y = j := by
  rw [mem_cellSet] at h
  exact Fin.ext (show 4 * (y 1).val + (y 0).val = j.val by omega)

/-- The scratch once every transfer has landed: each element the column of its transfer's row. -/
def gathered (Y : FVec F S82432x1024 .f32) : FVec F S4x256x1024 .f32 :=
  fun y => Y (ix2 (row T i hT (numOf y)) (y 2))

end

/-! ## One transfer -/

/-- The scratch's elements behind the body's own spelling of a transfer's destination. -/
abbrev dstAt (o : Fin 3 → ℕ) (h : ∀ a, o a + S1x1x1024.size a ≤ S4x256x1024.size a) : Memref sig .tc .vmem S1x1024 .f32 :=
  ((Memref.whole cc0_scratch0 : Memref sig .tc .vmem S4x256x1024 .f32).slice (Rect.unit (s := S4x256x1024) o S1x1x1024.size h) (fun _ => rfl)).squeeze S1x1024
    squeezes_S1x1x1024_S1x1024

abbrev srcAt (o : Fin 2 → ℕ) (h : ∀ a, o a + S1x1024.size a ≤ S82432x1024.size a) : Memref sig .tc .hbm S1x1024 .f32 :=
  (Memref.whole main_arg1 : Memref sig .tc .hbm S82432x1024 .f32).slice (Rect.unit (s := S82432x1024) o S1x1024.size h) (fun _ => rfl)

theorem dst_set (o : Fin 3 → ℕ) (h) : (dstAt o h).view.set = (Rect.unit (s := S4x256x1024) o S1x1x1024.size h).set :=
  (View.set_reshape _ _).trans (View.set_slice_whole _ _)

theorem src_set (o : Fin 2 → ℕ) (h) : (srcAt o h).view.set = (Rect.unit (s := S82432x1024) o S1x1024.size h).set :=
  View.set_slice_whole _ _

theorem dst_set_eq (j : Fin 1024) (o : Fin 3 → ℕ) (h) (ho : o = ![j.val % 4, j.val / 4, 0]) : (dstAt o h).view.set = cellSet j := by
  subst ho; exact dst_set _ _

theorem src_set_eq (n : Fin 82432) (o : Fin 2 → ℕ) (h) (ho : o = ![n.val, 0]) : (srcAt o h).view.set = rowSet n := by
  subst ho; exact src_set _ _

/-- What a transfer leaves: on its destination, the row. -/
theorem landed (T : S66048.Idx → BitVec 32) (i : grid0.Coords) (hT : ∀ x, (T x).toNat < 82432) (j : Fin 1024) (o : Fin 3 → ℕ) (h)
    (ho : o = ![j.val % 4, j.val / 4, 0]) (o' : Fin 2 → ℕ) (h') (ho' : o' = ![(row T i hT j).val, 0])
    (fd : FVec F S4x256x1024 .f32) (Y : FVec F S82432x1024 .f32) (y : S4x256x1024.Idx) (hy : y ∈ cellSet j) :
    (dstAt o h).view.write (Elt F) fd ((srcAt o' h').view.read (Elt F) Y) Finset.univ y = gathered T i hT Y y := by
  rw [← dst_set_eq j o h ho] at hy
  obtain ⟨x, -, rfl⟩ := Finset.mem_map.mp hy
  rw [View.write_emb_of_mem _ _ (Finset.mem_univ x)]
  unfold gathered
  rw [numOf_of_mem (by rw [← dst_set_eq j o h ho]; exact hy)]
  subst ho ho'
  refine congrArg Y ?_
  funext a
  apply Fin.ext
  fin_cases a
  · have h0 : (x 0).val < 1 := (x 0).isLt
    show (row T i hT j).val + 1 * (x 0).val = (row T i hT j).val
    omega
  · have e : Shape.reshapeEquiv (s' := S1x1024) (s := S1x1x1024) rfl x = ix3 (0 : Fin 1) (x 0) (x 1) := by
      refine Eq.trans ?_ (ValueIdx.reshapeEquiv_ix2_1ab (a := 1) (b := 1024) rfl (x 0) (x 1))
      exact congrArg _ (by funext a; fin_cases a <;> rfl)
    show 0 + 1 * (x 1).val
      = ((Rect.unit (s := S4x256x1024) ![j.val % 4, j.val / 4, 0] S1x1x1024.size h).emb (Shape.reshapeEquiv (s' := S1x1024) (s := S1x1x1024) rfl x) 2).val
    rw [e]
    rfl

/-! ## The transfers of one point -/

section
variable (c : Dev nD) (i : grid0.Coords) (q : PosShare TreeShare) (T : S66048.Idx → BitVec 32) (hT : ∀ x, (T x).toNat < 82432)
  (Y : FVec F S82432x1024 .f32)

/-- The units one transfer credits. -/
abbrev NN : ℕ := (dstAt ![0, 0, 0] (cell_inb 0)).view.amount (.dma cc0_scratch1.sem)

/-- The scratch's elements transfer `j` fills, and the elements of its row under the transfer's own read share. -/
def cellAt (f : FVec F S4x256x1024 .f32) (j : Fin 1024) : sProp 𝕄 := ((c : Thread nD τ).loc cc0_scratch0) ↦[cellSet j]{fullShare} f
def rowAt (j : Fin 1024) : sProp 𝕄 := ((c : Thread nD τ).loc main_arg1) ↦[rowSet (row T i hT j)]{Transfers.shareTokN fullShare j.val} Y

/-- What transfer `j` delivers: its row gathered, and the read share back. -/
def deliv (j : Fin 1024) : sProp 𝕄 := iprop(cellAt c (gathered T i hT Y) j ∗ rowAt c i T hT Y j)

instance deliv_storable (j : Fin 1024) : BI.Storable (upEmb : UEmb _ 𝕄) (deliv c i T hT Y j) := by
  unfold deliv cellAt rowAt; infer_instance

/-- The point's transfers on their semaphore: `n` started, `u` units waited for. -/
abbrev flying (n u : ℕ) : sProp 𝕄 :=
  Transfers.Batch (countersEmb (U := UD sig nD τ)) (c : Thread nD τ) (.dma cc0_scratch1.sem) () NN (deliv c i T hT Y) n u

/-- One transfer, its destination and its row at the offsets the body gives. -/
theorem issue {α : Type} (j : Fin 1024) (f : FVec F S4x256x1024 .f32) (o : Fin 3 → ℕ) (h) (ho : o = ![j.val % 4, j.val / 4, 0])
    (o' : Fin 2 → ℕ) (h') (ho' : o' = ![(row T i hT j).val, 0]) {hs hd hm}
    {k : PUnit → Prog (TpuEff nD τ sig (Elt F) Λ₀ .tc) α} {Q : α → sProp 𝕄} :
    iprop(cellAt c f j ∗ rowAt c i T hT Y j ∗ flying c i T hT Y j.val 0)
      ⊢ iprop((flying c i T hT Y (j.val + 1) 0 -∗ wp frame (wpE (defs₀ (F := F)) Variants.none c none) Set.univ (k ⟨⟩) Q)
        -∗ wp frame (wpE (defs₀ (F := F)) Variants.none c none) Set.univ
          (.op (.enqueueDma (srcAt o' h') (.here (dstAt o h)) (.dma cc0_scratch1.sem) hs hd hm) k) Q) := by
  have e1 : (dstAt o h).view.set = cellSet j := dst_set_eq j o h ho
  have e2 : (srcAt o' h').view.set = rowSet (row T i hT j) := src_set_eq _ o' h' ho'
  iintro ⟨HC, HR, HB⟩
  iapply (Transfers.wp_dmaBatch (countersEmb (U := UD sig nD τ)) Variants.none (c : Thread nD τ) none (src := srcAt o' h') (dst := dstAt o h)
    (q := Transfers.shareTokN fullShare j.val) (fs := Y) (fd := f) (Sd := (dstAt o h).view.set) () NN rfl subset_rfl
    (D := deliv c i T hT Y) (j := j.val) (u := 0) j.isLt (Nat.zero_le _) (by
      unfold deliv cellAt rowAt
      refine BIClass.sep_mono ?_ ?_
      · rw [e1]; exact Entails.of_eq (pointsTo_congr fun y hy => landed T i hT j o h ho o' h' ho' f Y y hy)
      · rw [e2])) $$ [HC HR HB]
  · unfold cellAt rowAt
    rw [e1, e2]
    isplitl [HR]; · iexact HR
    isplitl [HC]; · iexact HC
    iexact HB

/-! ## The loops -/

/-- The resources of the transfers not yet started. -/
abbrev left (f : FVec F S4x256x1024 .f32) (n : ℕ) : sProp 𝕄 :=
  bigSep (Ring.rangeSet 1024 n 1024) fun j => iprop(cellAt c f j ∗ rowAt c i T hT Y j)

/-- Before trip `k` of the starting loop. -/
def startInv (f : FVec F S4x256x1024 .f32) (k : ℕ) (_ : Unit) : sProp 𝕄 :=
  iprop(flying c i T hT Y (4 * k) 0 ∗ left c i T hT Y f (4 * k) ∗ (((c : Thread nD τ).loc main_arg0) ↦{q} T))

/-- Before trip `k` of waiting loop `w` of the first three. -/
def waitInv (w k : ℕ) (_ : Unit) : sProp 𝕄 :=
  iprop((∃ W, owes (c : Thread nD τ) 0 W) ∗ flying c i T hT Y 1024 ((256 * w + k) * NN))

/-- Before trip `k` of the last waiting loop: after its last trip everything has landed. -/
def lastInv (k : ℕ) (_ : Unit) : sProp 𝕄 :=
  iprop((∃ W, owes (c : Thread nD τ) 0 W) ∗ (if k < 256 then flying c i T hT Y 1024 ((768 + k) * NN)
    else iprop(semVal ((c : Thread nD τ), SemLoc.dma cc0_scratch1.sem) 0 ∗ bigSep Finset.univ (deliv c i T hT Y))))

theorem NN_pos : 0 < NN := by decide +kernel

variable (arg4 : Memref sig .tc .vmem S1x256x1024 .f32) (harg4 : arg4.IsWhole)
  (arg5 : Memref sig .tc .vmem S1x256x128 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x256x1024 .f32) (harg9 : arg9.IsWhole)

/-- A word as the body reads it. -/
theorem word_read (o : Fin 1 → ℕ) (h) (j : Fin 1024) (ho : o = ![base i + j.val]) (h1) :
    ((Memref.whole main_arg0).access (Rect.unit (s := S66048) o S1.size h) : View sig .tc _ _ _).read (Elt F) T (Shape.Idx.first h1) = word T i j := by
  subst ho
  refine congrArg T ?_
  funext a
  apply Fin.ext
  fin_cases a
  rfl

theorem offs {k : ℕ} (hk : k < 256) (kk : Fin 4) : (![kk.val, k, 0] : Fin 3 → ℕ) = ![(4 * k + kk.val) % 4, (4 * k + kk.val) / 4, 0] := by
  have := kk.isLt
  rw [show (4 * k + kk.val) % 4 = kk.val by omega, show (4 * k + kk.val) / 4 = k by omega]

set_option maxHeartbeats 4000000 in
theorem start_step (f : FVec F S4x256x1024 .f32) (v4 : BitVec 32) (k : Fin k0_t1_loop.trips) (acc : Unit) :
    startInv c i q T hT Y f k.val acc ⊢ wp frame (wpE (defs₀ (F := F)) Variants.none c none) Set.univ
      (k0_t1_body i (Memref.whole main_arg0) (Memref.isWhole_whole _) (Memref.whole main_arg1) (Memref.isWhole_whole _)
            arg4 harg4 arg5 harg5 arg6 harg6 arg7 harg7 arg8 harg8 arg9 harg9 (Memref.whole cc0_scratch0) (Memref.isWhole_whole _) cc0_scratch1 v4 k acc)
      (startInv c i q T hT Y f (k.val + 1)) := by
  have hk : k.val < 256 := Nat.lt_of_lt_of_eq k.isLt trips1
  have h0 : 4 * k.val + 0 < 1024 := by omega
  have h1 : 4 * k.val + 1 < 1024 := by omega
  have h2 : 4 * k.val + 2 < 1024 := by omega
  have h3 : 4 * k.val + 3 < 1024 := by omega
  unfold startInv left
  rw [Ring.bigSep_rangeSet_head (lo := 4 * k.val) (by omega) (by omega), Ring.bigSep_rangeSet_head (lo := 4 * k.val + 1) (by omega) (by omega),
    Ring.bigSep_rangeSet_head (lo := 4 * k.val + 1 + 1) (by omega) (by omega), Ring.bigSep_rangeSet_head (lo := 4 * k.val + 1 + 1 + 1) (by omega) (by omega),
    show 4 * (k.val + 1) = 4 * k.val + 1 + 1 + 1 + 1 by omega]
  unfold k0_t1_body
  simp only [k0_part1_eq_skeleton]
  unfold k0_part1_skel
  simp only [smemLoad, smemLoadElt, Prog.bind_op, Prog.bind_ret, Prog.lift]
  iintro ⟨HB, ⟨⟨HC0, HR0⟩, ⟨HC1, HR1⟩, ⟨HC2, HR2⟩, ⟨HC3, HR3⟩, HL⟩, HT⟩
  iapply (wp_load_rect Variants.none (c : Thread nD τ) none Set.univ (m := Memref.whole main_arg0) (r := Rect.unit (s := S66048) (k0_off1 i k) S1.size (k0_off1_inb i k)) (Finset.subset_univ _)) $$ HT
  iintro HT
  rw [word_read i T (k0_off1 i k) _ ⟨4 * k.val + 0, h0⟩ (off1_eq i k hk)]
  iapply (wp_assume Variants.none (c : Thread nD τ) none Set.univ (row_inb (row T i hT ⟨4 * k.val + 0, h0⟩) : k0_chk1 (word T i ⟨4 * k.val + 0, h0⟩)))
  iapply (issue c i T hT Y ⟨4 * k.val + 0, h0⟩ f (k0_off2 k) _ ((off2_eq k hk).trans (offs hk 0)) (k0_off3 (word T i ⟨4 * k.val + 0, h0⟩)) _ rfl) $$ [HC0 HR0 HB]
  · isplitl [HC0]; · iexact HC0
    isplitl [HR0] <;> iassumption
  iintro HB
  iapply (wp_load_rect Variants.none (c : Thread nD τ) none Set.univ (m := Memref.whole main_arg0) (r := Rect.unit (s := S66048) (k0_off4 i k) S1.size (k0_off4_inb i k)) (Finset.subset_univ _)) $$ HT
  iintro HT
  rw [word_read i T (k0_off4 i k) _ ⟨4 * k.val + 1, h1⟩ (off4_eq i k hk)]
  iapply (wp_assume Variants.none (c : Thread nD τ) none Set.univ (row_inb (row T i hT ⟨4 * k.val + 1, h1⟩) : k0_chk2 (word T i ⟨4 * k.val + 1, h1⟩)))
  iapply (issue c i T hT Y ⟨4 * k.val + 1, h1⟩ f (k0_off5 k) _ ((off5_eq k hk).trans (offs hk 1)) (k0_off6 (word T i ⟨4 * k.val + 1, h1⟩)) _ rfl) $$ [HC1 HR1 HB]
  · isplitl [HC1]; · iexact HC1
    isplitl [HR1] <;> iassumption
  iintro HB
  iapply (wp_load_rect Variants.none (c : Thread nD τ) none Set.univ (m := Memref.whole main_arg0) (r := Rect.unit (s := S66048) (k0_off7 i k) S1.size (k0_off7_inb i k)) (Finset.subset_univ _)) $$ HT
  iintro HT
  rw [word_read i T (k0_off7 i k) _ ⟨4 * k.val + 2, h2⟩ (off7_eq i k hk)]
  iapply (wp_assume Variants.none (c : Thread nD τ) none Set.univ (row_inb (row T i hT ⟨4 * k.val + 2, h2⟩) : k0_chk3 (word T i ⟨4 * k.val + 2, h2⟩)))
  iapply (issue c i T hT Y ⟨4 * k.val + 2, h2⟩ f (k0_off8 k) _ ((off8_eq k hk).trans (offs hk 2)) (k0_off9 (word T i ⟨4 * k.val + 2, h2⟩)) _ rfl) $$ [HC2 HR2 HB]
  · isplitl [HC2]; · iexact HC2
    isplitl [HR2] <;> iassumption
  iintro HB
  iapply (wp_load_rect Variants.none (c : Thread nD τ) none Set.univ (m := Memref.whole main_arg0) (r := Rect.unit (s := S66048) (k0_off10 i k) S1.size (k0_off10_inb i k)) (Finset.subset_univ _)) $$ HT
  iintro HT
  rw [word_read i T (k0_off10 i k) _ ⟨4 * k.val + 3, h3⟩ (off10_eq i k hk)]
  iapply (wp_assume Variants.none (c : Thread nD τ) none Set.univ (row_inb (row T i hT ⟨4 * k.val + 3, h3⟩) : k0_chk4 (word T i ⟨4 * k.val + 3, h3⟩)))
  iapply (issue c i T hT Y ⟨4 * k.val + 3, h3⟩ f (k0_off11 k) _ ((off11_eq k hk).trans (offs hk 3)) (k0_off12 (word T i ⟨4 * k.val + 3, h3⟩)) _ rfl) $$ [HC3 HR3 HB]
  · isplitl [HC3]; · iexact HC3
    isplitl [HR3] <;> iassumption
  iintro HB
  sl_step
  isplitl [HB]; · iexact HB
  isplitl [HL] <;> iassumption

/-- One wait of the first three loops. -/
theorem wait_one (w : ℕ) (hw : w < 3) (k : ℕ) (hk : k < 256) (o : Fin 3 → ℕ) (h) (o' : Fin 2 → ℕ) (h') {hs hd} :
    waitInv c i T hT Y w k () ⊢ wp frame (wpE (defs₀ (F := F)) Variants.none c none) Set.univ
      (.op (.waitDma2 cc0_scratch1.sem (srcAt o' h') (dstAt o h) hs hd) fun _ => Prog.ret ())
      (waitInv c i T hT Y w (k + 1)) := by
  unfold waitInv
  iintro ⟨⟨%W, HO⟩, HB⟩
  iapply (Transfers.wp_waitBatch (countersEmb (U := UD sig nD τ)) Variants.none (c : Thread nD τ) none (srcw := srcAt o' h') (dstw := dstAt o h) (hsrc := hs) (hdst := hd) (N := NN) () rfl
    (D := deliv c i T hT Y) (u := (256 * w + k) * NN) (by have := NN_pos; nlinarith) (W := W)) $$ [HB HO]
  · isplitl [HB] <;> iassumption
  iintro ⟨HB, HO⟩
  sl_step
  isplitl [HO]; · iexists _; iexact HO
  rw [show (256 * w + (k + 1)) * NN = (256 * w + k) * NN + NN by ring]
  iexact HB

/-- One wait of the last loop. -/
theorem last_one (k : ℕ) (hk : k < 256) (o : Fin 3 → ℕ) (h) (o' : Fin 2 → ℕ) (h') {hs hd} :
    lastInv c i T hT Y k () ⊢ wp frame (wpE (defs₀ (F := F)) Variants.none c none) Set.univ
      (.op (.waitDma2 cc0_scratch1.sem (srcAt o' h') (dstAt o h) hs hd) fun _ => Prog.ret ())
      (lastInv c i T hT Y (k + 1)) := by
  unfold lastInv
  simp only [if_pos hk]
  rcases Nat.lt_or_ge (k + 1) 256 with h1 | h1
  · simp only [if_pos h1]
    iintro ⟨⟨%W, HO⟩, HB⟩
    iapply (Transfers.wp_waitBatch (countersEmb (U := UD sig nD τ)) Variants.none (c : Thread nD τ) none (srcw := srcAt o' h') (dstw := dstAt o h) (hsrc := hs) (hdst := hd) (N := NN) () rfl
      (D := deliv c i T hT Y) (u := (768 + k) * NN) (by have := NN_pos; nlinarith) (W := W)) $$ [HB HO]
    · isplitl [HB] <;> iassumption
    iintro ⟨HB, HO⟩
    sl_step
    isplitl [HO]; · iexists _; iexact HO
    rw [show (768 + (k + 1)) * NN = (768 + k) * NN + NN by ring]
    iexact HB
  · simp only [if_neg (Nat.not_lt.mpr h1)]
    iintro ⟨⟨%W, HO⟩, HB⟩
    iapply (Transfers.wp_waitBatchLast (countersEmb (U := UD sig nD τ)) Variants.none (c : Thread nD τ) none (srcw := srcAt o' h') (dstw := dstAt o h) (hsrc := hs) (hdst := hd) (N := NN) () rfl NN_pos
      (D := deliv c i T hT Y) (u := (768 + k) * NN) (by rw [show k = 255 by omega]; ring) (W := W)) $$ [HB HO]
    · isplitl [HB] <;> iassumption
    iintro ⟨HD, HS, HO⟩
    sl_step
    isplitl [HO]; · iexists _; iexact HO
    isplitl [HS] <;> iassumption

theorem wait_step2 (k : Fin k0_t2_loop.trips) (acc : Unit) :
    waitInv c i T hT Y 0 k.val acc ⊢ wp frame (wpE (defs₀ (F := F)) Variants.none c none) Set.univ
      (k0_t2_body i (Memref.whole main_arg0) (Memref.isWhole_whole _) (Memref.whole main_arg1) (Memref.isWhole_whole _)
            arg4 harg4 arg5 harg5 arg6 harg6 arg7 harg7 arg8 harg8 arg9 harg9 (Memref.whole cc0_scratch0) (Memref.isWhole_whole _) cc0_scratch1 k acc)
      (waitInv c i T hT Y 0 (k.val + 1)) :=
  wait_one c i T hT Y 0 (by decide) k.val (Nat.lt_of_lt_of_eq k.isLt trips2) _ _ _ _

theorem wait_step3 (k : Fin k0_t3_loop.trips) (acc : Unit) :
    waitInv c i T hT Y 1 k.val acc ⊢ wp frame (wpE (defs₀ (F := F)) Variants.none c none) Set.univ
      (k0_t3_body i (Memref.whole main_arg0) (Memref.isWhole_whole _) (Memref.whole main_arg1) (Memref.isWhole_whole _)
            arg4 harg4 arg5 harg5 arg6 harg6 arg7 harg7 arg8 harg8 arg9 harg9 (Memref.whole cc0_scratch0) (Memref.isWhole_whole _) cc0_scratch1 k acc)
      (waitInv c i T hT Y 1 (k.val + 1)) :=
  wait_one c i T hT Y 1 (by decide) k.val (Nat.lt_of_lt_of_eq k.isLt trips3) _ _ _ _

theorem wait_step4 (k : Fin k0_t4_loop.trips) (acc : Unit) :
    waitInv c i T hT Y 2 k.val acc ⊢ wp frame (wpE (defs₀ (F := F)) Variants.none c none) Set.univ
      (k0_t4_body i (Memref.whole main_arg0) (Memref.isWhole_whole _) (Memref.whole main_arg1) (Memref.isWhole_whole _)
            arg4 harg4 arg5 harg5 arg6 harg6 arg7 harg7 arg8 harg8 arg9 harg9 (Memref.whole cc0_scratch0) (Memref.isWhole_whole _) cc0_scratch1 k acc)
      (waitInv c i T hT Y 2 (k.val + 1)) :=
  wait_one c i T hT Y 2 (by decide) k.val (Nat.lt_of_lt_of_eq k.isLt trips4) _ _ _ _

theorem last_step5 (k : Fin k0_t5_loop.trips) (acc : Unit) :
    lastInv c i T hT Y k.val acc ⊢ wp frame (wpE (defs₀ (F := F)) Variants.none c none) Set.univ
      (k0_t5_body i (Memref.whole main_arg0) (Memref.isWhole_whole _) (Memref.whole main_arg1) (Memref.isWhole_whole _)
            arg4 harg4 arg5 harg5 arg6 harg6 arg7 harg7 arg8 harg8 arg9 harg9 (Memref.whole cc0_scratch0) (Memref.isWhole_whole _) cc0_scratch1 k acc)
      (lastInv c i T hT Y (k.val + 1)) :=
  last_one c i T hT Y k.val (Nat.lt_of_lt_of_eq k.isLt trips5) _ _ _ _

end

end Cert.Proof.Cmb
-- ==== Proof.CombPoint.lean ====
/- The combining kernel's whole body at one point: the scratch split into the transfers' elements, the experts' outputs into read
   shares, the loops run, everything joined back, and the point's block of the result stored. -/
module

public import proofs.«01_k».proof.Proof.CombBody

@[expose] public section

set_option maxRecDepth 16384

noncomputable section

namespace Cert.Proof.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.CombiningIdeal Cert.CombiningIdeal.Gen

attribute [local instance] Cert.CombiningIdeal.Gen.facts

variable {F : FTy → Type} [FloatOps F]

local notation "𝕄" => MT nD τ sig Unit (Elt F) ℕ (UD sig nD τ) ℕ

variable (c : Dev nD) (i : grid0.Coords) (q : PosShare TreeShare) (T : S66048.Idx → BitVec 32) (hT : ∀ x, (T x).toNat < 82432)
  (Y : FVec F S82432x1024 .f32)

/-! ## Splitting and joining -/

/-- The scratch as the transfers' elements. -/
theorem scratch_eq (f : FVec F S4x256x1024 .f32) :
    ((((c : Thread nD τ).loc cc0_scratch0) ↦{fullShare} f : sProp 𝕄)) = bigSep Finset.univ (cellAt c f) :=
  Ring.pointsTo_blocks (Val := Elt F) (Ix := Unit) (Name := ℕ) (U := UD sig nD τ) (Lvl := ℕ) (ℓ := (c : Thread nD τ).loc cc0_scratch0) (q := fullShare)
    cellSet cell_disjoint cell_cover f

/-- The experts' outputs under a share, and what of them transfer `j` does not read under its own. -/
abbrev whole1 (q : PosShare TreeShare) : sProp 𝕄 := ((c : Thread nD τ).loc main_arg1) ↦{q} Y
abbrev rest1 (j : Fin 1024) : sProp 𝕄 :=
  ((c : Thread nD τ).loc main_arg1) ↦[Finset.univ \ rowSet (row T i hT j)]{Transfers.shareTokN fullShare j.val} Y

theorem token_eq (j : Fin 1024) : whole1 c Y (Transfers.shareTokN fullShare j.val) = iprop(rowAt c i T hT Y j ∗ rest1 c i T hT Y j) :=
  have h := pointsTo_split_subset (Val := Elt F) (Ix := Unit) (Name := ℕ) (U := UD sig nD τ) (Lvl := ℕ) (ℓ := (c : Thread nD τ).loc main_arg1)
    (I := rowSet (row T i hT j)) (S := Finset.univ) (f := Y) (q := Transfers.shareTokN fullShare j.val) (Finset.subset_univ _)
  equiv_iff.mp ⟨h.1, h.2⟩

theorem tokens_eq : (bigSep (Finset.range 1024) fun j => whole1 c Y (Transfers.shareTokN fullShare j))
    = iprop(bigSep Finset.univ (rowAt c i T hT Y) ∗ bigSep Finset.univ (rest1 c i T hT Y)) := by
  rw [← bigSep_sep', ← Ring.bigSep_rangeSet_eq_range (NB := 1024) (lo := 0) (hi := 1024)
    (Φ := fun j => whole1 c Y (Transfers.shareTokN fullShare j.val)) le_rfl _ (fun k hk => by simp only [Nat.zero_add]), Ring.rangeSet_univ]
  exact congrArg _ (funext fun j => token_eq c i T hT Y j)

theorem outs_eq : whole1 c Y fullShare = iprop(whole1 c Y (Transfers.shareDrop fullShare 1024)
    ∗ bigSep Finset.univ (rowAt c i T hT Y) ∗ bigSep Finset.univ (rest1 c i T hT Y)) := by
  rw [← tokens_eq]
  have h := Transfers.pointsTo_toks_range (Val := Elt F) (Ix := Unit) (Name := ℕ) (U := UD sig nD τ) (Lvl := ℕ) (ℓ := (c : Thread nD τ).loc main_arg1)
    (S := Finset.univ) (f := Y) fullShare 1024
  exact equiv_iff.mp ⟨h.1, h.2⟩

theorem left_all (f : FVec F S4x256x1024 .f32) :
    left c i T hT Y f 0 = iprop(bigSep Finset.univ (cellAt c f) ∗ bigSep Finset.univ (rowAt c i T hT Y)) := by
  unfold left; rw [Ring.rangeSet_univ]; exact bigSep_sep' _ _ _

theorem landed_all :
    bigSep Finset.univ (deliv c i T hT Y) = iprop(bigSep Finset.univ (cellAt c (gathered T i hT Y)) ∗ bigSep Finset.univ (rowAt c i T hT Y)) :=
  bigSep_sep' _ _ _

/-! ## Between the loops -/

theorem started (f : FVec F S4x256x1024 .f32) (a : Unit) : startInv c i q T hT Y f k0_t1_loop.trips a
    ⊢ iprop(flying c i T hT Y 1024 0 ∗ (((c : Thread nD τ).loc main_arg0) ↦{q} T)) := by
  unfold startInv
  rw [trips1]
  iintro ⟨HB, -, HT⟩
  isplitl [HB]; · iexact HB
  iexact HT

theorem wait_in (w : ℕ) (a : Unit) : iprop((∃ W, owes (c : Thread nD τ) 0 W) ∗ flying c i T hT Y 1024 (256 * w * NN)) ⊢ waitInv c i T hT Y w 0 a := by
  unfold waitInv
  rw [Nat.add_zero]

theorem wait_out (w : ℕ) (a : Unit) : waitInv c i T hT Y w 256 a ⊢ iprop((∃ W, owes (c : Thread nD τ) 0 W) ∗ flying c i T hT Y 1024 (256 * (w + 1) * NN)) := by
  unfold waitInv
  rw [Nat.mul_succ]

theorem wait_out2 (a : Unit) : waitInv c i T hT Y 0 k0_t2_loop.trips a
    ⊢ iprop((∃ W, owes (c : Thread nD τ) 0 W) ∗ flying c i T hT Y 1024 (256 * 1 * NN)) := by
  rw [trips2]; exact wait_out c i T hT Y 0 a
theorem wait_out3 (a : Unit) : waitInv c i T hT Y 1 k0_t3_loop.trips a
    ⊢ iprop((∃ W, owes (c : Thread nD τ) 0 W) ∗ flying c i T hT Y 1024 (256 * 2 * NN)) := by
  rw [trips3]; exact wait_out c i T hT Y 1 a
theorem wait_out4 (a : Unit) : waitInv c i T hT Y 2 k0_t4_loop.trips a
    ⊢ iprop((∃ W, owes (c : Thread nD τ) 0 W) ∗ flying c i T hT Y 1024 (256 * 3 * NN)) := by
  rw [trips4]; exact wait_out c i T hT Y 2 a

theorem last_out (a : Unit) : lastInv c i T hT Y k0_t5_loop.trips a ⊢ iprop((∃ W, owes (c : Thread nD τ) 0 W)
    ∗ semVal ((c : Thread nD τ), SemLoc.dma cc0_scratch1.sem) 0
    ∗ (((c : Thread nD τ).loc cc0_scratch0) ↦{fullShare} gathered T i hT Y) ∗ bigSep Finset.univ (rowAt c i T hT Y)) := by
  unfold lastInv
  rw [trips5, if_neg (Nat.lt_irrefl _), landed_all, scratch_eq]

/-! ## The body -/

/-- Slot `kk` of the gathered rows. -/
def slab (kk : Fin 4) (G : FVec F S4x256x1024 .f32) : Vec F S1x256x1024 .f32 := fun y => G (ix3 kk (y 1) (y 2))

theorem slab_read (kk : Fin 4) (o : Fin 3 → ℕ) (h) (ho : o = ![kk.val, 0, 0]) (G : FVec F S4x256x1024 .f32) :
    View.readAt (Elt F) (Memref.whole cc0_scratch0 : Memref sig .tc .vmem S4x256x1024 .f32).view
      (Rect.unit (s := S4x256x1024) o S1x256x1024.size h).toLoadRect G = slab kk G := by
  subst ho
  funext y
  refine congrArg G ?_
  funext a
  apply Fin.ext
  have h0 : (y 0).val = 0 := by have := (y 0).isLt; change _ < 1 at this; omega
  fin_cases a
  · show kk.val + 1 * (y 0).val = kk.val; omega
  · show 0 + 1 * (y 1).val = (y 1).val; omega
  · show 0 + 1 * (y 2).val = (y 2).val; omega

/-- What a point leaves in its block of the result, of its blocks and the gathered rows. -/
def outOf (x0 : Vec F S1x256x1024 .f32) (x1 : Vec F S1x256x128 .f32) (x2 : Vec F S1x1x1024 .f32) (x3 x4 : Vec F S1x1024 .f32)
    (G : FVec F S4x256x1024 .f32) : Vec F S1x256x1024 .f32 :=
  k0_pay1 (k0_pay6 x3) (k0_pay7 x4)
    (k0_pay8 (k0_pay2 x1) (k0_pay3 x1 (slab 0 G)) (k0_pay4 x1) (k0_pay5 (slab 1 G)) (slab 2 G) (slab 3 G) x0 x2)
    (k0_pay9 (k0_pay2 x1) (k0_pay3 x1 (slab 0 G)) (k0_pay4 x1) (k0_pay5 (slab 1 G)) (slab 2 G) (slab 3 G) x0 x2)

theorem out_of {x0 a0 : Vec F S1x256x1024 .f32} {x1 a1 : Vec F S1x256x128 .f32} {x2 a2 : Vec F S1x1x1024 .f32} {x3 x4 a3 a4 : Vec F S1x1024 .f32}
    {G : FVec F S4x256x1024 .f32} {g0 g1 g2 g3 : Vec F S1x256x1024 .f32} (h0 : a0 = x0) (h1 : a1 = x1) (h2 : a2 = x2) (h3 : a3 = x3) (h4 : a4 = x4)
    (e0 : g0 = slab 0 G) (e1 : g1 = slab 1 G) (e2 : g2 = slab 2 G) (e3 : g3 = slab 3 G) :
    k0_pay1 (k0_pay6 a3) (k0_pay7 a4) (k0_pay8 (k0_pay2 a1) (k0_pay3 a1 g0) (k0_pay4 a1) (k0_pay5 g1) g2 g3 a0 a2)
      (k0_pay9 (k0_pay2 a1) (k0_pay3 a1 g0) (k0_pay4 a1) (k0_pay5 g1) g2 g3 a0 a2) = outOf x0 x1 x2 x3 x4 G := by
  subst h0 h1 h2 h3 h4 e0 e1 e2 e3; rfl

variable (arg4 : Memref sig .tc .vmem S1x256x1024 .f32) (harg4 : arg4.IsWhole)
  (arg5 : Memref sig .tc .vmem S1x256x128 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x256x1024 .f32) (harg9 : arg9.IsWhole)

set_option maxHeartbeats 4000000 in
theorem combine (x0 : Vec F S1x256x1024 .f32) (x1 : Vec F S1x256x128 .f32) (x2 : Vec F S1x1x1024 .f32) (x3 x4 : Vec F S1x1024 .f32)
    (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ (∃ d, owns (c : Thread nD τ) arg9 fullShare d) ∗ (∃ f : FVec F S4x256x1024 .f32, ((c : Thread nD τ).loc cc0_scratch0) ↦{fullShare} f)
        ∗ semVal ((c : Thread nD τ), SemLoc.dma cc0_scratch1.sem) 0 ∗ (((c : Thread nD τ).loc main_arg1) ↦{fullShare} Y)
        ∗ (((c : Thread nD τ).loc main_arg0) ↦{q} T) ∗ (∃ W, owes (c : Thread nD τ) 0 W)
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg9 fullShare (outOf x0 x1 x2 x3 x4 (gathered T i hT Y))
            ∗ (∃ f : FVec F S4x256x1024 .f32, ((c : Thread nD τ).loc cc0_scratch0) ↦{fullShare} f)
            ∗ semVal ((c : Thread nD τ), SemLoc.dma cc0_scratch1.sem) 0 ∗ (((c : Thread nD τ).loc main_arg1) ↦{fullShare} Y)
            ∗ (((c : Thread nD τ).loc main_arg0) ↦{q} T) ∗ (∃ W, owes (c : Thread nD τ) 0 W)) -∗ K ⟨⟩))
      ⊢ wp frame (wpE (defs₀ (F := F)) Variants.none c none) Set.univ
          (cc0_moe_combine i (Memref.whole main_arg0) (Memref.isWhole_whole _) (Memref.whole main_arg1) (Memref.isWhole_whole _)
            arg4 harg4 arg5 harg5 arg6 harg6 arg7 harg7 arg8 harg8 arg9 harg9 (Memref.whole cc0_scratch0) (Memref.isWhole_whole _) cc0_scratch1) K := by
  simp only [cc0_moe_combine_eq_skeleton]; unfold cc0_moe_combine_skel
  simp only [k0_part2_eq_skeleton, k0_part3_eq_skeleton]; unfold k0_part2_skel k0_part3_skel
  rw [wp_bind]
  dsimp only
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, HS⟩, Hc, HY, HT, HO, Hk⟩
  ihave HSb := (Entails.of_eq (scratch_eq c fs)) $$ HS
  ihave HYb := (Entails.of_eq (outs_eq c i T hT Y)) $$ HY
  icases HYb with ⟨HYd, HYr, HYu⟩
  imod (Transfers.batch_alloc' (Lvl := ℕ) (countersEmb (U := UD sig nD τ)) (c : Thread nD τ) () NN (deliv c i T hT Y) (sm := .dma cc0_scratch1.sem) (E := Set.univ)) $$ Hc with HB
  sl_for (startInv c i q T hT Y fs) $$ [HB HSb HYr HT]
  · intro k acc; exact start_step c i q T hT Y arg4 harg4 arg5 harg5 arg6 harg6 arg7 harg7 arg8 harg8 arg9 harg9 fs _ k acc
  · unfold startInv
    rw [left_all]
    isplitl [HB]; · iexact HB
    isplitl [HSb HYr]
    · isplitl [HSb] <;> iassumption
    iexact HT
  iintro %a1 HL
  ihave HL := (started c i q T hT Y fs a1) $$ HL
  icases HL with ⟨HB, HT⟩
  sl_for (waitInv c i T hT Y 0) $$ [HB HO]
  · intro k acc; exact wait_step2 c i T hT Y arg4 harg4 arg5 harg5 arg6 harg6 arg7 harg7 arg8 harg8 arg9 harg9 k acc
  · iapply (wait_in c i T hT Y 0 _)
    rw [Nat.mul_zero, Nat.zero_mul]
    isplitl [HO] <;> iassumption
  iintro %a2 HL
  ihave HL := (wait_out2 c i T hT Y a2) $$ HL
  icases HL with ⟨HO, HB⟩
  sl_for (waitInv c i T hT Y 1) $$ [HB HO]
  · intro k acc; exact wait_step3 c i T hT Y arg4 harg4 arg5 harg5 arg6 harg6 arg7 harg7 arg8 harg8 arg9 harg9 k acc
  · iapply (wait_in c i T hT Y 1 _); isplitl [HO] <;> iassumption
  iintro %a3 HL
  ihave HL := (wait_out3 c i T hT Y a3) $$ HL
  icases HL with ⟨HO, HB⟩
  sl_for (waitInv c i T hT Y 2) $$ [HB HO]
  · intro k acc; exact wait_step4 c i T hT Y arg4 harg4 arg5 harg5 arg6 harg6 arg7 harg7 arg8 harg8 arg9 harg9 k acc
  · iapply (wait_in c i T hT Y 2 _); isplitl [HO] <;> iassumption
  iintro %a4 HL
  ihave HL := (wait_out4 c i T hT Y a4) $$ HL
  icases HL with ⟨HO, HB⟩
  sl_for (lastInv c i T hT Y) $$ [HB HO]
  · intro k acc; exact last_step5 c i T hT Y arg4 harg4 arg5 harg5 arg6 harg6 arg7 harg7 arg8 harg8 arg9 harg9 k acc
  · unfold lastInv
    rw [if_pos (by decide)]
    isplitl [HO]; · iexact HO
    iexact HB
  iintro %a5 HL
  ihave HL := (last_out c i T hT Y a5) $$ HL
  icases HL with ⟨HO, Hc, HS, HYr⟩
  ihave HY := (Entails.of_eq (outs_eq c i T hT Y).symm) $$ [HYd HYr HYu]
  · isplitl [HYd]; · iexact HYd
    isplitl [HYr] <;> iassumption
  ihave HS := (show (((c : Thread nD τ).loc cc0_scratch0) ↦{fullShare} gathered T i hT Y : sProp 𝕄)
    ⊢ ((Memref.whole cc0_scratch0 : Memref sig .tc .vmem S4x256x1024 .f32).view.loc (c : Thread nD τ)) ↦{fullShare} gathered T i hT Y from .rfl) $$ HS
  sl_exec
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [H3]
  · iexists f3; isplitr
    · ipureintro; exact hf3
    · iexact H3
  isplitl [H4]
  · iexists f4; isplitr
    · ipureintro; exact hf4
    · iexact H4
  isplitl [H5]
  · iexists _; isplitr
    swap; · iexact H5
    ipureintro
    refine (View.read_writes_full _ _ _ _ []).trans ?_
    exact out_of ((View.readAt_full _ _ _).trans hf0) ((View.readAt_full _ _ _).trans hf1) ((View.readAt_full _ _ _).trans hf2)
      ((View.readAt_full _ _ _).trans hf3) ((View.readAt_full _ _ _).trans hf4)
      (slab_read 0 _ _ rfl _) (slab_read 1 _ _ rfl _) (slab_read 2 _ _ rfl _) (slab_read 3 _ _ rfl _)
  isplitl [HS]; · iexists _; iexact HS
  isplitl [Hc]; · iexact Hc
  isplitl [HY]; · iexact HY
  isplitl [HT]; · iexact HT
  iexact HO

end Cert.Proof.Cmb

end
-- ==== Proof.CombLaunch.lean ====
/- The combining kernel's launch: 64 points, a block of 256 tokens each. Between points nothing is in flight: the scratch holds
   anything, the counter is zero, the experts' outputs and the table are as they were. -/
module

public import proofs.«01_k».proof.Proof.CombPoint
public import Idealize.ShloMosaic.Lib.Pipeline.Frame

@[expose] public section

set_option maxRecDepth 16384

noncomputable section

namespace Cert.Proof.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat Cfg Window BodyObligation)
open Cert.CombiningIdeal Cert.CombiningIdeal.Gen

attribute [local instance] Cert.CombiningIdeal.Gen.facts

variable {F : FTy → Type} [FloatOps F]

local notation "𝕄" => MT nD τ sig Unit (Elt F) ℕ (UD sig nD τ) ℕ

variable (m : (ℓ : Loc nD τ sig) → Buf (Elt F) ℓ) (ρ : Dev nD → PrngReg) (c : Dev nD)

/-! ## What the region finds -/

/-- The buffers when the region is entered: the layer norm's two rows reshaped, all else as launched. -/
def V (c : Dev nD) (b : Ref sig .tc) : Buf (Elt F) ((c : Thread nD τ).loc b) := StableHlo.after hostOps0 (fun b => m (c, b)) b

theorem fresh_none : (hostOps0 : List (HloOp τ sig (Elt F))).Forall fun op => op.fresh = ∅ := by
  simp only [List.Forall]; repeat' constructor

theorem enters : Pipeline.HMainP (Ix := Unit) (Name := ℕ) (U := UD sig nD τ) (Lvl := ℕ) pcfgs 0 defs₀ Variants.none m (main (F := F)) (V m) :=
  Pipeline.hmainP_prefix pcfgs 0 defs₀ Variants.none m main hostOps0 hostOps0_sub fresh_none main_chain

theorem writes : (hostOps0 (F := F)).Forall fun op => op.writes ⊆ ([main_v0, main_v1].map (Proc.devRef (τ := τ) .tc)).toFinset :=
  StableHlo.forall_writes_sub_of_map rfl

theorem V_arg0 : V m c main_arg0 = m ((c : Thread nD τ).loc main_arg0) := StableHlo.after_of_writes_sub hostOps0 _ writes (by decide)
theorem V_arg1 : V m c main_arg1 = m ((c : Thread nD τ).loc main_arg1) := StableHlo.after_of_writes_sub hostOps0 _ writes (by decide)
theorem V_arg2 : V m c main_arg2 = m ((c : Thread nD τ).loc main_arg2) := StableHlo.after_of_writes_sub hostOps0 _ writes (by decide)
theorem V_arg3 : V m c main_arg3 = m ((c : Thread nD τ).loc main_arg3) := StableHlo.after_of_writes_sub hostOps0 _ writes (by decide)
theorem V_arg4 : V m c main_arg4 = m ((c : Thread nD τ).loc main_arg4) := StableHlo.after_of_writes_sub hostOps0 _ writes (by decide)
theorem V_arg5 : V m c main_arg5 = m ((c : Thread nD τ).loc main_arg5) := StableHlo.after_of_writes_sub hostOps0 _ writes (by decide)
theorem V_arg6 : V m c main_arg6 = m ((c : Thread nD τ).loc main_arg6) := StableHlo.after_of_writes_sub hostOps0 _ writes (by decide)

/-! ## The table and the windows' blocks -/

/-- The slot of every assignment, as launched. -/
abbrev tab : S66048.Idx → BitVec 32 := m (((0 : Dev nD) : Thread nD τ).loc main_arg0)

/-- Every slot is a row of the experts' outputs. -/
abbrev Slots (T : S66048.Idx → BitVec 32) : Prop := ∀ x, (T x).toNat < 82432

/-- The table, as the pipeline names it. -/
def tables (T : S66048.Idx → BitVec 32) : pre0.Contents (Elt F)
  | ⟨0, _⟩ => T
  | ⟨_ + 1, h⟩ => absurd h (Nat.not_lt.2 (Nat.le_add_left _ _))

/-- The table, admitted: no window's blocks are placed by it. -/
def adm (p : Fin 1) : (pcfgs (F := F) p).Adm := ⟨tables (tab m), trivial⟩

variable (hr : Slots (tab m))

abbrev cfg : Cfg sig Λ₀ := Pipeline.pin (pcfgs (F := F)) (adm m) 0

theorem N_eq : (cfg m).N = 64 := N_0

/-- The block of window `w`'s array a point is handed. -/
def iblk (w : Fin (cfg m).W) (t : Fin (cfg m).N) : (((cfg m).win w).xblock ((cfg m).grid.coords t)).Idx → Elt F ((cfg m).win w).elt :=
  (((cfg m).win w).blk t).view.read (Elt F) (V m c (Pipeline.arrRef spec0 w))

abbrev x1Blk (t : Fin (cfg m).N) : Vec F S1x256x1024 .f32 := iblk m c 0 t
abbrev wBlk (t : Fin (cfg m).N) : Vec F S1x256x128 .f32 := iblk m c 1 t
abbrev gateBlk (t : Fin (cfg m).N) : Vec F S1x1x1024 .f32 := iblk m c 2 t
abbrev gBlk (t : Fin (cfg m).N) : Vec F S1x1024 .f32 := iblk m c 3 t
abbrev bBlk (t : Fin (cfg m).N) : Vec F S1x1024 .f32 := iblk m c 4 t

/-! ## Between points -/

/-- The kernel's own counter, and the array it reads by itself. -/
abbrev osem0 : Fin 1 → SemLoc sig := fun _ => SemLoc.dma cc0_scratch1.sem
theorem ownSemFacts0 : Pipeline.OwnSemFacts spec0 osem0 := by decide
abbrev H0 : Finset (Ref sig .tc) := {main_arg1}
theorem H0_sub : H0 ⊆ Pipeline.restRefsP sig pre0 spec0 := by decide

theorem ownSems_eq : (Pipeline.ownSems0 (Ix := Unit) (Name := ℕ) (U := UD sig nD τ) (Lvl := ℕ) (Val := Elt F) (τ := τ) osem0 c : sProp 𝕄)
    = semVal ((c : Thread nD τ), SemLoc.dma cc0_scratch1.sem) 0 := by
  rw [Pipeline.ownSems0_eq_of_list c osem0 [0] (by decide) (by decide)]; rfl

theorem read_eq : (bigSep H0 (fun b => ((c : Thread nD τ).loc b) ↦{fullShare} V m c b) : sProp 𝕄)
    = (((c : Thread nD τ).loc main_arg1) ↦{fullShare} V m c main_arg1) :=
  BI.bigSep_eq_bigSepL_of_eq (S := H0) [main_arg1] (by decide) (by decide) _

/-- The scratch, the register, the counter at zero, the experts' outputs. -/
abbrev idle : sProp 𝕄 :=
  iprop((∃ f : FVec F S4x256x1024 .f32, ((c : Thread nD τ).loc cc0_scratch0) ↦{fullShare} f) ∗ (∃ r, prngReg c r)
    ∗ semVal ((c : Thread nD τ), SemLoc.dma cc0_scratch1.sem) 0
    ∗ (((c : Thread nD τ).loc main_arg1) ↦{fullShare} V m c main_arg1))

theorem idle_eq : (Pipeline.ΦD osem0 spec0 H0 (V m) c : sProp 𝕄) = idle m c := by
  rw [Pipeline.ΦD_eq, scopedRest0_eq, ownSems_eq, read_eq]; try rfl

/-- The table's half the body reads. -/
abbrev tabs : sProp 𝕄 := (((c : Thread nD τ).loc main_arg0) ↦{fullShare.right} (tab m : Buf (Elt F) ((c : Thread nD τ).loc main_arg0)))

theorem tabs_eq : (Pipeline.ΦT pre0 (adm m 0).1 c : sProp 𝕄) = tabs m c :=
  bigSep_univ_eq_bigSepL [(0 : Fin 1)] (by decide) (by decide) _

/-- What a point leaves in its block of the result. -/
def outAt (t : Fin (cfg m).N) : Vec F S1x256x1024 .f32 :=
  outOf (x1Blk m c t) (wBlk m c t) (gateBlk m c t) (gBlk m c t) (bBlk m c t) (gathered (tab m) (grid0.coords t) hr (V m c main_arg1))

/-- The pipeline's data: arrays as the region finds them, each point's buffers as above. -/
def dats (p : Fin 1) (c : Dev nD) : Dat τ (Elt F) Unit ℕ (UD sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c hr t
  Φ _ := iprop(idle m c ∗ tabs m c)
  q _ := fullShare
  owed _ := 0

theorem A_eq (w : Fin (cfg m).W) : (dats m hr 0 c).A w = V m c (Pipeline.arrRef spec0 w) := by dsimp only [dats]; try rfl

theorem after0 (t : Fin (cfg m).N) : (dats m hr 0 c).after 0 t = iblk m c 0 t := by dsimp only [dats]; try rfl
theorem after1 (t : Fin (cfg m).N) : (dats m hr 0 c).after 1 t = iblk m c 1 t := by dsimp only [dats]; try rfl
theorem after2 (t : Fin (cfg m).N) : (dats m hr 0 c).after 2 t = iblk m c 2 t := by dsimp only [dats]; try rfl
theorem after3 (t : Fin (cfg m).N) : (dats m hr 0 c).after 3 t = iblk m c 3 t := by dsimp only [dats]; try rfl
theorem after4 (t : Fin (cfg m).N) : (dats m hr 0 c).after 4 t = iblk m c 4 t := by dsimp only [dats]; try rfl
theorem after5 (t : Fin (cfg m).N) : (dats m hr 0 c).after 5 t = outAt m c hr t := by dsimp only [dats]; try rfl

theorem found0 (t : Fin (cfg m).N) (d) : (dats m hr 0 c).before 0 t d = iblk m c 0 t :=
  ((dats m hr 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem found1 (t : Fin (cfg m).N) (d) : (dats m hr 0 c).before 1 t d = iblk m c 1 t :=
  ((dats m hr 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem found2 (t : Fin (cfg m).N) (d) : (dats m hr 0 c).before 2 t d = iblk m c 2 t :=
  ((dats m hr 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem found3 (t : Fin (cfg m).N) (d) : (dats m hr 0 c).before 3 t d = iblk m c 3 t :=
  ((dats m hr 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem found4 (t : Fin (cfg m).N) (d) : (dats m hr 0 c).before 4 t d = iblk m c 4 t :=
  ((dats m hr 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

theorem live (w : Fin (cfg m).W) (t : Fin (cfg m).N) : (cfg m).idle w (grid0.coords t) = false := rfl

/-- Every window is left owned at its value. -/
theorem leaves (w : Fin (cfg m).W) (t : Fin (cfg m).N) :
    (dats m hr 0 c).leavesExact w t = owns (c : Thread nD τ) (((cfg m).win w).stage ((cfg m).slots t w)) fullShare ((dats m hr 0 c).after w t) := by
  unfold Dat.leavesExact; rw [live m w t]

/-! ## The body at any point -/

/-- The body at point `t`, on the buffers the pipeline hands it. -/
def bodyAt (t : Fin (cfg m).N) : Prog (TpuEff nD τ sig (Elt F) Λ₀ .tc) PUnit :=
  cc0_moe_combine (grid0.coords t) (Memref.whole main_arg0) (Memref.isWhole_whole _) (Memref.whole main_arg1) (Memref.isWhole_whole _)
    (spec0_0.stage ((cfg m).slots t 0)) (hstage0_0 (((cfg m).slots t 0).cast nbuf0_0))
    (spec0_1.stage ((cfg m).slots t 1)) (hstage0_1 (((cfg m).slots t 1).cast nbuf0_1))
    (spec0_2.stage ((cfg m).slots t 2)) (hstage0_2 (((cfg m).slots t 2).cast nbuf0_2))
    (spec0_3.stage ((cfg m).slots t 3)) (hstage0_3 (((cfg m).slots t 3).cast nbuf0_3))
    (spec0_4.stage ((cfg m).slots t 4)) (hstage0_4 (((cfg m).slots t 4).cast nbuf0_4))
    (spec0_5.stage ((cfg m).slots t 5)) (hstage0_5 (((cfg m).slots t 5).cast nbuf0_5))
    (Memref.whole cc0_scratch0) (Memref.isWhole_whole _) cc0_scratch1

/-- What the body is called with, … -/
def pre (t : Fin (cfg m).N) : sProp 𝕄 :=
  iprop((dats m hr 0 c).Φ t.castSucc ∗ (dats m hr 0 c).owesAt () t.castSucc
    ∗ (∃ d, owns (c : Thread nD τ) (spec0_0.stage ((cfg m).slots t 0)) fullShare ((dats m hr 0 c).before 0 t d))
    ∗ (∃ d, owns (c : Thread nD τ) (spec0_1.stage ((cfg m).slots t 1)) fullShare ((dats m hr 0 c).before 1 t d))
    ∗ (∃ d, owns (c : Thread nD τ) (spec0_2.stage ((cfg m).slots t 2)) fullShare ((dats m hr 0 c).before 2 t d))
    ∗ (∃ d, owns (c : Thread nD τ) (spec0_3.stage ((cfg m).slots t 3)) fullShare ((dats m hr 0 c).before 3 t d))
    ∗ (∃ d, owns (c : Thread nD τ) (spec0_4.stage ((cfg m).slots t 4)) fullShare ((dats m hr 0 c).before 4 t d))
    ∗ (∃ d, owns (c : Thread nD τ) (spec0_5.stage ((cfg m).slots t 5)) fullShare ((dats m hr 0 c).before 5 t d)))

/-- … and what it leaves. -/
def post (t : Fin (cfg m).N) : sProp 𝕄 :=
  iprop((dats m hr 0 c).Φ t.succ ∗ (dats m hr 0 c).owesAt () t.succ
    ∗ (dats m hr 0 c).leavesExact 0 t ∗ (dats m hr 0 c).leavesExact 1 t ∗ (dats m hr 0 c).leavesExact 2 t
    ∗ (dats m hr 0 c).leavesExact 3 t ∗ (dats m hr 0 c).leavesExact 4 t ∗ (dats m hr 0 c).leavesExact 5 t)

set_option maxHeartbeats 2000000 in
theorem body (t : Fin (cfg m).N) :
    pre m c hr t ⊢ wp frame (wpE (defs₀ (F := F)) Variants.none c none) Set.univ (bodyAt m t) (fun _ => post m c hr t) := by
  unfold pre post bodyAt
  simp only [found0, found1, found2, found3, found4]
  rw [show (dats m hr 0 c).Φ t.succ = iprop(idle m c ∗ tabs m c) from rfl, show (dats m hr 0 c).Φ t.castSucc = iprop(idle m c ∗ tabs m c) from rfl,
    leaves, leaves, leaves, leaves, leaves, leaves, after0, after1, after2, after3, after4, after5]
  unfold Dat.owesAt Pipeline.owesWithin
  rw [show (dats m hr 0 c).owed t.castSucc = 0 from rfl, show (dats m hr 0 c).owed t.succ = 0 from rfl]
  iintro ⟨⟨⟨HS, Hg, Hc, HY⟩, HT⟩, ⟨%W, -, HO⟩, ⟨%e0, H0⟩, ⟨%e1, H1⟩, ⟨%e2, H2⟩, ⟨%e3, H3⟩, ⟨%e4, H4⟩, ⟨%e5, H5⟩⟩
  iapply (combine c (grid0.coords t) fullShare.right (tab m) hr (V m c main_arg1) _ _ _ _ _ _ _ _ _ _ _ _
    (x1Blk m c t) (wBlk m c t) (gateBlk m c t) (gBlk m c t) (bBlk m c t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [Hc]; · iexact Hc
  isplitl [HY]; · iexact HY
  isplitl [HT]; · iexact HT
  isplitl [HO]; · iexists _; iexact HO
  iintro ⟨H0, H1, H2, H3, H4, H5, HS, Hc, HY, HT, ⟨%W', HO⟩⟩
  isplitl [HS Hg Hc HY HT]
  · isplitl [HS Hg Hc HY]
    · isplitl [HS]; · iexact HS
      isplitl [Hg]; · iexact Hg
      isplitl [Hc]; · iexact Hc
      iexact HY
    iexact HT
  isplitl [HO]
  · iexists W'; isplitr
    · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem body_row (t : Fin (cfg m).N) : defs₀ (F := F) .tc (cfg m).body ((cfg m).bodyArgs t ((cfg m).slots t)) = bodyAt m t := by
  unfold defs₀; rw [Defs.onTc_tc]; rfl

theorem obligation : BodyObligation (dats m hr 0 c) (defs₀ (F := F)) Variants.none () Set.univ := fun t => by
  rw [bigSep_W0, bigSep_W0, body_row]
  exact triple_restated (body m c hr t) rfl .rfl fun _ => .rfl

/-! ## The run -/

theorem hin : (iprop(Pipeline.ΦD osem0 spec0 H0 (V m) c ∗ Pipeline.ΦT pre0 (adm m 0).1 c) : sProp 𝕄) ⊢ (dats m hr 0 c).Φ 0 := by
  rw [show (dats m hr 0 c).Φ 0 = iprop(idle m c ∗ tabs m c) from rfl, idle_eq, tabs_eq]

theorem hout : (dats m hr 0 c).Φ (Fin.last (cfg m).N) ⊢ Pipeline.ΦD osem0 spec0 H0 (V m) c := by
  rw [show (dats m hr 0 c).Φ (Fin.last (cfg m).N) = iprop(idle m c ∗ tabs m c) from rfl, idle_eq]
  iintro ⟨H, -⟩
  iexact H

theorem tabs_found (k : Fin 1) : V m c (pre0.ref k) = (adm m 0).1 k := by
  obtain rfl : c = 0 := Subsingleton.elim _ _
  exact match k with
  | ⟨0, _⟩ => V_arg0 m 0

set_option backward.isDefEq.respectTransparency.types false in
/-- The whole run: every array ends at what the points' buffers make of it, every counter at zero. -/
theorem run_main : θ_run defs (onTc (τ := τ) (main (F := F))) (s₀ m ρ)
    (fun r => (Pipeline.FramePost (Pipeline.pin (pcfgs (F := F)) (adm m)) (dats m hr) 0 (V m)) r ∧ r.2.sem = fun _ => 0) :=
  Pipeline.θ_run_frameP_dma (Q' := _) pcfgs (adm m) (dats m hr) (0 : Fin 1) launch0 osem0 defs₀ Variants.none ownSemFacts0 H0 H0_sub m ρ main
    (hbody := fun c => (obligation m c hr).loose) (hshare := fun c => (dats m hr 0 c).share_full fun _ => rfl)
    (howed := fun _ _ => rfl) (V := V m) (hmain := enters m) (hA := fun c => A_eq m c hr)
    (hpf := fun c k => tabs_found m c k) (hin := fun c => hin m c hr) (hout := fun c => hout m c hr)

end Cert.Proof.Cmb

end
-- ==== Proof.CombFrames.lean ====
/- The combining programs run, keep their arguments and end with every counter at zero. The kernel and its idealized form are one
   run read at two kinds of numbers. -/
module

public import proofs.«01_k».proof.Defs
public import proofs.«01_k».proof.Proof.ExpFrames
public import proofs.«01_k».proof.Proof.CombLaunch
public import proofs.«01_k».proof.Proof.Gen.Combining
public import proofs.«01_k».proof.Proof.Gen.CombiningReferenceIdeal.Run
public import Idealize.ShloMosaic.Lib.Claim

@[expose] public section

set_option maxRecDepth 16384

noncomputable section

namespace Cert.Proof.Cmb

open Idealize.ShloMosaic Idealize.ShloMosaic.TcCoe Idealize.SL Idealize.SL.Sem

section
open Cert.CombiningIdeal Cert.CombiningIdeal.Gen
attribute [local instance] Cert.CombiningIdeal.Gen.facts
variable {F : FTy → Type} [FloatOps F] (m : (ℓ : Loc nD τ sig) → Buf (Elt F) ℓ) (ρ : Dev nD → PrngReg) (hr : Slots (tab m))

/-- The kernel's run: its result is what the points left in the last window's array. -/
theorem kernel_run : θ_run defs (onTc (τ := τ) (main (F := F))) ⟨m, fun _ => 0, ρ⟩ (fun r => (∀ c : Dev nD,
      r.2.mem ((c.tc : Thread nD τ).loc main_v2) = (dats m hr 0 c).arrAt 5 (cfg m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
    ((h.1 c).2 main_arg0 (Pipeline.mem_restRefs_of main_arg0 (by decide) (show ∀ w : Fin 6, (spec0 w).arr.view.ref ≠ main_arg0 by decide))).trans (V_arg0 m c),
    ((h.1 c).2 main_arg1 (Pipeline.mem_restRefs_of main_arg1 (by decide) (show ∀ w : Fin 6, (spec0 w).arr.view.ref ≠ main_arg1 by decide))).trans (V_arg1 m c),
    ((h.1 c).1 0).trans (((dats m hr 0 c).arrAt_in 0 rfl _).trans ((A_eq m c hr 0).trans (V_arg2 m c))),
    ((h.1 c).1 1).trans (((dats m hr 0 c).arrAt_in 1 rfl _).trans ((A_eq m c hr 1).trans (V_arg3 m c))),
    ((h.1 c).1 2).trans (((dats m hr 0 c).arrAt_in 2 rfl _).trans ((A_eq m c hr 2).trans (V_arg4 m c))),
    ((h.1 c).2 main_arg5 (Pipeline.mem_restRefs_of main_arg5 (by decide) (show ∀ w : Fin 6, (spec0 w).arr.view.ref ≠ main_arg5 by decide))).trans (V_arg5 m c),
    ((h.1 c).2 main_arg6 (Pipeline.mem_restRefs_of main_arg6 (by decide) (show ∀ w : Fin 6, (spec0 w).arr.view.ref ≠ main_arg6 by decide))).trans (V_arg6 m c)⟩, h.2⟩) (run_main m ρ hr)
end

/-! ## The condition on the slots -/

section
open Cert.Pre_slots Cert.Pre_slots.Facts

/-- The side conditions of the condition's own operations. -/
theorem slotsFacts : Cert.Pre_slots.Facts where
  bcast_S_S66048 := by decide
  reducesTo_S66048_S_d0 := by decide
  h_S_ := by decide

theorem all_of_reduce (x : IVec S66048 1) (v : IVec S_ 1) (h : S66048.ReducesTo [0] S_) (h') (j : S_.Idx) (e : Host.reduce IntOp.andi x v h h' j = 1#1) (i : S66048.Idx) : x i = 1#1 := by
  have := (Moe.foldl_and (fun n => x (S66048.rowMajor.symm n)) _ _ e).2 (S66048.rowMajor i)
    (List.mem_filter.mpr ⟨List.mem_finRange _, decide_eq_true (funext fun a => a.elim0)⟩)
  simpa using this

theorem between {x : BitVec 32} (h1 : (0#32).sle x = true) (h2 : x.slt 82432#32 = true) : x.toNat < 82432 := by
  have e1 := of_decide_eq_true h1
  have e2 := of_decide_eq_true h2
  rw [BitVec.toInt_eq_toNat_cond, BitVec.toInt_eq_toNat_cond] at e1 e2
  have := x.isLt
  simp at e1 e2
  split at e2 <;> omega

variable {F : FTy → Type} [FloatOps F]

theorem slots_of_fn [Cert.Pre_slots.Facts] (T : IVec S66048 32) (a1 : FVec F S82432x1024 .f32) (a2 : FVec F S8x2048x1024 .f32)
    (a3 : FVec F S8x2048x128 .f32) (a4 : FVec F S8x1x1024 .f32) (a5 a6 : FVec F S1024 .f32)
    (h : Cert.Pre_slots.fn T a1 a2 a3 a4 a5 a6 = fun _ => 1#1) : Slots T := by
  have h0 := congrFun h (Shape.Idx.first h_S_)
  unfold Cert.Pre_slots.fn at h0
  obtain ⟨hge, hlt⟩ := Moe.bits_and _ _ h0
  exact fun x => between (Moe.bit_true _ (all_of_reduce _ _ _ _ _ hge x)) (Moe.bit_true _ (all_of_reduce _ _ _ _ _ hlt x))

end

section
attribute [local instance] Cert.Combining.Gen.facts
variable {F : FTy → Type} [FloatOps F]

/-- The two programs' tables of bodies are one. -/
theorem bodies : Cert.Combining.defs (F := F) = Cert.CombiningIdeal.defs :=
  congrArg (Pipeline.defs (Cert.CombiningIdeal.pcfgs (F := F))) (congrArg Defs.onTc (funext fun l => funext fun a => match l, a with
    | 0, (t, s) => rfl
    | ⟨_ + 1, h⟩, _ => absurd h (Nat.not_lt.2 (Nat.le_add_left _ _))))
end

theorem frame_kernel : Cert.quiescent_Combining (hCombining := Cert.Combining.Gen.facts) (hPre_slots := slotsFacts) := fun m ρ h => by
  rw [bodies]
  exact (θ_run Cert.CombiningIdeal.defs _ _).mono (fun _ h => ⟨fun c => (h.1 c).2, h.2⟩)
    (kernel_run (F := Bits) m ρ (@slots_of_fn _ _ slotsFacts _ _ _ _ _ _ _ (h 0)))

theorem frame_ideal : Cert.quiescent_CombiningIdeal (hCombiningIdeal := Cert.CombiningIdeal.Gen.facts) (hPre_slots := slotsFacts) := fun m ρ h =>
  (θ_run Cert.CombiningIdeal.defs _ _).mono (fun _ h => ⟨fun c => (h.1 c).2, h.2⟩)
    (kernel_run (F := Ideal) m ρ (@slots_of_fn _ _ slotsFacts _ _ _ _ _ _ _ (h 0)))

theorem frame_reference : Cert.quiescent_CombiningReferenceIdeal (hCombiningReferenceIdeal := Cert.CombiningReferenceIdeal.Gen.facts) := fun m ρ _ =>
  (θ_run Cert.CombiningReferenceIdeal.defs _ _).mono
    (fun r h => ⟨fun c => (h c).2, sem_eq_zero_of_no_sems (by decide) r.2⟩) (Cert.CombiningReferenceIdeal.Value.run (F := Ideal) m ρ)

theorem frame_reference_slots : Cert.quiescent_CombiningReferenceIdeal_pre_slots (hCombiningReferenceIdeal := Cert.CombiningReferenceIdeal.Gen.facts)
    (hPre_slots := slotsFacts) := fun m ρ _ => frame_reference m ρ trivial

end Cert.Proof.Cmb

end
-- ==== Proof.CombSpec.lean ====
/- The combining of the experts' outputs: the mathematics of a token's row, and the reference as that. The normalisation is the
   mixing call's own. -/
module

public import proofs.«01_k».proof.Proof.CombFrames
public import proofs.«01_k».proof.Proof.MixSpec
public import proofs.«01_k».proof.Proof.Gen.CombiningReferenceIdeal.Run
public import Idealize.ShloMosaic.Lib.Pointwise
public import Idealize.ShloMosaic.Lib.Routing.Ops

@[expose] public section

set_option maxRecDepth 16384

noncomputable section

namespace Cert.Proof.Cmb

open Idealize.ShloMosaic Idealize.ShloMosaic.TcCoe Idealize.SL.Sem

/-! ## One token -/

/-- The token's residual and its gated sum of four weighted rows, normalised, scaled and shifted. -/
def outRow (x gate g b : Fin 1024 → EReal) (y : Fin 4 → Fin 1024 → EReal) (w : Fin 4 → EReal) : Fin 1024 → EReal :=
  Mix.normRow (fun k => Ideal.ofBits .f32 0x3FB504F3#32 * x k + gate k * ∑ j : Fin 4, y j k * w j) g b

/-- The number of token `s` of sequence `b`'s assignment `j`. -/
def asg (b : Fin 8) (s : Fin 2048) (j : Fin 4) : Fin 66048 := ⟨(b.val * 2048 + s.val) * 4 + j.val, by omega⟩

/-- The row of the experts' outputs an assignment is stored in. -/
def rowOf (T : Cert.CombiningIdeal.S66048.Idx → BitVec 32) (hT : Slots T) (a : Fin 66048) : Fin 82432 := ⟨(T (ix1 a)).toNat, hT _⟩

/-- Token `s` of sequence `b`, from the seven arguments' contents. -/
def tokenRow (T : Cert.CombiningIdeal.S66048.Idx → BitVec 32) (hT : Slots T) (a1 : FVec Ideal Cert.CombiningIdeal.S82432x1024 .f32)
    (a2 : FVec Ideal Cert.CombiningIdeal.S8x2048x1024 .f32) (a3 : FVec Ideal Cert.CombiningIdeal.S8x2048x128 .f32)
    (a4 : FVec Ideal Cert.CombiningIdeal.S8x1x1024 .f32) (a5 a6 : FVec Ideal Cert.CombiningIdeal.S1024 .f32) (b : Fin 8) (s : Fin 2048) :
    Fin 1024 → EReal :=
  outRow (fun k => a2 (ix3 b s k)) (fun k => a4 (ix3 b 0 k)) (fun k => a5 (ix1 k)) (fun k => a6 (ix1 k))
    (fun j k => a1 (ix2 (rowOf T hT (asg b s j)) k)) (fun j => a3 (ix3 b s ⟨j.val, by omega⟩))

/-! ## The reference -/

section
open Cert.CombiningReferenceIdeal Cert.CombiningReferenceIdeal.Gen
attribute [local instance] Cert.CombiningReferenceIdeal.Gen.facts

/-- The reference's slots, a negative one counted from the end. -/
def refSlots (T : IVec S66048 32) : IVec S65536x1 32 :=
  broadcastInDim S65536x1 ![0] bcast_S65536_S65536x1_0 (select (cmpi .slt (extractStridedSlice S65536 ![0] T slices_S66048_S65536_0) (broadcastInDim S65536 ![] bcast_S_S65536 (constantI S_ 32 0#32)))
    (addi (extractStridedSlice S65536 ![0] T slices_S66048_S65536_0) (broadcastInDim S65536 ![] bcast_S_S65536 (constantI S_ 32 82432#32)))
    (extractStridedSlice S65536 ![0] T slices_S66048_S65536_0))

theorem not_negative {x : BitVec 32} (h : x.toNat < 82432) : IntOp.cmpi .slt x 0#32 = 0#1 := by
  have e : x.slt 0#32 = false := by
    unfold BitVec.slt
    rw [BitVec.toInt_eq_toNat_cond, if_pos (by omega)]
    simp
  show BitVec.ofBool (x.slt 0#32) = 0#1
  rw [e]; rfl

theorem refSlots_apply (T : IVec S66048 32) (hT : Slots T) (a : Fin 65536) :
    refSlots T (ix2 a (0 : Fin 1)) = T (ix1 (⟨a.val, by omega⟩ : Fin 66048)) := by
  refine Eq.trans (b := Scalar.select (IntOp.cmpi .slt (T (ix1 (⟨a.val, by omega⟩ : Fin 66048))) 0#32)
    (T (ix1 (⟨a.val, by omega⟩ : Fin 66048)) + 82432#32) (T (ix1 (⟨a.val, by omega⟩ : Fin 66048)))) ?_ ?_
  · unfold refSlots
    pointwise
    rfl
  · rw [not_negative (hT _)]; rfl

/-- The rows the reference takes. -/
def refRows (Y : FVec Ideal S82432x1024 .f32) (T : IVec S66048 32) : FVec Ideal S65536x1024 .f32 :=
  Host.gather gather_S82432x1024_S65536x1_S65536x1024_1_0_n_n_0_1_11024 Y (refSlots T)

theorem refRows_apply (Y : FVec Ideal S82432x1024 .f32) (T : IVec S66048 32) (hT : Slots T) (a : Fin 65536) (k : Fin 1024) :
    refRows Y T (ix2 a k) = Y (ix2 (rowOf T hT ⟨a.val, by omega⟩) k) :=
  Routing.gather_row (nb := 82432) (B := 1024) (n := 65536) gather_S82432x1024_S65536x1_S65536x1024_1_0_n_n_0_1_11024 rfl rfl rfl rfl rfl
    Y (refSlots T) a k (rowOf T hT ⟨a.val, by omega⟩) ((refSlots_apply T hT a).trans (BitVec.eq_of_toNat_eq (by
      simp only [rowOf, BitVec.toNat_ofNat]; exact (Nat.mod_eq_of_lt (T _).isLt).symm))) (by decide)

/-- The reference's weighted rows. -/
def refWeighted (R : FVec Ideal S65536x1024 .f32) (w : FVec Ideal S8x2048x128 .f32) : FVec Ideal S65536x1024 .f32 :=
  mulf R (broadcastInDim S65536x1024 ![0, 1] bcast_S65536x1_S65536x1024_0_1 (broadcastInDim S65536x1 ![0] bcast_S65536_S65536x1_0
    (shapeCast S65536 (extractStridedSlice S8x2048x4 ![0, 0, 0] w slices_S8x2048x128_S8x2048x4_0_0_0) shapeCasts_S8x2048x4_S65536)))

theorem refWeighted_apply (R : FVec Ideal S65536x1024 .f32) (w : FVec Ideal S8x2048x128 .f32) (b : Fin 8) (s : Fin 2048) (j : Fin 4) (k : Fin 1024) :
    refWeighted R w (ix2 (⟨(b.val * 2048 + s.val) * 4 + j.val, by omega⟩ : Fin 65536) k)
      = R (ix2 (⟨(b.val * 2048 + s.val) * 4 + j.val, by omega⟩ : Fin 65536) k) * w (ix3 b s ⟨j.val, by omega⟩) := by
  unfold refWeighted
  pointwise

/-- The reference's sums of four. -/
def refSum (P : FVec Ideal S65536x1024 .f32) : FVec Ideal S8x2048x1024 .f32 :=
  shapeCast S8x2048x1024 (Host.reduceAdd (shapeCast S16384x4x1024 P shapeCasts_S65536x1024_S16384x4x1024) (constant (F := Ideal) S_ .f32 0x00000000#32)
    reducesTo_S16384x4x1024_S16384x1024_d1 h_S_) shapeCasts_S16384x1024_S8x2048x1024

theorem refSum_apply (P : FVec Ideal S65536x1024 .f32) (b : Fin 8) (s : Fin 2048) (k : Fin 1024) :
    refSum P (ix3 b s k) = ∑ j : Fin 4, P (ix2 (⟨(b.val * 2048 + s.val) * 4 + j.val, by omega⟩ : Fin 65536) k) := by
  unfold refSum
  pointwise

/-- The reference's row before its normalisation. -/
def refPre (z x : FVec Ideal S8x2048x1024 .f32) (a4 : FVec Ideal S8x1x1024 .f32) : FVec Ideal S8x2048x1024 .f32 :=
  addf (mulf (broadcastInDim S8x2048x1024 ![] bcast_S_S8x2048x1024 (constant (F := Ideal) S_ .f32 0x3FB504F3#32)) x) (mulf (broadcastInDim S8x2048x1024 ![0, 1, 2] bcast_S8x1x1024_S8x2048x1024_0_1_2 a4) z)

theorem refPre_apply (z x : FVec Ideal S8x2048x1024 .f32) (a4 : FVec Ideal S8x1x1024 .f32) (b : Fin 8) (s : Fin 2048) (k : Fin 1024) :
    refPre z x a4 (ix3 b s k) = Ideal.ofBits .f32 0x3FB504F3#32 * x (ix3 b s k) + a4 (ix3 b 0 k) * z (ix3 b s k) := by
  unfold refPre
  pointwise

/-- The reference's result. -/
def refOut (T : IVec S66048 32) (a1 : FVec Ideal S82432x1024 .f32) (a2 : FVec Ideal S8x2048x1024 .f32) (a3 : FVec Ideal S8x2048x128 .f32)
    (a4 : FVec Ideal S8x1x1024 .f32) (a5 a6 : FVec Ideal S1024 .f32) : FVec Ideal S8x2048x1024 .f32 :=
  Mix.refNorm (refPre (refSum (refWeighted (refRows a1 T) a3)) a2 a4) a5 a6

theorem refOut_apply (T : IVec S66048 32) (hT : Slots T) (a1 : FVec Ideal S82432x1024 .f32) (a2 : FVec Ideal S8x2048x1024 .f32)
    (a3 : FVec Ideal S8x2048x128 .f32) (a4 : FVec Ideal S8x1x1024 .f32) (a5 a6 : FVec Ideal S1024 .f32) (b : Fin 8) (s : Fin 2048) (k : Fin 1024) :
    refOut T a1 a2 a3 a4 a5 a6 (ix3 b s k) = tokenRow T hT a1 a2 a3 a4 a5 a6 b s k := by
  unfold refOut tokenRow outRow
  refine (Mix.refNorm_apply _ a5 a6 b s k).trans (congrArg (fun z => Mix.normRow z _ _ k) (funext fun k => ?_))
  rw [refPre_apply, refSum_apply]
  refine congrArg (fun z => _ + _ * z) (Finset.sum_congr rfl fun j _ => ?_)
  rw [refWeighted_apply, refRows_apply a1 T hT]
  rfl

variable (m : (ℓ : Loc nD τ sig) → Buf (Elt Ideal) ℓ) (c : Dev nD)

theorem res0_eq : Value.res_out0 (F := Ideal) m c
    = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

end

end Cert.Proof.Cmb

end
-- ==== Proof.CombValue.lean ====
/- The combining of the experts' outputs: what the points leave is, token by token, the reference's row. -/
module

public import proofs.«01_k».proof.Proof.CombSpec
public import proofs.«01_k».proof.Proof.MixValue

@[expose] public section

set_option maxRecDepth 16384

noncomputable section

namespace Cert.Proof.Cmb

open Idealize.ShloMosaic Idealize.ShloMosaic.TcCoe Idealize.SL.Sem
open Cert.CombiningIdeal Cert.CombiningIdeal.Gen
attribute [local instance] Cert.CombiningIdeal.Gen.facts

/-! ## A block's arithmetic -/

/-- A block's weighted rows, summed in the kernel's order. -/
def ffnBlk (x1 : FVec Ideal S1x256x128 .f32) (g0 g1 g2 g3 : FVec Ideal S1x256x1024 .f32) : FVec Ideal S256x1024 .f32 :=
  have w : FVec Ideal S256x128 .f32 := shapeCast S256x128 x1 shapeCasts_S1x256x128_S256x128
  addf
    (addf (mulf (broadcastTo S256x1024 (extractStridedSlice S256x1 ![0, 0] w slices_S256x128_o0_0_S256x1) broadcasts_S256x1_S256x1024)
        (shapeCast S256x1024 g0 shapeCasts_S1x256x1024_S256x1024))
      (mulf (broadcastTo S256x1024 (extractStridedSlice S256x1 ![0, 1] w slices_S256x128_o0_1_S256x1) broadcasts_S256x1_S256x1024)
        (shapeCast S256x1024 g1 shapeCasts_S1x256x1024_S256x1024)))
    (addf (mulf (broadcastTo S256x1024 (extractStridedSlice S256x1 ![0, 2] w slices_S256x128_o0_2_S256x1) broadcasts_S256x1_S256x1024)
        (shapeCast S256x1024 g2 shapeCasts_S1x256x1024_S256x1024))
      (mulf (broadcastTo S256x1024 (extractStridedSlice S256x1 ![0, 3] w slices_S256x128_o0_3_S256x1) broadcasts_S256x1_S256x1024)
        (shapeCast S256x1024 g3 shapeCasts_S1x256x1024_S256x1024)))

theorem ffnBlk_apply (x1 : FVec Ideal S1x256x128 .f32) (g0 g1 g2 g3 : FVec Ideal S1x256x1024 .f32) (r : Fin 256) (k : Fin 1024) :
    ffnBlk x1 g0 g1 g2 g3 (ix2 r k)
      = (x1 (ix3 0 r 0) * g0 (ix3 0 r k) + x1 (ix3 0 r 1) * g1 (ix3 0 r k))
        + (x1 (ix3 0 r 2) * g2 (ix3 0 r k) + x1 (ix3 0 r 3) * g3 (ix3 0 r k)) := by
  unfold ffnBlk
  pointwise
  try rfl

/-- The row a token's block holds before its normalisation. -/
abbrev preOf (x0 : Vec Ideal S1x256x1024 .f32) (x1 : Vec Ideal S1x256x128 .f32) (x2 : Vec Ideal S1x1x1024 .f32)
    (G : FVec Ideal S4x256x1024 .f32) : FVec Ideal S256x1024 .f32 :=
  Mix.preBlk (ffnBlk x1 (slab 0 G) (slab 1 G) (slab 2 G) (slab 3 G)) x0 x2

theorem outOf_eq (x0 : Vec Ideal S1x256x1024 .f32) (x1 : Vec Ideal S1x256x128 .f32) (x2 : Vec Ideal S1x1x1024 .f32)
    (x3 x4 : Vec Ideal S1x1024 .f32) (G : FVec Ideal S4x256x1024 .f32) :
    outOf (F := Ideal) x0 x1 x2 x3 x4 G
      = shapeCast S1x256x1024 (addf (mulf (mulf (Mix.centredBlk (preOf x0 x1 x2 G)) (broadcastTo S256x1024 (rsqrt (addf
            (Mix.meanBlk (mulf (Mix.centredBlk (preOf x0 x1 x2 G)) (Mix.centredBlk (preOf x0 x1 x2 G))))
            (broadcast S256x1 (Scalar.ofBits (F := Ideal) .f32 0x3727C5AC#32)))) broadcasts_S256x1_S256x1024))
          (broadcastTo S256x1024 (shapeCast S1x1024 x3 shapeCasts_S1x1024_S1x1024) broadcasts_S1x1024_S256x1024))
        (broadcastTo S256x1024 (shapeCast S1x1024 x4 shapeCasts_S1x1024_S1x1024) broadcasts_S1x1024_S256x1024)) shapeCasts_S256x1024_S1x256x1024 := rfl

theorem outOf_apply (x0 : Vec Ideal S1x256x1024 .f32) (x1 : Vec Ideal S1x256x128 .f32) (x2 : Vec Ideal S1x1x1024 .f32)
    (x3 x4 : Vec Ideal S1x1024 .f32) (G : FVec Ideal S4x256x1024 .f32) (r : Fin 256) (k : Fin 1024) :
    outOf (F := Ideal) x0 x1 x2 x3 x4 G (ix3 0 r k)
      = outRow (fun k => x0 (ix3 0 r k)) (fun k => x2 (ix3 0 0 k)) (fun k => x3 (ix2 0 k)) (fun k => x4 (ix2 0 k))
          (fun j k => G (ix3 j r k)) (fun j => x1 (ix3 0 r ⟨j.val, by omega⟩)) k := by
  refine Eq.trans (b := Mix.normRow (fun k => preOf x0 x1 x2 G (ix2 r k)) (fun k => x3 (ix2 0 k)) (fun k => x4 (ix2 0 k)) k) ?_ ?_
  · unfold Mix.normRow
    rw [← Mix.varBlk_apply, ← Mix.centredBlk_apply, outOf_eq]
    generalize Mix.meanBlk (mulf (Mix.centredBlk (preOf x0 x1 x2 G)) (Mix.centredBlk (preOf x0 x1 x2 G))) = v
    generalize Mix.centredBlk (preOf x0 x1 x2 G) = u
    pointwise
  · unfold outRow
    refine congrArg (Mix.normRow · _ _ k) (funext fun k => ?_)
    refine (Mix.preBlk_apply _ _ _ r k).trans (congrArg₂ (· + ·) rfl (congrArg (x2 (ix3 0 0 k) * ·) ?_))
    refine (ffnBlk_apply _ _ _ _ _ r k).trans ?_
    rw [Fin.sum_univ_four, add_assoc (_ + _)]
    exact congrArg₂ (· + ·) (congrArg₂ (· + ·) (mul_comm _ _) (mul_comm _ _)) (congrArg₂ (· + ·) (mul_comm _ _) (mul_comm _ _))

/-! ## The blocks -/

variable (m : (ℓ : Loc nD τ sig) → Buf (Elt Ideal) ℓ) (c : Dev nD) (hr : Slots (tab m))

abbrev A1 : FVec Ideal S82432x1024 .f32 := m ((c : Thread nD τ).loc main_arg1)
abbrev A2 : FVec Ideal S8x2048x1024 .f32 := m ((c : Thread nD τ).loc main_arg2)
abbrev A3 : FVec Ideal S8x2048x128 .f32 := m ((c : Thread nD τ).loc main_arg3)
abbrev A4 : FVec Ideal S8x1x1024 .f32 := m ((c : Thread nD τ).loc main_arg4)
abbrev A5 : FVec Ideal S1024 .f32 := m ((c : Thread nD τ).loc main_arg5)
abbrev A6 : FVec Ideal S1024 .f32 := m ((c : Thread nD τ).loc main_arg6)

theorem entry5 : V m c main_v0 = shapeCast S1x1024 (A5 m c) shapeCasts_S1024_S1x1024 := by
  unfold V
  simp only [hostOps0]
  after_results
  rfl

theorem entry6 : V m c main_v1 = shapeCast S1x1024 (A6 m c) shapeCasts_S1024_S1x1024 := by
  unfold V
  simp only [hostOps0]
  after_results
  rfl

theorem pt_lt (t : Fin (cfg m).N) : t.val < 64 := Nat.lt_of_lt_of_eq t.isLt (N_eq m)

theorem c0_val (t : Fin (cfg m).N) : (grid0.coords t 0).val = t.val / 8 := by
  have h : (grid0.coords t 0).val = t.val / 8 % 8 := Pipeline.Grid.coords_val (G := grid0) t 0 (by decide) rfl
  have := pt_lt m t
  omega

theorem c1_val (t : Fin (cfg m).N) : (grid0.coords t 1).val = t.val % 8 := by
  have h : (grid0.coords t 1).val = t.val / 1 % 8 := Pipeline.Grid.coords_val (G := grid0) t 1 (by decide) rfl
  omega

/-- The sequence a point works on, and the place in it of the point's row `r`. -/
def seq (t : Fin (cfg m).N) : Fin 8 := ⟨t.val / 8, by have := pt_lt m t; omega⟩
def tok (t : Fin (cfg m).N) (r : Fin 256) : Fin 2048 := ⟨256 * (t.val % 8) + r.val, by omega⟩

theorem small (t : Fin (cfg m).N) (n : ℕ) (h : n ≤ t.val) : (BitVec.ofNat 32 n).toNat = n := by
  have := pt_lt m t
  rw [BitVec.toNat_ofNat]; omega

theorem tiles (t : Fin (cfg m).N) :
    (![(BitVec.ofNat 32 (grid0.coords t 0).val).toNat, (BitVec.ofNat 32 (grid0.coords t 1).val).toNat, 0] : Fin 3 → ℕ) = ![t.val / 8, t.val % 8, 0] := by
  rw [c0_val, c1_val, small m t _ (Nat.div_le_self _ _), small m t _ (Nat.mod_le _ _)]

theorem index0 (t : Fin (cfg m).N) : ((cfg m).win 0).index t = ![t.val / 8, t.val % 8, 0] := tiles m t
theorem index1 (t : Fin (cfg m).N) : ((cfg m).win 1).index t = ![t.val / 8, t.val % 8, 0] := tiles m t
theorem index2 (t : Fin (cfg m).N) : ((cfg m).win 2).index t = ![t.val / 8, 0, 0] :=
  (by rw [c0_val, small m t _ (Nat.div_le_self _ _)] :
    (![(BitVec.ofNat 32 (grid0.coords t 0).val).toNat, 0, 0] : Fin 3 → ℕ) = ![t.val / 8, 0, 0])
theorem index3 (t : Fin (cfg m).N) : ((cfg m).win 3).index t = ![0, 0] := rfl
theorem index4 (t : Fin (cfg m).N) : ((cfg m).win 4).index t = ![0, 0] := rfl
theorem index5 (t : Fin (cfg m).N) : ((cfg m).win 5).index t = ![t.val / 8, t.val % 8, 0] := tiles m t

theorem of_tile {f : Fin 3 → ℕ} {a b : ℕ} (h : f = ![a, b, 0]) : f 0 = a ∧ f 1 = b ∧ f 2 = 0 := by
  subst h; exact ⟨rfl, rfl, rfl⟩

theorem mid {i q : ℕ} (h : i = q) : i * 256 = 256 * q := by subst h; exact Nat.mul_comm _ _

theorem x1_apply (t : Fin (cfg m).N) (r : Fin 256) (k : Fin 1024) : x1Blk m c t (ix3 0 r k) = A2 m c (ix3 (seq m t) (tok m t r) k) := by
  unfold x1Blk iblk
  blk_simp
  refine (congrFun (V_arg2 m c) _).trans (congrArg (m ((c : Thread nD τ).loc main_arg2)) ?_)
  obtain ⟨h0, h1, h2⟩ := of_tile (f := ((pcfgs (F := Ideal) 0).win (adm m 0) 0).index t) (index0 m t)
  funext x
  apply Fin.ext
  fin_cases x <;> blk_simp <;> simp [ix3, seq, tok]
  · exact h0
  · exact mid h1
  · exact h2

theorem w_apply (t : Fin (cfg m).N) (r : Fin 256) (k : Fin 128) : wBlk m c t (ix3 0 r k) = A3 m c (ix3 (seq m t) (tok m t r) k) := by
  unfold wBlk iblk
  blk_simp
  refine (congrFun (V_arg3 m c) _).trans (congrArg (m ((c : Thread nD τ).loc main_arg3)) ?_)
  obtain ⟨h0, h1, h2⟩ := of_tile (f := ((pcfgs (F := Ideal) 0).win (adm m 0) 1).index t) (index1 m t)
  funext x
  apply Fin.ext
  fin_cases x <;> blk_simp <;> simp [ix3, seq, tok]
  · exact h0
  · exact mid h1
  · exact h2

theorem gate_apply (t : Fin (cfg m).N) (k : Fin 1024) : gateBlk m c t (ix3 0 0 k) = A4 m c (ix3 (seq m t) 0 k) := by
  unfold gateBlk iblk
  blk_simp
  refine (congrFun (V_arg4 m c) _).trans (congrArg (m ((c : Thread nD τ).loc main_arg4)) ?_)
  obtain ⟨h0, h1, h2⟩ := of_tile (f := ((pcfgs (F := Ideal) 0).win (adm m 0) 2).index t) (index2 m t)
  funext x
  apply Fin.ext
  fin_cases x <;> blk_simp <;> simp [ix3, seq]
  · exact h0
  · exact h1
  · exact h2

theorem g_apply (t : Fin (cfg m).N) (k : Fin 1024) : gBlk m c t (ix2 0 k) = A5 m c (ix1 k) := by
  unfold gBlk iblk
  blk_simp
  refine (congrFun (entry5 m c) _).trans ((congrArg (shapeCast S1x1024 (A5 m c) shapeCasts_S1024_S1x1024) (?_ : _ = ix2 (0 : Fin 1) k)).trans ?_)
  · have hi := index3 m t
    funext x
    apply Fin.ext
    fin_cases x <;> blk_simp <;> simp <;> exact congrFun hi _
  · generalize A5 m c = z
    pointwise

theorem b_apply (t : Fin (cfg m).N) (k : Fin 1024) : bBlk m c t (ix2 0 k) = A6 m c (ix1 k) := by
  unfold bBlk iblk
  blk_simp
  refine (congrFun (entry6 m c) _).trans ((congrArg (shapeCast S1x1024 (A6 m c) shapeCasts_S1024_S1x1024) (?_ : _ = ix2 (0 : Fin 1) k)).trans ?_)
  · have hi := index4 m t
    funext x
    apply Fin.ext
    fin_cases x <;> blk_simp <;> simp <;> exact congrFun hi _
  · generalize A6 m c = z
    pointwise

theorem gathered_apply (t : Fin (cfg m).N) (j : Fin 4) (r : Fin 256) (k : Fin 1024) :
    gathered (tab m) (grid0.coords t) hr (V m c main_arg1) (ix3 j r k) = A1 m c (ix2 (rowOf (tab m) hr (asg (seq m t) (tok m t r) j)) k) := by
  unfold gathered
  refine (congrFun (V_arg1 m c) _).trans (congrArg (m ((c : Thread nD τ).loc main_arg1)) ?_)
  have e : (⟨base (grid0.coords t) + (numOf (ix3 j r k)).val, base_lt _ _⟩ : Fin 66048) = asg (seq m t) (tok m t r) j := by
    refine Fin.ext ?_
    show 1024 * ((grid0.coords t 0).val * 8 + (grid0.coords t 1).val) + (4 * r.val + j.val) = (t.val / 8 * 2048 + (256 * (t.val % 8) + r.val)) * 4 + j.val
    rw [c0_val, c1_val]
    omega
  have er : row (tab m) (grid0.coords t) hr (numOf (ix3 j r k)) = rowOf (tab m) hr (asg (seq m t) (tok m t r) j) :=
    Fin.ext (congrArg (fun n : Fin 66048 => (tab m (ix1 n)).toNat) e)
  exact congrArg (fun n => ix2 n k) er

/-! ## The result -/

/-- The whole result. -/
def G : FVec Ideal S8x2048x1024 .f32 := fun i =>
  tokenRow (tab m) hr (A1 m c) (A2 m c) (A3 m c) (A4 m c) (A5 m c) (A6 m c) (i 0) (i 1) (i 2)

theorem outAt_apply (t : Fin (cfg m).N) (r : Fin 256) (k : Fin 1024) :
    outAt m c hr t (ix3 0 r k) = G m c hr (ix3 (seq m t) (tok m t r) k) := by
  unfold outAt
  refine (outOf_apply _ _ _ _ _ _ r k).trans ?_
  show _ = tokenRow (tab m) hr (A1 m c) (A2 m c) (A3 m c) (A4 m c) (A5 m c) (A6 m c) (seq m t) (tok m t r) k
  unfold tokenRow
  have e0 := funext (x1_apply m c t r)
  have e2 := funext (gate_apply m c t)
  have e3 := funext (g_apply m c t)
  have e4 := funext (b_apply m c t)
  have eg := funext fun j => funext fun k => gathered_apply m c hr t j r k
  have ew := funext fun j : Fin 4 => w_apply m c t r ⟨j.val, by omega⟩
  rw [e0, e2, e3, e4, eg, ew]

theorem flush5 (t : Fin (cfg m).N) : ((cfg m).win 5).flush t = true := by
  unfold Pipeline.Window.flush
  refine Bool.and_eq_true_iff.mpr ⟨rfl, ?_⟩
  have ht := pt_lt m t
  have hN := N_eq m
  rw [Bool.or_eq_true_iff, decide_eq_true_iff, decide_eq_true_iff]
  by_cases h : t.val + 1 < (cfg m).N
  · refine .inr ⟨h, fun e => ?_⟩
    have e' := (index5 m ⟨t.val + 1, h⟩).symm.trans (e.trans (index5 m t))
    have e0 : (t.val + 1) / 8 = t.val / 8 := congrFun e' 0
    have e1 : (t.val + 1) % 8 = t.val % 8 := congrFun e' 1
    omega
  · exact .inl (by show t.val + 1 = (cfg m).N; omega)

theorem covers5 : ((cfg m).win 5).Covers := by
  refine ⟨fun a => ?_, fun β => ?_⟩
  · fin_cases a
    · exact (by decide : 0 < 1)
    · exact (by decide : 0 < 256)
    · exact (by decide : 0 < 1024)
  · let a0 : Fin ((cfg m).win 5).shape.rank := (0 : Fin 3)
    let a1 : Fin ((cfg m).win 5).shape.rank := (1 : Fin 3)
    let a2 : Fin ((cfg m).win 5).shape.rank := (2 : Fin 3)
    have h0 : (β a0).val < 8 := Nat.lt_of_lt_of_eq (β a0).isLt (show (8 + 1 - 1) / 1 = 8 by decide)
    have h1 : (β a1).val < 8 := Nat.lt_of_lt_of_eq (β a1).isLt (show (2048 + 256 - 1) / 256 = 8 by decide)
    have h2 : (β a2).val < 1 := Nat.lt_of_lt_of_eq (β a2).isLt (show (1024 + 1024 - 1) / 1024 = 1 by decide)
    refine ⟨⟨(β a0).val * 8 + (β a1).val, Nat.lt_of_lt_of_eq (by omega) (N_eq m).symm⟩, flush5 m _, fun a => ⟨?_, .inl ?_⟩⟩
    · refine (congrFun (index5 m _) a).trans ?_
      fin_cases a
      · show ((β a0).val * 8 + (β a1).val) / 8 = (β a0).val; omega
      · show ((β a0).val * 8 + (β a1).val) % 8 = (β a1).val; omega
      · show 0 = (β a2).val; omega
    · rfl

theorem arr5 : (dats m hr 0 c).arrAt 5 (cfg m).N = G m c hr := by
  refine (dats m hr 0 c).arrAt_eq_of_covers 5 (G m c hr) (covers5 m) fun t hf (y : S1x256x1024.Idx) => ?_
  blk_simp
  rw [after5]
  have hy : y = ix3 (0 : Fin 1) (y 1) (y 2) := by
    funext a; fin_cases a
    · exact Subsingleton.elim (α := Fin 1) _ _
    · rfl
    · rfl
  rw [hy]
  refine (outAt_apply m c hr t (y 1) (y 2)).trans (congrArg (G m c hr) ?_)
  obtain ⟨h0, h1, h2⟩ := of_tile (f := ((pcfgs (F := Ideal) 0).win (adm m 0) 5).index t) (index5 m t)
  funext x
  apply Fin.ext
  fin_cases x <;> blk_simp <;> simp [ix3, seq, tok]
  · exact h0.symm
  · exact (mid h1).symm
  · exact h2

/-- The reference's result is the kernel's. -/
theorem same (T : IVec S66048 32) (a1 : FVec Ideal S82432x1024 .f32) (a2 : FVec Ideal S8x2048x1024 .f32) (a3 : FVec Ideal S8x2048x128 .f32)
    (a4 : FVec Ideal S8x1x1024 .f32) (a5 a6 : FVec Ideal S1024 .f32)
    (h0 : T = tab m) (h1 : a1 = A1 m c) (h2 : a2 = A2 m c) (h3 : a3 = A3 m c) (h4 : a4 = A4 m c) (h5 : a5 = A5 m c) (h6 : a6 = A6 m c) :
    refOut T a1 a2 a3 a4 a5 a6 = G m c hr := by
  subst h0 h1 h2 h3 h4 h5 h6
  funext i
  have hi : i = ix3 (i 0) (i 1) (i 2) := by funext a; fin_cases a <;> rfl
  rw [hi]
  exact refOut_apply (tab m) hr _ _ _ _ _ _ (i 0) (i 1) (i 2)

theorem value : Cert.algebraic_CombiningIdeal_CombiningReferenceIdeal (hCombiningIdeal := Cert.CombiningIdeal.Gen.facts)
    (hCombiningReferenceIdeal := Cert.CombiningReferenceIdeal.Gen.facts) (hPre_slots := slotsFacts) := by
  intro m ρ m' ρ' hpre hagree
  have hr : Slots (tab m) := @slots_of_fn _ _ slotsFacts _ _ _ _ _ _ _ (hpre 0)
  refine ⟨fun c => G m c hr,
    (θ_run Cert.CombiningIdeal.defs _ _).mono (fun _ h c => ?_) (kernel_run (F := Ideal) m ρ hr),
    (θ_run Cert.CombiningReferenceIdeal.defs _ _).mono (fun _ h c => ?_) (Cert.CombiningReferenceIdeal.Value.run (F := Ideal) m' ρ')⟩
  · exact ⟨(h.1 c).1.trans (arr5 m c hr), (h.1 c).2⟩
  · obtain ⟨e0, rest⟩ := h c
    obtain ⟨g0, g1, g2, g3, g4, g5, g6⟩ := hagree c
    obtain rfl : c = 0 := Subsingleton.elim (α := Fin 1) _ _
    exact ⟨e0.trans ((res0_eq m' 0).trans (same m 0 hr _ _ _ _ _ _ _ g0 g1 g2 g3 g4 g5 g6)), rest⟩

end Cert.Proof.Cmb

end
-- ==== Proof.lean ====
/- The proof of the whole claim: for each of the six calls the three frames, the idealization, and the equality with its
   reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Experts
public import proofs.«01_k».proof.Proof.Gen.Experts.Skeleton
public import proofs.«01_k».proof.Proof.Gen.Experts.Launch
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ExpertsReferenceIdeal
public import proofs.«01_k».proof.Proof.Gen.ExpertsReferenceIdeal.Run
public import proofs.«01_k».proof.Proof.Gen.ExpertsReferenceIdeal.Step
public import proofs.«01_k».proof.Proof.Gen.ProjectionReferenceIdeal
public import proofs.«01_k».proof.Proof.Gen.ProjectionReferenceIdeal.Run
public import proofs.«01_k».proof.Proof.Gen.Mixing
public import proofs.«01_k».proof.Proof.Gen.Mixing.Skeleton
public import proofs.«01_k».proof.Proof.Gen.Mixing.Launch
public import proofs.«01_k».proof.Proof.Gen.Mixing.Points
public import proofs.«01_k».proof.Proof.Gen.Mixing.Frame
public import proofs.«01_k».proof.Proof.Gen.MixingIdeal
public import proofs.«01_k».proof.Proof.Gen.MixingIdeal.Skeleton
public import proofs.«01_k».proof.Proof.Gen.MixingIdeal.Launch
public import proofs.«01_k».proof.Proof.Gen.MixingIdeal.Points
public import proofs.«01_k».proof.Proof.Gen.MixingIdeal.Frame
public import proofs.«01_k».proof.Proof.Gen.MixingIdeal.Value
public import proofs.«01_k».proof.Proof.Gen.MixingReferenceIdeal
public import proofs.«01_k».proof.Proof.Gen.MixingReferenceIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.Counting
public import proofs.«01_k».proof.Proof.Gen.Counting.Skeleton
public import proofs.«01_k».proof.Proof.Gen.Counting.Launch
public import proofs.«01_k».proof.Proof.Gen.Counting.Points
public import proofs.«01_k».proof.Proof.Gen.Counting.Frame
public import proofs.«01_k».proof.Proof.Gen.CountingIdeal
public import proofs.«01_k».proof.Proof.Gen.CountingIdeal.Skeleton
public import proofs.«01_k».proof.Proof.Gen.CountingIdeal.Launch
public import proofs.«01_k».proof.Proof.Gen.CountingIdeal.Points
public import proofs.«01_k».proof.Proof.Gen.CountingIdeal.Frame
public import proofs.«01_k».proof.Proof.Gen.CountingIdeal.Value
public import proofs.«01_k».proof.Proof.Gen.CountingReferenceIdeal
public import proofs.«01_k».proof.Proof.Gen.CountingReferenceIdeal.Run
public import proofs.«01_k».proof.Proof.Gen.Combining
public import proofs.«01_k».proof.Proof.Gen.Combining.Skeleton
public import proofs.«01_k».proof.Proof.Gen.Combining.Loops
public import proofs.«01_k».proof.Proof.Gen.Combining.Launch
public import proofs.«01_k».proof.Proof.Gen.CombiningIdeal
public import proofs.«01_k».proof.Proof.Gen.CombiningIdeal.Skeleton
public import proofs.«01_k».proof.Proof.Gen.CombiningIdeal.Loops
public import proofs.«01_k».proof.Proof.Gen.CombiningIdeal.Launch
public import proofs.«01_k».proof.Proof.Gen.CombiningReferenceIdeal
public import proofs.«01_k».proof.Proof.Gen.CombiningReferenceIdeal.Run
public import proofs.«01_k».proof.Proof.Frames
public import proofs.«01_k».proof.Proof.Value
public import proofs.«01_k».proof.Proof.ProjValue
public import proofs.«01_k».proof.Proof.MixValue
public import proofs.«01_k».proof.Proof.ModValue
public import proofs.«01_k».proof.Proof.CountValue
public import proofs.«01_k».proof.Proof.ExpFrames
public import proofs.«01_k».proof.Proof.ExpValue
public import proofs.«01_k».proof.Proof.CombFrames
public import proofs.«01_k».proof.Proof.CombValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Projection.Gen.facts, Cert.ProjectionIdeal.Gen.facts, Cert.ProjectionReferenceIdeal.Gen.facts,
  Cert.Mixing.Gen.facts, Cert.MixingIdeal.Gen.facts, Cert.MixingReferenceIdeal.Gen.facts,
  Cert.Modulation.Gen.facts, Cert.ModulationIdeal.Gen.facts, Cert.ModulationReferenceIdeal.Gen.facts,
  Cert.Counting.Gen.facts, Cert.CountingIdeal.Gen.facts, Cert.CountingReferenceIdeal.Gen.facts,
  Cert.Combining.Gen.facts, Cert.CombiningIdeal.Gen.facts, Cert.CombiningReferenceIdeal.Gen.facts, Moe.routedFacts, Cmb.slotsFacts,
  frame_kernel, frame_ideal, frame_reference, Moe.frame_kernel, Moe.frame_ideal, Moe.frame_reference, Moe.frame_reference_routed,
  Proj.frame_kernel, Proj.frame_ideal, Proj.frame_reference,
  Mix.frame_kernel, Mix.frame_ideal, Mix.frame_reference,
  Mdl.frame_kernel, Mdl.frame_ideal, Mdl.frame_reference,
  Cnt.frame_kernel, Cnt.frame_ideal, Cnt.frame_reference,
  Cmb.frame_kernel, Cmb.frame_ideal, Cmb.frame_reference, Cmb.frame_reference_slots,
  trivial, value, trivial, Moe.value, trivial, Proj.value, trivial, Mix.value, trivial, Mdl.value, trivial, Cnt.value, trivial, Cmb.value⟩

end Cert.Proof

end
